-- ==== Defs.lean ====
def Pre_Kernel (m : (ℓ : Loc Cert.Kernel.nD Cert.Kernel.τ Cert.Kernel.sig) → Buf (Elt Bits) ℓ) : Prop :=
  True

def Pre_Kernel_finite_and_untied [hPre_finite_and_untied : Cert.Pre_finite_and_untied.Facts] (m : (ℓ : Loc Cert.Kernel.nD Cert.Kernel.τ Cert.Kernel.sig) → Buf (Elt Bits) ℓ) : Prop :=
  ∀ c : Dev Cert.Kernel.nD,
    (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2.2.2.2.2.2.1 = (fun _ => 1#1)
    ∧ (Cert.Pre_finite_and_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2.2.2.2.2.2.2.2.2.2.2 = (fun _ => 1#1)

def Pre_KernelIdeal [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2.2.2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2.2.2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_finite_and_untied [hKernel : Cert.Kernel.Facts] [hPre_finite_and_untied : Cert.Pre_finite_and_untied.Facts] : Prop :=
  ∀ (m : (ℓ : Loc Cert.Kernel.nD Cert.Kernel.τ Cert.Kernel.sig) → Buf (Elt Bits) ℓ) (g : Dev Cert.Kernel.nD → PrngReg), Pre_Kernel_finite_and_untied m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v48) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v15_8) = v1 c
          ∧ r.2.mem ((c.tc : Thread Cert.ReferenceIdeal.nD Cert.ReferenceIdeal.τ).loc Cert.ReferenceIdeal.main_v15_9) = v2 c
          ∧ r.2.mem ((c.tc : Thread Cert.ReferenceIdeal.nD Cert.ReferenceIdeal.τ).loc Cert.ReferenceIdeal.main_v15_10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_Kernel_pre_finite_and_untied (hKernel := hKernel) (hPre_finite_and_untied := hPre_finite_and_untied)
    ∧ quiescent_KernelIdeal (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal (hKernelIdeal := hKernelIdeal) (hReferenceIdeal := hReferenceIdeal) (hPre_finite_and_untied := hPre_finite_and_untied)
-- ==== Pre_finite_and_untied.lean ====
abbrev S2048x89x2 : Shape := ⟨3, ![2048, 89, 2]⟩
abbrev S2048x89 : Shape := ⟨2, ![2048, 89]⟩
abbrev S2048x2 : Shape := ⟨2, ![2048, 2]⟩
abbrev S2048x4x2 : Shape := ⟨3, ![2048, 4, 2]⟩
abbrev S2048x1x2 : Shape := ⟨3, ![2048, 1, 2]⟩
abbrev S2048x1 : Shape := ⟨2, ![2048, 1]⟩
abbrev S2048 : Shape := ⟨1, ![2048]⟩
abbrev S2048x11x2 : Shape := ⟨3, ![2048, 11, 2]⟩
abbrev S11x2048x2 : Shape := ⟨3, ![11, 2048, 2]⟩
abbrev S2048x11 : Shape := ⟨2, ![2048, 11]⟩
abbrev S11x2048 : Shape := ⟨2, ![11, 2048]⟩
abbrev S1x2048x2 : Shape := ⟨3, ![1, 2048, 2]⟩
abbrev S1x2048 : Shape := ⟨2, ![1, 2048]⟩
abbrev S_ : Shape := ⟨0, ![]⟩
abbrev S2048x4x1 : Shape := ⟨3, ![2048, 4, 1]⟩
abbrev S2048x4 : Shape := ⟨2, ![2048, 4]⟩
abbrev S2048x1x4x2 : Shape := ⟨4, ![2048, 1, 4, 2]⟩
abbrev S1x8192x2 : Shape := ⟨3, ![1, 8192, 2]⟩
abbrev S2048x8192x2 : Shape := ⟨3, ![2048, 8192, 2]⟩
abbrev S2048x8192x1 : Shape := ⟨3, ![2048, 8192, 1]⟩
abbrev S2048x8192 : Shape := ⟨2, ![2048, 8192]⟩
abbrev S2048x2048x4x2 : Shape := ⟨4, ![2048, 2048, 4, 2]⟩
abbrev S2048x2048x4 : Shape := ⟨3, ![2048, 2048, 4]⟩
abbrev S2048x2048 : Shape := ⟨2, ![2048, 2048]⟩
abbrev S2048x1x1x1 : Shape := ⟨4, ![2048, 1, 1, 1]⟩
abbrev S2048x1x1 : Shape := ⟨3, ![2048, 1, 1]⟩
abbrev S1 : Shape := ⟨1, ![1]⟩
abbrev S1x1x1 : Shape := ⟨3, ![1, 1, 1]⟩
abbrev S2048x12x2 : Shape := ⟨3, ![2048, 12, 2]⟩
abbrev S2048x12 : Shape := ⟨2, ![2048, 12]⟩

class Facts : Prop where
  slices_S2048x89x2_S2048x1x2_0_0_0 : S2048x89x2.Slices ![0, 0, 0] S2048x1x2
  shapeCasts_S2048x1x2_S2048x2 : S2048x1x2.ShapeCasts S2048x2
  slices_S2048x89_S2048x1_0_0 : S2048x89.Slices ![0, 0] S2048x1
  shapeCasts_S2048x1_S2048 : S2048x1.ShapeCasts S2048
  slicesBy_S2048x89x2_S2048x11x2_0s1_8s8_0s1 : S2048x89x2.SlicesBy (![0, 8, 0] : Fin 3 → Nat) ![1, 8, 1] S2048x11x2
  transposes_S2048x11x2_S11x2048x2_1_0_2 : S2048x11x2.Transposes [1, 0, 2] S11x2048x2
  slicesBy_S2048x89_S2048x11_0s1_8s8 : S2048x89.SlicesBy (![0, 8] : Fin 2 → Nat) ![1, 8] S2048x11
  transposes_S2048x11_S11x2048_1_0 : S2048x11.Transposes [1, 0] S11x2048
  slicesBy_S2048x89_S2048x11_0s1_0s8 : S2048x89.SlicesBy (![0, 0] : Fin 2 → Nat) ![1, 8] S2048x11
  slices_S11x2048x2_S1x2048x2_0_0_0 : S11x2048x2.Slices ![0, 0, 0] S1x2048x2
  shapeCasts_S1x2048x2_S2048x2 : S1x2048x2.ShapeCasts S2048x2
  slices_S11x2048x2_S1x2048x2_1_0_0 : S11x2048x2.Slices ![1, 0, 0] S1x2048x2
  slices_S11x2048x2_S1x2048x2_2_0_0 : S11x2048x2.Slices ![2, 0, 0] S1x2048x2
  slices_S11x2048x2_S1x2048x2_3_0_0 : S11x2048x2.Slices ![3, 0, 0] S1x2048x2
  slices_S11x2048x2_S1x2048x2_4_0_0 : S11x2048x2.Slices ![4, 0, 0] S1x2048x2
  slices_S11x2048x2_S1x2048x2_5_0_0 : S11x2048x2.Slices ![5, 0, 0] S1x2048x2
  slices_S11x2048x2_S1x2048x2_6_0_0 : S11x2048x2.Slices ![6, 0, 0] S1x2048x2
  slices_S11x2048x2_S1x2048x2_7_0_0 : S11x2048x2.Slices ![7, 0, 0] S1x2048x2
  slices_S11x2048x2_S1x2048x2_8_0_0 : S11x2048x2.Slices ![8, 0, 0] S1x2048x2
  slices_S11x2048x2_S1x2048x2_9_0_0 : S11x2048x2.Slices ![9, 0, 0] S1x2048x2
  slices_S11x2048x2_S1x2048x2_10_0_0 : S11x2048x2.Slices ![10, 0, 0] S1x2048x2
  slices_S11x2048_S1x2048_0_0 : S11x2048.Slices ![0, 0] S1x2048
  shapeCasts_S1x2048_S2048 : S1x2048.ShapeCasts S2048
  slices_S11x2048_S1x2048_1_0 : S11x2048.Slices ![1, 0] S1x2048
  slices_S11x2048_S1x2048_2_0 : S11x2048.Slices ![2, 0] S1x2048
  slices_S11x2048_S1x2048_3_0 : S11x2048.Slices ![3, 0] S1x2048
  slices_S11x2048_S1x2048_4_0 : S11x2048.Slices ![4, 0] S1x2048
  slices_S11x2048_S1x2048_5_0 : S11x2048.Slices ![5, 0] S1x2048
  slices_S11x2048_S1x2048_6_0 : S11x2048.Slices ![6, 0] S1x2048
  slices_S11x2048_S1x2048_7_0 : S11x2048.Slices ![7, 0] S1x2048
  slices_S11x2048_S1x2048_8_0 : S11x2048.Slices ![8, 0] S1x2048
  slices_S11x2048_S1x2048_9_0 : S11x2048.Slices ![9, 0] S1x2048
  slices_S11x2048_S1x2048_10_0 : S11x2048.Slices ![10, 0] S1x2048
  slices_S2048x2_S2048x1_0_0 : S2048x2.Slices ![0, 0] S2048x1
  bcast_S_S2048 : S_.BroadcastsInDim S2048 (![] : Fin 0 → Fin S2048.rank)
  slices_S2048x2_S2048x1_0_1 : S2048x2.Slices ![0, 1] S2048x1
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S2048x2_S2048x1x2_0_2 : S2048x2.BroadcastsInDim S2048x1x2 (![0, 2] : Fin 2 → Fin S2048x1x2.rank)
  concatenates_S2048x1x2_S2048x1x2_S2048x1x2_S2048x1x2_S2048x4x2_d1 : Shape.Concatenates [S2048x1x2, S2048x1x2, S2048x1x2, S2048x1x2] S2048x4x2 1
  slices_S2048x4x2_S2048x4x1_0_0_0 : S2048x4x2.Slices ![0, 0, 0] S2048x4x1
  shapeCasts_S2048x4x1_S2048x4 : S2048x4x1.ShapeCasts S2048x4
  slices_S2048x4x2_S2048x4x1_0_0_1 : S2048x4x2.Slices ![0, 0, 1] S2048x4x1
  bcast_S2048x1_S2048x4_0_1 : S2048x1.BroadcastsInDim S2048x4 (![0, 1] : Fin 2 → Fin S2048x4.rank)
  bcast_S2048x4_S2048x4x1_0_1 : S2048x4.BroadcastsInDim S2048x4x1 (![0, 1] : Fin 2 → Fin S2048x4x1.rank)
  concatenates_S2048x4x1_S2048x4x1_S2048x4x2_d2 : Shape.Concatenates [S2048x4x1, S2048x4x1] S2048x4x2 2
  bcast_S2048x4x2_S2048x1x4x2_0_2_3 : S2048x4x2.BroadcastsInDim S2048x1x4x2 (![0, 2, 3] : Fin 3 → Fin S2048x1x4x2.rank)
  shapeCasts_S2048x4x2_S1x8192x2 : S2048x4x2.ShapeCasts S1x8192x2
  bcast_S1x8192x2_S2048x8192x2_0_1_2 : S1x8192x2.BroadcastsInDim S2048x8192x2 (![0, 1, 2] : Fin 3 → Fin S2048x8192x2.rank)
  slices_S2048x8192x2_S2048x8192x1_0_0_0 : S2048x8192x2.Slices ![0, 0, 0] S2048x8192x1
  shapeCasts_S2048x8192x1_S2048x8192 : S2048x8192x1.ShapeCasts S2048x8192
  slices_S2048x8192x2_S2048x8192x1_0_0_1 : S2048x8192x2.Slices ![0, 0, 1] S2048x8192x1
  bcast_S2048x1_S2048x8192_0_1 : S2048x1.BroadcastsInDim S2048x8192 (![0, 1] : Fin 2 → Fin S2048x8192.rank)
  bcast_S2048x8192_S2048x8192x1_0_1 : S2048x8192.BroadcastsInDim S2048x8192x1 (![0, 1] : Fin 2 → Fin S2048x8192x1.rank)
  concatenates_S2048x8192x1_S2048x8192x1_S2048x8192x2_d2 : Shape.Concatenates [S2048x8192x1, S2048x8192x1] S2048x8192x2 2
  shapeCasts_S2048x8192x2_S2048x2048x4x2 : S2048x8192x2.ShapeCasts S2048x2048x4x2
  bcast_S2048x1x4x2_S2048x2048x4x2_0_1_2_3 : S2048x1x4x2.BroadcastsInDim S2048x2048x4x2 (![0, 1, 2, 3] : Fin 4 → Fin S2048x2048x4x2.rank)
  reducesTo_S2048x2048x4x2_S2048x2048x4_d3 : S2048x2048x4x2.ReducesTo [3] S2048x2048x4
  h_S_ : 0 < S_.numel
  reducesTo_S2048x2048x4_S2048x2048_d2 : S2048x2048x4.ReducesTo [2] S2048x2048
  reducesTo_S2048x2048_S2048_d1 : S2048x2048.ReducesTo [1] S2048
  bcast_S2048x1_S2048x2048_0_1 : S2048x1.BroadcastsInDim S2048x2048 (![0, 1] : Fin 2 → Fin S2048x2048.rank)
  natLt_1_32 : 1 < 32
  bcast_S_S2048x2048 : S_.BroadcastsInDim S2048x2048 (![] : Fin 0 → Fin S2048x2048.rank)
  bcast_S2048_S2048x1x1x1_0 : S2048.BroadcastsInDim S2048x1x1x1 (![0] : Fin 1 → Fin S2048x1x1x1.rank)
  bcast_S_S2048x1x1x1 : S_.BroadcastsInDim S2048x1x1x1 (![] : Fin 0 → Fin S2048x1x1x1.rank)
  shapeCasts_S2048x1x1x1_S2048x1x1 : S2048x1x1x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  bcast_S2048x1_S2048x1x4x2_0_1 : S2048x1.BroadcastsInDim S2048x1x4x2 (![0, 1] : Fin 2 → Fin S2048x1x4x2.rank)
  bcast_S_S2048x1x4x2 : S_.BroadcastsInDim S2048x1x4x2 (![] : Fin 0 → Fin S2048x1x4x2.rank)
  shapeCasts_S2048x1x4x2_S2048x4x2 : S2048x1x4x2.ShapeCasts S2048x4x2
  slices_S2048x4x2_S2048x1x2_0_0_0 : S2048x4x2.Slices ![0, 0, 0] S2048x1x2
  slices_S2048x4x2_S2048x1x2_0_3_0 : S2048x4x2.Slices ![0, 3, 0] S2048x1x2
  reducesTo_S2048x4x2_S2048x2_d1 : S2048x4x2.ReducesTo [1] S2048x2
  bcast_S_S2048x2 : S_.BroadcastsInDim S2048x2 (![] : Fin 0 → Fin S2048x2.rank)
  bcast_S2048x1_S2048x2_0_1 : S2048x1.BroadcastsInDim S2048x2 (![0, 1] : Fin 2 → Fin S2048x2.rank)
  slicesBy_S2048x89x2_S2048x12x2_0s1_0s8_0s1 : S2048x89x2.SlicesBy (![0, 0, 0] : Fin 3 → Nat) ![1, 8, 1] S2048x12x2
  slicesBy_S2048x89_S2048x12_0s1_0s8 : S2048x89.SlicesBy (![0, 0] : Fin 2 → Nat) ![1, 8] S2048x12
  bcast_S_S2048x12x2 : S_.BroadcastsInDim S2048x12x2 (![] : Fin 0 → Fin S2048x12x2.rank)
  bcast_S_S2048x12 : S_.BroadcastsInDim S2048x12 (![] : Fin 0 → Fin S2048x12.rank)
  bcast_S_S2048x4x2 : S_.BroadcastsInDim S2048x4x2 (![] : Fin 0 → Fin S2048x4x2.rank)
  gather_S2048x2048x4x2_S2048x1x1_S2048x1x4x2_23_1_0_0_1_2_1142_wf : GatherDims.WF S2048x2048x4x2 S2048x1x1 S2048x1x4x2 [2, 3] [1] [0] [1] [0] 2 ![1, 1, 4, 2]

variable [Facts]

def gather_S2048x2048x4x2_S2048x1x1_S2048x1x4x2_23_1_0_0_1_2_1142 : GatherDims S2048x2048x4x2 S2048x1x1 S2048x1x4x2 where
  offsetDims := [2, 3]
  collapsedSliceDims := [1]
  operandBatchingDims := [0]
  startIndicesBatchingDims := [0]
  startIndexMap := [1]
  indexVectorDim := 2
  sliceSizes := ![1, 1, 4, 2]
  wf := gather_S2048x2048x4x2_S2048x1x1_S2048x1x4x2_23_1_0_0_1_2_1142_wf
def fn_norm {F : FTy → Type} [FloatOps F] (arg0 : FVec F S2048x2048x4x2 .f32) : FVec F S2048x2048x4 .f32 :=
  let v0 : FVec F S2048x2048x4x2 .f32 := mulf arg0 arg0
  let cst : FVec F S_ .f32 := constant S_ .f32 0x00000000#32
  let v1 : FVec F S2048x2048x4 .f32 := (fun x v => Host.reduceAdd x v reducesTo_S2048x2048x4x2_S2048x2048x4_d3 h_S_) v0 cst
  let v2 : FVec F S2048x2048x4 .f32 := Host.sqrt v1
  v2

def fn_where {F : FTy → Type} [FloatOps F] (arg0 : IVec S2048x2048 1) (arg1 : IVec S2048x2048 32) (arg2 : IVec S_ 32) : IVec S2048x2048 32 :=
  let v0 : IVec S_ 32 := id arg2
  let v1 : IVec S2048x2048 32 := broadcastInDim S2048x2048 ![] bcast_S_S2048x2048 v0
  let v2 : IVec S2048x2048 32 := select arg0 arg1 v1
  v2

def fn_take_along_axis {F : FTy → Type} [FloatOps F] (arg0 : FVec F S2048x2048x4x2 .f32) (arg1 : IVec S2048x1x1x1 32) : FVec F S2048x1x4x2 .f32 :=
  let c : IVec S_ 32 := constantI S_ 32 0#32
  let v0 : IVec S2048x1x1x1 32 := broadcastInDim S2048x1x1x1 ![] bcast_S_S2048x1x1x1 c
  let v1 : IVec S2048x1x1x1 1 := cmpi .slt arg1 v0
  let c_0 : IVec S_ 32 := constantI S_ 32 2048#32
  let v2 : IVec S2048x1x1x1 32 := broadcastInDim S2048x1x1x1 ![] bcast_S_S2048x1x1x1 c_0
  let v3 : IVec S2048x1x1x1 32 := addi arg1 v2
  let v4 : IVec S2048x1x1x1 32 := select v1 v3 arg1
  let v5 : IVec S2048x1x1 32 := shapeCast S2048x1x1 v4 shapeCasts_S2048x1x1x1_S2048x1x1
  let c_1 : IVec S1 32 := constantI S1 32 2047#32
  let c_2 : IVec S_ 32 := constantI S_ 32 0#32
  let v6 : IVec S2048x1x1 32 := broadcastInDim S2048x1x1 ![] bcast_S_S2048x1x1 c_2
  let v7 : IVec S2048x1x1 1 := cmpi .sge v5 v6
  let v8 : IVec S1x1x1 32 := broadcastInDim S1x1x1 ![2] bcast_S1_S1x1x1_2 c_1
  let v9 : IVec S2048x1x1 32 := broadcastInDim S2048x1x1 ![0, 1, 2] bcast_S1x1x1_S2048x1x1_0_1_2 v8
  let v10 : IVec S2048x1x1 1 := cmpi .sle v5 v9
  let v11 : IVec S2048x1x1 1 := andi v7 v10
  let c_3 : IVec S_ 1 := constantI S_ 1 1#1
  let v12 : IVec S2048x1 1 := (fun x v => Host.reduce IntOp.andi x v reducesTo_S2048x1x1_S2048x1_d2 h_S_) v11 c_3
  let v13 : FVec F S2048x1x4x2 .f32 := (fun x i => Host.gather gather_S2048x2048x4x2_S2048x1x1_S2048x1x4x2_23_1_0_0_1_2_1142 x i) arg0 v5
  let v14 : IVec S2048x1x4x2 1 := broadcastInDim S2048x1x4x2 ![0, 1] bcast_S2048x1_S2048x1x4x2_0_1 v12
  let cst : FVec F S_ .f32 := constant S_ .f32 0x7FC00000#32
  let v15 : FVec F S2048x1x4x2 .f32 := broadcastInDim S2048x1x4x2 ![] bcast_S_S2048x1x4x2 cst
  let v16 : FVec F S2048x1x4x2 .f32 := select v14 v13 v15
  v16

def fn_where_0 {F : FTy → Type} [FloatOps F] (arg0 : IVec S2048 1) (arg1 : FVec F S2048 .f32) (arg2 : FVec F S2048 .f32) : FVec F S2048 .f32 :=
  let v0 : FVec F S2048 .f32 := select arg0 arg1 arg2
  v0

def fn_where_1 {F : FTy → Type} [FloatOps F] (arg0 : IVec S2048x1 1) (arg1 : FVec F S2048x2 .f32) (arg2 : FVec F S2048x2 .f32) : FVec F S2048x2 .f32 :=
  let v0 : IVec S2048x2 1 := broadcastInDim S2048x2 ![0, 1] bcast_S2048x1_S2048x2_0_1 arg0
  let v1 : FVec F S2048x2 .f32 := select v0 arg1 arg2
  v1

def fn_where_2 {F : FTy → Type} [FloatOps F] (arg0 : IVec S2048x1 1) (arg1 : FVec F S2048x2 .f32) (arg2 : FVec F S_ .f32) : FVec F S2048x2 .f32 :=
  let v0 : FVec F S_ .f32 := id arg2
  let v1 : IVec S2048x2 1 := broadcastInDim S2048x2 ![0, 1] bcast_S2048x1_S2048x2_0_1 arg0
  let v2 : FVec F S2048x2 .f32 := broadcastInDim S2048x2 ![] bcast_S_S2048x2 v0
  let v3 : FVec F S2048x2 .f32 := select v1 arg1 v2
  v3

def fn_where_3 {F : FTy → Type} [FloatOps F] (arg0 : IVec S2048 1) (arg1 : FVec F S2048 .f32) (arg2 : FVec F S_ .f32) : FVec F S2048 .f32 :=
  let v0 : FVec F S_ .f32 := id arg2
  let v1 : FVec F S2048 .f32 := broadcastInDim S2048 ![] bcast_S_S2048 v0
  let v2 : FVec F S2048 .f32 := select arg0 arg1 v1
  v2

def fn_part111 {F : FTy → Type} [FloatOps F] (main_arg1 : FVec F S2048x89 .f32) (main_arg3 : FVec F S2048x2 .f32) (main_arg4 : FVec F S2048x4x2 .f32) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2366 : IVec S2048 1) (main_v2487 : FVec F S2048x12x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2488 : FVec F S2048x12 .f32 := (Host.slice S2048x12 ![0, 0] ![1, 8] · slicesBy_S2048x89_S2048x12_0s1_0s8) main_arg1
  let main_v2489 : FVec F S2048x12x2 .f32 := Host.absf main_v2487
  let main_cst_174 : FVec F S_ .f32 := constant S_ .f32 0x7F800000#32
  let main_v2490 : FVec F S2048x12x2 .f32 := broadcastInDim S2048x12x2 ![] bcast_S_S2048x12x2 main_cst_174
  let main_v2491 : IVec S2048x12x2 1 := cmpf .olt main_v2489 main_v2490
  let main_v2492 : FVec F S2048x12 .f32 := Host.absf main_v2488
  let main_cst_175 : FVec F S_ .f32 := constant S_ .f32 0x7F800000#32
  let main_v2493 : FVec F S2048x12 .f32 := broadcastInDim S2048x12 ![] bcast_S_S2048x12 main_cst_175
  let main_v2494 : IVec S2048x12 1 := cmpf .olt main_v2492 main_v2493
  let main_v2495 : FVec F S2048x2 .f32 := Host.absf main_arg3
  let main_cst_176 : FVec F S_ .f32 := constant S_ .f32 0x7F800000#32
  let main_v2496 : FVec F S2048x2 .f32 := broadcastInDim S2048x2 ![] bcast_S_S2048x2 main_cst_176
  let main_v2497 : IVec S2048x2 1 := cmpf .olt main_v2495 main_v2496
  let main_v2498 : FVec F S2048x4x2 .f32 := Host.absf main_arg4
  let main_cst_177 : FVec F S_ .f32 := constant S_ .f32 0x7F800000#32
  let main_v2499 : FVec F S2048x4x2 .f32 := broadcastInDim S2048x4x2 ![] bcast_S_S2048x4x2 main_cst_177
  let main_v2500 : IVec S2048x4x2 1 := cmpf .olt main_v2498 main_v2499
  (main_v2491, main_v2494, main_v2497, main_v2500, main_v176, main_v395, main_v614, main_v833, main_v1052, main_v1271, main_v1490, main_v1709, main_v1928, main_v2147, main_v2366)

def fn_part110 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2366 : IVec S2048 1) (main_v2467 : FVec F S2048x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2468 : FVec F S2048x1x2 .f32 := (extractStridedSlice S2048x1x2 ![0, 0, 0] · slices_S2048x4x2_S2048x1x2_0_0_0) main_v2467
  let main_v2469 : FVec F S2048x2 .f32 := shapeCast S2048x2 main_v2468 shapeCasts_S2048x1x2_S2048x2
  let main_v2470 : FVec F S2048x1x2 .f32 := (extractStridedSlice S2048x1x2 ![0, 3, 0] · slices_S2048x4x2_S2048x1x2_0_3_0) main_v2467
  let main_v2471 : FVec F S2048x2 .f32 := shapeCast S2048x2 main_v2470 shapeCasts_S2048x1x2_S2048x2
  let main_v2472 : FVec F S2048x2 .f32 := subf main_v2469 main_v2471
  let main_v2473 : FVec F S2048x1 .f32 := (extractStridedSlice S2048x1 ![0, 1] · slices_S2048x2_S2048x1_0_1) main_v2472
  let main_v2474 : FVec F S2048 .f32 := shapeCast S2048 main_v2473 shapeCasts_S2048x1_S2048
  let main_v2475 : FVec F S2048x1 .f32 := (extractStridedSlice S2048x1 ![0, 0] · slices_S2048x2_S2048x1_0_0) main_v2472
  let main_v2476 : FVec F S2048 .f32 := shapeCast S2048 main_v2475 shapeCasts_S2048x1_S2048
  let main_v2477 : FVec F S2048 .f32 := Host.atan2 main_v2474 main_v2476
  let main_v2478 : FVec F S2048 .f32 := fn_where_0 (F := F) main_v77 main_v2477 main_v55
  let main_v2479 : IVec S2048x1 1 := broadcastInDim S2048x1 ![0] bcast_S2048_S2048x1_0 main_v77
  let main_cst_170 : FVec F S_ .f32 := constant S_ .f32 0x00000000#32
  let main_v2480 : FVec F S2048x2 .f32 := (fun x v => Host.reduceAdd x v reducesTo_S2048x4x2_S2048x2_d1 h_S_) main_v2467 main_cst_170
  let main_cst_171 : FVec F S_ .f32 := constant S_ .f32 0x40800000#32
  let main_v2481 : FVec F S2048x2 .f32 := broadcastInDim S2048x2 ![] bcast_S_S2048x2 main_cst_171
  let main_v2482 : FVec F S2048x2 .f32 := Host.divf main_v2480 main_v2481
  let main_v2483 : FVec F S2048x2 .f32 := fn_where_1 (F := F) main_v2479 main_v2482 main_v33
  let main_v2484 : IVec S2048x1 1 := broadcastInDim S2048x1 ![0] bcast_S2048_S2048x1_0 main_v77
  let main_cst_172 : FVec F S_ .f32 := constant S_ .f32 0x00000000#32
  let main_v2485 : FVec F S2048x2 .f32 := fn_where_2 (F := F) main_v2484 main_v2483 main_cst_172
  let main_cst_173 : FVec F S_ .f32 := constant S_ .f32 0x00000000#32
  let main_v2486 : FVec F S2048 .f32 := fn_where_3 (F := F) main_v77 main_v2478 main_cst_173
  let main_v2487 : FVec F S2048x12x2 .f32 := (Host.slice S2048x12x2 ![0, 0, 0] ![1, 8, 1] · slicesBy_S2048x89x2_S2048x12x2_0s1_0s8_0s1) main_arg0
  fn_part111 (F := F) main_arg1 main_arg3 main_arg4 main_v176 main_v395 main_v614 main_v833 main_v1052 main_v1271 main_v1490 main_v1709 main_v1928 main_v2147 main_v2366 main_v2487

def fn_part109 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2366 : IVec S2048 1) (main_v2423 : FVec F S2048x1x4x2 .f32) (main_v2441 : FVec F S2048x8192 .f32) (main_v2446 : FVec F S2048x8192 .f32) (main_v2447 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2448 : FVec F S2048x8192 .f32 := broadcastInDim S2048x8192 ![0, 1] bcast_S2048x1_S2048x8192_0_1 main_v2447
  let main_v2449 : FVec F S2048x8192 .f32 := addf main_v2446 main_v2448
  let main_v2450 : FVec F S2048x8192x1 .f32 := broadcastInDim S2048x8192x1 ![0, 1] bcast_S2048x8192_S2048x8192x1_0_1 main_v2441
  let main_v2451 : FVec F S2048x8192x1 .f32 := broadcastInDim S2048x8192x1 ![0, 1] bcast_S2048x8192_S2048x8192x1_0_1 main_v2449
  let main_v2452 : FVec F S2048x8192x2 .f32 := (fun a b => concatenate S2048x8192x2 2 [⟨S2048x8192x1, a⟩, ⟨S2048x8192x1, b⟩] concatenates_S2048x8192x1_S2048x8192x1_S2048x8192x2_d2) main_v2450 main_v2451
  let main_v2453 : FVec F S2048x2048x4x2 .f32 := shapeCast S2048x2048x4x2 main_v2452 shapeCasts_S2048x8192x2_S2048x2048x4x2
  let main_v2454 : FVec F S2048x2048x4x2 .f32 := broadcastInDim S2048x2048x4x2 ![0, 1, 2, 3] bcast_S2048x1x4x2_S2048x2048x4x2_0_1_2_3 main_v2423
  let main_v2455 : FVec F S2048x2048x4x2 .f32 := subf main_v2453 main_v2454
  let main_v2456 : FVec F S2048x2048x4 .f32 := fn_norm (F := F) main_v2455
  let main_cst_166 : FVec F S_ .f32 := constant S_ .f32 0x00000000#32
  let main_v2457 : FVec F S2048x2048 .f32 := (fun x v => Host.reduceAdd x v reducesTo_S2048x2048x4_S2048x2048_d2 h_S_) main_v2456 main_cst_166
  let main_v2458 : IVec S2048x2048 32 := iotaInDim S2048x2048 32 1
  let main_cst_167 : FVec F S_ .f32 := constant S_ .f32 0x7F800000#32
  let main_v2459 : FVec F S2048 .f32 := (fun x v => Host.reduce FloatOps.minimumf x v reducesTo_S2048x2048_S2048_d1 h_S_) main_v2457 main_cst_167
  let main_v2460 : FVec F S2048x1 .f32 := broadcastInDim S2048x1 ![0] bcast_S2048_S2048x1_0 main_v2459
  let main_v2461 : FVec F S2048x2048 .f32 := broadcastInDim S2048x2048 ![0, 1] bcast_S2048x1_S2048x2048_0_1 main_v2460
  let main_v2462 : IVec S2048x2048 1 := cmpf .oeq main_v2457 main_v2461
  let main_c_168 : IVec S_ 32 := constantI S_ 32 2048#32
  let main_v2463 : IVec S2048x2048 32 := fn_where (F := F) main_v2462 main_v2458 main_c_168
  let main_c_169 : IVec S_ 32 := constantI S_ 32 2147483647#32
  let main_v2464 : IVec S2048 32 := (fun x v => Host.reduce IntOp.minsi x v reducesTo_S2048x2048_S2048_d1 h_S_) main_v2463 main_c_169
  let main_v2465 : IVec S2048x1x1x1 32 := broadcastInDim S2048x1x1x1 ![0] bcast_S2048_S2048x1x1x1_0 main_v2464
  let main_v2466 : FVec F S2048x1x4x2 .f32 := fn_take_along_axis (F := F) main_v2453 main_v2465
  let main_v2467 : FVec F S2048x4x2 .f32 := shapeCast S2048x4x2 main_v2466 shapeCasts_S2048x1x4x2_S2048x4x2
  fn_part110 (F := F) main_arg0 main_arg1 main_arg3 main_arg4 main_v33 main_v55 main_v77 main_v176 main_v395 main_v614 main_v833 main_v1052 main_v1271 main_v1490 main_v1709 main_v1928 main_v2147 main_v2366 main_v2467

def fn_part108 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2366 : IVec S2048 1) (main_v2423 : FVec F S2048x1x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2424 : FVec F S1x8192x2 .f32 := shapeCast S1x8192x2 main_arg4 shapeCasts_S2048x4x2_S1x8192x2
  let main_v2425 : FVec F S2048x8192x2 .f32 := broadcastInDim S2048x8192x2 ![0, 1, 2] bcast_S1x8192x2_S2048x8192x2_0_1_2 main_v2424
  let main_v2426 : FVec F S2048 .f32 := Host.cos main_v2259
  let main_v2427 : FVec F S2048x1 .f32 := broadcastInDim S2048x1 ![0] bcast_S2048_S2048x1_0 main_v2426
  let main_v2428 : FVec F S2048 .f32 := Host.sin main_v2259
  let main_v2429 : FVec F S2048x1 .f32 := broadcastInDim S2048x1 ![0] bcast_S2048_S2048x1_0 main_v2428
  let main_v2430 : FVec F S2048x8192x1 .f32 := (extractStridedSlice S2048x8192x1 ![0, 0, 0] · slices_S2048x8192x2_S2048x8192x1_0_0_0) main_v2425
  let main_v2431 : FVec F S2048x8192 .f32 := shapeCast S2048x8192 main_v2430 shapeCasts_S2048x8192x1_S2048x8192
  let main_v2432 : FVec F S2048x8192x1 .f32 := (extractStridedSlice S2048x8192x1 ![0, 0, 1] · slices_S2048x8192x2_S2048x8192x1_0_0_1) main_v2425
  let main_v2433 : FVec F S2048x8192 .f32 := shapeCast S2048x8192 main_v2432 shapeCasts_S2048x8192x1_S2048x8192
  let main_v2434 : FVec F S2048x8192 .f32 := broadcastInDim S2048x8192 ![0, 1] bcast_S2048x1_S2048x8192_0_1 main_v2427
  let main_v2435 : FVec F S2048x8192 .f32 := mulf main_v2431 main_v2434
  let main_v2436 : FVec F S2048x8192 .f32 := broadcastInDim S2048x8192 ![0, 1] bcast_S2048x1_S2048x8192_0_1 main_v2429
  let main_v2437 : FVec F S2048x8192 .f32 := mulf main_v2433 main_v2436
  let main_v2438 : FVec F S2048x8192 .f32 := subf main_v2435 main_v2437
  let main_v2439 : FVec F S2048x1 .f32 := (extractStridedSlice S2048x1 ![0, 0] · slices_S2048x2_S2048x1_0_0) main_v2264
  let main_v2440 : FVec F S2048x8192 .f32 := broadcastInDim S2048x8192 ![0, 1] bcast_S2048x1_S2048x8192_0_1 main_v2439
  let main_v2441 : FVec F S2048x8192 .f32 := addf main_v2438 main_v2440
  let main_v2442 : FVec F S2048x8192 .f32 := broadcastInDim S2048x8192 ![0, 1] bcast_S2048x1_S2048x8192_0_1 main_v2429
  let main_v2443 : FVec F S2048x8192 .f32 := mulf main_v2431 main_v2442
  let main_v2444 : FVec F S2048x8192 .f32 := broadcastInDim S2048x8192 ![0, 1] bcast_S2048x1_S2048x8192_0_1 main_v2427
  let main_v2445 : FVec F S2048x8192 .f32 := mulf main_v2433 main_v2444
  let main_v2446 : FVec F S2048x8192 .f32 := addf main_v2443 main_v2445
  let main_v2447 : FVec F S2048x1 .f32 := (extractStridedSlice S2048x1 ![0, 1] · slices_S2048x2_S2048x1_0_1) main_v2264
  fn_part109 (F := F) main_arg0 main_arg1 main_arg3 main_arg4 main_v33 main_v55 main_v77 main_v176 main_v395 main_v614 main_v833 main_v1052 main_v1271 main_v1490 main_v1709 main_v1928 main_v2147 main_v2366 main_v2423 main_v2441 main_v2446 main_v2447

def fn_part107 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2366 : IVec S2048 1) (main_v2395 : FVec F S2048x4x2 .f32) (main_v2397 : FVec F S2048x1 .f32) (main_v2399 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2400 : FVec F S2048x4x1 .f32 := (extractStridedSlice S2048x4x1 ![0, 0, 0] · slices_S2048x4x2_S2048x4x1_0_0_0) main_v2395
  let main_v2401 : FVec F S2048x4 .f32 := shapeCast S2048x4 main_v2400 shapeCasts_S2048x4x1_S2048x4
  let main_v2402 : FVec F S2048x4x1 .f32 := (extractStridedSlice S2048x4x1 ![0, 0, 1] · slices_S2048x4x2_S2048x4x1_0_0_1) main_v2395
  let main_v2403 : FVec F S2048x4 .f32 := shapeCast S2048x4 main_v2402 shapeCasts_S2048x4x1_S2048x4
  let main_v2404 : FVec F S2048x4 .f32 := broadcastInDim S2048x4 ![0, 1] bcast_S2048x1_S2048x4_0_1 main_v2397
  let main_v2405 : FVec F S2048x4 .f32 := mulf main_v2401 main_v2404
  let main_v2406 : FVec F S2048x4 .f32 := broadcastInDim S2048x4 ![0, 1] bcast_S2048x1_S2048x4_0_1 main_v2399
  let main_v2407 : FVec F S2048x4 .f32 := mulf main_v2403 main_v2406
  let main_v2408 : FVec F S2048x4 .f32 := subf main_v2405 main_v2407
  let main_v2409 : FVec F S2048x1 .f32 := (extractStridedSlice S2048x1 ![0, 0] · slices_S2048x2_S2048x1_0_0) main_v33
  let main_v2410 : FVec F S2048x4 .f32 := broadcastInDim S2048x4 ![0, 1] bcast_S2048x1_S2048x4_0_1 main_v2409
  let main_v2411 : FVec F S2048x4 .f32 := addf main_v2408 main_v2410
  let main_v2412 : FVec F S2048x4 .f32 := broadcastInDim S2048x4 ![0, 1] bcast_S2048x1_S2048x4_0_1 main_v2399
  let main_v2413 : FVec F S2048x4 .f32 := mulf main_v2401 main_v2412
  let main_v2414 : FVec F S2048x4 .f32 := broadcastInDim S2048x4 ![0, 1] bcast_S2048x1_S2048x4_0_1 main_v2397
  let main_v2415 : FVec F S2048x4 .f32 := mulf main_v2403 main_v2414
  let main_v2416 : FVec F S2048x4 .f32 := addf main_v2413 main_v2415
  let main_v2417 : FVec F S2048x1 .f32 := (extractStridedSlice S2048x1 ![0, 1] · slices_S2048x2_S2048x1_0_1) main_v33
  let main_v2418 : FVec F S2048x4 .f32 := broadcastInDim S2048x4 ![0, 1] bcast_S2048x1_S2048x4_0_1 main_v2417
  let main_v2419 : FVec F S2048x4 .f32 := addf main_v2416 main_v2418
  let main_v2420 : FVec F S2048x4x1 .f32 := broadcastInDim S2048x4x1 ![0, 1] bcast_S2048x4_S2048x4x1_0_1 main_v2411
  let main_v2421 : FVec F S2048x4x1 .f32 := broadcastInDim S2048x4x1 ![0, 1] bcast_S2048x4_S2048x4x1_0_1 main_v2419
  let main_v2422 : FVec F S2048x4x2 .f32 := (fun a b => concatenate S2048x4x2 2 [⟨S2048x4x1, a⟩, ⟨S2048x4x1, b⟩] concatenates_S2048x4x1_S2048x4x1_S2048x4x2_d2) main_v2420 main_v2421
  let main_v2423 : FVec F S2048x1x4x2 .f32 := broadcastInDim S2048x1x4x2 ![0, 2, 3] bcast_S2048x4x2_S2048x1x4x2_0_2_3 main_v2422
  fn_part108 (F := F) main_arg0 main_arg1 main_arg3 main_arg4 main_v33 main_v55 main_v77 main_v176 main_v395 main_v614 main_v833 main_v1052 main_v1271 main_v1490 main_v1709 main_v1928 main_v2147 main_v2259 main_v2264 main_v2366 main_v2423

def fn_part106 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2366 : IVec S2048 1) (main_v2370 : FVec F S2048 .f32) (main_v2374 : FVec F S2048 .f32) (main_v2375 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2376 : FVec F S2048x1 .f32 := broadcastInDim S2048x1 ![0] bcast_S2048_S2048x1_0 main_v2374
  let main_v2377 : FVec F S2048x2 .f32 := (fun a b => concatenate S2048x2 1 [⟨S2048x1, a⟩, ⟨S2048x1, b⟩] concatenates_S2048x1_S2048x1_S2048x2_d1) main_v2375 main_v2376
  let main_v2378 : FVec F S2048 .f32 := Host.negf main_v2374
  let main_v2379 : FVec F S2048x1 .f32 := broadcastInDim S2048x1 ![0] bcast_S2048_S2048x1_0 main_v2370
  let main_v2380 : FVec F S2048x1 .f32 := broadcastInDim S2048x1 ![0] bcast_S2048_S2048x1_0 main_v2378
  let main_v2381 : FVec F S2048x2 .f32 := (fun a b => concatenate S2048x2 1 [⟨S2048x1, a⟩, ⟨S2048x1, b⟩] concatenates_S2048x1_S2048x1_S2048x2_d1) main_v2379 main_v2380
  let main_v2382 : FVec F S2048 .f32 := Host.negf main_v2370
  let main_v2383 : FVec F S2048 .f32 := Host.negf main_v2374
  let main_v2384 : FVec F S2048x1 .f32 := broadcastInDim S2048x1 ![0] bcast_S2048_S2048x1_0 main_v2382
  let main_v2385 : FVec F S2048x1 .f32 := broadcastInDim S2048x1 ![0] bcast_S2048_S2048x1_0 main_v2383
  let main_v2386 : FVec F S2048x2 .f32 := (fun a b => concatenate S2048x2 1 [⟨S2048x1, a⟩, ⟨S2048x1, b⟩] concatenates_S2048x1_S2048x1_S2048x2_d1) main_v2384 main_v2385
  let main_v2387 : FVec F S2048 .f32 := Host.negf main_v2370
  let main_v2388 : FVec F S2048x1 .f32 := broadcastInDim S2048x1 ![0] bcast_S2048_S2048x1_0 main_v2387
  let main_v2389 : FVec F S2048x1 .f32 := broadcastInDim S2048x1 ![0] bcast_S2048_S2048x1_0 main_v2374
  let main_v2390 : FVec F S2048x2 .f32 := (fun a b => concatenate S2048x2 1 [⟨S2048x1, a⟩, ⟨S2048x1, b⟩] concatenates_S2048x1_S2048x1_S2048x2_d1) main_v2388 main_v2389
  let main_v2391 : FVec F S2048x1x2 .f32 := broadcastInDim S2048x1x2 ![0, 2] bcast_S2048x2_S2048x1x2_0_2 main_v2377
  let main_v2392 : FVec F S2048x1x2 .f32 := broadcastInDim S2048x1x2 ![0, 2] bcast_S2048x2_S2048x1x2_0_2 main_v2381
  let main_v2393 : FVec F S2048x1x2 .f32 := broadcastInDim S2048x1x2 ![0, 2] bcast_S2048x2_S2048x1x2_0_2 main_v2386
  let main_v2394 : FVec F S2048x1x2 .f32 := broadcastInDim S2048x1x2 ![0, 2] bcast_S2048x2_S2048x1x2_0_2 main_v2390
  let main_v2395 : FVec F S2048x4x2 .f32 := concatenate S2048x4x2 1 [⟨S2048x1x2, main_v2391⟩, ⟨S2048x1x2, main_v2392⟩, ⟨S2048x1x2, main_v2393⟩, ⟨S2048x1x2, main_v2394⟩] concatenates_S2048x1x2_S2048x1x2_S2048x1x2_S2048x1x2_S2048x4x2_d1
  let main_v2396 : FVec F S2048 .f32 := Host.cos main_v55
  let main_v2397 : FVec F S2048x1 .f32 := broadcastInDim S2048x1 ![0] bcast_S2048_S2048x1_0 main_v2396
  let main_v2398 : FVec F S2048 .f32 := Host.sin main_v55
  let main_v2399 : FVec F S2048x1 .f32 := broadcastInDim S2048x1 ![0] bcast_S2048_S2048x1_0 main_v2398
  fn_part107 (F := F) main_arg0 main_arg1 main_arg3 main_arg4 main_v33 main_v55 main_v77 main_v176 main_v395 main_v614 main_v833 main_v1052 main_v1271 main_v1490 main_v1709 main_v1928 main_v2147 main_v2259 main_v2264 main_v2366 main_v2395 main_v2397 main_v2399

def fn_part105 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2357 : FVec F S2048x2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_cst_160 : FVec F S_ .f32 := constant S_ .f32 0x00000000#32
  let main_v2358 : FVec F S2048x2048 .f32 := (fun x v => Host.reduceAdd x v reducesTo_S2048x2048x4_S2048x2048_d2 h_S_) main_v2357 main_cst_160
  let main_cst_161 : FVec F S_ .f32 := constant S_ .f32 0x7F800000#32
  let main_v2359 : FVec F S2048 .f32 := (fun x v => Host.reduce FloatOps.minimumf x v reducesTo_S2048x2048_S2048_d1 h_S_) main_v2358 main_cst_161
  let main_v2360 : FVec F S2048x1 .f32 := broadcastInDim S2048x1 ![0] bcast_S2048_S2048x1_0 main_v2359
  let main_v2361 : FVec F S2048x2048 .f32 := broadcastInDim S2048x2048 ![0, 1] bcast_S2048x1_S2048x2048_0_1 main_v2360
  let main_v2362 : IVec S2048x2048 1 := cmpf .oeq main_v2358 main_v2361
  let main_v2363 : IVec S2048x2048 32 := (extui 32 · natLt_1_32) main_v2362
  let main_c_162 : IVec S_ 32 := constantI S_ 32 0#32
  let main_v2364 : IVec S2048 32 := (fun x v => Host.reduce IntOp.addi x v reducesTo_S2048x2048_S2048_d1 h_S_) main_v2363 main_c_162
  let main_c_163 : IVec S_ 32 := constantI S_ 32 1#32
  let main_v2365 : IVec S2048 32 := broadcastInDim S2048 ![] bcast_S_S2048 main_c_163
  let main_v2366 : IVec S2048 1 := cmpi .eq main_v2364 main_v2365
  let main_v2367 : FVec F S2048x1 .f32 := (extractStridedSlice S2048x1 ![0, 0] · slices_S2048x2_S2048x1_0_0) main_arg3
  let main_v2368 : FVec F S2048 .f32 := shapeCast S2048 main_v2367 shapeCasts_S2048x1_S2048
  let main_cst_164 : FVec F S_ .f32 := constant S_ .f32 0x40000000#32
  let main_v2369 : FVec F S2048 .f32 := broadcastInDim S2048 ![] bcast_S_S2048 main_cst_164
  let main_v2370 : FVec F S2048 .f32 := Host.divf main_v2368 main_v2369
  let main_v2371 : FVec F S2048x1 .f32 := (extractStridedSlice S2048x1 ![0, 1] · slices_S2048x2_S2048x1_0_1) main_arg3
  let main_v2372 : FVec F S2048 .f32 := shapeCast S2048 main_v2371 shapeCasts_S2048x1_S2048
  let main_cst_165 : FVec F S_ .f32 := constant S_ .f32 0x40000000#32
  let main_v2373 : FVec F S2048 .f32 := broadcastInDim S2048 ![] bcast_S_S2048 main_cst_165
  let main_v2374 : FVec F S2048 .f32 := Host.divf main_v2372 main_v2373
  let main_v2375 : FVec F S2048x1 .f32 := broadcastInDim S2048x1 ![0] bcast_S2048_S2048x1_0 main_v2370
  fn_part106 (F := F) main_arg0 main_arg1 main_arg3 main_arg4 main_v33 main_v55 main_v77 main_v176 main_v395 main_v614 main_v833 main_v1052 main_v1271 main_v1490 main_v1709 main_v1928 main_v2147 main_v2259 main_v2264 main_v2366 main_v2370 main_v2374 main_v2375

def fn_part104 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2324 : FVec F S2048x1x4x2 .f32) (main_v2328 : FVec F S2048x1 .f32) (main_v2330 : FVec F S2048x1 .f32) (main_v2332 : FVec F S2048x8192 .f32) (main_v2333 : FVec F S2048x8192x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2334 : FVec F S2048x8192 .f32 := shapeCast S2048x8192 main_v2333 shapeCasts_S2048x8192x1_S2048x8192
  let main_v2335 : FVec F S2048x8192 .f32 := broadcastInDim S2048x8192 ![0, 1] bcast_S2048x1_S2048x8192_0_1 main_v2328
  let main_v2336 : FVec F S2048x8192 .f32 := mulf main_v2332 main_v2335
  let main_v2337 : FVec F S2048x8192 .f32 := broadcastInDim S2048x8192 ![0, 1] bcast_S2048x1_S2048x8192_0_1 main_v2330
  let main_v2338 : FVec F S2048x8192 .f32 := mulf main_v2334 main_v2337
  let main_v2339 : FVec F S2048x8192 .f32 := subf main_v2336 main_v2338
  let main_v2340 : FVec F S2048x1 .f32 := (extractStridedSlice S2048x1 ![0, 0] · slices_S2048x2_S2048x1_0_0) main_v2264
  let main_v2341 : FVec F S2048x8192 .f32 := broadcastInDim S2048x8192 ![0, 1] bcast_S2048x1_S2048x8192_0_1 main_v2340
  let main_v2342 : FVec F S2048x8192 .f32 := addf main_v2339 main_v2341
  let main_v2343 : FVec F S2048x8192 .f32 := broadcastInDim S2048x8192 ![0, 1] bcast_S2048x1_S2048x8192_0_1 main_v2330
  let main_v2344 : FVec F S2048x8192 .f32 := mulf main_v2332 main_v2343
  let main_v2345 : FVec F S2048x8192 .f32 := broadcastInDim S2048x8192 ![0, 1] bcast_S2048x1_S2048x8192_0_1 main_v2328
  let main_v2346 : FVec F S2048x8192 .f32 := mulf main_v2334 main_v2345
  let main_v2347 : FVec F S2048x8192 .f32 := addf main_v2344 main_v2346
  let main_v2348 : FVec F S2048x1 .f32 := (extractStridedSlice S2048x1 ![0, 1] · slices_S2048x2_S2048x1_0_1) main_v2264
  let main_v2349 : FVec F S2048x8192 .f32 := broadcastInDim S2048x8192 ![0, 1] bcast_S2048x1_S2048x8192_0_1 main_v2348
  let main_v2350 : FVec F S2048x8192 .f32 := addf main_v2347 main_v2349
  let main_v2351 : FVec F S2048x8192x1 .f32 := broadcastInDim S2048x8192x1 ![0, 1] bcast_S2048x8192_S2048x8192x1_0_1 main_v2342
  let main_v2352 : FVec F S2048x8192x1 .f32 := broadcastInDim S2048x8192x1 ![0, 1] bcast_S2048x8192_S2048x8192x1_0_1 main_v2350
  let main_v2353 : FVec F S2048x8192x2 .f32 := (fun a b => concatenate S2048x8192x2 2 [⟨S2048x8192x1, a⟩, ⟨S2048x8192x1, b⟩] concatenates_S2048x8192x1_S2048x8192x1_S2048x8192x2_d2) main_v2351 main_v2352
  let main_v2354 : FVec F S2048x2048x4x2 .f32 := shapeCast S2048x2048x4x2 main_v2353 shapeCasts_S2048x8192x2_S2048x2048x4x2
  let main_v2355 : FVec F S2048x2048x4x2 .f32 := broadcastInDim S2048x2048x4x2 ![0, 1, 2, 3] bcast_S2048x1x4x2_S2048x2048x4x2_0_1_2_3 main_v2324
  let main_v2356 : FVec F S2048x2048x4x2 .f32 := subf main_v2354 main_v2355
  let main_v2357 : FVec F S2048x2048x4 .f32 := fn_norm (F := F) main_v2356
  fn_part105 (F := F) main_arg0 main_arg1 main_arg3 main_arg4 main_v33 main_v55 main_v77 main_v176 main_v395 main_v614 main_v833 main_v1052 main_v1271 main_v1490 main_v1709 main_v1928 main_v2147 main_v2259 main_v2264 main_v2357

def fn_part103 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2298 : FVec F S2048x1 .f32) (main_v2300 : FVec F S2048x1 .f32) (main_v2302 : FVec F S2048x4 .f32) (main_v2304 : FVec F S2048x4 .f32) (main_v2309 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2310 : FVec F S2048x1 .f32 := (extractStridedSlice S2048x1 ![0, 0] · slices_S2048x2_S2048x1_0_0) main_v33
  let main_v2311 : FVec F S2048x4 .f32 := broadcastInDim S2048x4 ![0, 1] bcast_S2048x1_S2048x4_0_1 main_v2310
  let main_v2312 : FVec F S2048x4 .f32 := addf main_v2309 main_v2311
  let main_v2313 : FVec F S2048x4 .f32 := broadcastInDim S2048x4 ![0, 1] bcast_S2048x1_S2048x4_0_1 main_v2300
  let main_v2314 : FVec F S2048x4 .f32 := mulf main_v2302 main_v2313
  let main_v2315 : FVec F S2048x4 .f32 := broadcastInDim S2048x4 ![0, 1] bcast_S2048x1_S2048x4_0_1 main_v2298
  let main_v2316 : FVec F S2048x4 .f32 := mulf main_v2304 main_v2315
  let main_v2317 : FVec F S2048x4 .f32 := addf main_v2314 main_v2316
  let main_v2318 : FVec F S2048x1 .f32 := (extractStridedSlice S2048x1 ![0, 1] · slices_S2048x2_S2048x1_0_1) main_v33
  let main_v2319 : FVec F S2048x4 .f32 := broadcastInDim S2048x4 ![0, 1] bcast_S2048x1_S2048x4_0_1 main_v2318
  let main_v2320 : FVec F S2048x4 .f32 := addf main_v2317 main_v2319
  let main_v2321 : FVec F S2048x4x1 .f32 := broadcastInDim S2048x4x1 ![0, 1] bcast_S2048x4_S2048x4x1_0_1 main_v2312
  let main_v2322 : FVec F S2048x4x1 .f32 := broadcastInDim S2048x4x1 ![0, 1] bcast_S2048x4_S2048x4x1_0_1 main_v2320
  let main_v2323 : FVec F S2048x4x2 .f32 := (fun a b => concatenate S2048x4x2 2 [⟨S2048x4x1, a⟩, ⟨S2048x4x1, b⟩] concatenates_S2048x4x1_S2048x4x1_S2048x4x2_d2) main_v2321 main_v2322
  let main_v2324 : FVec F S2048x1x4x2 .f32 := broadcastInDim S2048x1x4x2 ![0, 2, 3] bcast_S2048x4x2_S2048x1x4x2_0_2_3 main_v2323
  let main_v2325 : FVec F S1x8192x2 .f32 := shapeCast S1x8192x2 main_arg4 shapeCasts_S2048x4x2_S1x8192x2
  let main_v2326 : FVec F S2048x8192x2 .f32 := broadcastInDim S2048x8192x2 ![0, 1, 2] bcast_S1x8192x2_S2048x8192x2_0_1_2 main_v2325
  let main_v2327 : FVec F S2048 .f32 := Host.cos main_v2259
  let main_v2328 : FVec F S2048x1 .f32 := broadcastInDim S2048x1 ![0] bcast_S2048_S2048x1_0 main_v2327
  let main_v2329 : FVec F S2048 .f32 := Host.sin main_v2259
  let main_v2330 : FVec F S2048x1 .f32 := broadcastInDim S2048x1 ![0] bcast_S2048_S2048x1_0 main_v2329
  let main_v2331 : FVec F S2048x8192x1 .f32 := (extractStridedSlice S2048x8192x1 ![0, 0, 0] · slices_S2048x8192x2_S2048x8192x1_0_0_0) main_v2326
  let main_v2332 : FVec F S2048x8192 .f32 := shapeCast S2048x8192 main_v2331 shapeCasts_S2048x8192x1_S2048x8192
  let main_v2333 : FVec F S2048x8192x1 .f32 := (extractStridedSlice S2048x8192x1 ![0, 0, 1] · slices_S2048x8192x2_S2048x8192x1_0_0_1) main_v2326
  fn_part104 (F := F) main_arg0 main_arg1 main_arg3 main_arg4 main_v33 main_v55 main_v77 main_v176 main_v395 main_v614 main_v833 main_v1052 main_v1271 main_v1490 main_v1709 main_v1928 main_v2147 main_v2259 main_v2264 main_v2324 main_v2328 main_v2330 main_v2332 main_v2333

def fn_part102 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2271 : FVec F S2048 .f32) (main_v2275 : FVec F S2048 .f32) (main_v2278 : FVec F S2048x2 .f32) (main_v2282 : FVec F S2048x2 .f32) (main_v2284 : FVec F S2048 .f32) (main_v2285 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2286 : FVec F S2048x1 .f32 := broadcastInDim S2048x1 ![0] bcast_S2048_S2048x1_0 main_v2284
  let main_v2287 : FVec F S2048x2 .f32 := (fun a b => concatenate S2048x2 1 [⟨S2048x1, a⟩, ⟨S2048x1, b⟩] concatenates_S2048x1_S2048x1_S2048x2_d1) main_v2285 main_v2286
  let main_v2288 : FVec F S2048 .f32 := Host.negf main_v2271
  let main_v2289 : FVec F S2048x1 .f32 := broadcastInDim S2048x1 ![0] bcast_S2048_S2048x1_0 main_v2288
  let main_v2290 : FVec F S2048x1 .f32 := broadcastInDim S2048x1 ![0] bcast_S2048_S2048x1_0 main_v2275
  let main_v2291 : FVec F S2048x2 .f32 := (fun a b => concatenate S2048x2 1 [⟨S2048x1, a⟩, ⟨S2048x1, b⟩] concatenates_S2048x1_S2048x1_S2048x2_d1) main_v2289 main_v2290
  let main_v2292 : FVec F S2048x1x2 .f32 := broadcastInDim S2048x1x2 ![0, 2] bcast_S2048x2_S2048x1x2_0_2 main_v2278
  let main_v2293 : FVec F S2048x1x2 .f32 := broadcastInDim S2048x1x2 ![0, 2] bcast_S2048x2_S2048x1x2_0_2 main_v2282
  let main_v2294 : FVec F S2048x1x2 .f32 := broadcastInDim S2048x1x2 ![0, 2] bcast_S2048x2_S2048x1x2_0_2 main_v2287
  let main_v2295 : FVec F S2048x1x2 .f32 := broadcastInDim S2048x1x2 ![0, 2] bcast_S2048x2_S2048x1x2_0_2 main_v2291
  let main_v2296 : FVec F S2048x4x2 .f32 := concatenate S2048x4x2 1 [⟨S2048x1x2, main_v2292⟩, ⟨S2048x1x2, main_v2293⟩, ⟨S2048x1x2, main_v2294⟩, ⟨S2048x1x2, main_v2295⟩] concatenates_S2048x1x2_S2048x1x2_S2048x1x2_S2048x1x2_S2048x4x2_d1
  let main_v2297 : FVec F S2048 .f32 := Host.cos main_v55
  let main_v2298 : FVec F S2048x1 .f32 := broadcastInDim S2048x1 ![0] bcast_S2048_S2048x1_0 main_v2297
  let main_v2299 : FVec F S2048 .f32 := Host.sin main_v55
  let main_v2300 : FVec F S2048x1 .f32 := broadcastInDim S2048x1 ![0] bcast_S2048_S2048x1_0 main_v2299
  let main_v2301 : FVec F S2048x4x1 .f32 := (extractStridedSlice S2048x4x1 ![0, 0, 0] · slices_S2048x4x2_S2048x4x1_0_0_0) main_v2296
  let main_v2302 : FVec F S2048x4 .f32 := shapeCast S2048x4 main_v2301 shapeCasts_S2048x4x1_S2048x4
  let main_v2303 : FVec F S2048x4x1 .f32 := (extractStridedSlice S2048x4x1 ![0, 0, 1] · slices_S2048x4x2_S2048x4x1_0_0_1) main_v2296
  let main_v2304 : FVec F S2048x4 .f32 := shapeCast S2048x4 main_v2303 shapeCasts_S2048x4x1_S2048x4
  let main_v2305 : FVec F S2048x4 .f32 := broadcastInDim S2048x4 ![0, 1] bcast_S2048x1_S2048x4_0_1 main_v2298
  let main_v2306 : FVec F S2048x4 .f32 := mulf main_v2302 main_v2305
  let main_v2307 : FVec F S2048x4 .f32 := broadcastInDim S2048x4 ![0, 1] bcast_S2048x1_S2048x4_0_1 main_v2300
  let main_v2308 : FVec F S2048x4 .f32 := mulf main_v2304 main_v2307
  let main_v2309 : FVec F S2048x4 .f32 := subf main_v2306 main_v2308
  fn_part103 (F := F) main_arg0 main_arg1 main_arg3 main_arg4 main_v33 main_v55 main_v77 main_v176 main_v395 main_v614 main_v833 main_v1052 main_v1271 main_v1490 main_v1709 main_v1928 main_v2147 main_v2259 main_v2264 main_v2298 main_v2300 main_v2302 main_v2304 main_v2309

def fn_part101 {F : FTy → Type} [FloatOps F] (main_arg0 : FVec F S2048x89x2 .f32) (main_arg1 : FVec F S2048x89 .f32) (main_arg3 : FVec F S2048x2 .f32) (main_arg4 : FVec F S2048x4x2 .f32) (main_v33 : FVec F S2048x2 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2259 : FVec F S2048 .f32) (main_v2264 : FVec F S2048x2 .f32) (main_v2265 : IVec S2048x1 1) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_cst_156 : FVec F S_ .f32 := constant S_ .f32 0x00000000#32
  let main_v2266 : FVec F S2048x2 .f32 := fn_where_2 (F := F) main_v2265 main_v2264 main_cst_156
  let main_cst_157 : FVec F S_ .f32 := constant S_ .f32 0x00000000#32
  let main_v2267 : FVec F S2048 .f32 := fn_where_3 (F := F) main_v75 main_v2259 main_cst_157
  let main_v2268 : FVec F S2048x1 .f32 := (extractStridedSlice S2048x1 ![0, 0] · slices_S2048x2_S2048x1_0_0) main_arg3
  let main_v2269 : FVec F S2048 .f32 := shapeCast S2048 main_v2268 shapeCasts_S2048x1_S2048
  let main_cst_158 : FVec F S_ .f32 := constant S_ .f32 0x40000000#32
  let main_v2270 : FVec F S2048 .f32 := broadcastInDim S2048 ![] bcast_S_S2048 main_cst_158
  let main_v2271 : FVec F S2048 .f32 := Host.divf main_v2269 main_v2270
  let main_v2272 : FVec F S2048x1 .f32 := (extractStridedSlice S2048x1 ![0, 1] · slices_S2048x2_S2048x1_0_1) main_arg3
  let main_v2273 : FVec F S2048 .f32 := shapeCast S2048 main_v2272 shapeCasts_S2048x1_S2048
  let main_cst_159 : FVec F S_ .f32 := constant S_ .f32 0x40000000#32
  let main_v2274 : FVec F S2048 .f32 := broadcastInDim S2048 ![] bcast_S_S2048 main_cst_159
  let main_v2275 : FVec F S2048 .f32 := Host.divf main_v2273 main_v2274
  let main_v2276 : FVec F S2048x1 .f32 := broadcastInDim S2048x1 ![0] bcast_S2048_S2048x1_0 main_v2271
  let main_v2277 : FVec F S2048x1 .f32 := broadcastInDim S2048x1 ![0] bcast_S2048_S2048x1_0 main_v2275
  let main_v2278 : FVec F S2048x2 .f32 := (fun a b => concatenate S2048x2 1 [⟨S2048x1, a⟩, ⟨S2048x1, b⟩] concatenates_S2048x1_S2048x1_S2048x2_d1) main_v2276 main_v2277
  let main_v2279 : FVec F S2048 .f32 := Host.negf main_v2275
  let main_v2280 : FVec F S2048x1 .f32 := broadcastInDim S2048x1 ![0] bcast_S2048_S2048x1_0 main_v2271
  let main_v2281 : FVec F S2048x1 .f32 := broadcastInDim S2048x1 ![0] bcast_S2048_S2048x1_0 main_v2279
  let main_v2282 : FVec F S2048x2 .f32 := (fun a b => concatenate S2048x2 1 [⟨S2048x1, a⟩, ⟨S2048x1, b⟩] concatenates_S2048x1_S2048x1_S2048x2_d1) main_v2280 main_v2281
  let main_v2283 : FVec F S2048 .f32 := Host.negf main_v2271
  let main_v2284 : FVec F S2048 .f32 := Host.negf main_v2275
  let main_v2285 : FVec F S2048x1 .f32 := broadcastInDim S2048x1 ![0] bcast_S2048_S2048x1_0 main_v2283
  fn_part102 (F := F) main_arg0 main_arg1 main_arg3 main_arg4 main_v33 main_v55 main_v77 main_v176 main_v395 main_v614 main_v833 main_v1052 main_v1271 main_v1490 main_v1709 main_v1928 main_v2147 main_v2259 main_v2264 main_v2271 main_v2275 main_v2278 main_v2282 main_v2284 main_v2285

def fn_part100 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2147 : IVec S2048 1) (main_v2234 : FVec F S2048x2048x4x2 .f32) (main_v2244 : IVec S2048x2048 32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_c_153 : IVec S_ 32 := constantI S_ 32 2147483647#32
  let main_v2245 : IVec S2048 32 := (fun x v => Host.reduce IntOp.minsi x v reducesTo_S2048x2048_S2048_d1 h_S_) main_v2244 main_c_153
  let main_v2246 : IVec S2048x1x1x1 32 := broadcastInDim S2048x1x1x1 ![0] bcast_S2048_S2048x1x1x1_0 main_v2245
  let main_v2247 : FVec F S2048x1x4x2 .f32 := fn_take_along_axis (F := F) main_v2234 main_v2246
  let main_v2248 : FVec F S2048x4x2 .f32 := shapeCast S2048x4x2 main_v2247 shapeCasts_S2048x1x4x2_S2048x4x2
  let main_v2249 : FVec F S2048x1x2 .f32 := (extractStridedSlice S2048x1x2 ![0, 0, 0] · slices_S2048x4x2_S2048x1x2_0_0_0) main_v2248
  let main_v2250 : FVec F S2048x2 .f32 := shapeCast S2048x2 main_v2249 shapeCasts_S2048x1x2_S2048x2
  let main_v2251 : FVec F S2048x1x2 .f32 := (extractStridedSlice S2048x1x2 ![0, 3, 0] · slices_S2048x4x2_S2048x1x2_0_3_0) main_v2248
  let main_v2252 : FVec F S2048x2 .f32 := shapeCast S2048x2 main_v2251 shapeCasts_S2048x1x2_S2048x2
  let main_v2253 : FVec F S2048x2 .f32 := subf main_v2250 main_v2252
  let main_v2254 : FVec F S2048x1 .f32 := (extractStridedSlice S2048x1 ![0, 1] · slices_S2048x2_S2048x1_0_1) main_v2253
  let main_v2255 : FVec F S2048 .f32 := shapeCast S2048 main_v2254 shapeCasts_S2048x1_S2048
  let main_v2256 : FVec F S2048x1 .f32 := (extractStridedSlice S2048x1 ![0, 0] · slices_S2048x2_S2048x1_0_0) main_v2253
  let main_v2257 : FVec F S2048 .f32 := shapeCast S2048 main_v2256 shapeCasts_S2048x1_S2048
  let main_v2258 : FVec F S2048 .f32 := Host.atan2 main_v2255 main_v2257
  let main_v2259 : FVec F S2048 .f32 := fn_where_0 (F := F) main_v75 main_v2258 main_v53
  let main_v2260 : IVec S2048x1 1 := broadcastInDim S2048x1 ![0] bcast_S2048_S2048x1_0 main_v75
  let main_cst_154 : FVec F S_ .f32 := constant S_ .f32 0x00000000#32
  let main_v2261 : FVec F S2048x2 .f32 := (fun x v => Host.reduceAdd x v reducesTo_S2048x4x2_S2048x2_d1 h_S_) main_v2248 main_cst_154
  let main_cst_155 : FVec F S_ .f32 := constant S_ .f32 0x40800000#32
  let main_v2262 : FVec F S2048x2 .f32 := broadcastInDim S2048x2 ![] bcast_S_S2048x2 main_cst_155
  let main_v2263 : FVec F S2048x2 .f32 := Host.divf main_v2261 main_v2262
  let main_v2264 : FVec F S2048x2 .f32 := fn_where_1 (F := F) main_v2260 main_v2263 main_v31
  let main_v2265 : IVec S2048x1 1 := broadcastInDim S2048x1 ![0] bcast_S2048_S2048x1_0 main_v75
  fn_part101 (F := F) main_arg0 main_arg1 main_arg3 main_arg4 main_v33 main_v55 main_v75 main_v77 main_v176 main_v395 main_v614 main_v833 main_v1052 main_v1271 main_v1490 main_v1709 main_v1928 main_v2147 main_v2259 main_v2264 main_v2265

def fn_part99 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2045 : FVec F S2048x2 .f32) (main_v2147 : IVec S2048 1) (main_v2204 : FVec F S2048x1x4x2 .f32) (main_v2208 : FVec F S2048x1 .f32) (main_v2212 : FVec F S2048x8192 .f32) (main_v2214 : FVec F S2048x8192 .f32) (main_v2222 : FVec F S2048x8192 .f32) (main_v2223 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2224 : FVec F S2048x8192 .f32 := mulf main_v2212 main_v2223
  let main_v2225 : FVec F S2048x8192 .f32 := broadcastInDim S2048x8192 ![0, 1] bcast_S2048x1_S2048x8192_0_1 main_v2208
  let main_v2226 : FVec F S2048x8192 .f32 := mulf main_v2214 main_v2225
  let main_v2227 : FVec F S2048x8192 .f32 := addf main_v2224 main_v2226
  let main_v2228 : FVec F S2048x1 .f32 := (extractStridedSlice S2048x1 ![0, 1] · slices_S2048x2_S2048x1_0_1) main_v2045
  let main_v2229 : FVec F S2048x8192 .f32 := broadcastInDim S2048x8192 ![0, 1] bcast_S2048x1_S2048x8192_0_1 main_v2228
  let main_v2230 : FVec F S2048x8192 .f32 := addf main_v2227 main_v2229
  let main_v2231 : FVec F S2048x8192x1 .f32 := broadcastInDim S2048x8192x1 ![0, 1] bcast_S2048x8192_S2048x8192x1_0_1 main_v2222
  let main_v2232 : FVec F S2048x8192x1 .f32 := broadcastInDim S2048x8192x1 ![0, 1] bcast_S2048x8192_S2048x8192x1_0_1 main_v2230
  let main_v2233 : FVec F S2048x8192x2 .f32 := (fun a b => concatenate S2048x8192x2 2 [⟨S2048x8192x1, a⟩, ⟨S2048x8192x1, b⟩] concatenates_S2048x8192x1_S2048x8192x1_S2048x8192x2_d2) main_v2231 main_v2232
  let main_v2234 : FVec F S2048x2048x4x2 .f32 := shapeCast S2048x2048x4x2 main_v2233 shapeCasts_S2048x8192x2_S2048x2048x4x2
  let main_v2235 : FVec F S2048x2048x4x2 .f32 := broadcastInDim S2048x2048x4x2 ![0, 1, 2, 3] bcast_S2048x1x4x2_S2048x2048x4x2_0_1_2_3 main_v2204
  let main_v2236 : FVec F S2048x2048x4x2 .f32 := subf main_v2234 main_v2235
  let main_v2237 : FVec F S2048x2048x4 .f32 := fn_norm (F := F) main_v2236
  let main_cst_150 : FVec F S_ .f32 := constant S_ .f32 0x00000000#32
  let main_v2238 : FVec F S2048x2048 .f32 := (fun x v => Host.reduceAdd x v reducesTo_S2048x2048x4_S2048x2048_d2 h_S_) main_v2237 main_cst_150
  let main_v2239 : IVec S2048x2048 32 := iotaInDim S2048x2048 32 1
  let main_cst_151 : FVec F S_ .f32 := constant S_ .f32 0x7F800000#32
  let main_v2240 : FVec F S2048 .f32 := (fun x v => Host.reduce FloatOps.minimumf x v reducesTo_S2048x2048_S2048_d1 h_S_) main_v2238 main_cst_151
  let main_v2241 : FVec F S2048x1 .f32 := broadcastInDim S2048x1 ![0] bcast_S2048_S2048x1_0 main_v2240
  let main_v2242 : FVec F S2048x2048 .f32 := broadcastInDim S2048x2048 ![0, 1] bcast_S2048x1_S2048x2048_0_1 main_v2241
  let main_v2243 : IVec S2048x2048 1 := cmpf .oeq main_v2238 main_v2242
  let main_c_152 : IVec S_ 32 := constantI S_ 32 2048#32
  let main_v2244 : IVec S2048x2048 32 := fn_where (F := F) main_v2243 main_v2239 main_c_152
  fn_part100 (F := F) main_arg0 main_arg1 main_arg3 main_arg4 main_v31 main_v33 main_v53 main_v55 main_v75 main_v77 main_v176 main_v395 main_v614 main_v833 main_v1052 main_v1271 main_v1490 main_v1709 main_v1928 main_v2147 main_v2234 main_v2244

def fn_part98 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2045 : FVec F S2048x2 .f32) (main_v2147 : IVec S2048 1) (main_v2192 : FVec F S2048x4 .f32) (main_v2197 : FVec F S2048x4 .f32) (main_v2199 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2200 : FVec F S2048x4 .f32 := addf main_v2197 main_v2199
  let main_v2201 : FVec F S2048x4x1 .f32 := broadcastInDim S2048x4x1 ![0, 1] bcast_S2048x4_S2048x4x1_0_1 main_v2192
  let main_v2202 : FVec F S2048x4x1 .f32 := broadcastInDim S2048x4x1 ![0, 1] bcast_S2048x4_S2048x4x1_0_1 main_v2200
  let main_v2203 : FVec F S2048x4x2 .f32 := (fun a b => concatenate S2048x4x2 2 [⟨S2048x4x1, a⟩, ⟨S2048x4x1, b⟩] concatenates_S2048x4x1_S2048x4x1_S2048x4x2_d2) main_v2201 main_v2202
  let main_v2204 : FVec F S2048x1x4x2 .f32 := broadcastInDim S2048x1x4x2 ![0, 2, 3] bcast_S2048x4x2_S2048x1x4x2_0_2_3 main_v2203
  let main_v2205 : FVec F S1x8192x2 .f32 := shapeCast S1x8192x2 main_arg4 shapeCasts_S2048x4x2_S1x8192x2
  let main_v2206 : FVec F S2048x8192x2 .f32 := broadcastInDim S2048x8192x2 ![0, 1, 2] bcast_S1x8192x2_S2048x8192x2_0_1_2 main_v2205
  let main_v2207 : FVec F S2048 .f32 := Host.cos main_v2040
  let main_v2208 : FVec F S2048x1 .f32 := broadcastInDim S2048x1 ![0] bcast_S2048_S2048x1_0 main_v2207
  let main_v2209 : FVec F S2048 .f32 := Host.sin main_v2040
  let main_v2210 : FVec F S2048x1 .f32 := broadcastInDim S2048x1 ![0] bcast_S2048_S2048x1_0 main_v2209
  let main_v2211 : FVec F S2048x8192x1 .f32 := (extractStridedSlice S2048x8192x1 ![0, 0, 0] · slices_S2048x8192x2_S2048x8192x1_0_0_0) main_v2206
  let main_v2212 : FVec F S2048x8192 .f32 := shapeCast S2048x8192 main_v2211 shapeCasts_S2048x8192x1_S2048x8192
  let main_v2213 : FVec F S2048x8192x1 .f32 := (extractStridedSlice S2048x8192x1 ![0, 0, 1] · slices_S2048x8192x2_S2048x8192x1_0_0_1) main_v2206
  let main_v2214 : FVec F S2048x8192 .f32 := shapeCast S2048x8192 main_v2213 shapeCasts_S2048x8192x1_S2048x8192
  let main_v2215 : FVec F S2048x8192 .f32 := broadcastInDim S2048x8192 ![0, 1] bcast_S2048x1_S2048x8192_0_1 main_v2208
  let main_v2216 : FVec F S2048x8192 .f32 := mulf main_v2212 main_v2215
  let main_v2217 : FVec F S2048x8192 .f32 := broadcastInDim S2048x8192 ![0, 1] bcast_S2048x1_S2048x8192_0_1 main_v2210
  let main_v2218 : FVec F S2048x8192 .f32 := mulf main_v2214 main_v2217
  let main_v2219 : FVec F S2048x8192 .f32 := subf main_v2216 main_v2218
  let main_v2220 : FVec F S2048x1 .f32 := (extractStridedSlice S2048x1 ![0, 0] · slices_S2048x2_S2048x1_0_0) main_v2045
  let main_v2221 : FVec F S2048x8192 .f32 := broadcastInDim S2048x8192 ![0, 1] bcast_S2048x1_S2048x8192_0_1 main_v2220
  let main_v2222 : FVec F S2048x8192 .f32 := addf main_v2219 main_v2221
  let main_v2223 : FVec F S2048x8192 .f32 := broadcastInDim S2048x8192 ![0, 1] bcast_S2048x1_S2048x8192_0_1 main_v2210
  fn_part99 (F := F) main_arg0 main_arg1 main_arg3 main_arg4 main_v31 main_v33 main_v53 main_v55 main_v75 main_v77 main_v176 main_v395 main_v614 main_v833 main_v1052 main_v1271 main_v1490 main_v1709 main_v1928 main_v2045 main_v2147 main_v2204 main_v2208 main_v2212 main_v2214 main_v2222 main_v2223

def fn_part97 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2045 : FVec F S2048x2 .f32) (main_v2147 : IVec S2048 1) (main_v2172 : FVec F S2048x1x2 .f32) (main_v2173 : FVec F S2048x1x2 .f32) (main_v2174 : FVec F S2048x1x2 .f32) (main_v2175 : FVec F S2048x1x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2176 : FVec F S2048x4x2 .f32 := concatenate S2048x4x2 1 [⟨S2048x1x2, main_v2172⟩, ⟨S2048x1x2, main_v2173⟩, ⟨S2048x1x2, main_v2174⟩, ⟨S2048x1x2, main_v2175⟩] concatenates_S2048x1x2_S2048x1x2_S2048x1x2_S2048x1x2_S2048x4x2_d1
  let main_v2177 : FVec F S2048 .f32 := Host.cos main_v53
  let main_v2178 : FVec F S2048x1 .f32 := broadcastInDim S2048x1 ![0] bcast_S2048_S2048x1_0 main_v2177
  let main_v2179 : FVec F S2048 .f32 := Host.sin main_v53
  let main_v2180 : FVec F S2048x1 .f32 := broadcastInDim S2048x1 ![0] bcast_S2048_S2048x1_0 main_v2179
  let main_v2181 : FVec F S2048x4x1 .f32 := (extractStridedSlice S2048x4x1 ![0, 0, 0] · slices_S2048x4x2_S2048x4x1_0_0_0) main_v2176
  let main_v2182 : FVec F S2048x4 .f32 := shapeCast S2048x4 main_v2181 shapeCasts_S2048x4x1_S2048x4
  let main_v2183 : FVec F S2048x4x1 .f32 := (extractStridedSlice S2048x4x1 ![0, 0, 1] · slices_S2048x4x2_S2048x4x1_0_0_1) main_v2176
  let main_v2184 : FVec F S2048x4 .f32 := shapeCast S2048x4 main_v2183 shapeCasts_S2048x4x1_S2048x4
  let main_v2185 : FVec F S2048x4 .f32 := broadcastInDim S2048x4 ![0, 1] bcast_S2048x1_S2048x4_0_1 main_v2178
  let main_v2186 : FVec F S2048x4 .f32 := mulf main_v2182 main_v2185
  let main_v2187 : FVec F S2048x4 .f32 := broadcastInDim S2048x4 ![0, 1] bcast_S2048x1_S2048x4_0_1 main_v2180
  let main_v2188 : FVec F S2048x4 .f32 := mulf main_v2184 main_v2187
  let main_v2189 : FVec F S2048x4 .f32 := subf main_v2186 main_v2188
  let main_v2190 : FVec F S2048x1 .f32 := (extractStridedSlice S2048x1 ![0, 0] · slices_S2048x2_S2048x1_0_0) main_v31
  let main_v2191 : FVec F S2048x4 .f32 := broadcastInDim S2048x4 ![0, 1] bcast_S2048x1_S2048x4_0_1 main_v2190
  let main_v2192 : FVec F S2048x4 .f32 := addf main_v2189 main_v2191
  let main_v2193 : FVec F S2048x4 .f32 := broadcastInDim S2048x4 ![0, 1] bcast_S2048x1_S2048x4_0_1 main_v2180
  let main_v2194 : FVec F S2048x4 .f32 := mulf main_v2182 main_v2193
  let main_v2195 : FVec F S2048x4 .f32 := broadcastInDim S2048x4 ![0, 1] bcast_S2048x1_S2048x4_0_1 main_v2178
  let main_v2196 : FVec F S2048x4 .f32 := mulf main_v2184 main_v2195
  let main_v2197 : FVec F S2048x4 .f32 := addf main_v2194 main_v2196
  let main_v2198 : FVec F S2048x1 .f32 := (extractStridedSlice S2048x1 ![0, 1] · slices_S2048x2_S2048x1_0_1) main_v31
  let main_v2199 : FVec F S2048x4 .f32 := broadcastInDim S2048x4 ![0, 1] bcast_S2048x1_S2048x4_0_1 main_v2198
  fn_part98 (F := F) main_arg0 main_arg1 main_arg3 main_arg4 main_v31 main_v33 main_v53 main_v55 main_v75 main_v77 main_v176 main_v395 main_v614 main_v833 main_v1052 main_v1271 main_v1490 main_v1709 main_v1928 main_v2040 main_v2045 main_v2147 main_v2192 main_v2197 main_v2199

def fn_part96 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2045 : FVec F S2048x2 .f32) (main_v2147 : IVec S2048 1) (main_v2151 : FVec F S2048 .f32) (main_v2152 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2153 : FVec F S2048 .f32 := shapeCast S2048 main_v2152 shapeCasts_S2048x1_S2048
  let main_cst_149 : FVec F S_ .f32 := constant S_ .f32 0x40000000#32
  let main_v2154 : FVec F S2048 .f32 := broadcastInDim S2048 ![] bcast_S_S2048 main_cst_149
  let main_v2155 : FVec F S2048 .f32 := Host.divf main_v2153 main_v2154
  let main_v2156 : FVec F S2048x1 .f32 := broadcastInDim S2048x1 ![0] bcast_S2048_S2048x1_0 main_v2151
  let main_v2157 : FVec F S2048x1 .f32 := broadcastInDim S2048x1 ![0] bcast_S2048_S2048x1_0 main_v2155
  let main_v2158 : FVec F S2048x2 .f32 := (fun a b => concatenate S2048x2 1 [⟨S2048x1, a⟩, ⟨S2048x1, b⟩] concatenates_S2048x1_S2048x1_S2048x2_d1) main_v2156 main_v2157
  let main_v2159 : FVec F S2048 .f32 := Host.negf main_v2155
  let main_v2160 : FVec F S2048x1 .f32 := broadcastInDim S2048x1 ![0] bcast_S2048_S2048x1_0 main_v2151
  let main_v2161 : FVec F S2048x1 .f32 := broadcastInDim S2048x1 ![0] bcast_S2048_S2048x1_0 main_v2159
  let main_v2162 : FVec F S2048x2 .f32 := (fun a b => concatenate S2048x2 1 [⟨S2048x1, a⟩, ⟨S2048x1, b⟩] concatenates_S2048x1_S2048x1_S2048x2_d1) main_v2160 main_v2161
  let main_v2163 : FVec F S2048 .f32 := Host.negf main_v2151
  let main_v2164 : FVec F S2048 .f32 := Host.negf main_v2155
  let main_v2165 : FVec F S2048x1 .f32 := broadcastInDim S2048x1 ![0] bcast_S2048_S2048x1_0 main_v2163
  let main_v2166 : FVec F S2048x1 .f32 := broadcastInDim S2048x1 ![0] bcast_S2048_S2048x1_0 main_v2164
  let main_v2167 : FVec F S2048x2 .f32 := (fun a b => concatenate S2048x2 1 [⟨S2048x1, a⟩, ⟨S2048x1, b⟩] concatenates_S2048x1_S2048x1_S2048x2_d1) main_v2165 main_v2166
  let main_v2168 : FVec F S2048 .f32 := Host.negf main_v2151
  let main_v2169 : FVec F S2048x1 .f32 := broadcastInDim S2048x1 ![0] bcast_S2048_S2048x1_0 main_v2168
  let main_v2170 : FVec F S2048x1 .f32 := broadcastInDim S2048x1 ![0] bcast_S2048_S2048x1_0 main_v2155
  let main_v2171 : FVec F S2048x2 .f32 := (fun a b => concatenate S2048x2 1 [⟨S2048x1, a⟩, ⟨S2048x1, b⟩] concatenates_S2048x1_S2048x1_S2048x2_d1) main_v2169 main_v2170
  let main_v2172 : FVec F S2048x1x2 .f32 := broadcastInDim S2048x1x2 ![0, 2] bcast_S2048x2_S2048x1x2_0_2 main_v2158
  let main_v2173 : FVec F S2048x1x2 .f32 := broadcastInDim S2048x1x2 ![0, 2] bcast_S2048x2_S2048x1x2_0_2 main_v2162
  let main_v2174 : FVec F S2048x1x2 .f32 := broadcastInDim S2048x1x2 ![0, 2] bcast_S2048x2_S2048x1x2_0_2 main_v2167
  let main_v2175 : FVec F S2048x1x2 .f32 := broadcastInDim S2048x1x2 ![0, 2] bcast_S2048x2_S2048x1x2_0_2 main_v2171
  fn_part97 (F := F) main_arg0 main_arg1 main_arg3 main_arg4 main_v31 main_v33 main_v53 main_v55 main_v75 main_v77 main_v176 main_v395 main_v614 main_v833 main_v1052 main_v1271 main_v1490 main_v1709 main_v1928 main_v2040 main_v2045 main_v2147 main_v2172 main_v2173 main_v2174 main_v2175

def fn_part95 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2045 : FVec F S2048x2 .f32) (main_v2105 : FVec F S2048x1x4x2 .f32) (main_v2132 : FVec F S2048x8192x1 .f32) (main_v2133 : FVec F S2048x8192x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2134 : FVec F S2048x8192x2 .f32 := (fun a b => concatenate S2048x8192x2 2 [⟨S2048x8192x1, a⟩, ⟨S2048x8192x1, b⟩] concatenates_S2048x8192x1_S2048x8192x1_S2048x8192x2_d2) main_v2132 main_v2133
  let main_v2135 : FVec F S2048x2048x4x2 .f32 := shapeCast S2048x2048x4x2 main_v2134 shapeCasts_S2048x8192x2_S2048x2048x4x2
  let main_v2136 : FVec F S2048x2048x4x2 .f32 := broadcastInDim S2048x2048x4x2 ![0, 1, 2, 3] bcast_S2048x1x4x2_S2048x2048x4x2_0_1_2_3 main_v2105
  let main_v2137 : FVec F S2048x2048x4x2 .f32 := subf main_v2135 main_v2136
  let main_v2138 : FVec F S2048x2048x4 .f32 := fn_norm (F := F) main_v2137
  let main_cst_144 : FVec F S_ .f32 := constant S_ .f32 0x00000000#32
  let main_v2139 : FVec F S2048x2048 .f32 := (fun x v => Host.reduceAdd x v reducesTo_S2048x2048x4_S2048x2048_d2 h_S_) main_v2138 main_cst_144
  let main_cst_145 : FVec F S_ .f32 := constant S_ .f32 0x7F800000#32
  let main_v2140 : FVec F S2048 .f32 := (fun x v => Host.reduce FloatOps.minimumf x v reducesTo_S2048x2048_S2048_d1 h_S_) main_v2139 main_cst_145
  let main_v2141 : FVec F S2048x1 .f32 := broadcastInDim S2048x1 ![0] bcast_S2048_S2048x1_0 main_v2140
  let main_v2142 : FVec F S2048x2048 .f32 := broadcastInDim S2048x2048 ![0, 1] bcast_S2048x1_S2048x2048_0_1 main_v2141
  let main_v2143 : IVec S2048x2048 1 := cmpf .oeq main_v2139 main_v2142
  let main_v2144 : IVec S2048x2048 32 := (extui 32 · natLt_1_32) main_v2143
  let main_c_146 : IVec S_ 32 := constantI S_ 32 0#32
  let main_v2145 : IVec S2048 32 := (fun x v => Host.reduce IntOp.addi x v reducesTo_S2048x2048_S2048_d1 h_S_) main_v2144 main_c_146
  let main_c_147 : IVec S_ 32 := constantI S_ 32 1#32
  let main_v2146 : IVec S2048 32 := broadcastInDim S2048 ![] bcast_S_S2048 main_c_147
  let main_v2147 : IVec S2048 1 := cmpi .eq main_v2145 main_v2146
  let main_v2148 : FVec F S2048x1 .f32 := (extractStridedSlice S2048x1 ![0, 0] · slices_S2048x2_S2048x1_0_0) main_arg3
  let main_v2149 : FVec F S2048 .f32 := shapeCast S2048 main_v2148 shapeCasts_S2048x1_S2048
  let main_cst_148 : FVec F S_ .f32 := constant S_ .f32 0x40000000#32
  let main_v2150 : FVec F S2048 .f32 := broadcastInDim S2048 ![] bcast_S_S2048 main_cst_148
  let main_v2151 : FVec F S2048 .f32 := Host.divf main_v2149 main_v2150
  let main_v2152 : FVec F S2048x1 .f32 := (extractStridedSlice S2048x1 ![0, 1] · slices_S2048x2_S2048x1_0_1) main_arg3
  fn_part96 (F := F) main_arg0 main_arg1 main_arg3 main_arg4 main_v31 main_v33 main_v53 main_v55 main_v75 main_v77 main_v176 main_v395 main_v614 main_v833 main_v1052 main_v1271 main_v1490 main_v1709 main_v1928 main_v2040 main_v2045 main_v2147 main_v2151 main_v2152

def fn_part94 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2045 : FVec F S2048x2 .f32) (main_v2105 : FVec F S2048x1x4x2 .f32) (main_v2107 : FVec F S2048x8192x2 .f32) (main_v2109 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2110 : FVec F S2048 .f32 := Host.sin main_v2040
  let main_v2111 : FVec F S2048x1 .f32 := broadcastInDim S2048x1 ![0] bcast_S2048_S2048x1_0 main_v2110
  let main_v2112 : FVec F S2048x8192x1 .f32 := (extractStridedSlice S2048x8192x1 ![0, 0, 0] · slices_S2048x8192x2_S2048x8192x1_0_0_0) main_v2107
  let main_v2113 : FVec F S2048x8192 .f32 := shapeCast S2048x8192 main_v2112 shapeCasts_S2048x8192x1_S2048x8192
  let main_v2114 : FVec F S2048x8192x1 .f32 := (extractStridedSlice S2048x8192x1 ![0, 0, 1] · slices_S2048x8192x2_S2048x8192x1_0_0_1) main_v2107
  let main_v2115 : FVec F S2048x8192 .f32 := shapeCast S2048x8192 main_v2114 shapeCasts_S2048x8192x1_S2048x8192
  let main_v2116 : FVec F S2048x8192 .f32 := broadcastInDim S2048x8192 ![0, 1] bcast_S2048x1_S2048x8192_0_1 main_v2109
  let main_v2117 : FVec F S2048x8192 .f32 := mulf main_v2113 main_v2116
  let main_v2118 : FVec F S2048x8192 .f32 := broadcastInDim S2048x8192 ![0, 1] bcast_S2048x1_S2048x8192_0_1 main_v2111
  let main_v2119 : FVec F S2048x8192 .f32 := mulf main_v2115 main_v2118
  let main_v2120 : FVec F S2048x8192 .f32 := subf main_v2117 main_v2119
  let main_v2121 : FVec F S2048x1 .f32 := (extractStridedSlice S2048x1 ![0, 0] · slices_S2048x2_S2048x1_0_0) main_v2045
  let main_v2122 : FVec F S2048x8192 .f32 := broadcastInDim S2048x8192 ![0, 1] bcast_S2048x1_S2048x8192_0_1 main_v2121
  let main_v2123 : FVec F S2048x8192 .f32 := addf main_v2120 main_v2122
  let main_v2124 : FVec F S2048x8192 .f32 := broadcastInDim S2048x8192 ![0, 1] bcast_S2048x1_S2048x8192_0_1 main_v2111
  let main_v2125 : FVec F S2048x8192 .f32 := mulf main_v2113 main_v2124
  let main_v2126 : FVec F S2048x8192 .f32 := broadcastInDim S2048x8192 ![0, 1] bcast_S2048x1_S2048x8192_0_1 main_v2109
  let main_v2127 : FVec F S2048x8192 .f32 := mulf main_v2115 main_v2126
  let main_v2128 : FVec F S2048x8192 .f32 := addf main_v2125 main_v2127
  let main_v2129 : FVec F S2048x1 .f32 := (extractStridedSlice S2048x1 ![0, 1] · slices_S2048x2_S2048x1_0_1) main_v2045
  let main_v2130 : FVec F S2048x8192 .f32 := broadcastInDim S2048x8192 ![0, 1] bcast_S2048x1_S2048x8192_0_1 main_v2129
  let main_v2131 : FVec F S2048x8192 .f32 := addf main_v2128 main_v2130
  let main_v2132 : FVec F S2048x8192x1 .f32 := broadcastInDim S2048x8192x1 ![0, 1] bcast_S2048x8192_S2048x8192x1_0_1 main_v2123
  let main_v2133 : FVec F S2048x8192x1 .f32 := broadcastInDim S2048x8192x1 ![0, 1] bcast_S2048x8192_S2048x8192x1_0_1 main_v2131
  fn_part95 (F := F) main_arg0 main_arg1 main_arg3 main_arg4 main_v31 main_v33 main_v53 main_v55 main_v75 main_v77 main_v176 main_v395 main_v614 main_v833 main_v1052 main_v1271 main_v1490 main_v1709 main_v1928 main_v2040 main_v2045 main_v2105 main_v2132 main_v2133

def fn_part93 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2045 : FVec F S2048x2 .f32) (main_v2079 : FVec F S2048x1 .f32) (main_v2081 : FVec F S2048x1 .f32) (main_v2083 : FVec F S2048x4 .f32) (main_v2085 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2086 : FVec F S2048x4 .f32 := broadcastInDim S2048x4 ![0, 1] bcast_S2048x1_S2048x4_0_1 main_v2079
  let main_v2087 : FVec F S2048x4 .f32 := mulf main_v2083 main_v2086
  let main_v2088 : FVec F S2048x4 .f32 := broadcastInDim S2048x4 ![0, 1] bcast_S2048x1_S2048x4_0_1 main_v2081
  let main_v2089 : FVec F S2048x4 .f32 := mulf main_v2085 main_v2088
  let main_v2090 : FVec F S2048x4 .f32 := subf main_v2087 main_v2089
  let main_v2091 : FVec F S2048x1 .f32 := (extractStridedSlice S2048x1 ![0, 0] · slices_S2048x2_S2048x1_0_0) main_v31
  let main_v2092 : FVec F S2048x4 .f32 := broadcastInDim S2048x4 ![0, 1] bcast_S2048x1_S2048x4_0_1 main_v2091
  let main_v2093 : FVec F S2048x4 .f32 := addf main_v2090 main_v2092
  let main_v2094 : FVec F S2048x4 .f32 := broadcastInDim S2048x4 ![0, 1] bcast_S2048x1_S2048x4_0_1 main_v2081
  let main_v2095 : FVec F S2048x4 .f32 := mulf main_v2083 main_v2094
  let main_v2096 : FVec F S2048x4 .f32 := broadcastInDim S2048x4 ![0, 1] bcast_S2048x1_S2048x4_0_1 main_v2079
  let main_v2097 : FVec F S2048x4 .f32 := mulf main_v2085 main_v2096
  let main_v2098 : FVec F S2048x4 .f32 := addf main_v2095 main_v2097
  let main_v2099 : FVec F S2048x1 .f32 := (extractStridedSlice S2048x1 ![0, 1] · slices_S2048x2_S2048x1_0_1) main_v31
  let main_v2100 : FVec F S2048x4 .f32 := broadcastInDim S2048x4 ![0, 1] bcast_S2048x1_S2048x4_0_1 main_v2099
  let main_v2101 : FVec F S2048x4 .f32 := addf main_v2098 main_v2100
  let main_v2102 : FVec F S2048x4x1 .f32 := broadcastInDim S2048x4x1 ![0, 1] bcast_S2048x4_S2048x4x1_0_1 main_v2093
  let main_v2103 : FVec F S2048x4x1 .f32 := broadcastInDim S2048x4x1 ![0, 1] bcast_S2048x4_S2048x4x1_0_1 main_v2101
  let main_v2104 : FVec F S2048x4x2 .f32 := (fun a b => concatenate S2048x4x2 2 [⟨S2048x4x1, a⟩, ⟨S2048x4x1, b⟩] concatenates_S2048x4x1_S2048x4x1_S2048x4x2_d2) main_v2102 main_v2103
  let main_v2105 : FVec F S2048x1x4x2 .f32 := broadcastInDim S2048x1x4x2 ![0, 2, 3] bcast_S2048x4x2_S2048x1x4x2_0_2_3 main_v2104
  let main_v2106 : FVec F S1x8192x2 .f32 := shapeCast S1x8192x2 main_arg4 shapeCasts_S2048x4x2_S1x8192x2
  let main_v2107 : FVec F S2048x8192x2 .f32 := broadcastInDim S2048x8192x2 ![0, 1, 2] bcast_S1x8192x2_S2048x8192x2_0_1_2 main_v2106
  let main_v2108 : FVec F S2048 .f32 := Host.cos main_v2040
  let main_v2109 : FVec F S2048x1 .f32 := broadcastInDim S2048x1 ![0] bcast_S2048_S2048x1_0 main_v2108
  fn_part94 (F := F) main_arg0 main_arg1 main_arg3 main_arg4 main_v31 main_v33 main_v53 main_v55 main_v75 main_v77 main_v176 main_v395 main_v614 main_v833 main_v1052 main_v1271 main_v1490 main_v1709 main_v1928 main_v2040 main_v2045 main_v2105 main_v2107 main_v2109

def fn_part92 {F : FTy → Type} [FloatOps F] (main_arg0 : FVec F S2048x89x2 .f32) (main_arg1 : FVec F S2048x89 .f32) (main_arg3 : FVec F S2048x2 .f32) (main_arg4 : FVec F S2048x4x2 .f32) (main_v31 : FVec F S2048x2 .f32) (main_v33 : FVec F S2048x2 .f32) (main_v53 : FVec F S2048 .f32) (main_v55 : FVec F S2048 .f32) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2045 : FVec F S2048x2 .f32) (main_v2052 : FVec F S2048 .f32) (main_v2056 : FVec F S2048 .f32) (main_v2059 : FVec F S2048x2 .f32) (main_v2060 : FVec F S2048 .f32) (main_v2061 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2062 : FVec F S2048x1 .f32 := broadcastInDim S2048x1 ![0] bcast_S2048_S2048x1_0 main_v2060
  let main_v2063 : FVec F S2048x2 .f32 := (fun a b => concatenate S2048x2 1 [⟨S2048x1, a⟩, ⟨S2048x1, b⟩] concatenates_S2048x1_S2048x1_S2048x2_d1) main_v2061 main_v2062
  let main_v2064 : FVec F S2048 .f32 := Host.negf main_v2052
  let main_v2065 : FVec F S2048 .f32 := Host.negf main_v2056
  let main_v2066 : FVec F S2048x1 .f32 := broadcastInDim S2048x1 ![0] bcast_S2048_S2048x1_0 main_v2064
  let main_v2067 : FVec F S2048x1 .f32 := broadcastInDim S2048x1 ![0] bcast_S2048_S2048x1_0 main_v2065
  let main_v2068 : FVec F S2048x2 .f32 := (fun a b => concatenate S2048x2 1 [⟨S2048x1, a⟩, ⟨S2048x1, b⟩] concatenates_S2048x1_S2048x1_S2048x2_d1) main_v2066 main_v2067
  let main_v2069 : FVec F S2048 .f32 := Host.negf main_v2052
  let main_v2070 : FVec F S2048x1 .f32 := broadcastInDim S2048x1 ![0] bcast_S2048_S2048x1_0 main_v2069
  let main_v2071 : FVec F S2048x1 .f32 := broadcastInDim S2048x1 ![0] bcast_S2048_S2048x1_0 main_v2056
  let main_v2072 : FVec F S2048x2 .f32 := (fun a b => concatenate S2048x2 1 [⟨S2048x1, a⟩, ⟨S2048x1, b⟩] concatenates_S2048x1_S2048x1_S2048x2_d1) main_v2070 main_v2071
  let main_v2073 : FVec F S2048x1x2 .f32 := broadcastInDim S2048x1x2 ![0, 2] bcast_S2048x2_S2048x1x2_0_2 main_v2059
  let main_v2074 : FVec F S2048x1x2 .f32 := broadcastInDim S2048x1x2 ![0, 2] bcast_S2048x2_S2048x1x2_0_2 main_v2063
  let main_v2075 : FVec F S2048x1x2 .f32 := broadcastInDim S2048x1x2 ![0, 2] bcast_S2048x2_S2048x1x2_0_2 main_v2068
  let main_v2076 : FVec F S2048x1x2 .f32 := broadcastInDim S2048x1x2 ![0, 2] bcast_S2048x2_S2048x1x2_0_2 main_v2072
  let main_v2077 : FVec F S2048x4x2 .f32 := concatenate S2048x4x2 1 [⟨S2048x1x2, main_v2073⟩, ⟨S2048x1x2, main_v2074⟩, ⟨S2048x1x2, main_v2075⟩, ⟨S2048x1x2, main_v2076⟩] concatenates_S2048x1x2_S2048x1x2_S2048x1x2_S2048x1x2_S2048x4x2_d1
  let main_v2078 : FVec F S2048 .f32 := Host.cos main_v53
  let main_v2079 : FVec F S2048x1 .f32 := broadcastInDim S2048x1 ![0] bcast_S2048_S2048x1_0 main_v2078
  let main_v2080 : FVec F S2048 .f32 := Host.sin main_v53
  let main_v2081 : FVec F S2048x1 .f32 := broadcastInDim S2048x1 ![0] bcast_S2048_S2048x1_0 main_v2080
  let main_v2082 : FVec F S2048x4x1 .f32 := (extractStridedSlice S2048x4x1 ![0, 0, 0] · slices_S2048x4x2_S2048x4x1_0_0_0) main_v2077
  let main_v2083 : FVec F S2048x4 .f32 := shapeCast S2048x4 main_v2082 shapeCasts_S2048x4x1_S2048x4
  let main_v2084 : FVec F S2048x4x1 .f32 := (extractStridedSlice S2048x4x1 ![0, 0, 1] · slices_S2048x4x2_S2048x4x1_0_0_1) main_v2077
  let main_v2085 : FVec F S2048x4 .f32 := shapeCast S2048x4 main_v2084 shapeCasts_S2048x4x1_S2048x4
  fn_part93 (F := F) main_arg0 main_arg1 main_arg3 main_arg4 main_v31 main_v33 main_v53 main_v55 main_v75 main_v77 main_v176 main_v395 main_v614 main_v833 main_v1052 main_v1271 main_v1490 main_v1709 main_v1928 main_v2040 main_v2045 main_v2079 main_v2081 main_v2083 main_v2085

def fn_part91 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2040 : FVec F S2048 .f32) (main_v2041 : IVec S2048x1 1) (main_v2042 : FVec F S2048x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_cst_139 : FVec F S_ .f32 := constant S_ .f32 0x40800000#32
  let main_v2043 : FVec F S2048x2 .f32 := broadcastInDim S2048x2 ![] bcast_S_S2048x2 main_cst_139
  let main_v2044 : FVec F S2048x2 .f32 := Host.divf main_v2042 main_v2043
  let main_v2045 : FVec F S2048x2 .f32 := fn_where_1 (F := F) main_v2041 main_v2044 main_v29
  let main_v2046 : IVec S2048x1 1 := broadcastInDim S2048x1 ![0] bcast_S2048_S2048x1_0 main_v73
  let main_cst_140 : FVec F S_ .f32 := constant S_ .f32 0x00000000#32
  let main_v2047 : FVec F S2048x2 .f32 := fn_where_2 (F := F) main_v2046 main_v2045 main_cst_140
  let main_cst_141 : FVec F S_ .f32 := constant S_ .f32 0x00000000#32
  let main_v2048 : FVec F S2048 .f32 := fn_where_3 (F := F) main_v73 main_v2040 main_cst_141
  let main_v2049 : FVec F S2048x1 .f32 := (extractStridedSlice S2048x1 ![0, 0] · slices_S2048x2_S2048x1_0_0) main_arg3
  let main_v2050 : FVec F S2048 .f32 := shapeCast S2048 main_v2049 shapeCasts_S2048x1_S2048
  let main_cst_142 : FVec F S_ .f32 := constant S_ .f32 0x40000000#32
  let main_v2051 : FVec F S2048 .f32 := broadcastInDim S2048 ![] bcast_S_S2048 main_cst_142
  let main_v2052 : FVec F S2048 .f32 := Host.divf main_v2050 main_v2051
  let main_v2053 : FVec F S2048x1 .f32 := (extractStridedSlice S2048x1 ![0, 1] · slices_S2048x2_S2048x1_0_1) main_arg3
  let main_v2054 : FVec F S2048 .f32 := shapeCast S2048 main_v2053 shapeCasts_S2048x1_S2048
  let main_cst_143 : FVec F S_ .f32 := constant S_ .f32 0x40000000#32
  let main_v2055 : FVec F S2048 .f32 := broadcastInDim S2048 ![] bcast_S_S2048 main_cst_143
  let main_v2056 : FVec F S2048 .f32 := Host.divf main_v2054 main_v2055
  let main_v2057 : FVec F S2048x1 .f32 := broadcastInDim S2048x1 ![0] bcast_S2048_S2048x1_0 main_v2052
  let main_v2058 : FVec F S2048x1 .f32 := broadcastInDim S2048x1 ![0] bcast_S2048_S2048x1_0 main_v2056
  let main_v2059 : FVec F S2048x2 .f32 := (fun a b => concatenate S2048x2 1 [⟨S2048x1, a⟩, ⟨S2048x1, b⟩] concatenates_S2048x1_S2048x1_S2048x2_d1) main_v2057 main_v2058
  let main_v2060 : FVec F S2048 .f32 := Host.negf main_v2056
  let main_v2061 : FVec F S2048x1 .f32 := broadcastInDim S2048x1 ![0] bcast_S2048_S2048x1_0 main_v2052
  fn_part92 (F := F) main_arg0 main_arg1 main_arg3 main_arg4 main_v31 main_v33 main_v53 main_v55 main_v75 main_v77 main_v176 main_v395 main_v614 main_v833 main_v1052 main_v1271 main_v1490 main_v1709 main_v1928 main_v2040 main_v2045 main_v2052 main_v2056 main_v2059 main_v2060 main_v2061

def fn_part90 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1928 : IVec S2048 1) (main_v2015 : FVec F S2048x2048x4x2 .f32) (main_v2019 : FVec F S2048x2048 .f32) (main_v2020 : IVec S2048x2048 32) (main_v2021 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2022 : FVec F S2048x1 .f32 := broadcastInDim S2048x1 ![0] bcast_S2048_S2048x1_0 main_v2021
  let main_v2023 : FVec F S2048x2048 .f32 := broadcastInDim S2048x2048 ![0, 1] bcast_S2048x1_S2048x2048_0_1 main_v2022
  let main_v2024 : IVec S2048x2048 1 := cmpf .oeq main_v2019 main_v2023
  let main_c_136 : IVec S_ 32 := constantI S_ 32 2048#32
  let main_v2025 : IVec S2048x2048 32 := fn_where (F := F) main_v2024 main_v2020 main_c_136
  let main_c_137 : IVec S_ 32 := constantI S_ 32 2147483647#32
  let main_v2026 : IVec S2048 32 := (fun x v => Host.reduce IntOp.minsi x v reducesTo_S2048x2048_S2048_d1 h_S_) main_v2025 main_c_137
  let main_v2027 : IVec S2048x1x1x1 32 := broadcastInDim S2048x1x1x1 ![0] bcast_S2048_S2048x1x1x1_0 main_v2026
  let main_v2028 : FVec F S2048x1x4x2 .f32 := fn_take_along_axis (F := F) main_v2015 main_v2027
  let main_v2029 : FVec F S2048x4x2 .f32 := shapeCast S2048x4x2 main_v2028 shapeCasts_S2048x1x4x2_S2048x4x2
  let main_v2030 : FVec F S2048x1x2 .f32 := (extractStridedSlice S2048x1x2 ![0, 0, 0] · slices_S2048x4x2_S2048x1x2_0_0_0) main_v2029
  let main_v2031 : FVec F S2048x2 .f32 := shapeCast S2048x2 main_v2030 shapeCasts_S2048x1x2_S2048x2
  let main_v2032 : FVec F S2048x1x2 .f32 := (extractStridedSlice S2048x1x2 ![0, 3, 0] · slices_S2048x4x2_S2048x1x2_0_3_0) main_v2029
  let main_v2033 : FVec F S2048x2 .f32 := shapeCast S2048x2 main_v2032 shapeCasts_S2048x1x2_S2048x2
  let main_v2034 : FVec F S2048x2 .f32 := subf main_v2031 main_v2033
  let main_v2035 : FVec F S2048x1 .f32 := (extractStridedSlice S2048x1 ![0, 1] · slices_S2048x2_S2048x1_0_1) main_v2034
  let main_v2036 : FVec F S2048 .f32 := shapeCast S2048 main_v2035 shapeCasts_S2048x1_S2048
  let main_v2037 : FVec F S2048x1 .f32 := (extractStridedSlice S2048x1 ![0, 0] · slices_S2048x2_S2048x1_0_0) main_v2034
  let main_v2038 : FVec F S2048 .f32 := shapeCast S2048 main_v2037 shapeCasts_S2048x1_S2048
  let main_v2039 : FVec F S2048 .f32 := Host.atan2 main_v2036 main_v2038
  let main_v2040 : FVec F S2048 .f32 := fn_where_0 (F := F) main_v73 main_v2039 main_v51
  let main_v2041 : IVec S2048x1 1 := broadcastInDim S2048x1 ![0] bcast_S2048_S2048x1_0 main_v73
  let main_cst_138 : FVec F S_ .f32 := constant S_ .f32 0x00000000#32
  let main_v2042 : FVec F S2048x2 .f32 := (fun x v => Host.reduceAdd x v reducesTo_S2048x4x2_S2048x2_d1 h_S_) main_v2029 main_cst_138
  fn_part91 (F := F) main_arg0 main_arg1 main_arg3 main_arg4 main_v29 main_v31 main_v33 main_v53 main_v55 main_v73 main_v75 main_v77 main_v176 main_v395 main_v614 main_v833 main_v1052 main_v1271 main_v1490 main_v1709 main_v1928 main_v2040 main_v2041 main_v2042

def fn_part89 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1826 : FVec F S2048x2 .f32) (main_v1928 : IVec S2048 1) (main_v1985 : FVec F S2048x1x4x2 .f32) (main_v1989 : FVec F S2048x1 .f32) (main_v1991 : FVec F S2048x1 .f32) (main_v1993 : FVec F S2048x8192 .f32) (main_v1995 : FVec F S2048x8192 .f32) (main_v1997 : FVec F S2048x8192 .f32) (main_v1999 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v2000 : FVec F S2048x8192 .f32 := subf main_v1997 main_v1999
  let main_v2001 : FVec F S2048x1 .f32 := (extractStridedSlice S2048x1 ![0, 0] · slices_S2048x2_S2048x1_0_0) main_v1826
  let main_v2002 : FVec F S2048x8192 .f32 := broadcastInDim S2048x8192 ![0, 1] bcast_S2048x1_S2048x8192_0_1 main_v2001
  let main_v2003 : FVec F S2048x8192 .f32 := addf main_v2000 main_v2002
  let main_v2004 : FVec F S2048x8192 .f32 := broadcastInDim S2048x8192 ![0, 1] bcast_S2048x1_S2048x8192_0_1 main_v1991
  let main_v2005 : FVec F S2048x8192 .f32 := mulf main_v1993 main_v2004
  let main_v2006 : FVec F S2048x8192 .f32 := broadcastInDim S2048x8192 ![0, 1] bcast_S2048x1_S2048x8192_0_1 main_v1989
  let main_v2007 : FVec F S2048x8192 .f32 := mulf main_v1995 main_v2006
  let main_v2008 : FVec F S2048x8192 .f32 := addf main_v2005 main_v2007
  let main_v2009 : FVec F S2048x1 .f32 := (extractStridedSlice S2048x1 ![0, 1] · slices_S2048x2_S2048x1_0_1) main_v1826
  let main_v2010 : FVec F S2048x8192 .f32 := broadcastInDim S2048x8192 ![0, 1] bcast_S2048x1_S2048x8192_0_1 main_v2009
  let main_v2011 : FVec F S2048x8192 .f32 := addf main_v2008 main_v2010
  let main_v2012 : FVec F S2048x8192x1 .f32 := broadcastInDim S2048x8192x1 ![0, 1] bcast_S2048x8192_S2048x8192x1_0_1 main_v2003
  let main_v2013 : FVec F S2048x8192x1 .f32 := broadcastInDim S2048x8192x1 ![0, 1] bcast_S2048x8192_S2048x8192x1_0_1 main_v2011
  let main_v2014 : FVec F S2048x8192x2 .f32 := (fun a b => concatenate S2048x8192x2 2 [⟨S2048x8192x1, a⟩, ⟨S2048x8192x1, b⟩] concatenates_S2048x8192x1_S2048x8192x1_S2048x8192x2_d2) main_v2012 main_v2013
  let main_v2015 : FVec F S2048x2048x4x2 .f32 := shapeCast S2048x2048x4x2 main_v2014 shapeCasts_S2048x8192x2_S2048x2048x4x2
  let main_v2016 : FVec F S2048x2048x4x2 .f32 := broadcastInDim S2048x2048x4x2 ![0, 1, 2, 3] bcast_S2048x1x4x2_S2048x2048x4x2_0_1_2_3 main_v1985
  let main_v2017 : FVec F S2048x2048x4x2 .f32 := subf main_v2015 main_v2016
  let main_v2018 : FVec F S2048x2048x4 .f32 := fn_norm (F := F) main_v2017
  let main_cst_134 : FVec F S_ .f32 := constant S_ .f32 0x00000000#32
  let main_v2019 : FVec F S2048x2048 .f32 := (fun x v => Host.reduceAdd x v reducesTo_S2048x2048x4_S2048x2048_d2 h_S_) main_v2018 main_cst_134
  let main_v2020 : IVec S2048x2048 32 := iotaInDim S2048x2048 32 1
  let main_cst_135 : FVec F S_ .f32 := constant S_ .f32 0x7F800000#32
  let main_v2021 : FVec F S2048 .f32 := (fun x v => Host.reduce FloatOps.minimumf x v reducesTo_S2048x2048_S2048_d1 h_S_) main_v2019 main_cst_135
  fn_part90 (F := F) main_arg0 main_arg1 main_arg3 main_arg4 main_v29 main_v31 main_v33 main_v51 main_v53 main_v55 main_v73 main_v75 main_v77 main_v176 main_v395 main_v614 main_v833 main_v1052 main_v1271 main_v1490 main_v1709 main_v1928 main_v2015 main_v2019 main_v2020 main_v2021

def fn_part88 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1821 : FVec F S2048 .f32) (main_v1826 : FVec F S2048x2 .f32) (main_v1928 : IVec S2048 1) (main_v1959 : FVec F S2048x1 .f32) (main_v1965 : FVec F S2048x4 .f32) (main_v1973 : FVec F S2048x4 .f32) (main_v1975 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1976 : FVec F S2048x4 .f32 := broadcastInDim S2048x4 ![0, 1] bcast_S2048x1_S2048x4_0_1 main_v1959
  let main_v1977 : FVec F S2048x4 .f32 := mulf main_v1965 main_v1976
  let main_v1978 : FVec F S2048x4 .f32 := addf main_v1975 main_v1977
  let main_v1979 : FVec F S2048x1 .f32 := (extractStridedSlice S2048x1 ![0, 1] · slices_S2048x2_S2048x1_0_1) main_v29
  let main_v1980 : FVec F S2048x4 .f32 := broadcastInDim S2048x4 ![0, 1] bcast_S2048x1_S2048x4_0_1 main_v1979
  let main_v1981 : FVec F S2048x4 .f32 := addf main_v1978 main_v1980
  let main_v1982 : FVec F S2048x4x1 .f32 := broadcastInDim S2048x4x1 ![0, 1] bcast_S2048x4_S2048x4x1_0_1 main_v1973
  let main_v1983 : FVec F S2048x4x1 .f32 := broadcastInDim S2048x4x1 ![0, 1] bcast_S2048x4_S2048x4x1_0_1 main_v1981
  let main_v1984 : FVec F S2048x4x2 .f32 := (fun a b => concatenate S2048x4x2 2 [⟨S2048x4x1, a⟩, ⟨S2048x4x1, b⟩] concatenates_S2048x4x1_S2048x4x1_S2048x4x2_d2) main_v1982 main_v1983
  let main_v1985 : FVec F S2048x1x4x2 .f32 := broadcastInDim S2048x1x4x2 ![0, 2, 3] bcast_S2048x4x2_S2048x1x4x2_0_2_3 main_v1984
  let main_v1986 : FVec F S1x8192x2 .f32 := shapeCast S1x8192x2 main_arg4 shapeCasts_S2048x4x2_S1x8192x2
  let main_v1987 : FVec F S2048x8192x2 .f32 := broadcastInDim S2048x8192x2 ![0, 1, 2] bcast_S1x8192x2_S2048x8192x2_0_1_2 main_v1986
  let main_v1988 : FVec F S2048 .f32 := Host.cos main_v1821
  let main_v1989 : FVec F S2048x1 .f32 := broadcastInDim S2048x1 ![0] bcast_S2048_S2048x1_0 main_v1988
  let main_v1990 : FVec F S2048 .f32 := Host.sin main_v1821
  let main_v1991 : FVec F S2048x1 .f32 := broadcastInDim S2048x1 ![0] bcast_S2048_S2048x1_0 main_v1990
  let main_v1992 : FVec F S2048x8192x1 .f32 := (extractStridedSlice S2048x8192x1 ![0, 0, 0] · slices_S2048x8192x2_S2048x8192x1_0_0_0) main_v1987
  let main_v1993 : FVec F S2048x8192 .f32 := shapeCast S2048x8192 main_v1992 shapeCasts_S2048x8192x1_S2048x8192
  let main_v1994 : FVec F S2048x8192x1 .f32 := (extractStridedSlice S2048x8192x1 ![0, 0, 1] · slices_S2048x8192x2_S2048x8192x1_0_0_1) main_v1987
  let main_v1995 : FVec F S2048x8192 .f32 := shapeCast S2048x8192 main_v1994 shapeCasts_S2048x8192x1_S2048x8192
  let main_v1996 : FVec F S2048x8192 .f32 := broadcastInDim S2048x8192 ![0, 1] bcast_S2048x1_S2048x8192_0_1 main_v1989
  let main_v1997 : FVec F S2048x8192 .f32 := mulf main_v1993 main_v1996
  let main_v1998 : FVec F S2048x8192 .f32 := broadcastInDim S2048x8192 ![0, 1] bcast_S2048x1_S2048x8192_0_1 main_v1991
  let main_v1999 : FVec F S2048x8192 .f32 := mulf main_v1995 main_v1998
  fn_part89 (F := F) main_arg0 main_arg1 main_arg3 main_arg4 main_v29 main_v31 main_v33 main_v51 main_v53 main_v55 main_v73 main_v75 main_v77 main_v176 main_v395 main_v614 main_v833 main_v1052 main_v1271 main_v1490 main_v1709 main_v1826 main_v1928 main_v1985 main_v1989 main_v1991 main_v1993 main_v1995 main_v1997 main_v1999

def fn_part87 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1821 : FVec F S2048 .f32) (main_v1826 : FVec F S2048x2 .f32) (main_v1928 : IVec S2048 1) (main_v1939 : FVec F S2048x2 .f32) (main_v1943 : FVec F S2048x2 .f32) (main_v1948 : FVec F S2048x2 .f32) (main_v1950 : FVec F S2048x1 .f32) (main_v1951 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1952 : FVec F S2048x2 .f32 := (fun a b => concatenate S2048x2 1 [⟨S2048x1, a⟩, ⟨S2048x1, b⟩] concatenates_S2048x1_S2048x1_S2048x2_d1) main_v1950 main_v1951
  let main_v1953 : FVec F S2048x1x2 .f32 := broadcastInDim S2048x1x2 ![0, 2] bcast_S2048x2_S2048x1x2_0_2 main_v1939
  let main_v1954 : FVec F S2048x1x2 .f32 := broadcastInDim S2048x1x2 ![0, 2] bcast_S2048x2_S2048x1x2_0_2 main_v1943
  let main_v1955 : FVec F S2048x1x2 .f32 := broadcastInDim S2048x1x2 ![0, 2] bcast_S2048x2_S2048x1x2_0_2 main_v1948
  let main_v1956 : FVec F S2048x1x2 .f32 := broadcastInDim S2048x1x2 ![0, 2] bcast_S2048x2_S2048x1x2_0_2 main_v1952
  let main_v1957 : FVec F S2048x4x2 .f32 := concatenate S2048x4x2 1 [⟨S2048x1x2, main_v1953⟩, ⟨S2048x1x2, main_v1954⟩, ⟨S2048x1x2, main_v1955⟩, ⟨S2048x1x2, main_v1956⟩] concatenates_S2048x1x2_S2048x1x2_S2048x1x2_S2048x1x2_S2048x4x2_d1
  let main_v1958 : FVec F S2048 .f32 := Host.cos main_v51
  let main_v1959 : FVec F S2048x1 .f32 := broadcastInDim S2048x1 ![0] bcast_S2048_S2048x1_0 main_v1958
  let main_v1960 : FVec F S2048 .f32 := Host.sin main_v51
  let main_v1961 : FVec F S2048x1 .f32 := broadcastInDim S2048x1 ![0] bcast_S2048_S2048x1_0 main_v1960
  let main_v1962 : FVec F S2048x4x1 .f32 := (extractStridedSlice S2048x4x1 ![0, 0, 0] · slices_S2048x4x2_S2048x4x1_0_0_0) main_v1957
  let main_v1963 : FVec F S2048x4 .f32 := shapeCast S2048x4 main_v1962 shapeCasts_S2048x4x1_S2048x4
  let main_v1964 : FVec F S2048x4x1 .f32 := (extractStridedSlice S2048x4x1 ![0, 0, 1] · slices_S2048x4x2_S2048x4x1_0_0_1) main_v1957
  let main_v1965 : FVec F S2048x4 .f32 := shapeCast S2048x4 main_v1964 shapeCasts_S2048x4x1_S2048x4
  let main_v1966 : FVec F S2048x4 .f32 := broadcastInDim S2048x4 ![0, 1] bcast_S2048x1_S2048x4_0_1 main_v1959
  let main_v1967 : FVec F S2048x4 .f32 := mulf main_v1963 main_v1966
  let main_v1968 : FVec F S2048x4 .f32 := broadcastInDim S2048x4 ![0, 1] bcast_S2048x1_S2048x4_0_1 main_v1961
  let main_v1969 : FVec F S2048x4 .f32 := mulf main_v1965 main_v1968
  let main_v1970 : FVec F S2048x4 .f32 := subf main_v1967 main_v1969
  let main_v1971 : FVec F S2048x1 .f32 := (extractStridedSlice S2048x1 ![0, 0] · slices_S2048x2_S2048x1_0_0) main_v29
  let main_v1972 : FVec F S2048x4 .f32 := broadcastInDim S2048x4 ![0, 1] bcast_S2048x1_S2048x4_0_1 main_v1971
  let main_v1973 : FVec F S2048x4 .f32 := addf main_v1970 main_v1972
  let main_v1974 : FVec F S2048x4 .f32 := broadcastInDim S2048x4 ![0, 1] bcast_S2048x1_S2048x4_0_1 main_v1961
  let main_v1975 : FVec F S2048x4 .f32 := mulf main_v1963 main_v1974
  fn_part88 (F := F) main_arg0 main_arg1 main_arg3 main_arg4 main_v29 main_v31 main_v33 main_v51 main_v53 main_v55 main_v73 main_v75 main_v77 main_v176 main_v395 main_v614 main_v833 main_v1052 main_v1271 main_v1490 main_v1709 main_v1821 main_v1826 main_v1928 main_v1959 main_v1965 main_v1973 main_v1975

def fn_part86 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1821 : FVec F S2048 .f32) (main_v1826 : FVec F S2048x2 .f32) (main_v1928 : IVec S2048 1) (main_v1929 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1930 : FVec F S2048 .f32 := shapeCast S2048 main_v1929 shapeCasts_S2048x1_S2048
  let main_cst_132 : FVec F S_ .f32 := constant S_ .f32 0x40000000#32
  let main_v1931 : FVec F S2048 .f32 := broadcastInDim S2048 ![] bcast_S_S2048 main_cst_132
  let main_v1932 : FVec F S2048 .f32 := Host.divf main_v1930 main_v1931
  let main_v1933 : FVec F S2048x1 .f32 := (extractStridedSlice S2048x1 ![0, 1] · slices_S2048x2_S2048x1_0_1) main_arg3
  let main_v1934 : FVec F S2048 .f32 := shapeCast S2048 main_v1933 shapeCasts_S2048x1_S2048
  let main_cst_133 : FVec F S_ .f32 := constant S_ .f32 0x40000000#32
  let main_v1935 : FVec F S2048 .f32 := broadcastInDim S2048 ![] bcast_S_S2048 main_cst_133
  let main_v1936 : FVec F S2048 .f32 := Host.divf main_v1934 main_v1935
  let main_v1937 : FVec F S2048x1 .f32 := broadcastInDim S2048x1 ![0] bcast_S2048_S2048x1_0 main_v1932
  let main_v1938 : FVec F S2048x1 .f32 := broadcastInDim S2048x1 ![0] bcast_S2048_S2048x1_0 main_v1936
  let main_v1939 : FVec F S2048x2 .f32 := (fun a b => concatenate S2048x2 1 [⟨S2048x1, a⟩, ⟨S2048x1, b⟩] concatenates_S2048x1_S2048x1_S2048x2_d1) main_v1937 main_v1938
  let main_v1940 : FVec F S2048 .f32 := Host.negf main_v1936
  let main_v1941 : FVec F S2048x1 .f32 := broadcastInDim S2048x1 ![0] bcast_S2048_S2048x1_0 main_v1932
  let main_v1942 : FVec F S2048x1 .f32 := broadcastInDim S2048x1 ![0] bcast_S2048_S2048x1_0 main_v1940
  let main_v1943 : FVec F S2048x2 .f32 := (fun a b => concatenate S2048x2 1 [⟨S2048x1, a⟩, ⟨S2048x1, b⟩] concatenates_S2048x1_S2048x1_S2048x2_d1) main_v1941 main_v1942
  let main_v1944 : FVec F S2048 .f32 := Host.negf main_v1932
  let main_v1945 : FVec F S2048 .f32 := Host.negf main_v1936
  let main_v1946 : FVec F S2048x1 .f32 := broadcastInDim S2048x1 ![0] bcast_S2048_S2048x1_0 main_v1944
  let main_v1947 : FVec F S2048x1 .f32 := broadcastInDim S2048x1 ![0] bcast_S2048_S2048x1_0 main_v1945
  let main_v1948 : FVec F S2048x2 .f32 := (fun a b => concatenate S2048x2 1 [⟨S2048x1, a⟩, ⟨S2048x1, b⟩] concatenates_S2048x1_S2048x1_S2048x2_d1) main_v1946 main_v1947
  let main_v1949 : FVec F S2048 .f32 := Host.negf main_v1932
  let main_v1950 : FVec F S2048x1 .f32 := broadcastInDim S2048x1 ![0] bcast_S2048_S2048x1_0 main_v1949
  let main_v1951 : FVec F S2048x1 .f32 := broadcastInDim S2048x1 ![0] bcast_S2048_S2048x1_0 main_v1936
  fn_part87 (F := F) main_arg0 main_arg1 main_arg3 main_arg4 main_v29 main_v31 main_v33 main_v51 main_v53 main_v55 main_v73 main_v75 main_v77 main_v176 main_v395 main_v614 main_v833 main_v1052 main_v1271 main_v1490 main_v1709 main_v1821 main_v1826 main_v1928 main_v1939 main_v1943 main_v1948 main_v1950 main_v1951

def fn_part85 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1821 : FVec F S2048 .f32) (main_v1826 : FVec F S2048x2 .f32) (main_v1886 : FVec F S2048x1x4x2 .f32) (main_v1904 : FVec F S2048x8192 .f32) (main_v1909 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1910 : FVec F S2048x1 .f32 := (extractStridedSlice S2048x1 ![0, 1] · slices_S2048x2_S2048x1_0_1) main_v1826
  let main_v1911 : FVec F S2048x8192 .f32 := broadcastInDim S2048x8192 ![0, 1] bcast_S2048x1_S2048x8192_0_1 main_v1910
  let main_v1912 : FVec F S2048x8192 .f32 := addf main_v1909 main_v1911
  let main_v1913 : FVec F S2048x8192x1 .f32 := broadcastInDim S2048x8192x1 ![0, 1] bcast_S2048x8192_S2048x8192x1_0_1 main_v1904
  let main_v1914 : FVec F S2048x8192x1 .f32 := broadcastInDim S2048x8192x1 ![0, 1] bcast_S2048x8192_S2048x8192x1_0_1 main_v1912
  let main_v1915 : FVec F S2048x8192x2 .f32 := (fun a b => concatenate S2048x8192x2 2 [⟨S2048x8192x1, a⟩, ⟨S2048x8192x1, b⟩] concatenates_S2048x8192x1_S2048x8192x1_S2048x8192x2_d2) main_v1913 main_v1914
  let main_v1916 : FVec F S2048x2048x4x2 .f32 := shapeCast S2048x2048x4x2 main_v1915 shapeCasts_S2048x8192x2_S2048x2048x4x2
  let main_v1917 : FVec F S2048x2048x4x2 .f32 := broadcastInDim S2048x2048x4x2 ![0, 1, 2, 3] bcast_S2048x1x4x2_S2048x2048x4x2_0_1_2_3 main_v1886
  let main_v1918 : FVec F S2048x2048x4x2 .f32 := subf main_v1916 main_v1917
  let main_v1919 : FVec F S2048x2048x4 .f32 := fn_norm (F := F) main_v1918
  let main_cst_128 : FVec F S_ .f32 := constant S_ .f32 0x00000000#32
  let main_v1920 : FVec F S2048x2048 .f32 := (fun x v => Host.reduceAdd x v reducesTo_S2048x2048x4_S2048x2048_d2 h_S_) main_v1919 main_cst_128
  let main_cst_129 : FVec F S_ .f32 := constant S_ .f32 0x7F800000#32
  let main_v1921 : FVec F S2048 .f32 := (fun x v => Host.reduce FloatOps.minimumf x v reducesTo_S2048x2048_S2048_d1 h_S_) main_v1920 main_cst_129
  let main_v1922 : FVec F S2048x1 .f32 := broadcastInDim S2048x1 ![0] bcast_S2048_S2048x1_0 main_v1921
  let main_v1923 : FVec F S2048x2048 .f32 := broadcastInDim S2048x2048 ![0, 1] bcast_S2048x1_S2048x2048_0_1 main_v1922
  let main_v1924 : IVec S2048x2048 1 := cmpf .oeq main_v1920 main_v1923
  let main_v1925 : IVec S2048x2048 32 := (extui 32 · natLt_1_32) main_v1924
  let main_c_130 : IVec S_ 32 := constantI S_ 32 0#32
  let main_v1926 : IVec S2048 32 := (fun x v => Host.reduce IntOp.addi x v reducesTo_S2048x2048_S2048_d1 h_S_) main_v1925 main_c_130
  let main_c_131 : IVec S_ 32 := constantI S_ 32 1#32
  let main_v1927 : IVec S2048 32 := broadcastInDim S2048 ![] bcast_S_S2048 main_c_131
  let main_v1928 : IVec S2048 1 := cmpi .eq main_v1926 main_v1927
  let main_v1929 : FVec F S2048x1 .f32 := (extractStridedSlice S2048x1 ![0, 0] · slices_S2048x2_S2048x1_0_0) main_arg3
  fn_part86 (F := F) main_arg0 main_arg1 main_arg3 main_arg4 main_v29 main_v31 main_v33 main_v51 main_v53 main_v55 main_v73 main_v75 main_v77 main_v176 main_v395 main_v614 main_v833 main_v1052 main_v1271 main_v1490 main_v1709 main_v1821 main_v1826 main_v1928 main_v1929

def fn_part84 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1821 : FVec F S2048 .f32) (main_v1826 : FVec F S2048x2 .f32) (main_v1885 : FVec F S2048x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1886 : FVec F S2048x1x4x2 .f32 := broadcastInDim S2048x1x4x2 ![0, 2, 3] bcast_S2048x4x2_S2048x1x4x2_0_2_3 main_v1885
  let main_v1887 : FVec F S1x8192x2 .f32 := shapeCast S1x8192x2 main_arg4 shapeCasts_S2048x4x2_S1x8192x2
  let main_v1888 : FVec F S2048x8192x2 .f32 := broadcastInDim S2048x8192x2 ![0, 1, 2] bcast_S1x8192x2_S2048x8192x2_0_1_2 main_v1887
  let main_v1889 : FVec F S2048 .f32 := Host.cos main_v1821
  let main_v1890 : FVec F S2048x1 .f32 := broadcastInDim S2048x1 ![0] bcast_S2048_S2048x1_0 main_v1889
  let main_v1891 : FVec F S2048 .f32 := Host.sin main_v1821
  let main_v1892 : FVec F S2048x1 .f32 := broadcastInDim S2048x1 ![0] bcast_S2048_S2048x1_0 main_v1891
  let main_v1893 : FVec F S2048x8192x1 .f32 := (extractStridedSlice S2048x8192x1 ![0, 0, 0] · slices_S2048x8192x2_S2048x8192x1_0_0_0) main_v1888
  let main_v1894 : FVec F S2048x8192 .f32 := shapeCast S2048x8192 main_v1893 shapeCasts_S2048x8192x1_S2048x8192
  let main_v1895 : FVec F S2048x8192x1 .f32 := (extractStridedSlice S2048x8192x1 ![0, 0, 1] · slices_S2048x8192x2_S2048x8192x1_0_0_1) main_v1888
  let main_v1896 : FVec F S2048x8192 .f32 := shapeCast S2048x8192 main_v1895 shapeCasts_S2048x8192x1_S2048x8192
  let main_v1897 : FVec F S2048x8192 .f32 := broadcastInDim S2048x8192 ![0, 1] bcast_S2048x1_S2048x8192_0_1 main_v1890
  let main_v1898 : FVec F S2048x8192 .f32 := mulf main_v1894 main_v1897
  let main_v1899 : FVec F S2048x8192 .f32 := broadcastInDim S2048x8192 ![0, 1] bcast_S2048x1_S2048x8192_0_1 main_v1892
  let main_v1900 : FVec F S2048x8192 .f32 := mulf main_v1896 main_v1899
  let main_v1901 : FVec F S2048x8192 .f32 := subf main_v1898 main_v1900
  let main_v1902 : FVec F S2048x1 .f32 := (extractStridedSlice S2048x1 ![0, 0] · slices_S2048x2_S2048x1_0_0) main_v1826
  let main_v1903 : FVec F S2048x8192 .f32 := broadcastInDim S2048x8192 ![0, 1] bcast_S2048x1_S2048x8192_0_1 main_v1902
  let main_v1904 : FVec F S2048x8192 .f32 := addf main_v1901 main_v1903
  let main_v1905 : FVec F S2048x8192 .f32 := broadcastInDim S2048x8192 ![0, 1] bcast_S2048x1_S2048x8192_0_1 main_v1892
  let main_v1906 : FVec F S2048x8192 .f32 := mulf main_v1894 main_v1905
  let main_v1907 : FVec F S2048x8192 .f32 := broadcastInDim S2048x8192 ![0, 1] bcast_S2048x1_S2048x8192_0_1 main_v1890
  let main_v1908 : FVec F S2048x8192 .f32 := mulf main_v1896 main_v1907
  let main_v1909 : FVec F S2048x8192 .f32 := addf main_v1906 main_v1908
  fn_part85 (F := F) main_arg0 main_arg1 main_arg3 main_arg4 main_v29 main_v31 main_v33 main_v51 main_v53 main_v55 main_v73 main_v75 main_v77 main_v176 main_v395 main_v614 main_v833 main_v1052 main_v1271 main_v1490 main_v1709 main_v1821 main_v1826 main_v1886 main_v1904 main_v1909

def fn_part83 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1821 : FVec F S2048 .f32) (main_v1826 : FVec F S2048x2 .f32) (main_v1858 : FVec F S2048x4x2 .f32) (main_v1860 : FVec F S2048x1 .f32) (main_v1861 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1862 : FVec F S2048x1 .f32 := broadcastInDim S2048x1 ![0] bcast_S2048_S2048x1_0 main_v1861
  let main_v1863 : FVec F S2048x4x1 .f32 := (extractStridedSlice S2048x4x1 ![0, 0, 0] · slices_S2048x4x2_S2048x4x1_0_0_0) main_v1858
  let main_v1864 : FVec F S2048x4 .f32 := shapeCast S2048x4 main_v1863 shapeCasts_S2048x4x1_S2048x4
  let main_v1865 : FVec F S2048x4x1 .f32 := (extractStridedSlice S2048x4x1 ![0, 0, 1] · slices_S2048x4x2_S2048x4x1_0_0_1) main_v1858
  let main_v1866 : FVec F S2048x4 .f32 := shapeCast S2048x4 main_v1865 shapeCasts_S2048x4x1_S2048x4
  let main_v1867 : FVec F S2048x4 .f32 := broadcastInDim S2048x4 ![0, 1] bcast_S2048x1_S2048x4_0_1 main_v1860
  let main_v1868 : FVec F S2048x4 .f32 := mulf main_v1864 main_v1867
  let main_v1869 : FVec F S2048x4 .f32 := broadcastInDim S2048x4 ![0, 1] bcast_S2048x1_S2048x4_0_1 main_v1862
  let main_v1870 : FVec F S2048x4 .f32 := mulf main_v1866 main_v1869
  let main_v1871 : FVec F S2048x4 .f32 := subf main_v1868 main_v1870
  let main_v1872 : FVec F S2048x1 .f32 := (extractStridedSlice S2048x1 ![0, 0] · slices_S2048x2_S2048x1_0_0) main_v29
  let main_v1873 : FVec F S2048x4 .f32 := broadcastInDim S2048x4 ![0, 1] bcast_S2048x1_S2048x4_0_1 main_v1872
  let main_v1874 : FVec F S2048x4 .f32 := addf main_v1871 main_v1873
  let main_v1875 : FVec F S2048x4 .f32 := broadcastInDim S2048x4 ![0, 1] bcast_S2048x1_S2048x4_0_1 main_v1862
  let main_v1876 : FVec F S2048x4 .f32 := mulf main_v1864 main_v1875
  let main_v1877 : FVec F S2048x4 .f32 := broadcastInDim S2048x4 ![0, 1] bcast_S2048x1_S2048x4_0_1 main_v1860
  let main_v1878 : FVec F S2048x4 .f32 := mulf main_v1866 main_v1877
  let main_v1879 : FVec F S2048x4 .f32 := addf main_v1876 main_v1878
  let main_v1880 : FVec F S2048x1 .f32 := (extractStridedSlice S2048x1 ![0, 1] · slices_S2048x2_S2048x1_0_1) main_v29
  let main_v1881 : FVec F S2048x4 .f32 := broadcastInDim S2048x4 ![0, 1] bcast_S2048x1_S2048x4_0_1 main_v1880
  let main_v1882 : FVec F S2048x4 .f32 := addf main_v1879 main_v1881
  let main_v1883 : FVec F S2048x4x1 .f32 := broadcastInDim S2048x4x1 ![0, 1] bcast_S2048x4_S2048x4x1_0_1 main_v1874
  let main_v1884 : FVec F S2048x4x1 .f32 := broadcastInDim S2048x4x1 ![0, 1] bcast_S2048x4_S2048x4x1_0_1 main_v1882
  let main_v1885 : FVec F S2048x4x2 .f32 := (fun a b => concatenate S2048x4x2 2 [⟨S2048x4x1, a⟩, ⟨S2048x4x1, b⟩] concatenates_S2048x4x1_S2048x4x1_S2048x4x2_d2) main_v1883 main_v1884
  fn_part84 (F := F) main_arg0 main_arg1 main_arg3 main_arg4 main_v29 main_v31 main_v33 main_v51 main_v53 main_v55 main_v73 main_v75 main_v77 main_v176 main_v395 main_v614 main_v833 main_v1052 main_v1271 main_v1490 main_v1709 main_v1821 main_v1826 main_v1885

def fn_part82 {F : FTy → Type} [FloatOps F] (main_arg0 : FVec F S2048x89x2 .f32) (main_arg1 : FVec F S2048x89 .f32) (main_arg3 : FVec F S2048x2 .f32) (main_arg4 : FVec F S2048x4x2 .f32) (main_v29 : FVec F S2048x2 .f32) (main_v31 : FVec F S2048x2 .f32) (main_v33 : FVec F S2048x2 .f32) (main_v51 : FVec F S2048 .f32) (main_v53 : FVec F S2048 .f32) (main_v55 : FVec F S2048 .f32) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1821 : FVec F S2048 .f32) (main_v1826 : FVec F S2048x2 .f32) (main_v1833 : FVec F S2048 .f32) (main_v1837 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1838 : FVec F S2048x1 .f32 := broadcastInDim S2048x1 ![0] bcast_S2048_S2048x1_0 main_v1833
  let main_v1839 : FVec F S2048x1 .f32 := broadcastInDim S2048x1 ![0] bcast_S2048_S2048x1_0 main_v1837
  let main_v1840 : FVec F S2048x2 .f32 := (fun a b => concatenate S2048x2 1 [⟨S2048x1, a⟩, ⟨S2048x1, b⟩] concatenates_S2048x1_S2048x1_S2048x2_d1) main_v1838 main_v1839
  let main_v1841 : FVec F S2048 .f32 := Host.negf main_v1837
  let main_v1842 : FVec F S2048x1 .f32 := broadcastInDim S2048x1 ![0] bcast_S2048_S2048x1_0 main_v1833
  let main_v1843 : FVec F S2048x1 .f32 := broadcastInDim S2048x1 ![0] bcast_S2048_S2048x1_0 main_v1841
  let main_v1844 : FVec F S2048x2 .f32 := (fun a b => concatenate S2048x2 1 [⟨S2048x1, a⟩, ⟨S2048x1, b⟩] concatenates_S2048x1_S2048x1_S2048x2_d1) main_v1842 main_v1843
  let main_v1845 : FVec F S2048 .f32 := Host.negf main_v1833
  let main_v1846 : FVec F S2048 .f32 := Host.negf main_v1837
  let main_v1847 : FVec F S2048x1 .f32 := broadcastInDim S2048x1 ![0] bcast_S2048_S2048x1_0 main_v1845
  let main_v1848 : FVec F S2048x1 .f32 := broadcastInDim S2048x1 ![0] bcast_S2048_S2048x1_0 main_v1846
  let main_v1849 : FVec F S2048x2 .f32 := (fun a b => concatenate S2048x2 1 [⟨S2048x1, a⟩, ⟨S2048x1, b⟩] concatenates_S2048x1_S2048x1_S2048x2_d1) main_v1847 main_v1848
  let main_v1850 : FVec F S2048 .f32 := Host.negf main_v1833
  let main_v1851 : FVec F S2048x1 .f32 := broadcastInDim S2048x1 ![0] bcast_S2048_S2048x1_0 main_v1850
  let main_v1852 : FVec F S2048x1 .f32 := broadcastInDim S2048x1 ![0] bcast_S2048_S2048x1_0 main_v1837
  let main_v1853 : FVec F S2048x2 .f32 := (fun a b => concatenate S2048x2 1 [⟨S2048x1, a⟩, ⟨S2048x1, b⟩] concatenates_S2048x1_S2048x1_S2048x2_d1) main_v1851 main_v1852
  let main_v1854 : FVec F S2048x1x2 .f32 := broadcastInDim S2048x1x2 ![0, 2] bcast_S2048x2_S2048x1x2_0_2 main_v1840
  let main_v1855 : FVec F S2048x1x2 .f32 := broadcastInDim S2048x1x2 ![0, 2] bcast_S2048x2_S2048x1x2_0_2 main_v1844
  let main_v1856 : FVec F S2048x1x2 .f32 := broadcastInDim S2048x1x2 ![0, 2] bcast_S2048x2_S2048x1x2_0_2 main_v1849
  let main_v1857 : FVec F S2048x1x2 .f32 := broadcastInDim S2048x1x2 ![0, 2] bcast_S2048x2_S2048x1x2_0_2 main_v1853
  let main_v1858 : FVec F S2048x4x2 .f32 := concatenate S2048x4x2 1 [⟨S2048x1x2, main_v1854⟩, ⟨S2048x1x2, main_v1855⟩, ⟨S2048x1x2, main_v1856⟩, ⟨S2048x1x2, main_v1857⟩] concatenates_S2048x1x2_S2048x1x2_S2048x1x2_S2048x1x2_S2048x4x2_d1
  let main_v1859 : FVec F S2048 .f32 := Host.cos main_v51
  let main_v1860 : FVec F S2048x1 .f32 := broadcastInDim S2048x1 ![0] bcast_S2048_S2048x1_0 main_v1859
  let main_v1861 : FVec F S2048 .f32 := Host.sin main_v51
  fn_part83 (F := F) main_arg0 main_arg1 main_arg3 main_arg4 main_v29 main_v31 main_v33 main_v51 main_v53 main_v55 main_v73 main_v75 main_v77 main_v176 main_v395 main_v614 main_v833 main_v1052 main_v1271 main_v1490 main_v1709 main_v1821 main_v1826 main_v1858 main_v1860 main_v1861

def fn_part81 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1810 : FVec F S2048x4x2 .f32) (main_v1817 : FVec F S2048 .f32) (main_v1819 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1820 : FVec F S2048 .f32 := Host.atan2 main_v1817 main_v1819
  let main_v1821 : FVec F S2048 .f32 := fn_where_0 (F := F) main_v71 main_v1820 main_v49
  let main_v1822 : IVec S2048x1 1 := broadcastInDim S2048x1 ![0] bcast_S2048_S2048x1_0 main_v71
  let main_cst_122 : FVec F S_ .f32 := constant S_ .f32 0x00000000#32
  let main_v1823 : FVec F S2048x2 .f32 := (fun x v => Host.reduceAdd x v reducesTo_S2048x4x2_S2048x2_d1 h_S_) main_v1810 main_cst_122
  let main_cst_123 : FVec F S_ .f32 := constant S_ .f32 0x40800000#32
  let main_v1824 : FVec F S2048x2 .f32 := broadcastInDim S2048x2 ![] bcast_S_S2048x2 main_cst_123
  let main_v1825 : FVec F S2048x2 .f32 := Host.divf main_v1823 main_v1824
  let main_v1826 : FVec F S2048x2 .f32 := fn_where_1 (F := F) main_v1822 main_v1825 main_v27
  let main_v1827 : IVec S2048x1 1 := broadcastInDim S2048x1 ![0] bcast_S2048_S2048x1_0 main_v71
  let main_cst_124 : FVec F S_ .f32 := constant S_ .f32 0x00000000#32
  let main_v1828 : FVec F S2048x2 .f32 := fn_where_2 (F := F) main_v1827 main_v1826 main_cst_124
  let main_cst_125 : FVec F S_ .f32 := constant S_ .f32 0x00000000#32
  let main_v1829 : FVec F S2048 .f32 := fn_where_3 (F := F) main_v71 main_v1821 main_cst_125
  let main_v1830 : FVec F S2048x1 .f32 := (extractStridedSlice S2048x1 ![0, 0] · slices_S2048x2_S2048x1_0_0) main_arg3
  let main_v1831 : FVec F S2048 .f32 := shapeCast S2048 main_v1830 shapeCasts_S2048x1_S2048
  let main_cst_126 : FVec F S_ .f32 := constant S_ .f32 0x40000000#32
  let main_v1832 : FVec F S2048 .f32 := broadcastInDim S2048 ![] bcast_S_S2048 main_cst_126
  let main_v1833 : FVec F S2048 .f32 := Host.divf main_v1831 main_v1832
  let main_v1834 : FVec F S2048x1 .f32 := (extractStridedSlice S2048x1 ![0, 1] · slices_S2048x2_S2048x1_0_1) main_arg3
  let main_v1835 : FVec F S2048 .f32 := shapeCast S2048 main_v1834 shapeCasts_S2048x1_S2048
  let main_cst_127 : FVec F S_ .f32 := constant S_ .f32 0x40000000#32
  let main_v1836 : FVec F S2048 .f32 := broadcastInDim S2048 ![] bcast_S_S2048 main_cst_127
  let main_v1837 : FVec F S2048 .f32 := Host.divf main_v1835 main_v1836
  fn_part82 (F := F) main_arg0 main_arg1 main_arg3 main_arg4 main_v29 main_v31 main_v33 main_v51 main_v53 main_v55 main_v73 main_v75 main_v77 main_v176 main_v395 main_v614 main_v833 main_v1052 main_v1271 main_v1490 main_v1709 main_v1821 main_v1826 main_v1833 main_v1837

def fn_part80 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1709 : IVec S2048 1) (main_v1796 : FVec F S2048x2048x4x2 .f32) (main_v1799 : FVec F S2048x2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_cst_118 : FVec F S_ .f32 := constant S_ .f32 0x00000000#32
  let main_v1800 : FVec F S2048x2048 .f32 := (fun x v => Host.reduceAdd x v reducesTo_S2048x2048x4_S2048x2048_d2 h_S_) main_v1799 main_cst_118
  let main_v1801 : IVec S2048x2048 32 := iotaInDim S2048x2048 32 1
  let main_cst_119 : FVec F S_ .f32 := constant S_ .f32 0x7F800000#32
  let main_v1802 : FVec F S2048 .f32 := (fun x v => Host.reduce FloatOps.minimumf x v reducesTo_S2048x2048_S2048_d1 h_S_) main_v1800 main_cst_119
  let main_v1803 : FVec F S2048x1 .f32 := broadcastInDim S2048x1 ![0] bcast_S2048_S2048x1_0 main_v1802
  let main_v1804 : FVec F S2048x2048 .f32 := broadcastInDim S2048x2048 ![0, 1] bcast_S2048x1_S2048x2048_0_1 main_v1803
  let main_v1805 : IVec S2048x2048 1 := cmpf .oeq main_v1800 main_v1804
  let main_c_120 : IVec S_ 32 := constantI S_ 32 2048#32
  let main_v1806 : IVec S2048x2048 32 := fn_where (F := F) main_v1805 main_v1801 main_c_120
  let main_c_121 : IVec S_ 32 := constantI S_ 32 2147483647#32
  let main_v1807 : IVec S2048 32 := (fun x v => Host.reduce IntOp.minsi x v reducesTo_S2048x2048_S2048_d1 h_S_) main_v1806 main_c_121
  let main_v1808 : IVec S2048x1x1x1 32 := broadcastInDim S2048x1x1x1 ![0] bcast_S2048_S2048x1x1x1_0 main_v1807
  let main_v1809 : FVec F S2048x1x4x2 .f32 := fn_take_along_axis (F := F) main_v1796 main_v1808
  let main_v1810 : FVec F S2048x4x2 .f32 := shapeCast S2048x4x2 main_v1809 shapeCasts_S2048x1x4x2_S2048x4x2
  let main_v1811 : FVec F S2048x1x2 .f32 := (extractStridedSlice S2048x1x2 ![0, 0, 0] · slices_S2048x4x2_S2048x1x2_0_0_0) main_v1810
  let main_v1812 : FVec F S2048x2 .f32 := shapeCast S2048x2 main_v1811 shapeCasts_S2048x1x2_S2048x2
  let main_v1813 : FVec F S2048x1x2 .f32 := (extractStridedSlice S2048x1x2 ![0, 3, 0] · slices_S2048x4x2_S2048x1x2_0_3_0) main_v1810
  let main_v1814 : FVec F S2048x2 .f32 := shapeCast S2048x2 main_v1813 shapeCasts_S2048x1x2_S2048x2
  let main_v1815 : FVec F S2048x2 .f32 := subf main_v1812 main_v1814
  let main_v1816 : FVec F S2048x1 .f32 := (extractStridedSlice S2048x1 ![0, 1] · slices_S2048x2_S2048x1_0_1) main_v1815
  let main_v1817 : FVec F S2048 .f32 := shapeCast S2048 main_v1816 shapeCasts_S2048x1_S2048
  let main_v1818 : FVec F S2048x1 .f32 := (extractStridedSlice S2048x1 ![0, 0] · slices_S2048x2_S2048x1_0_0) main_v1815
  let main_v1819 : FVec F S2048 .f32 := shapeCast S2048 main_v1818 shapeCasts_S2048x1_S2048
  fn_part81 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1709 main_v1810 main_v1817 main_v1819

def fn_part79 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1607 : FVec F S2048x2 .f32) (main_v1709 : IVec S2048 1) (main_v1766 : FVec F S2048x1x4x2 .f32) (main_v1770 : FVec F S2048x1 .f32) (main_v1772 : FVec F S2048x1 .f32) (main_v1774 : FVec F S2048x8192 .f32) (main_v1775 : FVec F S2048x8192x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1776 : FVec F S2048x8192 .f32 := shapeCast S2048x8192 main_v1775 shapeCasts_S2048x8192x1_S2048x8192
  let main_v1777 : FVec F S2048x8192 .f32 := broadcastInDim S2048x8192 ![0, 1] bcast_S2048x1_S2048x8192_0_1 main_v1770
  let main_v1778 : FVec F S2048x8192 .f32 := mulf main_v1774 main_v1777
  let main_v1779 : FVec F S2048x8192 .f32 := broadcastInDim S2048x8192 ![0, 1] bcast_S2048x1_S2048x8192_0_1 main_v1772
  let main_v1780 : FVec F S2048x8192 .f32 := mulf main_v1776 main_v1779
  let main_v1781 : FVec F S2048x8192 .f32 := subf main_v1778 main_v1780
  let main_v1782 : FVec F S2048x1 .f32 := (extractStridedSlice S2048x1 ![0, 0] · slices_S2048x2_S2048x1_0_0) main_v1607
  let main_v1783 : FVec F S2048x8192 .f32 := broadcastInDim S2048x8192 ![0, 1] bcast_S2048x1_S2048x8192_0_1 main_v1782
  let main_v1784 : FVec F S2048x8192 .f32 := addf main_v1781 main_v1783
  let main_v1785 : FVec F S2048x8192 .f32 := broadcastInDim S2048x8192 ![0, 1] bcast_S2048x1_S2048x8192_0_1 main_v1772
  let main_v1786 : FVec F S2048x8192 .f32 := mulf main_v1774 main_v1785
  let main_v1787 : FVec F S2048x8192 .f32 := broadcastInDim S2048x8192 ![0, 1] bcast_S2048x1_S2048x8192_0_1 main_v1770
  let main_v1788 : FVec F S2048x8192 .f32 := mulf main_v1776 main_v1787
  let main_v1789 : FVec F S2048x8192 .f32 := addf main_v1786 main_v1788
  let main_v1790 : FVec F S2048x1 .f32 := (extractStridedSlice S2048x1 ![0, 1] · slices_S2048x2_S2048x1_0_1) main_v1607
  let main_v1791 : FVec F S2048x8192 .f32 := broadcastInDim S2048x8192 ![0, 1] bcast_S2048x1_S2048x8192_0_1 main_v1790
  let main_v1792 : FVec F S2048x8192 .f32 := addf main_v1789 main_v1791
  let main_v1793 : FVec F S2048x8192x1 .f32 := broadcastInDim S2048x8192x1 ![0, 1] bcast_S2048x8192_S2048x8192x1_0_1 main_v1784
  let main_v1794 : FVec F S2048x8192x1 .f32 := broadcastInDim S2048x8192x1 ![0, 1] bcast_S2048x8192_S2048x8192x1_0_1 main_v1792
  let main_v1795 : FVec F S2048x8192x2 .f32 := (fun a b => concatenate S2048x8192x2 2 [⟨S2048x8192x1, a⟩, ⟨S2048x8192x1, b⟩] concatenates_S2048x8192x1_S2048x8192x1_S2048x8192x2_d2) main_v1793 main_v1794
  let main_v1796 : FVec F S2048x2048x4x2 .f32 := shapeCast S2048x2048x4x2 main_v1795 shapeCasts_S2048x8192x2_S2048x2048x4x2
  let main_v1797 : FVec F S2048x2048x4x2 .f32 := broadcastInDim S2048x2048x4x2 ![0, 1, 2, 3] bcast_S2048x1x4x2_S2048x2048x4x2_0_1_2_3 main_v1766
  let main_v1798 : FVec F S2048x2048x4x2 .f32 := subf main_v1796 main_v1797
  let main_v1799 : FVec F S2048x2048x4 .f32 := fn_norm (F := F) main_v1798
  fn_part80 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1709 main_v1796 main_v1799

def fn_part78 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1602 : FVec F S2048 .f32) (main_v1607 : FVec F S2048x2 .f32) (main_v1709 : IVec S2048 1) (main_v1740 : FVec F S2048x1 .f32) (main_v1742 : FVec F S2048x1 .f32) (main_v1744 : FVec F S2048x4 .f32) (main_v1746 : FVec F S2048x4 .f32) (main_v1751 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1752 : FVec F S2048x1 .f32 := (extractStridedSlice S2048x1 ![0, 0] · slices_S2048x2_S2048x1_0_0) main_v27
  let main_v1753 : FVec F S2048x4 .f32 := broadcastInDim S2048x4 ![0, 1] bcast_S2048x1_S2048x4_0_1 main_v1752
  let main_v1754 : FVec F S2048x4 .f32 := addf main_v1751 main_v1753
  let main_v1755 : FVec F S2048x4 .f32 := broadcastInDim S2048x4 ![0, 1] bcast_S2048x1_S2048x4_0_1 main_v1742
  let main_v1756 : FVec F S2048x4 .f32 := mulf main_v1744 main_v1755
  let main_v1757 : FVec F S2048x4 .f32 := broadcastInDim S2048x4 ![0, 1] bcast_S2048x1_S2048x4_0_1 main_v1740
  let main_v1758 : FVec F S2048x4 .f32 := mulf main_v1746 main_v1757
  let main_v1759 : FVec F S2048x4 .f32 := addf main_v1756 main_v1758
  let main_v1760 : FVec F S2048x1 .f32 := (extractStridedSlice S2048x1 ![0, 1] · slices_S2048x2_S2048x1_0_1) main_v27
  let main_v1761 : FVec F S2048x4 .f32 := broadcastInDim S2048x4 ![0, 1] bcast_S2048x1_S2048x4_0_1 main_v1760
  let main_v1762 : FVec F S2048x4 .f32 := addf main_v1759 main_v1761
  let main_v1763 : FVec F S2048x4x1 .f32 := broadcastInDim S2048x4x1 ![0, 1] bcast_S2048x4_S2048x4x1_0_1 main_v1754
  let main_v1764 : FVec F S2048x4x1 .f32 := broadcastInDim S2048x4x1 ![0, 1] bcast_S2048x4_S2048x4x1_0_1 main_v1762
  let main_v1765 : FVec F S2048x4x2 .f32 := (fun a b => concatenate S2048x4x2 2 [⟨S2048x4x1, a⟩, ⟨S2048x4x1, b⟩] concatenates_S2048x4x1_S2048x4x1_S2048x4x2_d2) main_v1763 main_v1764
  let main_v1766 : FVec F S2048x1x4x2 .f32 := broadcastInDim S2048x1x4x2 ![0, 2, 3] bcast_S2048x4x2_S2048x1x4x2_0_2_3 main_v1765
  let main_v1767 : FVec F S1x8192x2 .f32 := shapeCast S1x8192x2 main_arg4 shapeCasts_S2048x4x2_S1x8192x2
  let main_v1768 : FVec F S2048x8192x2 .f32 := broadcastInDim S2048x8192x2 ![0, 1, 2] bcast_S1x8192x2_S2048x8192x2_0_1_2 main_v1767
  let main_v1769 : FVec F S2048 .f32 := Host.cos main_v1602
  let main_v1770 : FVec F S2048x1 .f32 := broadcastInDim S2048x1 ![0] bcast_S2048_S2048x1_0 main_v1769
  let main_v1771 : FVec F S2048 .f32 := Host.sin main_v1602
  let main_v1772 : FVec F S2048x1 .f32 := broadcastInDim S2048x1 ![0] bcast_S2048_S2048x1_0 main_v1771
  let main_v1773 : FVec F S2048x8192x1 .f32 := (extractStridedSlice S2048x8192x1 ![0, 0, 0] · slices_S2048x8192x2_S2048x8192x1_0_0_0) main_v1768
  let main_v1774 : FVec F S2048x8192 .f32 := shapeCast S2048x8192 main_v1773 shapeCasts_S2048x8192x1_S2048x8192
  let main_v1775 : FVec F S2048x8192x1 .f32 := (extractStridedSlice S2048x8192x1 ![0, 0, 1] · slices_S2048x8192x2_S2048x8192x1_0_0_1) main_v1768
  fn_part79 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1607 main_v1709 main_v1766 main_v1770 main_v1772 main_v1774 main_v1775

def fn_part77 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1602 : FVec F S2048 .f32) (main_v1607 : FVec F S2048x2 .f32) (main_v1709 : IVec S2048 1) (main_v1713 : FVec F S2048 .f32) (main_v1717 : FVec F S2048 .f32) (main_v1720 : FVec F S2048x2 .f32) (main_v1724 : FVec F S2048x2 .f32) (main_v1726 : FVec F S2048 .f32) (main_v1727 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1728 : FVec F S2048x1 .f32 := broadcastInDim S2048x1 ![0] bcast_S2048_S2048x1_0 main_v1726
  let main_v1729 : FVec F S2048x2 .f32 := (fun a b => concatenate S2048x2 1 [⟨S2048x1, a⟩, ⟨S2048x1, b⟩] concatenates_S2048x1_S2048x1_S2048x2_d1) main_v1727 main_v1728
  let main_v1730 : FVec F S2048 .f32 := Host.negf main_v1713
  let main_v1731 : FVec F S2048x1 .f32 := broadcastInDim S2048x1 ![0] bcast_S2048_S2048x1_0 main_v1730
  let main_v1732 : FVec F S2048x1 .f32 := broadcastInDim S2048x1 ![0] bcast_S2048_S2048x1_0 main_v1717
  let main_v1733 : FVec F S2048x2 .f32 := (fun a b => concatenate S2048x2 1 [⟨S2048x1, a⟩, ⟨S2048x1, b⟩] concatenates_S2048x1_S2048x1_S2048x2_d1) main_v1731 main_v1732
  let main_v1734 : FVec F S2048x1x2 .f32 := broadcastInDim S2048x1x2 ![0, 2] bcast_S2048x2_S2048x1x2_0_2 main_v1720
  let main_v1735 : FVec F S2048x1x2 .f32 := broadcastInDim S2048x1x2 ![0, 2] bcast_S2048x2_S2048x1x2_0_2 main_v1724
  let main_v1736 : FVec F S2048x1x2 .f32 := broadcastInDim S2048x1x2 ![0, 2] bcast_S2048x2_S2048x1x2_0_2 main_v1729
  let main_v1737 : FVec F S2048x1x2 .f32 := broadcastInDim S2048x1x2 ![0, 2] bcast_S2048x2_S2048x1x2_0_2 main_v1733
  let main_v1738 : FVec F S2048x4x2 .f32 := concatenate S2048x4x2 1 [⟨S2048x1x2, main_v1734⟩, ⟨S2048x1x2, main_v1735⟩, ⟨S2048x1x2, main_v1736⟩, ⟨S2048x1x2, main_v1737⟩] concatenates_S2048x1x2_S2048x1x2_S2048x1x2_S2048x1x2_S2048x4x2_d1
  let main_v1739 : FVec F S2048 .f32 := Host.cos main_v49
  let main_v1740 : FVec F S2048x1 .f32 := broadcastInDim S2048x1 ![0] bcast_S2048_S2048x1_0 main_v1739
  let main_v1741 : FVec F S2048 .f32 := Host.sin main_v49
  let main_v1742 : FVec F S2048x1 .f32 := broadcastInDim S2048x1 ![0] bcast_S2048_S2048x1_0 main_v1741
  let main_v1743 : FVec F S2048x4x1 .f32 := (extractStridedSlice S2048x4x1 ![0, 0, 0] · slices_S2048x4x2_S2048x4x1_0_0_0) main_v1738
  let main_v1744 : FVec F S2048x4 .f32 := shapeCast S2048x4 main_v1743 shapeCasts_S2048x4x1_S2048x4
  let main_v1745 : FVec F S2048x4x1 .f32 := (extractStridedSlice S2048x4x1 ![0, 0, 1] · slices_S2048x4x2_S2048x4x1_0_0_1) main_v1738
  let main_v1746 : FVec F S2048x4 .f32 := shapeCast S2048x4 main_v1745 shapeCasts_S2048x4x1_S2048x4
  let main_v1747 : FVec F S2048x4 .f32 := broadcastInDim S2048x4 ![0, 1] bcast_S2048x1_S2048x4_0_1 main_v1740
  let main_v1748 : FVec F S2048x4 .f32 := mulf main_v1744 main_v1747
  let main_v1749 : FVec F S2048x4 .f32 := broadcastInDim S2048x4 ![0, 1] bcast_S2048x1_S2048x4_0_1 main_v1742
  let main_v1750 : FVec F S2048x4 .f32 := mulf main_v1746 main_v1749
  let main_v1751 : FVec F S2048x4 .f32 := subf main_v1748 main_v1750
  fn_part78 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1602 main_v1607 main_v1709 main_v1740 main_v1742 main_v1744 main_v1746 main_v1751

def fn_part76 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1602 : FVec F S2048 .f32) (main_v1607 : FVec F S2048x2 .f32) (main_v1706 : IVec S2048x2048 32) (main_c_114 : IVec S_ 32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1707 : IVec S2048 32 := (fun x v => Host.reduce IntOp.addi x v reducesTo_S2048x2048_S2048_d1 h_S_) main_v1706 main_c_114
  let main_c_115 : IVec S_ 32 := constantI S_ 32 1#32
  let main_v1708 : IVec S2048 32 := broadcastInDim S2048 ![] bcast_S_S2048 main_c_115
  let main_v1709 : IVec S2048 1 := cmpi .eq main_v1707 main_v1708
  let main_v1710 : FVec F S2048x1 .f32 := (extractStridedSlice S2048x1 ![0, 0] · slices_S2048x2_S2048x1_0_0) main_arg3
  let main_v1711 : FVec F S2048 .f32 := shapeCast S2048 main_v1710 shapeCasts_S2048x1_S2048
  let main_cst_116 : FVec F S_ .f32 := constant S_ .f32 0x40000000#32
  let main_v1712 : FVec F S2048 .f32 := broadcastInDim S2048 ![] bcast_S_S2048 main_cst_116
  let main_v1713 : FVec F S2048 .f32 := Host.divf main_v1711 main_v1712
  let main_v1714 : FVec F S2048x1 .f32 := (extractStridedSlice S2048x1 ![0, 1] · slices_S2048x2_S2048x1_0_1) main_arg3
  let main_v1715 : FVec F S2048 .f32 := shapeCast S2048 main_v1714 shapeCasts_S2048x1_S2048
  let main_cst_117 : FVec F S_ .f32 := constant S_ .f32 0x40000000#32
  let main_v1716 : FVec F S2048 .f32 := broadcastInDim S2048 ![] bcast_S_S2048 main_cst_117
  let main_v1717 : FVec F S2048 .f32 := Host.divf main_v1715 main_v1716
  let main_v1718 : FVec F S2048x1 .f32 := broadcastInDim S2048x1 ![0] bcast_S2048_S2048x1_0 main_v1713
  let main_v1719 : FVec F S2048x1 .f32 := broadcastInDim S2048x1 ![0] bcast_S2048_S2048x1_0 main_v1717
  let main_v1720 : FVec F S2048x2 .f32 := (fun a b => concatenate S2048x2 1 [⟨S2048x1, a⟩, ⟨S2048x1, b⟩] concatenates_S2048x1_S2048x1_S2048x2_d1) main_v1718 main_v1719
  let main_v1721 : FVec F S2048 .f32 := Host.negf main_v1717
  let main_v1722 : FVec F S2048x1 .f32 := broadcastInDim S2048x1 ![0] bcast_S2048_S2048x1_0 main_v1713
  let main_v1723 : FVec F S2048x1 .f32 := broadcastInDim S2048x1 ![0] bcast_S2048_S2048x1_0 main_v1721
  let main_v1724 : FVec F S2048x2 .f32 := (fun a b => concatenate S2048x2 1 [⟨S2048x1, a⟩, ⟨S2048x1, b⟩] concatenates_S2048x1_S2048x1_S2048x2_d1) main_v1722 main_v1723
  let main_v1725 : FVec F S2048 .f32 := Host.negf main_v1713
  let main_v1726 : FVec F S2048 .f32 := Host.negf main_v1717
  let main_v1727 : FVec F S2048x1 .f32 := broadcastInDim S2048x1 ![0] bcast_S2048_S2048x1_0 main_v1725
  fn_part77 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1602 main_v1607 main_v1709 main_v1713 main_v1717 main_v1720 main_v1724 main_v1726 main_v1727

def fn_part75 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1602 : FVec F S2048 .f32) (main_v1607 : FVec F S2048x2 .f32) (main_v1667 : FVec F S2048x1x4x2 .f32) (main_v1671 : FVec F S2048x1 .f32) (main_v1673 : FVec F S2048x1 .f32) (main_v1675 : FVec F S2048x8192 .f32) (main_v1677 : FVec F S2048x8192 .f32) (main_v1685 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1686 : FVec F S2048x8192 .f32 := broadcastInDim S2048x8192 ![0, 1] bcast_S2048x1_S2048x8192_0_1 main_v1673
  let main_v1687 : FVec F S2048x8192 .f32 := mulf main_v1675 main_v1686
  let main_v1688 : FVec F S2048x8192 .f32 := broadcastInDim S2048x8192 ![0, 1] bcast_S2048x1_S2048x8192_0_1 main_v1671
  let main_v1689 : FVec F S2048x8192 .f32 := mulf main_v1677 main_v1688
  let main_v1690 : FVec F S2048x8192 .f32 := addf main_v1687 main_v1689
  let main_v1691 : FVec F S2048x1 .f32 := (extractStridedSlice S2048x1 ![0, 1] · slices_S2048x2_S2048x1_0_1) main_v1607
  let main_v1692 : FVec F S2048x8192 .f32 := broadcastInDim S2048x8192 ![0, 1] bcast_S2048x1_S2048x8192_0_1 main_v1691
  let main_v1693 : FVec F S2048x8192 .f32 := addf main_v1690 main_v1692
  let main_v1694 : FVec F S2048x8192x1 .f32 := broadcastInDim S2048x8192x1 ![0, 1] bcast_S2048x8192_S2048x8192x1_0_1 main_v1685
  let main_v1695 : FVec F S2048x8192x1 .f32 := broadcastInDim S2048x8192x1 ![0, 1] bcast_S2048x8192_S2048x8192x1_0_1 main_v1693
  let main_v1696 : FVec F S2048x8192x2 .f32 := (fun a b => concatenate S2048x8192x2 2 [⟨S2048x8192x1, a⟩, ⟨S2048x8192x1, b⟩] concatenates_S2048x8192x1_S2048x8192x1_S2048x8192x2_d2) main_v1694 main_v1695
  let main_v1697 : FVec F S2048x2048x4x2 .f32 := shapeCast S2048x2048x4x2 main_v1696 shapeCasts_S2048x8192x2_S2048x2048x4x2
  let main_v1698 : FVec F S2048x2048x4x2 .f32 := broadcastInDim S2048x2048x4x2 ![0, 1, 2, 3] bcast_S2048x1x4x2_S2048x2048x4x2_0_1_2_3 main_v1667
  let main_v1699 : FVec F S2048x2048x4x2 .f32 := subf main_v1697 main_v1698
  let main_v1700 : FVec F S2048x2048x4 .f32 := fn_norm (F := F) main_v1699
  let main_cst_112 : FVec F S_ .f32 := constant S_ .f32 0x00000000#32
  let main_v1701 : FVec F S2048x2048 .f32 := (fun x v => Host.reduceAdd x v reducesTo_S2048x2048x4_S2048x2048_d2 h_S_) main_v1700 main_cst_112
  let main_cst_113 : FVec F S_ .f32 := constant S_ .f32 0x7F800000#32
  let main_v1702 : FVec F S2048 .f32 := (fun x v => Host.reduce FloatOps.minimumf x v reducesTo_S2048x2048_S2048_d1 h_S_) main_v1701 main_cst_113
  let main_v1703 : FVec F S2048x1 .f32 := broadcastInDim S2048x1 ![0] bcast_S2048_S2048x1_0 main_v1702
  let main_v1704 : FVec F S2048x2048 .f32 := broadcastInDim S2048x2048 ![0, 1] bcast_S2048x1_S2048x2048_0_1 main_v1703
  let main_v1705 : IVec S2048x2048 1 := cmpf .oeq main_v1701 main_v1704
  let main_v1706 : IVec S2048x2048 32 := (extui 32 · natLt_1_32) main_v1705
  let main_c_114 : IVec S_ 32 := constantI S_ 32 0#32
  fn_part76 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1602 main_v1607 main_v1706 main_c_114

def fn_part74 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1602 : FVec F S2048 .f32) (main_v1607 : FVec F S2048x2 .f32) (main_v1655 : FVec F S2048x4 .f32) (main_v1660 : FVec F S2048x4 .f32) (main_v1661 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1662 : FVec F S2048x4 .f32 := broadcastInDim S2048x4 ![0, 1] bcast_S2048x1_S2048x4_0_1 main_v1661
  let main_v1663 : FVec F S2048x4 .f32 := addf main_v1660 main_v1662
  let main_v1664 : FVec F S2048x4x1 .f32 := broadcastInDim S2048x4x1 ![0, 1] bcast_S2048x4_S2048x4x1_0_1 main_v1655
  let main_v1665 : FVec F S2048x4x1 .f32 := broadcastInDim S2048x4x1 ![0, 1] bcast_S2048x4_S2048x4x1_0_1 main_v1663
  let main_v1666 : FVec F S2048x4x2 .f32 := (fun a b => concatenate S2048x4x2 2 [⟨S2048x4x1, a⟩, ⟨S2048x4x1, b⟩] concatenates_S2048x4x1_S2048x4x1_S2048x4x2_d2) main_v1664 main_v1665
  let main_v1667 : FVec F S2048x1x4x2 .f32 := broadcastInDim S2048x1x4x2 ![0, 2, 3] bcast_S2048x4x2_S2048x1x4x2_0_2_3 main_v1666
  let main_v1668 : FVec F S1x8192x2 .f32 := shapeCast S1x8192x2 main_arg4 shapeCasts_S2048x4x2_S1x8192x2
  let main_v1669 : FVec F S2048x8192x2 .f32 := broadcastInDim S2048x8192x2 ![0, 1, 2] bcast_S1x8192x2_S2048x8192x2_0_1_2 main_v1668
  let main_v1670 : FVec F S2048 .f32 := Host.cos main_v1602
  let main_v1671 : FVec F S2048x1 .f32 := broadcastInDim S2048x1 ![0] bcast_S2048_S2048x1_0 main_v1670
  let main_v1672 : FVec F S2048 .f32 := Host.sin main_v1602
  let main_v1673 : FVec F S2048x1 .f32 := broadcastInDim S2048x1 ![0] bcast_S2048_S2048x1_0 main_v1672
  let main_v1674 : FVec F S2048x8192x1 .f32 := (extractStridedSlice S2048x8192x1 ![0, 0, 0] · slices_S2048x8192x2_S2048x8192x1_0_0_0) main_v1669
  let main_v1675 : FVec F S2048x8192 .f32 := shapeCast S2048x8192 main_v1674 shapeCasts_S2048x8192x1_S2048x8192
  let main_v1676 : FVec F S2048x8192x1 .f32 := (extractStridedSlice S2048x8192x1 ![0, 0, 1] · slices_S2048x8192x2_S2048x8192x1_0_0_1) main_v1669
  let main_v1677 : FVec F S2048x8192 .f32 := shapeCast S2048x8192 main_v1676 shapeCasts_S2048x8192x1_S2048x8192
  let main_v1678 : FVec F S2048x8192 .f32 := broadcastInDim S2048x8192 ![0, 1] bcast_S2048x1_S2048x8192_0_1 main_v1671
  let main_v1679 : FVec F S2048x8192 .f32 := mulf main_v1675 main_v1678
  let main_v1680 : FVec F S2048x8192 .f32 := broadcastInDim S2048x8192 ![0, 1] bcast_S2048x1_S2048x8192_0_1 main_v1673
  let main_v1681 : FVec F S2048x8192 .f32 := mulf main_v1677 main_v1680
  let main_v1682 : FVec F S2048x8192 .f32 := subf main_v1679 main_v1681
  let main_v1683 : FVec F S2048x1 .f32 := (extractStridedSlice S2048x1 ![0, 0] · slices_S2048x2_S2048x1_0_0) main_v1607
  let main_v1684 : FVec F S2048x8192 .f32 := broadcastInDim S2048x8192 ![0, 1] bcast_S2048x1_S2048x8192_0_1 main_v1683
  let main_v1685 : FVec F S2048x8192 .f32 := addf main_v1682 main_v1684
  fn_part75 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1602 main_v1607 main_v1667 main_v1671 main_v1673 main_v1675 main_v1677 main_v1685

def fn_part73 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1602 : FVec F S2048 .f32) (main_v1607 : FVec F S2048x2 .f32) (main_v1634 : FVec F S2048x2 .f32) (main_v1635 : FVec F S2048x1x2 .f32) (main_v1636 : FVec F S2048x1x2 .f32) (main_v1637 : FVec F S2048x1x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1638 : FVec F S2048x1x2 .f32 := broadcastInDim S2048x1x2 ![0, 2] bcast_S2048x2_S2048x1x2_0_2 main_v1634
  let main_v1639 : FVec F S2048x4x2 .f32 := concatenate S2048x4x2 1 [⟨S2048x1x2, main_v1635⟩, ⟨S2048x1x2, main_v1636⟩, ⟨S2048x1x2, main_v1637⟩, ⟨S2048x1x2, main_v1638⟩] concatenates_S2048x1x2_S2048x1x2_S2048x1x2_S2048x1x2_S2048x4x2_d1
  let main_v1640 : FVec F S2048 .f32 := Host.cos main_v49
  let main_v1641 : FVec F S2048x1 .f32 := broadcastInDim S2048x1 ![0] bcast_S2048_S2048x1_0 main_v1640
  let main_v1642 : FVec F S2048 .f32 := Host.sin main_v49
  let main_v1643 : FVec F S2048x1 .f32 := broadcastInDim S2048x1 ![0] bcast_S2048_S2048x1_0 main_v1642
  let main_v1644 : FVec F S2048x4x1 .f32 := (extractStridedSlice S2048x4x1 ![0, 0, 0] · slices_S2048x4x2_S2048x4x1_0_0_0) main_v1639
  let main_v1645 : FVec F S2048x4 .f32 := shapeCast S2048x4 main_v1644 shapeCasts_S2048x4x1_S2048x4
  let main_v1646 : FVec F S2048x4x1 .f32 := (extractStridedSlice S2048x4x1 ![0, 0, 1] · slices_S2048x4x2_S2048x4x1_0_0_1) main_v1639
  let main_v1647 : FVec F S2048x4 .f32 := shapeCast S2048x4 main_v1646 shapeCasts_S2048x4x1_S2048x4
  let main_v1648 : FVec F S2048x4 .f32 := broadcastInDim S2048x4 ![0, 1] bcast_S2048x1_S2048x4_0_1 main_v1641
  let main_v1649 : FVec F S2048x4 .f32 := mulf main_v1645 main_v1648
  let main_v1650 : FVec F S2048x4 .f32 := broadcastInDim S2048x4 ![0, 1] bcast_S2048x1_S2048x4_0_1 main_v1643
  let main_v1651 : FVec F S2048x4 .f32 := mulf main_v1647 main_v1650
  let main_v1652 : FVec F S2048x4 .f32 := subf main_v1649 main_v1651
  let main_v1653 : FVec F S2048x1 .f32 := (extractStridedSlice S2048x1 ![0, 0] · slices_S2048x2_S2048x1_0_0) main_v27
  let main_v1654 : FVec F S2048x4 .f32 := broadcastInDim S2048x4 ![0, 1] bcast_S2048x1_S2048x4_0_1 main_v1653
  let main_v1655 : FVec F S2048x4 .f32 := addf main_v1652 main_v1654
  let main_v1656 : FVec F S2048x4 .f32 := broadcastInDim S2048x4 ![0, 1] bcast_S2048x1_S2048x4_0_1 main_v1643
  let main_v1657 : FVec F S2048x4 .f32 := mulf main_v1645 main_v1656
  let main_v1658 : FVec F S2048x4 .f32 := broadcastInDim S2048x4 ![0, 1] bcast_S2048x1_S2048x4_0_1 main_v1641
  let main_v1659 : FVec F S2048x4 .f32 := mulf main_v1647 main_v1658
  let main_v1660 : FVec F S2048x4 .f32 := addf main_v1657 main_v1659
  let main_v1661 : FVec F S2048x1 .f32 := (extractStridedSlice S2048x1 ![0, 1] · slices_S2048x2_S2048x1_0_1) main_v27
  fn_part74 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1602 main_v1607 main_v1655 main_v1660 main_v1661

def fn_part72 {F : FTy → Type} [FloatOps F] (main_arg0 : FVec F S2048x89x2 .f32) (main_arg1 : FVec F S2048x89 .f32) (main_arg3 : FVec F S2048x2 .f32) (main_arg4 : FVec F S2048x4x2 .f32) (main_v27 : FVec F S2048x2 .f32) (main_v29 : FVec F S2048x2 .f32) (main_v31 : FVec F S2048x2 .f32) (main_v33 : FVec F S2048x2 .f32) (main_v49 : FVec F S2048 .f32) (main_v51 : FVec F S2048 .f32) (main_v53 : FVec F S2048 .f32) (main_v55 : FVec F S2048 .f32) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1602 : FVec F S2048 .f32) (main_v1607 : FVec F S2048x2 .f32) (main_v1614 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1615 : FVec F S2048x1 .f32 := (extractStridedSlice S2048x1 ![0, 1] · slices_S2048x2_S2048x1_0_1) main_arg3
  let main_v1616 : FVec F S2048 .f32 := shapeCast S2048 main_v1615 shapeCasts_S2048x1_S2048
  let main_cst_111 : FVec F S_ .f32 := constant S_ .f32 0x40000000#32
  let main_v1617 : FVec F S2048 .f32 := broadcastInDim S2048 ![] bcast_S_S2048 main_cst_111
  let main_v1618 : FVec F S2048 .f32 := Host.divf main_v1616 main_v1617
  let main_v1619 : FVec F S2048x1 .f32 := broadcastInDim S2048x1 ![0] bcast_S2048_S2048x1_0 main_v1614
  let main_v1620 : FVec F S2048x1 .f32 := broadcastInDim S2048x1 ![0] bcast_S2048_S2048x1_0 main_v1618
  let main_v1621 : FVec F S2048x2 .f32 := (fun a b => concatenate S2048x2 1 [⟨S2048x1, a⟩, ⟨S2048x1, b⟩] concatenates_S2048x1_S2048x1_S2048x2_d1) main_v1619 main_v1620
  let main_v1622 : FVec F S2048 .f32 := Host.negf main_v1618
  let main_v1623 : FVec F S2048x1 .f32 := broadcastInDim S2048x1 ![0] bcast_S2048_S2048x1_0 main_v1614
  let main_v1624 : FVec F S2048x1 .f32 := broadcastInDim S2048x1 ![0] bcast_S2048_S2048x1_0 main_v1622
  let main_v1625 : FVec F S2048x2 .f32 := (fun a b => concatenate S2048x2 1 [⟨S2048x1, a⟩, ⟨S2048x1, b⟩] concatenates_S2048x1_S2048x1_S2048x2_d1) main_v1623 main_v1624
  let main_v1626 : FVec F S2048 .f32 := Host.negf main_v1614
  let main_v1627 : FVec F S2048 .f32 := Host.negf main_v1618
  let main_v1628 : FVec F S2048x1 .f32 := broadcastInDim S2048x1 ![0] bcast_S2048_S2048x1_0 main_v1626
  let main_v1629 : FVec F S2048x1 .f32 := broadcastInDim S2048x1 ![0] bcast_S2048_S2048x1_0 main_v1627
  let main_v1630 : FVec F S2048x2 .f32 := (fun a b => concatenate S2048x2 1 [⟨S2048x1, a⟩, ⟨S2048x1, b⟩] concatenates_S2048x1_S2048x1_S2048x2_d1) main_v1628 main_v1629
  let main_v1631 : FVec F S2048 .f32 := Host.negf main_v1614
  let main_v1632 : FVec F S2048x1 .f32 := broadcastInDim S2048x1 ![0] bcast_S2048_S2048x1_0 main_v1631
  let main_v1633 : FVec F S2048x1 .f32 := broadcastInDim S2048x1 ![0] bcast_S2048_S2048x1_0 main_v1618
  let main_v1634 : FVec F S2048x2 .f32 := (fun a b => concatenate S2048x2 1 [⟨S2048x1, a⟩, ⟨S2048x1, b⟩] concatenates_S2048x1_S2048x1_S2048x2_d1) main_v1632 main_v1633
  let main_v1635 : FVec F S2048x1x2 .f32 := broadcastInDim S2048x1x2 ![0, 2] bcast_S2048x2_S2048x1x2_0_2 main_v1621
  let main_v1636 : FVec F S2048x1x2 .f32 := broadcastInDim S2048x1x2 ![0, 2] bcast_S2048x2_S2048x1x2_0_2 main_v1625
  let main_v1637 : FVec F S2048x1x2 .f32 := broadcastInDim S2048x1x2 ![0, 2] bcast_S2048x2_S2048x1x2_0_2 main_v1630
  fn_part73 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1602 main_v1607 main_v1634 main_v1635 main_v1636 main_v1637

def fn_part71 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1591 : FVec F S2048x4x2 .f32) (main_v1593 : FVec F S2048x2 .f32) (main_v1595 : FVec F S2048x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1596 : FVec F S2048x2 .f32 := subf main_v1593 main_v1595
  let main_v1597 : FVec F S2048x1 .f32 := (extractStridedSlice S2048x1 ![0, 1] · slices_S2048x2_S2048x1_0_1) main_v1596
  let main_v1598 : FVec F S2048 .f32 := shapeCast S2048 main_v1597 shapeCasts_S2048x1_S2048
  let main_v1599 : FVec F S2048x1 .f32 := (extractStridedSlice S2048x1 ![0, 0] · slices_S2048x2_S2048x1_0_0) main_v1596
  let main_v1600 : FVec F S2048 .f32 := shapeCast S2048 main_v1599 shapeCasts_S2048x1_S2048
  let main_v1601 : FVec F S2048 .f32 := Host.atan2 main_v1598 main_v1600
  let main_v1602 : FVec F S2048 .f32 := fn_where_0 (F := F) main_v69 main_v1601 main_v47
  let main_v1603 : IVec S2048x1 1 := broadcastInDim S2048x1 ![0] bcast_S2048_S2048x1_0 main_v69
  let main_cst_106 : FVec F S_ .f32 := constant S_ .f32 0x00000000#32
  let main_v1604 : FVec F S2048x2 .f32 := (fun x v => Host.reduceAdd x v reducesTo_S2048x4x2_S2048x2_d1 h_S_) main_v1591 main_cst_106
  let main_cst_107 : FVec F S_ .f32 := constant S_ .f32 0x40800000#32
  let main_v1605 : FVec F S2048x2 .f32 := broadcastInDim S2048x2 ![] bcast_S_S2048x2 main_cst_107
  let main_v1606 : FVec F S2048x2 .f32 := Host.divf main_v1604 main_v1605
  let main_v1607 : FVec F S2048x2 .f32 := fn_where_1 (F := F) main_v1603 main_v1606 main_v25
  let main_v1608 : IVec S2048x1 1 := broadcastInDim S2048x1 ![0] bcast_S2048_S2048x1_0 main_v69
  let main_cst_108 : FVec F S_ .f32 := constant S_ .f32 0x00000000#32
  let main_v1609 : FVec F S2048x2 .f32 := fn_where_2 (F := F) main_v1608 main_v1607 main_cst_108
  let main_cst_109 : FVec F S_ .f32 := constant S_ .f32 0x00000000#32
  let main_v1610 : FVec F S2048 .f32 := fn_where_3 (F := F) main_v69 main_v1602 main_cst_109
  let main_v1611 : FVec F S2048x1 .f32 := (extractStridedSlice S2048x1 ![0, 0] · slices_S2048x2_S2048x1_0_0) main_arg3
  let main_v1612 : FVec F S2048 .f32 := shapeCast S2048 main_v1611 shapeCasts_S2048x1_S2048
  let main_cst_110 : FVec F S_ .f32 := constant S_ .f32 0x40000000#32
  let main_v1613 : FVec F S2048 .f32 := broadcastInDim S2048 ![] bcast_S_S2048 main_cst_110
  let main_v1614 : FVec F S2048 .f32 := Host.divf main_v1612 main_v1613
  fn_part72 (F := F) main_arg0 main_arg1 main_arg3 main_arg4 main_v27 main_v29 main_v31 main_v33 main_v49 main_v51 main_v53 main_v55 main_v71 main_v73 main_v75 main_v77 main_v176 main_v395 main_v614 main_v833 main_v1052 main_v1271 main_v1490 main_v1602 main_v1607 main_v1614

def fn_part70 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1490 : IVec S2048 1) (main_v1547 : FVec F S2048x1x4x2 .f32) (main_v1574 : FVec F S2048x8192x1 .f32) (main_v1575 : FVec F S2048x8192x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1576 : FVec F S2048x8192x2 .f32 := (fun a b => concatenate S2048x8192x2 2 [⟨S2048x8192x1, a⟩, ⟨S2048x8192x1, b⟩] concatenates_S2048x8192x1_S2048x8192x1_S2048x8192x2_d2) main_v1574 main_v1575
  let main_v1577 : FVec F S2048x2048x4x2 .f32 := shapeCast S2048x2048x4x2 main_v1576 shapeCasts_S2048x8192x2_S2048x2048x4x2
  let main_v1578 : FVec F S2048x2048x4x2 .f32 := broadcastInDim S2048x2048x4x2 ![0, 1, 2, 3] bcast_S2048x1x4x2_S2048x2048x4x2_0_1_2_3 main_v1547
  let main_v1579 : FVec F S2048x2048x4x2 .f32 := subf main_v1577 main_v1578
  let main_v1580 : FVec F S2048x2048x4 .f32 := fn_norm (F := F) main_v1579
  let main_cst_102 : FVec F S_ .f32 := constant S_ .f32 0x00000000#32
  let main_v1581 : FVec F S2048x2048 .f32 := (fun x v => Host.reduceAdd x v reducesTo_S2048x2048x4_S2048x2048_d2 h_S_) main_v1580 main_cst_102
  let main_v1582 : IVec S2048x2048 32 := iotaInDim S2048x2048 32 1
  let main_cst_103 : FVec F S_ .f32 := constant S_ .f32 0x7F800000#32
  let main_v1583 : FVec F S2048 .f32 := (fun x v => Host.reduce FloatOps.minimumf x v reducesTo_S2048x2048_S2048_d1 h_S_) main_v1581 main_cst_103
  let main_v1584 : FVec F S2048x1 .f32 := broadcastInDim S2048x1 ![0] bcast_S2048_S2048x1_0 main_v1583
  let main_v1585 : FVec F S2048x2048 .f32 := broadcastInDim S2048x2048 ![0, 1] bcast_S2048x1_S2048x2048_0_1 main_v1584
  let main_v1586 : IVec S2048x2048 1 := cmpf .oeq main_v1581 main_v1585
  let main_c_104 : IVec S_ 32 := constantI S_ 32 2048#32
  let main_v1587 : IVec S2048x2048 32 := fn_where (F := F) main_v1586 main_v1582 main_c_104
  let main_c_105 : IVec S_ 32 := constantI S_ 32 2147483647#32
  let main_v1588 : IVec S2048 32 := (fun x v => Host.reduce IntOp.minsi x v reducesTo_S2048x2048_S2048_d1 h_S_) main_v1587 main_c_105
  let main_v1589 : IVec S2048x1x1x1 32 := broadcastInDim S2048x1x1x1 ![0] bcast_S2048_S2048x1x1x1_0 main_v1588
  let main_v1590 : FVec F S2048x1x4x2 .f32 := fn_take_along_axis (F := F) main_v1577 main_v1589
  let main_v1591 : FVec F S2048x4x2 .f32 := shapeCast S2048x4x2 main_v1590 shapeCasts_S2048x1x4x2_S2048x4x2
  let main_v1592 : FVec F S2048x1x2 .f32 := (extractStridedSlice S2048x1x2 ![0, 0, 0] · slices_S2048x4x2_S2048x1x2_0_0_0) main_v1591
  let main_v1593 : FVec F S2048x2 .f32 := shapeCast S2048x2 main_v1592 shapeCasts_S2048x1x2_S2048x2
  let main_v1594 : FVec F S2048x1x2 .f32 := (extractStridedSlice S2048x1x2 ![0, 3, 0] · slices_S2048x4x2_S2048x1x2_0_3_0) main_v1591
  let main_v1595 : FVec F S2048x2 .f32 := shapeCast S2048x2 main_v1594 shapeCasts_S2048x1x2_S2048x2
  fn_part71 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1490 main_v1591 main_v1593 main_v1595

def fn_part69 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) (main_v1490 : IVec S2048 1) (main_v1547 : FVec F S2048x1x4x2 .f32) (main_v1549 : FVec F S2048x8192x2 .f32) (main_v1551 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1552 : FVec F S2048 .f32 := Host.sin main_v1383
  let main_v1553 : FVec F S2048x1 .f32 := broadcastInDim S2048x1 ![0] bcast_S2048_S2048x1_0 main_v1552
  let main_v1554 : FVec F S2048x8192x1 .f32 := (extractStridedSlice S2048x8192x1 ![0, 0, 0] · slices_S2048x8192x2_S2048x8192x1_0_0_0) main_v1549
  let main_v1555 : FVec F S2048x8192 .f32 := shapeCast S2048x8192 main_v1554 shapeCasts_S2048x8192x1_S2048x8192
  let main_v1556 : FVec F S2048x8192x1 .f32 := (extractStridedSlice S2048x8192x1 ![0, 0, 1] · slices_S2048x8192x2_S2048x8192x1_0_0_1) main_v1549
  let main_v1557 : FVec F S2048x8192 .f32 := shapeCast S2048x8192 main_v1556 shapeCasts_S2048x8192x1_S2048x8192
  let main_v1558 : FVec F S2048x8192 .f32 := broadcastInDim S2048x8192 ![0, 1] bcast_S2048x1_S2048x8192_0_1 main_v1551
  let main_v1559 : FVec F S2048x8192 .f32 := mulf main_v1555 main_v1558
  let main_v1560 : FVec F S2048x8192 .f32 := broadcastInDim S2048x8192 ![0, 1] bcast_S2048x1_S2048x8192_0_1 main_v1553
  let main_v1561 : FVec F S2048x8192 .f32 := mulf main_v1557 main_v1560
  let main_v1562 : FVec F S2048x8192 .f32 := subf main_v1559 main_v1561
  let main_v1563 : FVec F S2048x1 .f32 := (extractStridedSlice S2048x1 ![0, 0] · slices_S2048x2_S2048x1_0_0) main_v1388
  let main_v1564 : FVec F S2048x8192 .f32 := broadcastInDim S2048x8192 ![0, 1] bcast_S2048x1_S2048x8192_0_1 main_v1563
  let main_v1565 : FVec F S2048x8192 .f32 := addf main_v1562 main_v1564
  let main_v1566 : FVec F S2048x8192 .f32 := broadcastInDim S2048x8192 ![0, 1] bcast_S2048x1_S2048x8192_0_1 main_v1553
  let main_v1567 : FVec F S2048x8192 .f32 := mulf main_v1555 main_v1566
  let main_v1568 : FVec F S2048x8192 .f32 := broadcastInDim S2048x8192 ![0, 1] bcast_S2048x1_S2048x8192_0_1 main_v1551
  let main_v1569 : FVec F S2048x8192 .f32 := mulf main_v1557 main_v1568
  let main_v1570 : FVec F S2048x8192 .f32 := addf main_v1567 main_v1569
  let main_v1571 : FVec F S2048x1 .f32 := (extractStridedSlice S2048x1 ![0, 1] · slices_S2048x2_S2048x1_0_1) main_v1388
  let main_v1572 : FVec F S2048x8192 .f32 := broadcastInDim S2048x8192 ![0, 1] bcast_S2048x1_S2048x8192_0_1 main_v1571
  let main_v1573 : FVec F S2048x8192 .f32 := addf main_v1570 main_v1572
  let main_v1574 : FVec F S2048x8192x1 .f32 := broadcastInDim S2048x8192x1 ![0, 1] bcast_S2048x8192_S2048x8192x1_0_1 main_v1565
  let main_v1575 : FVec F S2048x8192x1 .f32 := broadcastInDim S2048x8192x1 ![0, 1] bcast_S2048x8192_S2048x8192x1_0_1 main_v1573
  fn_part70 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1490 main_v1547 main_v1574 main_v1575

def fn_part68 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) (main_v1490 : IVec S2048 1) (main_v1521 : FVec F S2048x1 .f32) (main_v1523 : FVec F S2048x1 .f32) (main_v1525 : FVec F S2048x4 .f32) (main_v1527 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1528 : FVec F S2048x4 .f32 := broadcastInDim S2048x4 ![0, 1] bcast_S2048x1_S2048x4_0_1 main_v1521
  let main_v1529 : FVec F S2048x4 .f32 := mulf main_v1525 main_v1528
  let main_v1530 : FVec F S2048x4 .f32 := broadcastInDim S2048x4 ![0, 1] bcast_S2048x1_S2048x4_0_1 main_v1523
  let main_v1531 : FVec F S2048x4 .f32 := mulf main_v1527 main_v1530
  let main_v1532 : FVec F S2048x4 .f32 := subf main_v1529 main_v1531
  let main_v1533 : FVec F S2048x1 .f32 := (extractStridedSlice S2048x1 ![0, 0] · slices_S2048x2_S2048x1_0_0) main_v25
  let main_v1534 : FVec F S2048x4 .f32 := broadcastInDim S2048x4 ![0, 1] bcast_S2048x1_S2048x4_0_1 main_v1533
  let main_v1535 : FVec F S2048x4 .f32 := addf main_v1532 main_v1534
  let main_v1536 : FVec F S2048x4 .f32 := broadcastInDim S2048x4 ![0, 1] bcast_S2048x1_S2048x4_0_1 main_v1523
  let main_v1537 : FVec F S2048x4 .f32 := mulf main_v1525 main_v1536
  let main_v1538 : FVec F S2048x4 .f32 := broadcastInDim S2048x4 ![0, 1] bcast_S2048x1_S2048x4_0_1 main_v1521
  let main_v1539 : FVec F S2048x4 .f32 := mulf main_v1527 main_v1538
  let main_v1540 : FVec F S2048x4 .f32 := addf main_v1537 main_v1539
  let main_v1541 : FVec F S2048x1 .f32 := (extractStridedSlice S2048x1 ![0, 1] · slices_S2048x2_S2048x1_0_1) main_v25
  let main_v1542 : FVec F S2048x4 .f32 := broadcastInDim S2048x4 ![0, 1] bcast_S2048x1_S2048x4_0_1 main_v1541
  let main_v1543 : FVec F S2048x4 .f32 := addf main_v1540 main_v1542
  let main_v1544 : FVec F S2048x4x1 .f32 := broadcastInDim S2048x4x1 ![0, 1] bcast_S2048x4_S2048x4x1_0_1 main_v1535
  let main_v1545 : FVec F S2048x4x1 .f32 := broadcastInDim S2048x4x1 ![0, 1] bcast_S2048x4_S2048x4x1_0_1 main_v1543
  let main_v1546 : FVec F S2048x4x2 .f32 := (fun a b => concatenate S2048x4x2 2 [⟨S2048x4x1, a⟩, ⟨S2048x4x1, b⟩] concatenates_S2048x4x1_S2048x4x1_S2048x4x2_d2) main_v1544 main_v1545
  let main_v1547 : FVec F S2048x1x4x2 .f32 := broadcastInDim S2048x1x4x2 ![0, 2, 3] bcast_S2048x4x2_S2048x1x4x2_0_2_3 main_v1546
  let main_v1548 : FVec F S1x8192x2 .f32 := shapeCast S1x8192x2 main_arg4 shapeCasts_S2048x4x2_S1x8192x2
  let main_v1549 : FVec F S2048x8192x2 .f32 := broadcastInDim S2048x8192x2 ![0, 1, 2] bcast_S1x8192x2_S2048x8192x2_0_1_2 main_v1548
  let main_v1550 : FVec F S2048 .f32 := Host.cos main_v1383
  let main_v1551 : FVec F S2048x1 .f32 := broadcastInDim S2048x1 ![0] bcast_S2048_S2048x1_0 main_v1550
  fn_part69 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388 main_v1490 main_v1547 main_v1549 main_v1551

def fn_part67 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) (main_v1490 : IVec S2048 1) (main_v1494 : FVec F S2048 .f32) (main_v1498 : FVec F S2048 .f32) (main_v1501 : FVec F S2048x2 .f32) (main_v1502 : FVec F S2048 .f32) (main_v1503 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1504 : FVec F S2048x1 .f32 := broadcastInDim S2048x1 ![0] bcast_S2048_S2048x1_0 main_v1502
  let main_v1505 : FVec F S2048x2 .f32 := (fun a b => concatenate S2048x2 1 [⟨S2048x1, a⟩, ⟨S2048x1, b⟩] concatenates_S2048x1_S2048x1_S2048x2_d1) main_v1503 main_v1504
  let main_v1506 : FVec F S2048 .f32 := Host.negf main_v1494
  let main_v1507 : FVec F S2048 .f32 := Host.negf main_v1498
  let main_v1508 : FVec F S2048x1 .f32 := broadcastInDim S2048x1 ![0] bcast_S2048_S2048x1_0 main_v1506
  let main_v1509 : FVec F S2048x1 .f32 := broadcastInDim S2048x1 ![0] bcast_S2048_S2048x1_0 main_v1507
  let main_v1510 : FVec F S2048x2 .f32 := (fun a b => concatenate S2048x2 1 [⟨S2048x1, a⟩, ⟨S2048x1, b⟩] concatenates_S2048x1_S2048x1_S2048x2_d1) main_v1508 main_v1509
  let main_v1511 : FVec F S2048 .f32 := Host.negf main_v1494
  let main_v1512 : FVec F S2048x1 .f32 := broadcastInDim S2048x1 ![0] bcast_S2048_S2048x1_0 main_v1511
  let main_v1513 : FVec F S2048x1 .f32 := broadcastInDim S2048x1 ![0] bcast_S2048_S2048x1_0 main_v1498
  let main_v1514 : FVec F S2048x2 .f32 := (fun a b => concatenate S2048x2 1 [⟨S2048x1, a⟩, ⟨S2048x1, b⟩] concatenates_S2048x1_S2048x1_S2048x2_d1) main_v1512 main_v1513
  let main_v1515 : FVec F S2048x1x2 .f32 := broadcastInDim S2048x1x2 ![0, 2] bcast_S2048x2_S2048x1x2_0_2 main_v1501
  let main_v1516 : FVec F S2048x1x2 .f32 := broadcastInDim S2048x1x2 ![0, 2] bcast_S2048x2_S2048x1x2_0_2 main_v1505
  let main_v1517 : FVec F S2048x1x2 .f32 := broadcastInDim S2048x1x2 ![0, 2] bcast_S2048x2_S2048x1x2_0_2 main_v1510
  let main_v1518 : FVec F S2048x1x2 .f32 := broadcastInDim S2048x1x2 ![0, 2] bcast_S2048x2_S2048x1x2_0_2 main_v1514
  let main_v1519 : FVec F S2048x4x2 .f32 := concatenate S2048x4x2 1 [⟨S2048x1x2, main_v1515⟩, ⟨S2048x1x2, main_v1516⟩, ⟨S2048x1x2, main_v1517⟩, ⟨S2048x1x2, main_v1518⟩] concatenates_S2048x1x2_S2048x1x2_S2048x1x2_S2048x1x2_S2048x4x2_d1
  let main_v1520 : FVec F S2048 .f32 := Host.cos main_v47
  let main_v1521 : FVec F S2048x1 .f32 := broadcastInDim S2048x1 ![0] bcast_S2048_S2048x1_0 main_v1520
  let main_v1522 : FVec F S2048 .f32 := Host.sin main_v47
  let main_v1523 : FVec F S2048x1 .f32 := broadcastInDim S2048x1 ![0] bcast_S2048_S2048x1_0 main_v1522
  let main_v1524 : FVec F S2048x4x1 .f32 := (extractStridedSlice S2048x4x1 ![0, 0, 0] · slices_S2048x4x2_S2048x4x1_0_0_0) main_v1519
  let main_v1525 : FVec F S2048x4 .f32 := shapeCast S2048x4 main_v1524 shapeCasts_S2048x4x1_S2048x4
  let main_v1526 : FVec F S2048x4x1 .f32 := (extractStridedSlice S2048x4x1 ![0, 0, 1] · slices_S2048x4x2_S2048x4x1_0_0_1) main_v1519
  let main_v1527 : FVec F S2048x4 .f32 := shapeCast S2048x4 main_v1526 shapeCasts_S2048x4x1_S2048x4
  fn_part68 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388 main_v1490 main_v1521 main_v1523 main_v1525 main_v1527

def fn_part66 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) (main_v1482 : FVec F S2048x2048 .f32) (main_v1483 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1484 : FVec F S2048x1 .f32 := broadcastInDim S2048x1 ![0] bcast_S2048_S2048x1_0 main_v1483
  let main_v1485 : FVec F S2048x2048 .f32 := broadcastInDim S2048x2048 ![0, 1] bcast_S2048x1_S2048x2048_0_1 main_v1484
  let main_v1486 : IVec S2048x2048 1 := cmpf .oeq main_v1482 main_v1485
  let main_v1487 : IVec S2048x2048 32 := (extui 32 · natLt_1_32) main_v1486
  let main_c_98 : IVec S_ 32 := constantI S_ 32 0#32
  let main_v1488 : IVec S2048 32 := (fun x v => Host.reduce IntOp.addi x v reducesTo_S2048x2048_S2048_d1 h_S_) main_v1487 main_c_98
  let main_c_99 : IVec S_ 32 := constantI S_ 32 1#32
  let main_v1489 : IVec S2048 32 := broadcastInDim S2048 ![] bcast_S_S2048 main_c_99
  let main_v1490 : IVec S2048 1 := cmpi .eq main_v1488 main_v1489
  let main_v1491 : FVec F S2048x1 .f32 := (extractStridedSlice S2048x1 ![0, 0] · slices_S2048x2_S2048x1_0_0) main_arg3
  let main_v1492 : FVec F S2048 .f32 := shapeCast S2048 main_v1491 shapeCasts_S2048x1_S2048
  let main_cst_100 : FVec F S_ .f32 := constant S_ .f32 0x40000000#32
  let main_v1493 : FVec F S2048 .f32 := broadcastInDim S2048 ![] bcast_S_S2048 main_cst_100
  let main_v1494 : FVec F S2048 .f32 := Host.divf main_v1492 main_v1493
  let main_v1495 : FVec F S2048x1 .f32 := (extractStridedSlice S2048x1 ![0, 1] · slices_S2048x2_S2048x1_0_1) main_arg3
  let main_v1496 : FVec F S2048 .f32 := shapeCast S2048 main_v1495 shapeCasts_S2048x1_S2048
  let main_cst_101 : FVec F S_ .f32 := constant S_ .f32 0x40000000#32
  let main_v1497 : FVec F S2048 .f32 := broadcastInDim S2048 ![] bcast_S_S2048 main_cst_101
  let main_v1498 : FVec F S2048 .f32 := Host.divf main_v1496 main_v1497
  let main_v1499 : FVec F S2048x1 .f32 := broadcastInDim S2048x1 ![0] bcast_S2048_S2048x1_0 main_v1494
  let main_v1500 : FVec F S2048x1 .f32 := broadcastInDim S2048x1 ![0] bcast_S2048_S2048x1_0 main_v1498
  let main_v1501 : FVec F S2048x2 .f32 := (fun a b => concatenate S2048x2 1 [⟨S2048x1, a⟩, ⟨S2048x1, b⟩] concatenates_S2048x1_S2048x1_S2048x2_d1) main_v1499 main_v1500
  let main_v1502 : FVec F S2048 .f32 := Host.negf main_v1498
  let main_v1503 : FVec F S2048x1 .f32 := broadcastInDim S2048x1 ![0] bcast_S2048_S2048x1_0 main_v1494
  fn_part67 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388 main_v1490 main_v1494 main_v1498 main_v1501 main_v1502 main_v1503

def fn_part65 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) (main_v1448 : FVec F S2048x1x4x2 .f32) (main_v1452 : FVec F S2048x1 .f32) (main_v1454 : FVec F S2048x1 .f32) (main_v1456 : FVec F S2048x8192 .f32) (main_v1458 : FVec F S2048x8192 .f32) (main_v1460 : FVec F S2048x8192 .f32) (main_v1461 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1462 : FVec F S2048x8192 .f32 := mulf main_v1458 main_v1461
  let main_v1463 : FVec F S2048x8192 .f32 := subf main_v1460 main_v1462
  let main_v1464 : FVec F S2048x1 .f32 := (extractStridedSlice S2048x1 ![0, 0] · slices_S2048x2_S2048x1_0_0) main_v1388
  let main_v1465 : FVec F S2048x8192 .f32 := broadcastInDim S2048x8192 ![0, 1] bcast_S2048x1_S2048x8192_0_1 main_v1464
  let main_v1466 : FVec F S2048x8192 .f32 := addf main_v1463 main_v1465
  let main_v1467 : FVec F S2048x8192 .f32 := broadcastInDim S2048x8192 ![0, 1] bcast_S2048x1_S2048x8192_0_1 main_v1454
  let main_v1468 : FVec F S2048x8192 .f32 := mulf main_v1456 main_v1467
  let main_v1469 : FVec F S2048x8192 .f32 := broadcastInDim S2048x8192 ![0, 1] bcast_S2048x1_S2048x8192_0_1 main_v1452
  let main_v1470 : FVec F S2048x8192 .f32 := mulf main_v1458 main_v1469
  let main_v1471 : FVec F S2048x8192 .f32 := addf main_v1468 main_v1470
  let main_v1472 : FVec F S2048x1 .f32 := (extractStridedSlice S2048x1 ![0, 1] · slices_S2048x2_S2048x1_0_1) main_v1388
  let main_v1473 : FVec F S2048x8192 .f32 := broadcastInDim S2048x8192 ![0, 1] bcast_S2048x1_S2048x8192_0_1 main_v1472
  let main_v1474 : FVec F S2048x8192 .f32 := addf main_v1471 main_v1473
  let main_v1475 : FVec F S2048x8192x1 .f32 := broadcastInDim S2048x8192x1 ![0, 1] bcast_S2048x8192_S2048x8192x1_0_1 main_v1466
  let main_v1476 : FVec F S2048x8192x1 .f32 := broadcastInDim S2048x8192x1 ![0, 1] bcast_S2048x8192_S2048x8192x1_0_1 main_v1474
  let main_v1477 : FVec F S2048x8192x2 .f32 := (fun a b => concatenate S2048x8192x2 2 [⟨S2048x8192x1, a⟩, ⟨S2048x8192x1, b⟩] concatenates_S2048x8192x1_S2048x8192x1_S2048x8192x2_d2) main_v1475 main_v1476
  let main_v1478 : FVec F S2048x2048x4x2 .f32 := shapeCast S2048x2048x4x2 main_v1477 shapeCasts_S2048x8192x2_S2048x2048x4x2
  let main_v1479 : FVec F S2048x2048x4x2 .f32 := broadcastInDim S2048x2048x4x2 ![0, 1, 2, 3] bcast_S2048x1x4x2_S2048x2048x4x2_0_1_2_3 main_v1448
  let main_v1480 : FVec F S2048x2048x4x2 .f32 := subf main_v1478 main_v1479
  let main_v1481 : FVec F S2048x2048x4 .f32 := fn_norm (F := F) main_v1480
  let main_cst_96 : FVec F S_ .f32 := constant S_ .f32 0x00000000#32
  let main_v1482 : FVec F S2048x2048 .f32 := (fun x v => Host.reduceAdd x v reducesTo_S2048x2048x4_S2048x2048_d2 h_S_) main_v1481 main_cst_96
  let main_cst_97 : FVec F S_ .f32 := constant S_ .f32 0x7F800000#32
  let main_v1483 : FVec F S2048 .f32 := (fun x v => Host.reduce FloatOps.minimumf x v reducesTo_S2048x2048_S2048_d1 h_S_) main_v1482 main_cst_97
  fn_part66 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388 main_v1482 main_v1483

def fn_part64 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) (main_v1422 : FVec F S2048x1 .f32) (main_v1426 : FVec F S2048x4 .f32) (main_v1428 : FVec F S2048x4 .f32) (main_v1436 : FVec F S2048x4 .f32) (main_v1437 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1438 : FVec F S2048x4 .f32 := mulf main_v1426 main_v1437
  let main_v1439 : FVec F S2048x4 .f32 := broadcastInDim S2048x4 ![0, 1] bcast_S2048x1_S2048x4_0_1 main_v1422
  let main_v1440 : FVec F S2048x4 .f32 := mulf main_v1428 main_v1439
  let main_v1441 : FVec F S2048x4 .f32 := addf main_v1438 main_v1440
  let main_v1442 : FVec F S2048x1 .f32 := (extractStridedSlice S2048x1 ![0, 1] · slices_S2048x2_S2048x1_0_1) main_v25
  let main_v1443 : FVec F S2048x4 .f32 := broadcastInDim S2048x4 ![0, 1] bcast_S2048x1_S2048x4_0_1 main_v1442
  let main_v1444 : FVec F S2048x4 .f32 := addf main_v1441 main_v1443
  let main_v1445 : FVec F S2048x4x1 .f32 := broadcastInDim S2048x4x1 ![0, 1] bcast_S2048x4_S2048x4x1_0_1 main_v1436
  let main_v1446 : FVec F S2048x4x1 .f32 := broadcastInDim S2048x4x1 ![0, 1] bcast_S2048x4_S2048x4x1_0_1 main_v1444
  let main_v1447 : FVec F S2048x4x2 .f32 := (fun a b => concatenate S2048x4x2 2 [⟨S2048x4x1, a⟩, ⟨S2048x4x1, b⟩] concatenates_S2048x4x1_S2048x4x1_S2048x4x2_d2) main_v1445 main_v1446
  let main_v1448 : FVec F S2048x1x4x2 .f32 := broadcastInDim S2048x1x4x2 ![0, 2, 3] bcast_S2048x4x2_S2048x1x4x2_0_2_3 main_v1447
  let main_v1449 : FVec F S1x8192x2 .f32 := shapeCast S1x8192x2 main_arg4 shapeCasts_S2048x4x2_S1x8192x2
  let main_v1450 : FVec F S2048x8192x2 .f32 := broadcastInDim S2048x8192x2 ![0, 1, 2] bcast_S1x8192x2_S2048x8192x2_0_1_2 main_v1449
  let main_v1451 : FVec F S2048 .f32 := Host.cos main_v1383
  let main_v1452 : FVec F S2048x1 .f32 := broadcastInDim S2048x1 ![0] bcast_S2048_S2048x1_0 main_v1451
  let main_v1453 : FVec F S2048 .f32 := Host.sin main_v1383
  let main_v1454 : FVec F S2048x1 .f32 := broadcastInDim S2048x1 ![0] bcast_S2048_S2048x1_0 main_v1453
  let main_v1455 : FVec F S2048x8192x1 .f32 := (extractStridedSlice S2048x8192x1 ![0, 0, 0] · slices_S2048x8192x2_S2048x8192x1_0_0_0) main_v1450
  let main_v1456 : FVec F S2048x8192 .f32 := shapeCast S2048x8192 main_v1455 shapeCasts_S2048x8192x1_S2048x8192
  let main_v1457 : FVec F S2048x8192x1 .f32 := (extractStridedSlice S2048x8192x1 ![0, 0, 1] · slices_S2048x8192x2_S2048x8192x1_0_0_1) main_v1450
  let main_v1458 : FVec F S2048x8192 .f32 := shapeCast S2048x8192 main_v1457 shapeCasts_S2048x8192x1_S2048x8192
  let main_v1459 : FVec F S2048x8192 .f32 := broadcastInDim S2048x8192 ![0, 1] bcast_S2048x1_S2048x8192_0_1 main_v1452
  let main_v1460 : FVec F S2048x8192 .f32 := mulf main_v1456 main_v1459
  let main_v1461 : FVec F S2048x8192 .f32 := broadcastInDim S2048x8192 ![0, 1] bcast_S2048x1_S2048x8192_0_1 main_v1454
  fn_part65 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388 main_v1448 main_v1452 main_v1454 main_v1456 main_v1458 main_v1460 main_v1461

def fn_part63 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) (main_v1399 : FVec F S2048 .f32) (main_v1402 : FVec F S2048x2 .f32) (main_v1406 : FVec F S2048x2 .f32) (main_v1411 : FVec F S2048x2 .f32) (main_v1413 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1414 : FVec F S2048x1 .f32 := broadcastInDim S2048x1 ![0] bcast_S2048_S2048x1_0 main_v1399
  let main_v1415 : FVec F S2048x2 .f32 := (fun a b => concatenate S2048x2 1 [⟨S2048x1, a⟩, ⟨S2048x1, b⟩] concatenates_S2048x1_S2048x1_S2048x2_d1) main_v1413 main_v1414
  let main_v1416 : FVec F S2048x1x2 .f32 := broadcastInDim S2048x1x2 ![0, 2] bcast_S2048x2_S2048x1x2_0_2 main_v1402
  let main_v1417 : FVec F S2048x1x2 .f32 := broadcastInDim S2048x1x2 ![0, 2] bcast_S2048x2_S2048x1x2_0_2 main_v1406
  let main_v1418 : FVec F S2048x1x2 .f32 := broadcastInDim S2048x1x2 ![0, 2] bcast_S2048x2_S2048x1x2_0_2 main_v1411
  let main_v1419 : FVec F S2048x1x2 .f32 := broadcastInDim S2048x1x2 ![0, 2] bcast_S2048x2_S2048x1x2_0_2 main_v1415
  let main_v1420 : FVec F S2048x4x2 .f32 := concatenate S2048x4x2 1 [⟨S2048x1x2, main_v1416⟩, ⟨S2048x1x2, main_v1417⟩, ⟨S2048x1x2, main_v1418⟩, ⟨S2048x1x2, main_v1419⟩] concatenates_S2048x1x2_S2048x1x2_S2048x1x2_S2048x1x2_S2048x4x2_d1
  let main_v1421 : FVec F S2048 .f32 := Host.cos main_v47
  let main_v1422 : FVec F S2048x1 .f32 := broadcastInDim S2048x1 ![0] bcast_S2048_S2048x1_0 main_v1421
  let main_v1423 : FVec F S2048 .f32 := Host.sin main_v47
  let main_v1424 : FVec F S2048x1 .f32 := broadcastInDim S2048x1 ![0] bcast_S2048_S2048x1_0 main_v1423
  let main_v1425 : FVec F S2048x4x1 .f32 := (extractStridedSlice S2048x4x1 ![0, 0, 0] · slices_S2048x4x2_S2048x4x1_0_0_0) main_v1420
  let main_v1426 : FVec F S2048x4 .f32 := shapeCast S2048x4 main_v1425 shapeCasts_S2048x4x1_S2048x4
  let main_v1427 : FVec F S2048x4x1 .f32 := (extractStridedSlice S2048x4x1 ![0, 0, 1] · slices_S2048x4x2_S2048x4x1_0_0_1) main_v1420
  let main_v1428 : FVec F S2048x4 .f32 := shapeCast S2048x4 main_v1427 shapeCasts_S2048x4x1_S2048x4
  let main_v1429 : FVec F S2048x4 .f32 := broadcastInDim S2048x4 ![0, 1] bcast_S2048x1_S2048x4_0_1 main_v1422
  let main_v1430 : FVec F S2048x4 .f32 := mulf main_v1426 main_v1429
  let main_v1431 : FVec F S2048x4 .f32 := broadcastInDim S2048x4 ![0, 1] bcast_S2048x1_S2048x4_0_1 main_v1424
  let main_v1432 : FVec F S2048x4 .f32 := mulf main_v1428 main_v1431
  let main_v1433 : FVec F S2048x4 .f32 := subf main_v1430 main_v1432
  let main_v1434 : FVec F S2048x1 .f32 := (extractStridedSlice S2048x1 ![0, 0] · slices_S2048x2_S2048x1_0_0) main_v25
  let main_v1435 : FVec F S2048x4 .f32 := broadcastInDim S2048x4 ![0, 1] bcast_S2048x1_S2048x4_0_1 main_v1434
  let main_v1436 : FVec F S2048x4 .f32 := addf main_v1433 main_v1435
  let main_v1437 : FVec F S2048x4 .f32 := broadcastInDim S2048x4 ![0, 1] bcast_S2048x1_S2048x4_0_1 main_v1424
  fn_part64 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388 main_v1422 main_v1426 main_v1428 main_v1436 main_v1437

def fn_part62 {F : FTy → Type} [FloatOps F] (main_arg0 : FVec F S2048x89x2 .f32) (main_arg1 : FVec F S2048x89 .f32) (main_arg3 : FVec F S2048x2 .f32) (main_arg4 : FVec F S2048x4x2 .f32) (main_v25 : FVec F S2048x2 .f32) (main_v27 : FVec F S2048x2 .f32) (main_v29 : FVec F S2048x2 .f32) (main_v31 : FVec F S2048x2 .f32) (main_v33 : FVec F S2048x2 .f32) (main_v47 : FVec F S2048 .f32) (main_v49 : FVec F S2048 .f32) (main_v51 : FVec F S2048 .f32) (main_v53 : FVec F S2048 .f32) (main_v55 : FVec F S2048 .f32) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1383 : FVec F S2048 .f32) (main_v1388 : FVec F S2048x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1392 : FVec F S2048x1 .f32 := (extractStridedSlice S2048x1 ![0, 0] · slices_S2048x2_S2048x1_0_0) main_arg3
  let main_v1393 : FVec F S2048 .f32 := shapeCast S2048 main_v1392 shapeCasts_S2048x1_S2048
  let main_cst_94 : FVec F S_ .f32 := constant S_ .f32 0x40000000#32
  let main_v1394 : FVec F S2048 .f32 := broadcastInDim S2048 ![] bcast_S_S2048 main_cst_94
  let main_v1395 : FVec F S2048 .f32 := Host.divf main_v1393 main_v1394
  let main_v1396 : FVec F S2048x1 .f32 := (extractStridedSlice S2048x1 ![0, 1] · slices_S2048x2_S2048x1_0_1) main_arg3
  let main_v1397 : FVec F S2048 .f32 := shapeCast S2048 main_v1396 shapeCasts_S2048x1_S2048
  let main_cst_95 : FVec F S_ .f32 := constant S_ .f32 0x40000000#32
  let main_v1398 : FVec F S2048 .f32 := broadcastInDim S2048 ![] bcast_S_S2048 main_cst_95
  let main_v1399 : FVec F S2048 .f32 := Host.divf main_v1397 main_v1398
  let main_v1400 : FVec F S2048x1 .f32 := broadcastInDim S2048x1 ![0] bcast_S2048_S2048x1_0 main_v1395
  let main_v1401 : FVec F S2048x1 .f32 := broadcastInDim S2048x1 ![0] bcast_S2048_S2048x1_0 main_v1399
  let main_v1402 : FVec F S2048x2 .f32 := (fun a b => concatenate S2048x2 1 [⟨S2048x1, a⟩, ⟨S2048x1, b⟩] concatenates_S2048x1_S2048x1_S2048x2_d1) main_v1400 main_v1401
  let main_v1403 : FVec F S2048 .f32 := Host.negf main_v1399
  let main_v1404 : FVec F S2048x1 .f32 := broadcastInDim S2048x1 ![0] bcast_S2048_S2048x1_0 main_v1395
  let main_v1405 : FVec F S2048x1 .f32 := broadcastInDim S2048x1 ![0] bcast_S2048_S2048x1_0 main_v1403
  let main_v1406 : FVec F S2048x2 .f32 := (fun a b => concatenate S2048x2 1 [⟨S2048x1, a⟩, ⟨S2048x1, b⟩] concatenates_S2048x1_S2048x1_S2048x2_d1) main_v1404 main_v1405
  let main_v1407 : FVec F S2048 .f32 := Host.negf main_v1395
  let main_v1408 : FVec F S2048 .f32 := Host.negf main_v1399
  let main_v1409 : FVec F S2048x1 .f32 := broadcastInDim S2048x1 ![0] bcast_S2048_S2048x1_0 main_v1407
  let main_v1410 : FVec F S2048x1 .f32 := broadcastInDim S2048x1 ![0] bcast_S2048_S2048x1_0 main_v1408
  let main_v1411 : FVec F S2048x2 .f32 := (fun a b => concatenate S2048x2 1 [⟨S2048x1, a⟩, ⟨S2048x1, b⟩] concatenates_S2048x1_S2048x1_S2048x2_d1) main_v1409 main_v1410
  let main_v1412 : FVec F S2048 .f32 := Host.negf main_v1395
  let main_v1413 : FVec F S2048x1 .f32 := broadcastInDim S2048x1 ![0] bcast_S2048_S2048x1_0 main_v1412
  fn_part63 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388 main_v1399 main_v1402 main_v1406 main_v1411 main_v1413

def fn_part61 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1271 : IVec S2048 1) (main_v1371 : FVec F S2048x1x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1372 : FVec F S2048x4x2 .f32 := shapeCast S2048x4x2 main_v1371 shapeCasts_S2048x1x4x2_S2048x4x2
  let main_v1373 : FVec F S2048x1x2 .f32 := (extractStridedSlice S2048x1x2 ![0, 0, 0] · slices_S2048x4x2_S2048x1x2_0_0_0) main_v1372
  let main_v1374 : FVec F S2048x2 .f32 := shapeCast S2048x2 main_v1373 shapeCasts_S2048x1x2_S2048x2
  let main_v1375 : FVec F S2048x1x2 .f32 := (extractStridedSlice S2048x1x2 ![0, 3, 0] · slices_S2048x4x2_S2048x1x2_0_3_0) main_v1372
  let main_v1376 : FVec F S2048x2 .f32 := shapeCast S2048x2 main_v1375 shapeCasts_S2048x1x2_S2048x2
  let main_v1377 : FVec F S2048x2 .f32 := subf main_v1374 main_v1376
  let main_v1378 : FVec F S2048x1 .f32 := (extractStridedSlice S2048x1 ![0, 1] · slices_S2048x2_S2048x1_0_1) main_v1377
  let main_v1379 : FVec F S2048 .f32 := shapeCast S2048 main_v1378 shapeCasts_S2048x1_S2048
  let main_v1380 : FVec F S2048x1 .f32 := (extractStridedSlice S2048x1 ![0, 0] · slices_S2048x2_S2048x1_0_0) main_v1377
  let main_v1381 : FVec F S2048 .f32 := shapeCast S2048 main_v1380 shapeCasts_S2048x1_S2048
  let main_v1382 : FVec F S2048 .f32 := Host.atan2 main_v1379 main_v1381
  let main_v1383 : FVec F S2048 .f32 := fn_where_0 (F := F) main_v67 main_v1382 main_v45
  let main_v1384 : IVec S2048x1 1 := broadcastInDim S2048x1 ![0] bcast_S2048_S2048x1_0 main_v67
  let main_cst_90 : FVec F S_ .f32 := constant S_ .f32 0x00000000#32
  let main_v1385 : FVec F S2048x2 .f32 := (fun x v => Host.reduceAdd x v reducesTo_S2048x4x2_S2048x2_d1 h_S_) main_v1372 main_cst_90
  let main_cst_91 : FVec F S_ .f32 := constant S_ .f32 0x40800000#32
  let main_v1386 : FVec F S2048x2 .f32 := broadcastInDim S2048x2 ![] bcast_S_S2048x2 main_cst_91
  let main_v1387 : FVec F S2048x2 .f32 := Host.divf main_v1385 main_v1386
  let main_v1388 : FVec F S2048x2 .f32 := fn_where_1 (F := F) main_v1384 main_v1387 main_v23
  let main_v1389 : IVec S2048x1 1 := broadcastInDim S2048x1 ![0] bcast_S2048_S2048x1_0 main_v67
  let main_cst_92 : FVec F S_ .f32 := constant S_ .f32 0x00000000#32
  let main_v1390 : FVec F S2048x2 .f32 := fn_where_2 (F := F) main_v1389 main_v1388 main_cst_92
  let main_cst_93 : FVec F S_ .f32 := constant S_ .f32 0x00000000#32
  let main_v1391 : FVec F S2048 .f32 := fn_where_3 (F := F) main_v67 main_v1383 main_cst_93
  fn_part62 (F := F) main_arg0 main_arg1 main_arg3 main_arg4 main_v25 main_v27 main_v29 main_v31 main_v33 main_v47 main_v49 main_v51 main_v53 main_v55 main_v69 main_v71 main_v73 main_v75 main_v77 main_v176 main_v395 main_v614 main_v833 main_v1052 main_v1271 main_v1383 main_v1388

def fn_part60 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1169 : FVec F S2048x2 .f32) (main_v1271 : IVec S2048 1) (main_v1328 : FVec F S2048x1x4x2 .f32) (main_v1346 : FVec F S2048x8192 .f32) (main_v1351 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1352 : FVec F S2048x1 .f32 := (extractStridedSlice S2048x1 ![0, 1] · slices_S2048x2_S2048x1_0_1) main_v1169
  let main_v1353 : FVec F S2048x8192 .f32 := broadcastInDim S2048x8192 ![0, 1] bcast_S2048x1_S2048x8192_0_1 main_v1352
  let main_v1354 : FVec F S2048x8192 .f32 := addf main_v1351 main_v1353
  let main_v1355 : FVec F S2048x8192x1 .f32 := broadcastInDim S2048x8192x1 ![0, 1] bcast_S2048x8192_S2048x8192x1_0_1 main_v1346
  let main_v1356 : FVec F S2048x8192x1 .f32 := broadcastInDim S2048x8192x1 ![0, 1] bcast_S2048x8192_S2048x8192x1_0_1 main_v1354
  let main_v1357 : FVec F S2048x8192x2 .f32 := (fun a b => concatenate S2048x8192x2 2 [⟨S2048x8192x1, a⟩, ⟨S2048x8192x1, b⟩] concatenates_S2048x8192x1_S2048x8192x1_S2048x8192x2_d2) main_v1355 main_v1356
  let main_v1358 : FVec F S2048x2048x4x2 .f32 := shapeCast S2048x2048x4x2 main_v1357 shapeCasts_S2048x8192x2_S2048x2048x4x2
  let main_v1359 : FVec F S2048x2048x4x2 .f32 := broadcastInDim S2048x2048x4x2 ![0, 1, 2, 3] bcast_S2048x1x4x2_S2048x2048x4x2_0_1_2_3 main_v1328
  let main_v1360 : FVec F S2048x2048x4x2 .f32 := subf main_v1358 main_v1359
  let main_v1361 : FVec F S2048x2048x4 .f32 := fn_norm (F := F) main_v1360
  let main_cst_86 : FVec F S_ .f32 := constant S_ .f32 0x00000000#32
  let main_v1362 : FVec F S2048x2048 .f32 := (fun x v => Host.reduceAdd x v reducesTo_S2048x2048x4_S2048x2048_d2 h_S_) main_v1361 main_cst_86
  let main_v1363 : IVec S2048x2048 32 := iotaInDim S2048x2048 32 1
  let main_cst_87 : FVec F S_ .f32 := constant S_ .f32 0x7F800000#32
  let main_v1364 : FVec F S2048 .f32 := (fun x v => Host.reduce FloatOps.minimumf x v reducesTo_S2048x2048_S2048_d1 h_S_) main_v1362 main_cst_87
  let main_v1365 : FVec F S2048x1 .f32 := broadcastInDim S2048x1 ![0] bcast_S2048_S2048x1_0 main_v1364
  let main_v1366 : FVec F S2048x2048 .f32 := broadcastInDim S2048x2048 ![0, 1] bcast_S2048x1_S2048x2048_0_1 main_v1365
  let main_v1367 : IVec S2048x2048 1 := cmpf .oeq main_v1362 main_v1366
  let main_c_88 : IVec S_ 32 := constantI S_ 32 2048#32
  let main_v1368 : IVec S2048x2048 32 := fn_where (F := F) main_v1367 main_v1363 main_c_88
  let main_c_89 : IVec S_ 32 := constantI S_ 32 2147483647#32
  let main_v1369 : IVec S2048 32 := (fun x v => Host.reduce IntOp.minsi x v reducesTo_S2048x2048_S2048_d1 h_S_) main_v1368 main_c_89
  let main_v1370 : IVec S2048x1x1x1 32 := broadcastInDim S2048x1x1x1 ![0] bcast_S2048_S2048x1x1x1_0 main_v1369
  let main_v1371 : FVec F S2048x1x4x2 .f32 := fn_take_along_axis (F := F) main_v1358 main_v1370
  fn_part61 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1271 main_v1371

def fn_part59 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) (main_v1271 : IVec S2048 1) (main_v1327 : FVec F S2048x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1328 : FVec F S2048x1x4x2 .f32 := broadcastInDim S2048x1x4x2 ![0, 2, 3] bcast_S2048x4x2_S2048x1x4x2_0_2_3 main_v1327
  let main_v1329 : FVec F S1x8192x2 .f32 := shapeCast S1x8192x2 main_arg4 shapeCasts_S2048x4x2_S1x8192x2
  let main_v1330 : FVec F S2048x8192x2 .f32 := broadcastInDim S2048x8192x2 ![0, 1, 2] bcast_S1x8192x2_S2048x8192x2_0_1_2 main_v1329
  let main_v1331 : FVec F S2048 .f32 := Host.cos main_v1164
  let main_v1332 : FVec F S2048x1 .f32 := broadcastInDim S2048x1 ![0] bcast_S2048_S2048x1_0 main_v1331
  let main_v1333 : FVec F S2048 .f32 := Host.sin main_v1164
  let main_v1334 : FVec F S2048x1 .f32 := broadcastInDim S2048x1 ![0] bcast_S2048_S2048x1_0 main_v1333
  let main_v1335 : FVec F S2048x8192x1 .f32 := (extractStridedSlice S2048x8192x1 ![0, 0, 0] · slices_S2048x8192x2_S2048x8192x1_0_0_0) main_v1330
  let main_v1336 : FVec F S2048x8192 .f32 := shapeCast S2048x8192 main_v1335 shapeCasts_S2048x8192x1_S2048x8192
  let main_v1337 : FVec F S2048x8192x1 .f32 := (extractStridedSlice S2048x8192x1 ![0, 0, 1] · slices_S2048x8192x2_S2048x8192x1_0_0_1) main_v1330
  let main_v1338 : FVec F S2048x8192 .f32 := shapeCast S2048x8192 main_v1337 shapeCasts_S2048x8192x1_S2048x8192
  let main_v1339 : FVec F S2048x8192 .f32 := broadcastInDim S2048x8192 ![0, 1] bcast_S2048x1_S2048x8192_0_1 main_v1332
  let main_v1340 : FVec F S2048x8192 .f32 := mulf main_v1336 main_v1339
  let main_v1341 : FVec F S2048x8192 .f32 := broadcastInDim S2048x8192 ![0, 1] bcast_S2048x1_S2048x8192_0_1 main_v1334
  let main_v1342 : FVec F S2048x8192 .f32 := mulf main_v1338 main_v1341
  let main_v1343 : FVec F S2048x8192 .f32 := subf main_v1340 main_v1342
  let main_v1344 : FVec F S2048x1 .f32 := (extractStridedSlice S2048x1 ![0, 0] · slices_S2048x2_S2048x1_0_0) main_v1169
  let main_v1345 : FVec F S2048x8192 .f32 := broadcastInDim S2048x8192 ![0, 1] bcast_S2048x1_S2048x8192_0_1 main_v1344
  let main_v1346 : FVec F S2048x8192 .f32 := addf main_v1343 main_v1345
  let main_v1347 : FVec F S2048x8192 .f32 := broadcastInDim S2048x8192 ![0, 1] bcast_S2048x1_S2048x8192_0_1 main_v1334
  let main_v1348 : FVec F S2048x8192 .f32 := mulf main_v1336 main_v1347
  let main_v1349 : FVec F S2048x8192 .f32 := broadcastInDim S2048x8192 ![0, 1] bcast_S2048x1_S2048x8192_0_1 main_v1332
  let main_v1350 : FVec F S2048x8192 .f32 := mulf main_v1338 main_v1349
  let main_v1351 : FVec F S2048x8192 .f32 := addf main_v1348 main_v1350
  fn_part60 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1169 main_v1271 main_v1328 main_v1346 main_v1351

def fn_part58 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) (main_v1271 : IVec S2048 1) (main_v1300 : FVec F S2048x4x2 .f32) (main_v1302 : FVec F S2048x1 .f32) (main_v1303 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1304 : FVec F S2048x1 .f32 := broadcastInDim S2048x1 ![0] bcast_S2048_S2048x1_0 main_v1303
  let main_v1305 : FVec F S2048x4x1 .f32 := (extractStridedSlice S2048x4x1 ![0, 0, 0] · slices_S2048x4x2_S2048x4x1_0_0_0) main_v1300
  let main_v1306 : FVec F S2048x4 .f32 := shapeCast S2048x4 main_v1305 shapeCasts_S2048x4x1_S2048x4
  let main_v1307 : FVec F S2048x4x1 .f32 := (extractStridedSlice S2048x4x1 ![0, 0, 1] · slices_S2048x4x2_S2048x4x1_0_0_1) main_v1300
  let main_v1308 : FVec F S2048x4 .f32 := shapeCast S2048x4 main_v1307 shapeCasts_S2048x4x1_S2048x4
  let main_v1309 : FVec F S2048x4 .f32 := broadcastInDim S2048x4 ![0, 1] bcast_S2048x1_S2048x4_0_1 main_v1302
  let main_v1310 : FVec F S2048x4 .f32 := mulf main_v1306 main_v1309
  let main_v1311 : FVec F S2048x4 .f32 := broadcastInDim S2048x4 ![0, 1] bcast_S2048x1_S2048x4_0_1 main_v1304
  let main_v1312 : FVec F S2048x4 .f32 := mulf main_v1308 main_v1311
  let main_v1313 : FVec F S2048x4 .f32 := subf main_v1310 main_v1312
  let main_v1314 : FVec F S2048x1 .f32 := (extractStridedSlice S2048x1 ![0, 0] · slices_S2048x2_S2048x1_0_0) main_v23
  let main_v1315 : FVec F S2048x4 .f32 := broadcastInDim S2048x4 ![0, 1] bcast_S2048x1_S2048x4_0_1 main_v1314
  let main_v1316 : FVec F S2048x4 .f32 := addf main_v1313 main_v1315
  let main_v1317 : FVec F S2048x4 .f32 := broadcastInDim S2048x4 ![0, 1] bcast_S2048x1_S2048x4_0_1 main_v1304
  let main_v1318 : FVec F S2048x4 .f32 := mulf main_v1306 main_v1317
  let main_v1319 : FVec F S2048x4 .f32 := broadcastInDim S2048x4 ![0, 1] bcast_S2048x1_S2048x4_0_1 main_v1302
  let main_v1320 : FVec F S2048x4 .f32 := mulf main_v1308 main_v1319
  let main_v1321 : FVec F S2048x4 .f32 := addf main_v1318 main_v1320
  let main_v1322 : FVec F S2048x1 .f32 := (extractStridedSlice S2048x1 ![0, 1] · slices_S2048x2_S2048x1_0_1) main_v23
  let main_v1323 : FVec F S2048x4 .f32 := broadcastInDim S2048x4 ![0, 1] bcast_S2048x1_S2048x4_0_1 main_v1322
  let main_v1324 : FVec F S2048x4 .f32 := addf main_v1321 main_v1323
  let main_v1325 : FVec F S2048x4x1 .f32 := broadcastInDim S2048x4x1 ![0, 1] bcast_S2048x4_S2048x4x1_0_1 main_v1316
  let main_v1326 : FVec F S2048x4x1 .f32 := broadcastInDim S2048x4x1 ![0, 1] bcast_S2048x4_S2048x4x1_0_1 main_v1324
  let main_v1327 : FVec F S2048x4x2 .f32 := (fun a b => concatenate S2048x4x2 2 [⟨S2048x4x1, a⟩, ⟨S2048x4x1, b⟩] concatenates_S2048x4x1_S2048x4x1_S2048x4x2_d2) main_v1325 main_v1326
  fn_part59 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1164 main_v1169 main_v1271 main_v1327

def fn_part57 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) (main_v1271 : IVec S2048 1) (main_v1275 : FVec F S2048 .f32) (main_v1279 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1280 : FVec F S2048x1 .f32 := broadcastInDim S2048x1 ![0] bcast_S2048_S2048x1_0 main_v1275
  let main_v1281 : FVec F S2048x1 .f32 := broadcastInDim S2048x1 ![0] bcast_S2048_S2048x1_0 main_v1279
  let main_v1282 : FVec F S2048x2 .f32 := (fun a b => concatenate S2048x2 1 [⟨S2048x1, a⟩, ⟨S2048x1, b⟩] concatenates_S2048x1_S2048x1_S2048x2_d1) main_v1280 main_v1281
  let main_v1283 : FVec F S2048 .f32 := Host.negf main_v1279
  let main_v1284 : FVec F S2048x1 .f32 := broadcastInDim S2048x1 ![0] bcast_S2048_S2048x1_0 main_v1275
  let main_v1285 : FVec F S2048x1 .f32 := broadcastInDim S2048x1 ![0] bcast_S2048_S2048x1_0 main_v1283
  let main_v1286 : FVec F S2048x2 .f32 := (fun a b => concatenate S2048x2 1 [⟨S2048x1, a⟩, ⟨S2048x1, b⟩] concatenates_S2048x1_S2048x1_S2048x2_d1) main_v1284 main_v1285
  let main_v1287 : FVec F S2048 .f32 := Host.negf main_v1275
  let main_v1288 : FVec F S2048 .f32 := Host.negf main_v1279
  let main_v1289 : FVec F S2048x1 .f32 := broadcastInDim S2048x1 ![0] bcast_S2048_S2048x1_0 main_v1287
  let main_v1290 : FVec F S2048x1 .f32 := broadcastInDim S2048x1 ![0] bcast_S2048_S2048x1_0 main_v1288
  let main_v1291 : FVec F S2048x2 .f32 := (fun a b => concatenate S2048x2 1 [⟨S2048x1, a⟩, ⟨S2048x1, b⟩] concatenates_S2048x1_S2048x1_S2048x2_d1) main_v1289 main_v1290
  let main_v1292 : FVec F S2048 .f32 := Host.negf main_v1275
  let main_v1293 : FVec F S2048x1 .f32 := broadcastInDim S2048x1 ![0] bcast_S2048_S2048x1_0 main_v1292
  let main_v1294 : FVec F S2048x1 .f32 := broadcastInDim S2048x1 ![0] bcast_S2048_S2048x1_0 main_v1279
  let main_v1295 : FVec F S2048x2 .f32 := (fun a b => concatenate S2048x2 1 [⟨S2048x1, a⟩, ⟨S2048x1, b⟩] concatenates_S2048x1_S2048x1_S2048x2_d1) main_v1293 main_v1294
  let main_v1296 : FVec F S2048x1x2 .f32 := broadcastInDim S2048x1x2 ![0, 2] bcast_S2048x2_S2048x1x2_0_2 main_v1282
  let main_v1297 : FVec F S2048x1x2 .f32 := broadcastInDim S2048x1x2 ![0, 2] bcast_S2048x2_S2048x1x2_0_2 main_v1286
  let main_v1298 : FVec F S2048x1x2 .f32 := broadcastInDim S2048x1x2 ![0, 2] bcast_S2048x2_S2048x1x2_0_2 main_v1291
  let main_v1299 : FVec F S2048x1x2 .f32 := broadcastInDim S2048x1x2 ![0, 2] bcast_S2048x2_S2048x1x2_0_2 main_v1295
  let main_v1300 : FVec F S2048x4x2 .f32 := concatenate S2048x4x2 1 [⟨S2048x1x2, main_v1296⟩, ⟨S2048x1x2, main_v1297⟩, ⟨S2048x1x2, main_v1298⟩, ⟨S2048x1x2, main_v1299⟩] concatenates_S2048x1x2_S2048x1x2_S2048x1x2_S2048x1x2_S2048x4x2_d1
  let main_v1301 : FVec F S2048 .f32 := Host.cos main_v45
  let main_v1302 : FVec F S2048x1 .f32 := broadcastInDim S2048x1 ![0] bcast_S2048_S2048x1_0 main_v1301
  let main_v1303 : FVec F S2048 .f32 := Host.sin main_v45
  fn_part58 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1164 main_v1169 main_v1271 main_v1300 main_v1302 main_v1303

def fn_part56 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) (main_v1261 : FVec F S2048x2048x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1262 : FVec F S2048x2048x4 .f32 := fn_norm (F := F) main_v1261
  let main_cst_80 : FVec F S_ .f32 := constant S_ .f32 0x00000000#32
  let main_v1263 : FVec F S2048x2048 .f32 := (fun x v => Host.reduceAdd x v reducesTo_S2048x2048x4_S2048x2048_d2 h_S_) main_v1262 main_cst_80
  let main_cst_81 : FVec F S_ .f32 := constant S_ .f32 0x7F800000#32
  let main_v1264 : FVec F S2048 .f32 := (fun x v => Host.reduce FloatOps.minimumf x v reducesTo_S2048x2048_S2048_d1 h_S_) main_v1263 main_cst_81
  let main_v1265 : FVec F S2048x1 .f32 := broadcastInDim S2048x1 ![0] bcast_S2048_S2048x1_0 main_v1264
  let main_v1266 : FVec F S2048x2048 .f32 := broadcastInDim S2048x2048 ![0, 1] bcast_S2048x1_S2048x2048_0_1 main_v1265
  let main_v1267 : IVec S2048x2048 1 := cmpf .oeq main_v1263 main_v1266
  let main_v1268 : IVec S2048x2048 32 := (extui 32 · natLt_1_32) main_v1267
  let main_c_82 : IVec S_ 32 := constantI S_ 32 0#32
  let main_v1269 : IVec S2048 32 := (fun x v => Host.reduce IntOp.addi x v reducesTo_S2048x2048_S2048_d1 h_S_) main_v1268 main_c_82
  let main_c_83 : IVec S_ 32 := constantI S_ 32 1#32
  let main_v1270 : IVec S2048 32 := broadcastInDim S2048 ![] bcast_S_S2048 main_c_83
  let main_v1271 : IVec S2048 1 := cmpi .eq main_v1269 main_v1270
  let main_v1272 : FVec F S2048x1 .f32 := (extractStridedSlice S2048x1 ![0, 0] · slices_S2048x2_S2048x1_0_0) main_arg3
  let main_v1273 : FVec F S2048 .f32 := shapeCast S2048 main_v1272 shapeCasts_S2048x1_S2048
  let main_cst_84 : FVec F S_ .f32 := constant S_ .f32 0x40000000#32
  let main_v1274 : FVec F S2048 .f32 := broadcastInDim S2048 ![] bcast_S_S2048 main_cst_84
  let main_v1275 : FVec F S2048 .f32 := Host.divf main_v1273 main_v1274
  let main_v1276 : FVec F S2048x1 .f32 := (extractStridedSlice S2048x1 ![0, 1] · slices_S2048x2_S2048x1_0_1) main_arg3
  let main_v1277 : FVec F S2048 .f32 := shapeCast S2048 main_v1276 shapeCasts_S2048x1_S2048
  let main_cst_85 : FVec F S_ .f32 := constant S_ .f32 0x40000000#32
  let main_v1278 : FVec F S2048 .f32 := broadcastInDim S2048 ![] bcast_S_S2048 main_cst_85
  let main_v1279 : FVec F S2048 .f32 := Host.divf main_v1277 main_v1278
  fn_part57 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1164 main_v1169 main_v1271 main_v1275 main_v1279

def fn_part55 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) (main_v1229 : FVec F S2048x1x4x2 .f32) (main_v1231 : FVec F S2048x8192x2 .f32) (main_v1233 : FVec F S2048x1 .f32) (main_v1235 : FVec F S2048x1 .f32) (main_v1237 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1238 : FVec F S2048x8192x1 .f32 := (extractStridedSlice S2048x8192x1 ![0, 0, 1] · slices_S2048x8192x2_S2048x8192x1_0_0_1) main_v1231
  let main_v1239 : FVec F S2048x8192 .f32 := shapeCast S2048x8192 main_v1238 shapeCasts_S2048x8192x1_S2048x8192
  let main_v1240 : FVec F S2048x8192 .f32 := broadcastInDim S2048x8192 ![0, 1] bcast_S2048x1_S2048x8192_0_1 main_v1233
  let main_v1241 : FVec F S2048x8192 .f32 := mulf main_v1237 main_v1240
  let main_v1242 : FVec F S2048x8192 .f32 := broadcastInDim S2048x8192 ![0, 1] bcast_S2048x1_S2048x8192_0_1 main_v1235
  let main_v1243 : FVec F S2048x8192 .f32 := mulf main_v1239 main_v1242
  let main_v1244 : FVec F S2048x8192 .f32 := subf main_v1241 main_v1243
  let main_v1245 : FVec F S2048x1 .f32 := (extractStridedSlice S2048x1 ![0, 0] · slices_S2048x2_S2048x1_0_0) main_v1169
  let main_v1246 : FVec F S2048x8192 .f32 := broadcastInDim S2048x8192 ![0, 1] bcast_S2048x1_S2048x8192_0_1 main_v1245
  let main_v1247 : FVec F S2048x8192 .f32 := addf main_v1244 main_v1246
  let main_v1248 : FVec F S2048x8192 .f32 := broadcastInDim S2048x8192 ![0, 1] bcast_S2048x1_S2048x8192_0_1 main_v1235
  let main_v1249 : FVec F S2048x8192 .f32 := mulf main_v1237 main_v1248
  let main_v1250 : FVec F S2048x8192 .f32 := broadcastInDim S2048x8192 ![0, 1] bcast_S2048x1_S2048x8192_0_1 main_v1233
  let main_v1251 : FVec F S2048x8192 .f32 := mulf main_v1239 main_v1250
  let main_v1252 : FVec F S2048x8192 .f32 := addf main_v1249 main_v1251
  let main_v1253 : FVec F S2048x1 .f32 := (extractStridedSlice S2048x1 ![0, 1] · slices_S2048x2_S2048x1_0_1) main_v1169
  let main_v1254 : FVec F S2048x8192 .f32 := broadcastInDim S2048x8192 ![0, 1] bcast_S2048x1_S2048x8192_0_1 main_v1253
  let main_v1255 : FVec F S2048x8192 .f32 := addf main_v1252 main_v1254
  let main_v1256 : FVec F S2048x8192x1 .f32 := broadcastInDim S2048x8192x1 ![0, 1] bcast_S2048x8192_S2048x8192x1_0_1 main_v1247
  let main_v1257 : FVec F S2048x8192x1 .f32 := broadcastInDim S2048x8192x1 ![0, 1] bcast_S2048x8192_S2048x8192x1_0_1 main_v1255
  let main_v1258 : FVec F S2048x8192x2 .f32 := (fun a b => concatenate S2048x8192x2 2 [⟨S2048x8192x1, a⟩, ⟨S2048x8192x1, b⟩] concatenates_S2048x8192x1_S2048x8192x1_S2048x8192x2_d2) main_v1256 main_v1257
  let main_v1259 : FVec F S2048x2048x4x2 .f32 := shapeCast S2048x2048x4x2 main_v1258 shapeCasts_S2048x8192x2_S2048x2048x4x2
  let main_v1260 : FVec F S2048x2048x4x2 .f32 := broadcastInDim S2048x2048x4x2 ![0, 1, 2, 3] bcast_S2048x1x4x2_S2048x2048x4x2_0_1_2_3 main_v1229
  let main_v1261 : FVec F S2048x2048x4x2 .f32 := subf main_v1259 main_v1260
  fn_part56 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1164 main_v1169 main_v1261

def fn_part54 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) (main_v1203 : FVec F S2048x1 .f32) (main_v1205 : FVec F S2048x1 .f32) (main_v1207 : FVec F S2048x4 .f32) (main_v1209 : FVec F S2048x4 .f32) (main_v1211 : FVec F S2048x4 .f32) (main_v1213 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1214 : FVec F S2048x4 .f32 := subf main_v1211 main_v1213
  let main_v1215 : FVec F S2048x1 .f32 := (extractStridedSlice S2048x1 ![0, 0] · slices_S2048x2_S2048x1_0_0) main_v23
  let main_v1216 : FVec F S2048x4 .f32 := broadcastInDim S2048x4 ![0, 1] bcast_S2048x1_S2048x4_0_1 main_v1215
  let main_v1217 : FVec F S2048x4 .f32 := addf main_v1214 main_v1216
  let main_v1218 : FVec F S2048x4 .f32 := broadcastInDim S2048x4 ![0, 1] bcast_S2048x1_S2048x4_0_1 main_v1205
  let main_v1219 : FVec F S2048x4 .f32 := mulf main_v1207 main_v1218
  let main_v1220 : FVec F S2048x4 .f32 := broadcastInDim S2048x4 ![0, 1] bcast_S2048x1_S2048x4_0_1 main_v1203
  let main_v1221 : FVec F S2048x4 .f32 := mulf main_v1209 main_v1220
  let main_v1222 : FVec F S2048x4 .f32 := addf main_v1219 main_v1221
  let main_v1223 : FVec F S2048x1 .f32 := (extractStridedSlice S2048x1 ![0, 1] · slices_S2048x2_S2048x1_0_1) main_v23
  let main_v1224 : FVec F S2048x4 .f32 := broadcastInDim S2048x4 ![0, 1] bcast_S2048x1_S2048x4_0_1 main_v1223
  let main_v1225 : FVec F S2048x4 .f32 := addf main_v1222 main_v1224
  let main_v1226 : FVec F S2048x4x1 .f32 := broadcastInDim S2048x4x1 ![0, 1] bcast_S2048x4_S2048x4x1_0_1 main_v1217
  let main_v1227 : FVec F S2048x4x1 .f32 := broadcastInDim S2048x4x1 ![0, 1] bcast_S2048x4_S2048x4x1_0_1 main_v1225
  let main_v1228 : FVec F S2048x4x2 .f32 := (fun a b => concatenate S2048x4x2 2 [⟨S2048x4x1, a⟩, ⟨S2048x4x1, b⟩] concatenates_S2048x4x1_S2048x4x1_S2048x4x2_d2) main_v1226 main_v1227
  let main_v1229 : FVec F S2048x1x4x2 .f32 := broadcastInDim S2048x1x4x2 ![0, 2, 3] bcast_S2048x4x2_S2048x1x4x2_0_2_3 main_v1228
  let main_v1230 : FVec F S1x8192x2 .f32 := shapeCast S1x8192x2 main_arg4 shapeCasts_S2048x4x2_S1x8192x2
  let main_v1231 : FVec F S2048x8192x2 .f32 := broadcastInDim S2048x8192x2 ![0, 1, 2] bcast_S1x8192x2_S2048x8192x2_0_1_2 main_v1230
  let main_v1232 : FVec F S2048 .f32 := Host.cos main_v1164
  let main_v1233 : FVec F S2048x1 .f32 := broadcastInDim S2048x1 ![0] bcast_S2048_S2048x1_0 main_v1232
  let main_v1234 : FVec F S2048 .f32 := Host.sin main_v1164
  let main_v1235 : FVec F S2048x1 .f32 := broadcastInDim S2048x1 ![0] bcast_S2048_S2048x1_0 main_v1234
  let main_v1236 : FVec F S2048x8192x1 .f32 := (extractStridedSlice S2048x8192x1 ![0, 0, 0] · slices_S2048x8192x2_S2048x8192x1_0_0_0) main_v1231
  let main_v1237 : FVec F S2048x8192 .f32 := shapeCast S2048x8192 main_v1236 shapeCasts_S2048x8192x1_S2048x8192
  fn_part55 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1164 main_v1169 main_v1229 main_v1231 main_v1233 main_v1235 main_v1237

def fn_part53 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) (main_v1176 : FVec F S2048 .f32) (main_v1180 : FVec F S2048 .f32) (main_v1183 : FVec F S2048x2 .f32) (main_v1187 : FVec F S2048x2 .f32) (main_v1188 : FVec F S2048 .f32) (main_v1189 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1190 : FVec F S2048x1 .f32 := broadcastInDim S2048x1 ![0] bcast_S2048_S2048x1_0 main_v1188
  let main_v1191 : FVec F S2048x1 .f32 := broadcastInDim S2048x1 ![0] bcast_S2048_S2048x1_0 main_v1189
  let main_v1192 : FVec F S2048x2 .f32 := (fun a b => concatenate S2048x2 1 [⟨S2048x1, a⟩, ⟨S2048x1, b⟩] concatenates_S2048x1_S2048x1_S2048x2_d1) main_v1190 main_v1191
  let main_v1193 : FVec F S2048 .f32 := Host.negf main_v1176
  let main_v1194 : FVec F S2048x1 .f32 := broadcastInDim S2048x1 ![0] bcast_S2048_S2048x1_0 main_v1193
  let main_v1195 : FVec F S2048x1 .f32 := broadcastInDim S2048x1 ![0] bcast_S2048_S2048x1_0 main_v1180
  let main_v1196 : FVec F S2048x2 .f32 := (fun a b => concatenate S2048x2 1 [⟨S2048x1, a⟩, ⟨S2048x1, b⟩] concatenates_S2048x1_S2048x1_S2048x2_d1) main_v1194 main_v1195
  let main_v1197 : FVec F S2048x1x2 .f32 := broadcastInDim S2048x1x2 ![0, 2] bcast_S2048x2_S2048x1x2_0_2 main_v1183
  let main_v1198 : FVec F S2048x1x2 .f32 := broadcastInDim S2048x1x2 ![0, 2] bcast_S2048x2_S2048x1x2_0_2 main_v1187
  let main_v1199 : FVec F S2048x1x2 .f32 := broadcastInDim S2048x1x2 ![0, 2] bcast_S2048x2_S2048x1x2_0_2 main_v1192
  let main_v1200 : FVec F S2048x1x2 .f32 := broadcastInDim S2048x1x2 ![0, 2] bcast_S2048x2_S2048x1x2_0_2 main_v1196
  let main_v1201 : FVec F S2048x4x2 .f32 := concatenate S2048x4x2 1 [⟨S2048x1x2, main_v1197⟩, ⟨S2048x1x2, main_v1198⟩, ⟨S2048x1x2, main_v1199⟩, ⟨S2048x1x2, main_v1200⟩] concatenates_S2048x1x2_S2048x1x2_S2048x1x2_S2048x1x2_S2048x4x2_d1
  let main_v1202 : FVec F S2048 .f32 := Host.cos main_v45
  let main_v1203 : FVec F S2048x1 .f32 := broadcastInDim S2048x1 ![0] bcast_S2048_S2048x1_0 main_v1202
  let main_v1204 : FVec F S2048 .f32 := Host.sin main_v45
  let main_v1205 : FVec F S2048x1 .f32 := broadcastInDim S2048x1 ![0] bcast_S2048_S2048x1_0 main_v1204
  let main_v1206 : FVec F S2048x4x1 .f32 := (extractStridedSlice S2048x4x1 ![0, 0, 0] · slices_S2048x4x2_S2048x4x1_0_0_0) main_v1201
  let main_v1207 : FVec F S2048x4 .f32 := shapeCast S2048x4 main_v1206 shapeCasts_S2048x4x1_S2048x4
  let main_v1208 : FVec F S2048x4x1 .f32 := (extractStridedSlice S2048x4x1 ![0, 0, 1] · slices_S2048x4x2_S2048x4x1_0_0_1) main_v1201
  let main_v1209 : FVec F S2048x4 .f32 := shapeCast S2048x4 main_v1208 shapeCasts_S2048x4x1_S2048x4
  let main_v1210 : FVec F S2048x4 .f32 := broadcastInDim S2048x4 ![0, 1] bcast_S2048x1_S2048x4_0_1 main_v1203
  let main_v1211 : FVec F S2048x4 .f32 := mulf main_v1207 main_v1210
  let main_v1212 : FVec F S2048x4 .f32 := broadcastInDim S2048x4 ![0, 1] bcast_S2048x1_S2048x4_0_1 main_v1205
  let main_v1213 : FVec F S2048x4 .f32 := mulf main_v1209 main_v1212
  fn_part54 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1164 main_v1169 main_v1203 main_v1205 main_v1207 main_v1209 main_v1211 main_v1213

def fn_part52 {F : FTy → Type} [FloatOps F] (main_arg0 : FVec F S2048x89x2 .f32) (main_arg1 : FVec F S2048x89 .f32) (main_arg3 : FVec F S2048x2 .f32) (main_arg4 : FVec F S2048x4x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1164 : FVec F S2048 .f32) (main_v1169 : FVec F S2048x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1170 : IVec S2048x1 1 := broadcastInDim S2048x1 ![0] bcast_S2048_S2048x1_0 main_v65
  let main_cst_76 : FVec F S_ .f32 := constant S_ .f32 0x00000000#32
  let main_v1171 : FVec F S2048x2 .f32 := fn_where_2 (F := F) main_v1170 main_v1169 main_cst_76
  let main_cst_77 : FVec F S_ .f32 := constant S_ .f32 0x00000000#32
  let main_v1172 : FVec F S2048 .f32 := fn_where_3 (F := F) main_v65 main_v1164 main_cst_77
  let main_v1173 : FVec F S2048x1 .f32 := (extractStridedSlice S2048x1 ![0, 0] · slices_S2048x2_S2048x1_0_0) main_arg3
  let main_v1174 : FVec F S2048 .f32 := shapeCast S2048 main_v1173 shapeCasts_S2048x1_S2048
  let main_cst_78 : FVec F S_ .f32 := constant S_ .f32 0x40000000#32
  let main_v1175 : FVec F S2048 .f32 := broadcastInDim S2048 ![] bcast_S_S2048 main_cst_78
  let main_v1176 : FVec F S2048 .f32 := Host.divf main_v1174 main_v1175
  let main_v1177 : FVec F S2048x1 .f32 := (extractStridedSlice S2048x1 ![0, 1] · slices_S2048x2_S2048x1_0_1) main_arg3
  let main_v1178 : FVec F S2048 .f32 := shapeCast S2048 main_v1177 shapeCasts_S2048x1_S2048
  let main_cst_79 : FVec F S_ .f32 := constant S_ .f32 0x40000000#32
  let main_v1179 : FVec F S2048 .f32 := broadcastInDim S2048 ![] bcast_S_S2048 main_cst_79
  let main_v1180 : FVec F S2048 .f32 := Host.divf main_v1178 main_v1179
  let main_v1181 : FVec F S2048x1 .f32 := broadcastInDim S2048x1 ![0] bcast_S2048_S2048x1_0 main_v1176
  let main_v1182 : FVec F S2048x1 .f32 := broadcastInDim S2048x1 ![0] bcast_S2048_S2048x1_0 main_v1180
  let main_v1183 : FVec F S2048x2 .f32 := (fun a b => concatenate S2048x2 1 [⟨S2048x1, a⟩, ⟨S2048x1, b⟩] concatenates_S2048x1_S2048x1_S2048x2_d1) main_v1181 main_v1182
  let main_v1184 : FVec F S2048 .f32 := Host.negf main_v1180
  let main_v1185 : FVec F S2048x1 .f32 := broadcastInDim S2048x1 ![0] bcast_S2048_S2048x1_0 main_v1176
  let main_v1186 : FVec F S2048x1 .f32 := broadcastInDim S2048x1 ![0] bcast_S2048_S2048x1_0 main_v1184
  let main_v1187 : FVec F S2048x2 .f32 := (fun a b => concatenate S2048x2 1 [⟨S2048x1, a⟩, ⟨S2048x1, b⟩] concatenates_S2048x1_S2048x1_S2048x2_d1) main_v1185 main_v1186
  let main_v1188 : FVec F S2048 .f32 := Host.negf main_v1176
  let main_v1189 : FVec F S2048 .f32 := Host.negf main_v1180
  fn_part53 (F := F) main_arg0 main_arg1 main_arg3 main_arg4 main_v23 main_v25 main_v27 main_v29 main_v31 main_v33 main_v45 main_v47 main_v49 main_v51 main_v53 main_v55 main_v67 main_v69 main_v71 main_v73 main_v75 main_v77 main_v176 main_v395 main_v614 main_v833 main_v1052 main_v1164 main_v1169 main_v1176 main_v1180 main_v1183 main_v1187 main_v1188 main_v1189

def fn_part51 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v1052 : IVec S2048 1) (main_v1139 : FVec F S2048x2048x4x2 .f32) (main_v1144 : IVec S2048x2048 32) (main_v1148 : IVec S2048x2048 1) (main_c_72 : IVec S_ 32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1149 : IVec S2048x2048 32 := fn_where (F := F) main_v1148 main_v1144 main_c_72
  let main_c_73 : IVec S_ 32 := constantI S_ 32 2147483647#32
  let main_v1150 : IVec S2048 32 := (fun x v => Host.reduce IntOp.minsi x v reducesTo_S2048x2048_S2048_d1 h_S_) main_v1149 main_c_73
  let main_v1151 : IVec S2048x1x1x1 32 := broadcastInDim S2048x1x1x1 ![0] bcast_S2048_S2048x1x1x1_0 main_v1150
  let main_v1152 : FVec F S2048x1x4x2 .f32 := fn_take_along_axis (F := F) main_v1139 main_v1151
  let main_v1153 : FVec F S2048x4x2 .f32 := shapeCast S2048x4x2 main_v1152 shapeCasts_S2048x1x4x2_S2048x4x2
  let main_v1154 : FVec F S2048x1x2 .f32 := (extractStridedSlice S2048x1x2 ![0, 0, 0] · slices_S2048x4x2_S2048x1x2_0_0_0) main_v1153
  let main_v1155 : FVec F S2048x2 .f32 := shapeCast S2048x2 main_v1154 shapeCasts_S2048x1x2_S2048x2
  let main_v1156 : FVec F S2048x1x2 .f32 := (extractStridedSlice S2048x1x2 ![0, 3, 0] · slices_S2048x4x2_S2048x1x2_0_3_0) main_v1153
  let main_v1157 : FVec F S2048x2 .f32 := shapeCast S2048x2 main_v1156 shapeCasts_S2048x1x2_S2048x2
  let main_v1158 : FVec F S2048x2 .f32 := subf main_v1155 main_v1157
  let main_v1159 : FVec F S2048x1 .f32 := (extractStridedSlice S2048x1 ![0, 1] · slices_S2048x2_S2048x1_0_1) main_v1158
  let main_v1160 : FVec F S2048 .f32 := shapeCast S2048 main_v1159 shapeCasts_S2048x1_S2048
  let main_v1161 : FVec F S2048x1 .f32 := (extractStridedSlice S2048x1 ![0, 0] · slices_S2048x2_S2048x1_0_0) main_v1158
  let main_v1162 : FVec F S2048 .f32 := shapeCast S2048 main_v1161 shapeCasts_S2048x1_S2048
  let main_v1163 : FVec F S2048 .f32 := Host.atan2 main_v1160 main_v1162
  let main_v1164 : FVec F S2048 .f32 := fn_where_0 (F := F) main_v65 main_v1163 main_v43
  let main_v1165 : IVec S2048x1 1 := broadcastInDim S2048x1 ![0] bcast_S2048_S2048x1_0 main_v65
  let main_cst_74 : FVec F S_ .f32 := constant S_ .f32 0x00000000#32
  let main_v1166 : FVec F S2048x2 .f32 := (fun x v => Host.reduceAdd x v reducesTo_S2048x4x2_S2048x2_d1 h_S_) main_v1153 main_cst_74
  let main_cst_75 : FVec F S_ .f32 := constant S_ .f32 0x40800000#32
  let main_v1167 : FVec F S2048x2 .f32 := broadcastInDim S2048x2 ![] bcast_S_S2048x2 main_cst_75
  let main_v1168 : FVec F S2048x2 .f32 := Host.divf main_v1166 main_v1167
  let main_v1169 : FVec F S2048x2 .f32 := fn_where_1 (F := F) main_v1165 main_v1168 main_v21
  fn_part52 (F := F) main_arg0 main_arg1 main_arg3 main_arg4 main_v23 main_v25 main_v27 main_v29 main_v31 main_v33 main_v45 main_v47 main_v49 main_v51 main_v53 main_v55 main_v65 main_v67 main_v69 main_v71 main_v73 main_v75 main_v77 main_v176 main_v395 main_v614 main_v833 main_v1052 main_v1164 main_v1169

def fn_part50 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v950 : FVec F S2048x2 .f32) (main_v1052 : IVec S2048 1) (main_v1109 : FVec F S2048x1x4x2 .f32) (main_v1113 : FVec F S2048x1 .f32) (main_v1115 : FVec F S2048x1 .f32) (main_v1117 : FVec F S2048x8192 .f32) (main_v1119 : FVec F S2048x8192 .f32) (main_v1127 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1128 : FVec F S2048x8192 .f32 := broadcastInDim S2048x8192 ![0, 1] bcast_S2048x1_S2048x8192_0_1 main_v1115
  let main_v1129 : FVec F S2048x8192 .f32 := mulf main_v1117 main_v1128
  let main_v1130 : FVec F S2048x8192 .f32 := broadcastInDim S2048x8192 ![0, 1] bcast_S2048x1_S2048x8192_0_1 main_v1113
  let main_v1131 : FVec F S2048x8192 .f32 := mulf main_v1119 main_v1130
  let main_v1132 : FVec F S2048x8192 .f32 := addf main_v1129 main_v1131
  let main_v1133 : FVec F S2048x1 .f32 := (extractStridedSlice S2048x1 ![0, 1] · slices_S2048x2_S2048x1_0_1) main_v950
  let main_v1134 : FVec F S2048x8192 .f32 := broadcastInDim S2048x8192 ![0, 1] bcast_S2048x1_S2048x8192_0_1 main_v1133
  let main_v1135 : FVec F S2048x8192 .f32 := addf main_v1132 main_v1134
  let main_v1136 : FVec F S2048x8192x1 .f32 := broadcastInDim S2048x8192x1 ![0, 1] bcast_S2048x8192_S2048x8192x1_0_1 main_v1127
  let main_v1137 : FVec F S2048x8192x1 .f32 := broadcastInDim S2048x8192x1 ![0, 1] bcast_S2048x8192_S2048x8192x1_0_1 main_v1135
  let main_v1138 : FVec F S2048x8192x2 .f32 := (fun a b => concatenate S2048x8192x2 2 [⟨S2048x8192x1, a⟩, ⟨S2048x8192x1, b⟩] concatenates_S2048x8192x1_S2048x8192x1_S2048x8192x2_d2) main_v1136 main_v1137
  let main_v1139 : FVec F S2048x2048x4x2 .f32 := shapeCast S2048x2048x4x2 main_v1138 shapeCasts_S2048x8192x2_S2048x2048x4x2
  let main_v1140 : FVec F S2048x2048x4x2 .f32 := broadcastInDim S2048x2048x4x2 ![0, 1, 2, 3] bcast_S2048x1x4x2_S2048x2048x4x2_0_1_2_3 main_v1109
  let main_v1141 : FVec F S2048x2048x4x2 .f32 := subf main_v1139 main_v1140
  let main_v1142 : FVec F S2048x2048x4 .f32 := fn_norm (F := F) main_v1141
  let main_cst_70 : FVec F S_ .f32 := constant S_ .f32 0x00000000#32
  let main_v1143 : FVec F S2048x2048 .f32 := (fun x v => Host.reduceAdd x v reducesTo_S2048x2048x4_S2048x2048_d2 h_S_) main_v1142 main_cst_70
  let main_v1144 : IVec S2048x2048 32 := iotaInDim S2048x2048 32 1
  let main_cst_71 : FVec F S_ .f32 := constant S_ .f32 0x7F800000#32
  let main_v1145 : FVec F S2048 .f32 := (fun x v => Host.reduce FloatOps.minimumf x v reducesTo_S2048x2048_S2048_d1 h_S_) main_v1143 main_cst_71
  let main_v1146 : FVec F S2048x1 .f32 := broadcastInDim S2048x1 ![0] bcast_S2048_S2048x1_0 main_v1145
  let main_v1147 : FVec F S2048x2048 .f32 := broadcastInDim S2048x2048 ![0, 1] bcast_S2048x1_S2048x2048_0_1 main_v1146
  let main_v1148 : IVec S2048x2048 1 := cmpf .oeq main_v1143 main_v1147
  let main_c_72 : IVec S_ 32 := constantI S_ 32 2048#32
  fn_part51 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v1052 main_v1139 main_v1144 main_v1148 main_c_72

def fn_part49 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v945 : FVec F S2048 .f32) (main_v950 : FVec F S2048x2 .f32) (main_v1052 : IVec S2048 1) (main_v1097 : FVec F S2048x4 .f32) (main_v1102 : FVec F S2048x4 .f32) (main_v1103 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1104 : FVec F S2048x4 .f32 := broadcastInDim S2048x4 ![0, 1] bcast_S2048x1_S2048x4_0_1 main_v1103
  let main_v1105 : FVec F S2048x4 .f32 := addf main_v1102 main_v1104
  let main_v1106 : FVec F S2048x4x1 .f32 := broadcastInDim S2048x4x1 ![0, 1] bcast_S2048x4_S2048x4x1_0_1 main_v1097
  let main_v1107 : FVec F S2048x4x1 .f32 := broadcastInDim S2048x4x1 ![0, 1] bcast_S2048x4_S2048x4x1_0_1 main_v1105
  let main_v1108 : FVec F S2048x4x2 .f32 := (fun a b => concatenate S2048x4x2 2 [⟨S2048x4x1, a⟩, ⟨S2048x4x1, b⟩] concatenates_S2048x4x1_S2048x4x1_S2048x4x2_d2) main_v1106 main_v1107
  let main_v1109 : FVec F S2048x1x4x2 .f32 := broadcastInDim S2048x1x4x2 ![0, 2, 3] bcast_S2048x4x2_S2048x1x4x2_0_2_3 main_v1108
  let main_v1110 : FVec F S1x8192x2 .f32 := shapeCast S1x8192x2 main_arg4 shapeCasts_S2048x4x2_S1x8192x2
  let main_v1111 : FVec F S2048x8192x2 .f32 := broadcastInDim S2048x8192x2 ![0, 1, 2] bcast_S1x8192x2_S2048x8192x2_0_1_2 main_v1110
  let main_v1112 : FVec F S2048 .f32 := Host.cos main_v945
  let main_v1113 : FVec F S2048x1 .f32 := broadcastInDim S2048x1 ![0] bcast_S2048_S2048x1_0 main_v1112
  let main_v1114 : FVec F S2048 .f32 := Host.sin main_v945
  let main_v1115 : FVec F S2048x1 .f32 := broadcastInDim S2048x1 ![0] bcast_S2048_S2048x1_0 main_v1114
  let main_v1116 : FVec F S2048x8192x1 .f32 := (extractStridedSlice S2048x8192x1 ![0, 0, 0] · slices_S2048x8192x2_S2048x8192x1_0_0_0) main_v1111
  let main_v1117 : FVec F S2048x8192 .f32 := shapeCast S2048x8192 main_v1116 shapeCasts_S2048x8192x1_S2048x8192
  let main_v1118 : FVec F S2048x8192x1 .f32 := (extractStridedSlice S2048x8192x1 ![0, 0, 1] · slices_S2048x8192x2_S2048x8192x1_0_0_1) main_v1111
  let main_v1119 : FVec F S2048x8192 .f32 := shapeCast S2048x8192 main_v1118 shapeCasts_S2048x8192x1_S2048x8192
  let main_v1120 : FVec F S2048x8192 .f32 := broadcastInDim S2048x8192 ![0, 1] bcast_S2048x1_S2048x8192_0_1 main_v1113
  let main_v1121 : FVec F S2048x8192 .f32 := mulf main_v1117 main_v1120
  let main_v1122 : FVec F S2048x8192 .f32 := broadcastInDim S2048x8192 ![0, 1] bcast_S2048x1_S2048x8192_0_1 main_v1115
  let main_v1123 : FVec F S2048x8192 .f32 := mulf main_v1119 main_v1122
  let main_v1124 : FVec F S2048x8192 .f32 := subf main_v1121 main_v1123
  let main_v1125 : FVec F S2048x1 .f32 := (extractStridedSlice S2048x1 ![0, 0] · slices_S2048x2_S2048x1_0_0) main_v950
  let main_v1126 : FVec F S2048x8192 .f32 := broadcastInDim S2048x8192 ![0, 1] bcast_S2048x1_S2048x8192_0_1 main_v1125
  let main_v1127 : FVec F S2048x8192 .f32 := addf main_v1124 main_v1126
  fn_part50 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v950 main_v1052 main_v1109 main_v1113 main_v1115 main_v1117 main_v1119 main_v1127

def fn_part48 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v945 : FVec F S2048 .f32) (main_v950 : FVec F S2048x2 .f32) (main_v1052 : IVec S2048 1) (main_v1076 : FVec F S2048x2 .f32) (main_v1077 : FVec F S2048x1x2 .f32) (main_v1078 : FVec F S2048x1x2 .f32) (main_v1079 : FVec F S2048x1x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1080 : FVec F S2048x1x2 .f32 := broadcastInDim S2048x1x2 ![0, 2] bcast_S2048x2_S2048x1x2_0_2 main_v1076
  let main_v1081 : FVec F S2048x4x2 .f32 := concatenate S2048x4x2 1 [⟨S2048x1x2, main_v1077⟩, ⟨S2048x1x2, main_v1078⟩, ⟨S2048x1x2, main_v1079⟩, ⟨S2048x1x2, main_v1080⟩] concatenates_S2048x1x2_S2048x1x2_S2048x1x2_S2048x1x2_S2048x4x2_d1
  let main_v1082 : FVec F S2048 .f32 := Host.cos main_v43
  let main_v1083 : FVec F S2048x1 .f32 := broadcastInDim S2048x1 ![0] bcast_S2048_S2048x1_0 main_v1082
  let main_v1084 : FVec F S2048 .f32 := Host.sin main_v43
  let main_v1085 : FVec F S2048x1 .f32 := broadcastInDim S2048x1 ![0] bcast_S2048_S2048x1_0 main_v1084
  let main_v1086 : FVec F S2048x4x1 .f32 := (extractStridedSlice S2048x4x1 ![0, 0, 0] · slices_S2048x4x2_S2048x4x1_0_0_0) main_v1081
  let main_v1087 : FVec F S2048x4 .f32 := shapeCast S2048x4 main_v1086 shapeCasts_S2048x4x1_S2048x4
  let main_v1088 : FVec F S2048x4x1 .f32 := (extractStridedSlice S2048x4x1 ![0, 0, 1] · slices_S2048x4x2_S2048x4x1_0_0_1) main_v1081
  let main_v1089 : FVec F S2048x4 .f32 := shapeCast S2048x4 main_v1088 shapeCasts_S2048x4x1_S2048x4
  let main_v1090 : FVec F S2048x4 .f32 := broadcastInDim S2048x4 ![0, 1] bcast_S2048x1_S2048x4_0_1 main_v1083
  let main_v1091 : FVec F S2048x4 .f32 := mulf main_v1087 main_v1090
  let main_v1092 : FVec F S2048x4 .f32 := broadcastInDim S2048x4 ![0, 1] bcast_S2048x1_S2048x4_0_1 main_v1085
  let main_v1093 : FVec F S2048x4 .f32 := mulf main_v1089 main_v1092
  let main_v1094 : FVec F S2048x4 .f32 := subf main_v1091 main_v1093
  let main_v1095 : FVec F S2048x1 .f32 := (extractStridedSlice S2048x1 ![0, 0] · slices_S2048x2_S2048x1_0_0) main_v21
  let main_v1096 : FVec F S2048x4 .f32 := broadcastInDim S2048x4 ![0, 1] bcast_S2048x1_S2048x4_0_1 main_v1095
  let main_v1097 : FVec F S2048x4 .f32 := addf main_v1094 main_v1096
  let main_v1098 : FVec F S2048x4 .f32 := broadcastInDim S2048x4 ![0, 1] bcast_S2048x1_S2048x4_0_1 main_v1085
  let main_v1099 : FVec F S2048x4 .f32 := mulf main_v1087 main_v1098
  let main_v1100 : FVec F S2048x4 .f32 := broadcastInDim S2048x4 ![0, 1] bcast_S2048x1_S2048x4_0_1 main_v1083
  let main_v1101 : FVec F S2048x4 .f32 := mulf main_v1089 main_v1100
  let main_v1102 : FVec F S2048x4 .f32 := addf main_v1099 main_v1101
  let main_v1103 : FVec F S2048x1 .f32 := (extractStridedSlice S2048x1 ![0, 1] · slices_S2048x2_S2048x1_0_1) main_v21
  fn_part49 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v945 main_v950 main_v1052 main_v1097 main_v1102 main_v1103

def fn_part47 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v945 : FVec F S2048 .f32) (main_v950 : FVec F S2048x2 .f32) (main_v1052 : IVec S2048 1) (main_v1056 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1057 : FVec F S2048x1 .f32 := (extractStridedSlice S2048x1 ![0, 1] · slices_S2048x2_S2048x1_0_1) main_arg3
  let main_v1058 : FVec F S2048 .f32 := shapeCast S2048 main_v1057 shapeCasts_S2048x1_S2048
  let main_cst_69 : FVec F S_ .f32 := constant S_ .f32 0x40000000#32
  let main_v1059 : FVec F S2048 .f32 := broadcastInDim S2048 ![] bcast_S_S2048 main_cst_69
  let main_v1060 : FVec F S2048 .f32 := Host.divf main_v1058 main_v1059
  let main_v1061 : FVec F S2048x1 .f32 := broadcastInDim S2048x1 ![0] bcast_S2048_S2048x1_0 main_v1056
  let main_v1062 : FVec F S2048x1 .f32 := broadcastInDim S2048x1 ![0] bcast_S2048_S2048x1_0 main_v1060
  let main_v1063 : FVec F S2048x2 .f32 := (fun a b => concatenate S2048x2 1 [⟨S2048x1, a⟩, ⟨S2048x1, b⟩] concatenates_S2048x1_S2048x1_S2048x2_d1) main_v1061 main_v1062
  let main_v1064 : FVec F S2048 .f32 := Host.negf main_v1060
  let main_v1065 : FVec F S2048x1 .f32 := broadcastInDim S2048x1 ![0] bcast_S2048_S2048x1_0 main_v1056
  let main_v1066 : FVec F S2048x1 .f32 := broadcastInDim S2048x1 ![0] bcast_S2048_S2048x1_0 main_v1064
  let main_v1067 : FVec F S2048x2 .f32 := (fun a b => concatenate S2048x2 1 [⟨S2048x1, a⟩, ⟨S2048x1, b⟩] concatenates_S2048x1_S2048x1_S2048x2_d1) main_v1065 main_v1066
  let main_v1068 : FVec F S2048 .f32 := Host.negf main_v1056
  let main_v1069 : FVec F S2048 .f32 := Host.negf main_v1060
  let main_v1070 : FVec F S2048x1 .f32 := broadcastInDim S2048x1 ![0] bcast_S2048_S2048x1_0 main_v1068
  let main_v1071 : FVec F S2048x1 .f32 := broadcastInDim S2048x1 ![0] bcast_S2048_S2048x1_0 main_v1069
  let main_v1072 : FVec F S2048x2 .f32 := (fun a b => concatenate S2048x2 1 [⟨S2048x1, a⟩, ⟨S2048x1, b⟩] concatenates_S2048x1_S2048x1_S2048x2_d1) main_v1070 main_v1071
  let main_v1073 : FVec F S2048 .f32 := Host.negf main_v1056
  let main_v1074 : FVec F S2048x1 .f32 := broadcastInDim S2048x1 ![0] bcast_S2048_S2048x1_0 main_v1073
  let main_v1075 : FVec F S2048x1 .f32 := broadcastInDim S2048x1 ![0] bcast_S2048_S2048x1_0 main_v1060
  let main_v1076 : FVec F S2048x2 .f32 := (fun a b => concatenate S2048x2 1 [⟨S2048x1, a⟩, ⟨S2048x1, b⟩] concatenates_S2048x1_S2048x1_S2048x2_d1) main_v1074 main_v1075
  let main_v1077 : FVec F S2048x1x2 .f32 := broadcastInDim S2048x1x2 ![0, 2] bcast_S2048x2_S2048x1x2_0_2 main_v1063
  let main_v1078 : FVec F S2048x1x2 .f32 := broadcastInDim S2048x1x2 ![0, 2] bcast_S2048x2_S2048x1x2_0_2 main_v1067
  let main_v1079 : FVec F S2048x1x2 .f32 := broadcastInDim S2048x1x2 ![0, 2] bcast_S2048x2_S2048x1x2_0_2 main_v1072
  fn_part48 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v945 main_v950 main_v1052 main_v1076 main_v1077 main_v1078 main_v1079

def fn_part46 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v945 : FVec F S2048 .f32) (main_v950 : FVec F S2048x2 .f32) (main_v1010 : FVec F S2048x1x4x2 .f32) (main_v1036 : FVec F S2048x8192 .f32) (main_v1037 : FVec F S2048x8192x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1038 : FVec F S2048x8192x1 .f32 := broadcastInDim S2048x8192x1 ![0, 1] bcast_S2048x8192_S2048x8192x1_0_1 main_v1036
  let main_v1039 : FVec F S2048x8192x2 .f32 := (fun a b => concatenate S2048x8192x2 2 [⟨S2048x8192x1, a⟩, ⟨S2048x8192x1, b⟩] concatenates_S2048x8192x1_S2048x8192x1_S2048x8192x2_d2) main_v1037 main_v1038
  let main_v1040 : FVec F S2048x2048x4x2 .f32 := shapeCast S2048x2048x4x2 main_v1039 shapeCasts_S2048x8192x2_S2048x2048x4x2
  let main_v1041 : FVec F S2048x2048x4x2 .f32 := broadcastInDim S2048x2048x4x2 ![0, 1, 2, 3] bcast_S2048x1x4x2_S2048x2048x4x2_0_1_2_3 main_v1010
  let main_v1042 : FVec F S2048x2048x4x2 .f32 := subf main_v1040 main_v1041
  let main_v1043 : FVec F S2048x2048x4 .f32 := fn_norm (F := F) main_v1042
  let main_cst_64 : FVec F S_ .f32 := constant S_ .f32 0x00000000#32
  let main_v1044 : FVec F S2048x2048 .f32 := (fun x v => Host.reduceAdd x v reducesTo_S2048x2048x4_S2048x2048_d2 h_S_) main_v1043 main_cst_64
  let main_cst_65 : FVec F S_ .f32 := constant S_ .f32 0x7F800000#32
  let main_v1045 : FVec F S2048 .f32 := (fun x v => Host.reduce FloatOps.minimumf x v reducesTo_S2048x2048_S2048_d1 h_S_) main_v1044 main_cst_65
  let main_v1046 : FVec F S2048x1 .f32 := broadcastInDim S2048x1 ![0] bcast_S2048_S2048x1_0 main_v1045
  let main_v1047 : FVec F S2048x2048 .f32 := broadcastInDim S2048x2048 ![0, 1] bcast_S2048x1_S2048x2048_0_1 main_v1046
  let main_v1048 : IVec S2048x2048 1 := cmpf .oeq main_v1044 main_v1047
  let main_v1049 : IVec S2048x2048 32 := (extui 32 · natLt_1_32) main_v1048
  let main_c_66 : IVec S_ 32 := constantI S_ 32 0#32
  let main_v1050 : IVec S2048 32 := (fun x v => Host.reduce IntOp.addi x v reducesTo_S2048x2048_S2048_d1 h_S_) main_v1049 main_c_66
  let main_c_67 : IVec S_ 32 := constantI S_ 32 1#32
  let main_v1051 : IVec S2048 32 := broadcastInDim S2048 ![] bcast_S_S2048 main_c_67
  let main_v1052 : IVec S2048 1 := cmpi .eq main_v1050 main_v1051
  let main_v1053 : FVec F S2048x1 .f32 := (extractStridedSlice S2048x1 ![0, 0] · slices_S2048x2_S2048x1_0_0) main_arg3
  let main_v1054 : FVec F S2048 .f32 := shapeCast S2048 main_v1053 shapeCasts_S2048x1_S2048
  let main_cst_68 : FVec F S_ .f32 := constant S_ .f32 0x40000000#32
  let main_v1055 : FVec F S2048 .f32 := broadcastInDim S2048 ![] bcast_S_S2048 main_cst_68
  let main_v1056 : FVec F S2048 .f32 := Host.divf main_v1054 main_v1055
  fn_part47 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v945 main_v950 main_v1052 main_v1056

def fn_part45 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v945 : FVec F S2048 .f32) (main_v950 : FVec F S2048x2 .f32) (main_v1010 : FVec F S2048x1x4x2 .f32) (main_v1012 : FVec F S2048x8192x2 .f32) (main_v1013 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v1014 : FVec F S2048x1 .f32 := broadcastInDim S2048x1 ![0] bcast_S2048_S2048x1_0 main_v1013
  let main_v1015 : FVec F S2048 .f32 := Host.sin main_v945
  let main_v1016 : FVec F S2048x1 .f32 := broadcastInDim S2048x1 ![0] bcast_S2048_S2048x1_0 main_v1015
  let main_v1017 : FVec F S2048x8192x1 .f32 := (extractStridedSlice S2048x8192x1 ![0, 0, 0] · slices_S2048x8192x2_S2048x8192x1_0_0_0) main_v1012
  let main_v1018 : FVec F S2048x8192 .f32 := shapeCast S2048x8192 main_v1017 shapeCasts_S2048x8192x1_S2048x8192
  let main_v1019 : FVec F S2048x8192x1 .f32 := (extractStridedSlice S2048x8192x1 ![0, 0, 1] · slices_S2048x8192x2_S2048x8192x1_0_0_1) main_v1012
  let main_v1020 : FVec F S2048x8192 .f32 := shapeCast S2048x8192 main_v1019 shapeCasts_S2048x8192x1_S2048x8192
  let main_v1021 : FVec F S2048x8192 .f32 := broadcastInDim S2048x8192 ![0, 1] bcast_S2048x1_S2048x8192_0_1 main_v1014
  let main_v1022 : FVec F S2048x8192 .f32 := mulf main_v1018 main_v1021
  let main_v1023 : FVec F S2048x8192 .f32 := broadcastInDim S2048x8192 ![0, 1] bcast_S2048x1_S2048x8192_0_1 main_v1016
  let main_v1024 : FVec F S2048x8192 .f32 := mulf main_v1020 main_v1023
  let main_v1025 : FVec F S2048x8192 .f32 := subf main_v1022 main_v1024
  let main_v1026 : FVec F S2048x1 .f32 := (extractStridedSlice S2048x1 ![0, 0] · slices_S2048x2_S2048x1_0_0) main_v950
  let main_v1027 : FVec F S2048x8192 .f32 := broadcastInDim S2048x8192 ![0, 1] bcast_S2048x1_S2048x8192_0_1 main_v1026
  let main_v1028 : FVec F S2048x8192 .f32 := addf main_v1025 main_v1027
  let main_v1029 : FVec F S2048x8192 .f32 := broadcastInDim S2048x8192 ![0, 1] bcast_S2048x1_S2048x8192_0_1 main_v1016
  let main_v1030 : FVec F S2048x8192 .f32 := mulf main_v1018 main_v1029
  let main_v1031 : FVec F S2048x8192 .f32 := broadcastInDim S2048x8192 ![0, 1] bcast_S2048x1_S2048x8192_0_1 main_v1014
  let main_v1032 : FVec F S2048x8192 .f32 := mulf main_v1020 main_v1031
  let main_v1033 : FVec F S2048x8192 .f32 := addf main_v1030 main_v1032
  let main_v1034 : FVec F S2048x1 .f32 := (extractStridedSlice S2048x1 ![0, 1] · slices_S2048x2_S2048x1_0_1) main_v950
  let main_v1035 : FVec F S2048x8192 .f32 := broadcastInDim S2048x8192 ![0, 1] bcast_S2048x1_S2048x8192_0_1 main_v1034
  let main_v1036 : FVec F S2048x8192 .f32 := addf main_v1033 main_v1035
  let main_v1037 : FVec F S2048x8192x1 .f32 := broadcastInDim S2048x8192x1 ![0, 1] bcast_S2048x8192_S2048x8192x1_0_1 main_v1028
  fn_part46 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v945 main_v950 main_v1010 main_v1036 main_v1037

def fn_part44 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v945 : FVec F S2048 .f32) (main_v950 : FVec F S2048x2 .f32) (main_v984 : FVec F S2048x1 .f32) (main_v986 : FVec F S2048x1 .f32) (main_v988 : FVec F S2048x4 .f32) (main_v989 : FVec F S2048x4x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v990 : FVec F S2048x4 .f32 := shapeCast S2048x4 main_v989 shapeCasts_S2048x4x1_S2048x4
  let main_v991 : FVec F S2048x4 .f32 := broadcastInDim S2048x4 ![0, 1] bcast_S2048x1_S2048x4_0_1 main_v984
  let main_v992 : FVec F S2048x4 .f32 := mulf main_v988 main_v991
  let main_v993 : FVec F S2048x4 .f32 := broadcastInDim S2048x4 ![0, 1] bcast_S2048x1_S2048x4_0_1 main_v986
  let main_v994 : FVec F S2048x4 .f32 := mulf main_v990 main_v993
  let main_v995 : FVec F S2048x4 .f32 := subf main_v992 main_v994
  let main_v996 : FVec F S2048x1 .f32 := (extractStridedSlice S2048x1 ![0, 0] · slices_S2048x2_S2048x1_0_0) main_v21
  let main_v997 : FVec F S2048x4 .f32 := broadcastInDim S2048x4 ![0, 1] bcast_S2048x1_S2048x4_0_1 main_v996
  let main_v998 : FVec F S2048x4 .f32 := addf main_v995 main_v997
  let main_v999 : FVec F S2048x4 .f32 := broadcastInDim S2048x4 ![0, 1] bcast_S2048x1_S2048x4_0_1 main_v986
  let main_v1000 : FVec F S2048x4 .f32 := mulf main_v988 main_v999
  let main_v1001 : FVec F S2048x4 .f32 := broadcastInDim S2048x4 ![0, 1] bcast_S2048x1_S2048x4_0_1 main_v984
  let main_v1002 : FVec F S2048x4 .f32 := mulf main_v990 main_v1001
  let main_v1003 : FVec F S2048x4 .f32 := addf main_v1000 main_v1002
  let main_v1004 : FVec F S2048x1 .f32 := (extractStridedSlice S2048x1 ![0, 1] · slices_S2048x2_S2048x1_0_1) main_v21
  let main_v1005 : FVec F S2048x4 .f32 := broadcastInDim S2048x4 ![0, 1] bcast_S2048x1_S2048x4_0_1 main_v1004
  let main_v1006 : FVec F S2048x4 .f32 := addf main_v1003 main_v1005
  let main_v1007 : FVec F S2048x4x1 .f32 := broadcastInDim S2048x4x1 ![0, 1] bcast_S2048x4_S2048x4x1_0_1 main_v998
  let main_v1008 : FVec F S2048x4x1 .f32 := broadcastInDim S2048x4x1 ![0, 1] bcast_S2048x4_S2048x4x1_0_1 main_v1006
  let main_v1009 : FVec F S2048x4x2 .f32 := (fun a b => concatenate S2048x4x2 2 [⟨S2048x4x1, a⟩, ⟨S2048x4x1, b⟩] concatenates_S2048x4x1_S2048x4x1_S2048x4x2_d2) main_v1007 main_v1008
  let main_v1010 : FVec F S2048x1x4x2 .f32 := broadcastInDim S2048x1x4x2 ![0, 2, 3] bcast_S2048x4x2_S2048x1x4x2_0_2_3 main_v1009
  let main_v1011 : FVec F S1x8192x2 .f32 := shapeCast S1x8192x2 main_arg4 shapeCasts_S2048x4x2_S1x8192x2
  let main_v1012 : FVec F S2048x8192x2 .f32 := broadcastInDim S2048x8192x2 ![0, 1, 2] bcast_S1x8192x2_S2048x8192x2_0_1_2 main_v1011
  let main_v1013 : FVec F S2048 .f32 := Host.cos main_v945
  fn_part45 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v945 main_v950 main_v1010 main_v1012 main_v1013

def fn_part43 {F : FTy → Type} [FloatOps F] (main_arg0 : FVec F S2048x89x2 .f32) (main_arg1 : FVec F S2048x89 .f32) (main_arg3 : FVec F S2048x2 .f32) (main_arg4 : FVec F S2048x4x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v945 : FVec F S2048 .f32) (main_v950 : FVec F S2048x2 .f32) (main_v957 : FVec F S2048 .f32) (main_v961 : FVec F S2048 .f32) (main_v964 : FVec F S2048x2 .f32) (main_v965 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v966 : FVec F S2048x1 .f32 := broadcastInDim S2048x1 ![0] bcast_S2048_S2048x1_0 main_v957
  let main_v967 : FVec F S2048x1 .f32 := broadcastInDim S2048x1 ![0] bcast_S2048_S2048x1_0 main_v965
  let main_v968 : FVec F S2048x2 .f32 := (fun a b => concatenate S2048x2 1 [⟨S2048x1, a⟩, ⟨S2048x1, b⟩] concatenates_S2048x1_S2048x1_S2048x2_d1) main_v966 main_v967
  let main_v969 : FVec F S2048 .f32 := Host.negf main_v957
  let main_v970 : FVec F S2048 .f32 := Host.negf main_v961
  let main_v971 : FVec F S2048x1 .f32 := broadcastInDim S2048x1 ![0] bcast_S2048_S2048x1_0 main_v969
  let main_v972 : FVec F S2048x1 .f32 := broadcastInDim S2048x1 ![0] bcast_S2048_S2048x1_0 main_v970
  let main_v973 : FVec F S2048x2 .f32 := (fun a b => concatenate S2048x2 1 [⟨S2048x1, a⟩, ⟨S2048x1, b⟩] concatenates_S2048x1_S2048x1_S2048x2_d1) main_v971 main_v972
  let main_v974 : FVec F S2048 .f32 := Host.negf main_v957
  let main_v975 : FVec F S2048x1 .f32 := broadcastInDim S2048x1 ![0] bcast_S2048_S2048x1_0 main_v974
  let main_v976 : FVec F S2048x1 .f32 := broadcastInDim S2048x1 ![0] bcast_S2048_S2048x1_0 main_v961
  let main_v977 : FVec F S2048x2 .f32 := (fun a b => concatenate S2048x2 1 [⟨S2048x1, a⟩, ⟨S2048x1, b⟩] concatenates_S2048x1_S2048x1_S2048x2_d1) main_v975 main_v976
  let main_v978 : FVec F S2048x1x2 .f32 := broadcastInDim S2048x1x2 ![0, 2] bcast_S2048x2_S2048x1x2_0_2 main_v964
  let main_v979 : FVec F S2048x1x2 .f32 := broadcastInDim S2048x1x2 ![0, 2] bcast_S2048x2_S2048x1x2_0_2 main_v968
  let main_v980 : FVec F S2048x1x2 .f32 := broadcastInDim S2048x1x2 ![0, 2] bcast_S2048x2_S2048x1x2_0_2 main_v973
  let main_v981 : FVec F S2048x1x2 .f32 := broadcastInDim S2048x1x2 ![0, 2] bcast_S2048x2_S2048x1x2_0_2 main_v977
  let main_v982 : FVec F S2048x4x2 .f32 := concatenate S2048x4x2 1 [⟨S2048x1x2, main_v978⟩, ⟨S2048x1x2, main_v979⟩, ⟨S2048x1x2, main_v980⟩, ⟨S2048x1x2, main_v981⟩] concatenates_S2048x1x2_S2048x1x2_S2048x1x2_S2048x1x2_S2048x4x2_d1
  let main_v983 : FVec F S2048 .f32 := Host.cos main_v43
  let main_v984 : FVec F S2048x1 .f32 := broadcastInDim S2048x1 ![0] bcast_S2048_S2048x1_0 main_v983
  let main_v985 : FVec F S2048 .f32 := Host.sin main_v43
  let main_v986 : FVec F S2048x1 .f32 := broadcastInDim S2048x1 ![0] bcast_S2048_S2048x1_0 main_v985
  let main_v987 : FVec F S2048x4x1 .f32 := (extractStridedSlice S2048x4x1 ![0, 0, 0] · slices_S2048x4x2_S2048x4x1_0_0_0) main_v982
  let main_v988 : FVec F S2048x4 .f32 := shapeCast S2048x4 main_v987 shapeCasts_S2048x4x1_S2048x4
  let main_v989 : FVec F S2048x4x1 .f32 := (extractStridedSlice S2048x4x1 ![0, 0, 1] · slices_S2048x4x2_S2048x4x1_0_0_1) main_v982
  fn_part44 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v945 main_v950 main_v984 main_v986 main_v988 main_v989

def fn_part42 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v934 : FVec F S2048x4x2 .f32) (main_v945 : FVec F S2048 .f32) (main_v946 : IVec S2048x1 1) (main_cst_58 : FVec F S_ .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v947 : FVec F S2048x2 .f32 := (fun x v => Host.reduceAdd x v reducesTo_S2048x4x2_S2048x2_d1 h_S_) main_v934 main_cst_58
  let main_cst_59 : FVec F S_ .f32 := constant S_ .f32 0x40800000#32
  let main_v948 : FVec F S2048x2 .f32 := broadcastInDim S2048x2 ![] bcast_S_S2048x2 main_cst_59
  let main_v949 : FVec F S2048x2 .f32 := Host.divf main_v947 main_v948
  let main_v950 : FVec F S2048x2 .f32 := fn_where_1 (F := F) main_v946 main_v949 main_v19
  let main_v951 : IVec S2048x1 1 := broadcastInDim S2048x1 ![0] bcast_S2048_S2048x1_0 main_v63
  let main_cst_60 : FVec F S_ .f32 := constant S_ .f32 0x00000000#32
  let main_v952 : FVec F S2048x2 .f32 := fn_where_2 (F := F) main_v951 main_v950 main_cst_60
  let main_cst_61 : FVec F S_ .f32 := constant S_ .f32 0x00000000#32
  let main_v953 : FVec F S2048 .f32 := fn_where_3 (F := F) main_v63 main_v945 main_cst_61
  let main_v954 : FVec F S2048x1 .f32 := (extractStridedSlice S2048x1 ![0, 0] · slices_S2048x2_S2048x1_0_0) main_arg3
  let main_v955 : FVec F S2048 .f32 := shapeCast S2048 main_v954 shapeCasts_S2048x1_S2048
  let main_cst_62 : FVec F S_ .f32 := constant S_ .f32 0x40000000#32
  let main_v956 : FVec F S2048 .f32 := broadcastInDim S2048 ![] bcast_S_S2048 main_cst_62
  let main_v957 : FVec F S2048 .f32 := Host.divf main_v955 main_v956
  let main_v958 : FVec F S2048x1 .f32 := (extractStridedSlice S2048x1 ![0, 1] · slices_S2048x2_S2048x1_0_1) main_arg3
  let main_v959 : FVec F S2048 .f32 := shapeCast S2048 main_v958 shapeCasts_S2048x1_S2048
  let main_cst_63 : FVec F S_ .f32 := constant S_ .f32 0x40000000#32
  let main_v960 : FVec F S2048 .f32 := broadcastInDim S2048 ![] bcast_S_S2048 main_cst_63
  let main_v961 : FVec F S2048 .f32 := Host.divf main_v959 main_v960
  let main_v962 : FVec F S2048x1 .f32 := broadcastInDim S2048x1 ![0] bcast_S2048_S2048x1_0 main_v957
  let main_v963 : FVec F S2048x1 .f32 := broadcastInDim S2048x1 ![0] bcast_S2048_S2048x1_0 main_v961
  let main_v964 : FVec F S2048x2 .f32 := (fun a b => concatenate S2048x2 1 [⟨S2048x1, a⟩, ⟨S2048x1, b⟩] concatenates_S2048x1_S2048x1_S2048x2_d1) main_v962 main_v963
  let main_v965 : FVec F S2048 .f32 := Host.negf main_v961
  fn_part43 (F := F) main_arg0 main_arg1 main_arg3 main_arg4 main_v21 main_v23 main_v25 main_v27 main_v29 main_v31 main_v33 main_v43 main_v45 main_v47 main_v49 main_v51 main_v53 main_v55 main_v65 main_v67 main_v69 main_v71 main_v73 main_v75 main_v77 main_v176 main_v395 main_v614 main_v833 main_v945 main_v950 main_v957 main_v961 main_v964 main_v965

def fn_part41 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v833 : IVec S2048 1) (main_v920 : FVec F S2048x2048x4x2 .f32) (main_v924 : FVec F S2048x2048 .f32) (main_v925 : IVec S2048x2048 32) (main_cst_55 : FVec F S_ .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v926 : FVec F S2048 .f32 := (fun x v => Host.reduce FloatOps.minimumf x v reducesTo_S2048x2048_S2048_d1 h_S_) main_v924 main_cst_55
  let main_v927 : FVec F S2048x1 .f32 := broadcastInDim S2048x1 ![0] bcast_S2048_S2048x1_0 main_v926
  let main_v928 : FVec F S2048x2048 .f32 := broadcastInDim S2048x2048 ![0, 1] bcast_S2048x1_S2048x2048_0_1 main_v927
  let main_v929 : IVec S2048x2048 1 := cmpf .oeq main_v924 main_v928
  let main_c_56 : IVec S_ 32 := constantI S_ 32 2048#32
  let main_v930 : IVec S2048x2048 32 := fn_where (F := F) main_v929 main_v925 main_c_56
  let main_c_57 : IVec S_ 32 := constantI S_ 32 2147483647#32
  let main_v931 : IVec S2048 32 := (fun x v => Host.reduce IntOp.minsi x v reducesTo_S2048x2048_S2048_d1 h_S_) main_v930 main_c_57
  let main_v932 : IVec S2048x1x1x1 32 := broadcastInDim S2048x1x1x1 ![0] bcast_S2048_S2048x1x1x1_0 main_v931
  let main_v933 : FVec F S2048x1x4x2 .f32 := fn_take_along_axis (F := F) main_v920 main_v932
  let main_v934 : FVec F S2048x4x2 .f32 := shapeCast S2048x4x2 main_v933 shapeCasts_S2048x1x4x2_S2048x4x2
  let main_v935 : FVec F S2048x1x2 .f32 := (extractStridedSlice S2048x1x2 ![0, 0, 0] · slices_S2048x4x2_S2048x1x2_0_0_0) main_v934
  let main_v936 : FVec F S2048x2 .f32 := shapeCast S2048x2 main_v935 shapeCasts_S2048x1x2_S2048x2
  let main_v937 : FVec F S2048x1x2 .f32 := (extractStridedSlice S2048x1x2 ![0, 3, 0] · slices_S2048x4x2_S2048x1x2_0_3_0) main_v934
  let main_v938 : FVec F S2048x2 .f32 := shapeCast S2048x2 main_v937 shapeCasts_S2048x1x2_S2048x2
  let main_v939 : FVec F S2048x2 .f32 := subf main_v936 main_v938
  let main_v940 : FVec F S2048x1 .f32 := (extractStridedSlice S2048x1 ![0, 1] · slices_S2048x2_S2048x1_0_1) main_v939
  let main_v941 : FVec F S2048 .f32 := shapeCast S2048 main_v940 shapeCasts_S2048x1_S2048
  let main_v942 : FVec F S2048x1 .f32 := (extractStridedSlice S2048x1 ![0, 0] · slices_S2048x2_S2048x1_0_0) main_v939
  let main_v943 : FVec F S2048 .f32 := shapeCast S2048 main_v942 shapeCasts_S2048x1_S2048
  let main_v944 : FVec F S2048 .f32 := Host.atan2 main_v941 main_v943
  let main_v945 : FVec F S2048 .f32 := fn_where_0 (F := F) main_v63 main_v944 main_v41
  let main_v946 : IVec S2048x1 1 := broadcastInDim S2048x1 ![0] bcast_S2048_S2048x1_0 main_v63
  let main_cst_58 : FVec F S_ .f32 := constant S_ .f32 0x00000000#32
  fn_part42 (F := F) main_arg0 main_arg1 main_arg3 main_arg4 main_v19 main_v21 main_v23 main_v25 main_v27 main_v29 main_v31 main_v33 main_v43 main_v45 main_v47 main_v49 main_v51 main_v53 main_v55 main_v63 main_v65 main_v67 main_v69 main_v71 main_v73 main_v75 main_v77 main_v176 main_v395 main_v614 main_v833 main_v934 main_v945 main_v946 main_cst_58

def fn_part40 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v731 : FVec F S2048x2 .f32) (main_v833 : IVec S2048 1) (main_v890 : FVec F S2048x1x4x2 .f32) (main_v894 : FVec F S2048x1 .f32) (main_v896 : FVec F S2048x1 .f32) (main_v898 : FVec F S2048x8192 .f32) (main_v900 : FVec F S2048x8192 .f32) (main_v902 : FVec F S2048x8192 .f32) (main_v903 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v904 : FVec F S2048x8192 .f32 := mulf main_v900 main_v903
  let main_v905 : FVec F S2048x8192 .f32 := subf main_v902 main_v904
  let main_v906 : FVec F S2048x1 .f32 := (extractStridedSlice S2048x1 ![0, 0] · slices_S2048x2_S2048x1_0_0) main_v731
  let main_v907 : FVec F S2048x8192 .f32 := broadcastInDim S2048x8192 ![0, 1] bcast_S2048x1_S2048x8192_0_1 main_v906
  let main_v908 : FVec F S2048x8192 .f32 := addf main_v905 main_v907
  let main_v909 : FVec F S2048x8192 .f32 := broadcastInDim S2048x8192 ![0, 1] bcast_S2048x1_S2048x8192_0_1 main_v896
  let main_v910 : FVec F S2048x8192 .f32 := mulf main_v898 main_v909
  let main_v911 : FVec F S2048x8192 .f32 := broadcastInDim S2048x8192 ![0, 1] bcast_S2048x1_S2048x8192_0_1 main_v894
  let main_v912 : FVec F S2048x8192 .f32 := mulf main_v900 main_v911
  let main_v913 : FVec F S2048x8192 .f32 := addf main_v910 main_v912
  let main_v914 : FVec F S2048x1 .f32 := (extractStridedSlice S2048x1 ![0, 1] · slices_S2048x2_S2048x1_0_1) main_v731
  let main_v915 : FVec F S2048x8192 .f32 := broadcastInDim S2048x8192 ![0, 1] bcast_S2048x1_S2048x8192_0_1 main_v914
  let main_v916 : FVec F S2048x8192 .f32 := addf main_v913 main_v915
  let main_v917 : FVec F S2048x8192x1 .f32 := broadcastInDim S2048x8192x1 ![0, 1] bcast_S2048x8192_S2048x8192x1_0_1 main_v908
  let main_v918 : FVec F S2048x8192x1 .f32 := broadcastInDim S2048x8192x1 ![0, 1] bcast_S2048x8192_S2048x8192x1_0_1 main_v916
  let main_v919 : FVec F S2048x8192x2 .f32 := (fun a b => concatenate S2048x8192x2 2 [⟨S2048x8192x1, a⟩, ⟨S2048x8192x1, b⟩] concatenates_S2048x8192x1_S2048x8192x1_S2048x8192x2_d2) main_v917 main_v918
  let main_v920 : FVec F S2048x2048x4x2 .f32 := shapeCast S2048x2048x4x2 main_v919 shapeCasts_S2048x8192x2_S2048x2048x4x2
  let main_v921 : FVec F S2048x2048x4x2 .f32 := broadcastInDim S2048x2048x4x2 ![0, 1, 2, 3] bcast_S2048x1x4x2_S2048x2048x4x2_0_1_2_3 main_v890
  let main_v922 : FVec F S2048x2048x4x2 .f32 := subf main_v920 main_v921
  let main_v923 : FVec F S2048x2048x4 .f32 := fn_norm (F := F) main_v922
  let main_cst_54 : FVec F S_ .f32 := constant S_ .f32 0x00000000#32
  let main_v924 : FVec F S2048x2048 .f32 := (fun x v => Host.reduceAdd x v reducesTo_S2048x2048x4_S2048x2048_d2 h_S_) main_v923 main_cst_54
  let main_v925 : IVec S2048x2048 32 := iotaInDim S2048x2048 32 1
  let main_cst_55 : FVec F S_ .f32 := constant S_ .f32 0x7F800000#32
  fn_part41 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v833 main_v920 main_v924 main_v925 main_cst_55

def fn_part39 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v726 : FVec F S2048 .f32) (main_v731 : FVec F S2048x2 .f32) (main_v833 : IVec S2048 1) (main_v864 : FVec F S2048x1 .f32) (main_v868 : FVec F S2048x4 .f32) (main_v870 : FVec F S2048x4 .f32) (main_v878 : FVec F S2048x4 .f32) (main_v879 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v880 : FVec F S2048x4 .f32 := mulf main_v868 main_v879
  let main_v881 : FVec F S2048x4 .f32 := broadcastInDim S2048x4 ![0, 1] bcast_S2048x1_S2048x4_0_1 main_v864
  let main_v882 : FVec F S2048x4 .f32 := mulf main_v870 main_v881
  let main_v883 : FVec F S2048x4 .f32 := addf main_v880 main_v882
  let main_v884 : FVec F S2048x1 .f32 := (extractStridedSlice S2048x1 ![0, 1] · slices_S2048x2_S2048x1_0_1) main_v19
  let main_v885 : FVec F S2048x4 .f32 := broadcastInDim S2048x4 ![0, 1] bcast_S2048x1_S2048x4_0_1 main_v884
  let main_v886 : FVec F S2048x4 .f32 := addf main_v883 main_v885
  let main_v887 : FVec F S2048x4x1 .f32 := broadcastInDim S2048x4x1 ![0, 1] bcast_S2048x4_S2048x4x1_0_1 main_v878
  let main_v888 : FVec F S2048x4x1 .f32 := broadcastInDim S2048x4x1 ![0, 1] bcast_S2048x4_S2048x4x1_0_1 main_v886
  let main_v889 : FVec F S2048x4x2 .f32 := (fun a b => concatenate S2048x4x2 2 [⟨S2048x4x1, a⟩, ⟨S2048x4x1, b⟩] concatenates_S2048x4x1_S2048x4x1_S2048x4x2_d2) main_v887 main_v888
  let main_v890 : FVec F S2048x1x4x2 .f32 := broadcastInDim S2048x1x4x2 ![0, 2, 3] bcast_S2048x4x2_S2048x1x4x2_0_2_3 main_v889
  let main_v891 : FVec F S1x8192x2 .f32 := shapeCast S1x8192x2 main_arg4 shapeCasts_S2048x4x2_S1x8192x2
  let main_v892 : FVec F S2048x8192x2 .f32 := broadcastInDim S2048x8192x2 ![0, 1, 2] bcast_S1x8192x2_S2048x8192x2_0_1_2 main_v891
  let main_v893 : FVec F S2048 .f32 := Host.cos main_v726
  let main_v894 : FVec F S2048x1 .f32 := broadcastInDim S2048x1 ![0] bcast_S2048_S2048x1_0 main_v893
  let main_v895 : FVec F S2048 .f32 := Host.sin main_v726
  let main_v896 : FVec F S2048x1 .f32 := broadcastInDim S2048x1 ![0] bcast_S2048_S2048x1_0 main_v895
  let main_v897 : FVec F S2048x8192x1 .f32 := (extractStridedSlice S2048x8192x1 ![0, 0, 0] · slices_S2048x8192x2_S2048x8192x1_0_0_0) main_v892
  let main_v898 : FVec F S2048x8192 .f32 := shapeCast S2048x8192 main_v897 shapeCasts_S2048x8192x1_S2048x8192
  let main_v899 : FVec F S2048x8192x1 .f32 := (extractStridedSlice S2048x8192x1 ![0, 0, 1] · slices_S2048x8192x2_S2048x8192x1_0_0_1) main_v892
  let main_v900 : FVec F S2048x8192 .f32 := shapeCast S2048x8192 main_v899 shapeCasts_S2048x8192x1_S2048x8192
  let main_v901 : FVec F S2048x8192 .f32 := broadcastInDim S2048x8192 ![0, 1] bcast_S2048x1_S2048x8192_0_1 main_v894
  let main_v902 : FVec F S2048x8192 .f32 := mulf main_v898 main_v901
  let main_v903 : FVec F S2048x8192 .f32 := broadcastInDim S2048x8192 ![0, 1] bcast_S2048x1_S2048x8192_0_1 main_v896
  fn_part40 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v731 main_v833 main_v890 main_v894 main_v896 main_v898 main_v900 main_v902 main_v903

def fn_part38 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v726 : FVec F S2048 .f32) (main_v731 : FVec F S2048x2 .f32) (main_v833 : IVec S2048 1) (main_v841 : FVec F S2048 .f32) (main_v844 : FVec F S2048x2 .f32) (main_v848 : FVec F S2048x2 .f32) (main_v853 : FVec F S2048x2 .f32) (main_v855 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v856 : FVec F S2048x1 .f32 := broadcastInDim S2048x1 ![0] bcast_S2048_S2048x1_0 main_v841
  let main_v857 : FVec F S2048x2 .f32 := (fun a b => concatenate S2048x2 1 [⟨S2048x1, a⟩, ⟨S2048x1, b⟩] concatenates_S2048x1_S2048x1_S2048x2_d1) main_v855 main_v856
  let main_v858 : FVec F S2048x1x2 .f32 := broadcastInDim S2048x1x2 ![0, 2] bcast_S2048x2_S2048x1x2_0_2 main_v844
  let main_v859 : FVec F S2048x1x2 .f32 := broadcastInDim S2048x1x2 ![0, 2] bcast_S2048x2_S2048x1x2_0_2 main_v848
  let main_v860 : FVec F S2048x1x2 .f32 := broadcastInDim S2048x1x2 ![0, 2] bcast_S2048x2_S2048x1x2_0_2 main_v853
  let main_v861 : FVec F S2048x1x2 .f32 := broadcastInDim S2048x1x2 ![0, 2] bcast_S2048x2_S2048x1x2_0_2 main_v857
  let main_v862 : FVec F S2048x4x2 .f32 := concatenate S2048x4x2 1 [⟨S2048x1x2, main_v858⟩, ⟨S2048x1x2, main_v859⟩, ⟨S2048x1x2, main_v860⟩, ⟨S2048x1x2, main_v861⟩] concatenates_S2048x1x2_S2048x1x2_S2048x1x2_S2048x1x2_S2048x4x2_d1
  let main_v863 : FVec F S2048 .f32 := Host.cos main_v41
  let main_v864 : FVec F S2048x1 .f32 := broadcastInDim S2048x1 ![0] bcast_S2048_S2048x1_0 main_v863
  let main_v865 : FVec F S2048 .f32 := Host.sin main_v41
  let main_v866 : FVec F S2048x1 .f32 := broadcastInDim S2048x1 ![0] bcast_S2048_S2048x1_0 main_v865
  let main_v867 : FVec F S2048x4x1 .f32 := (extractStridedSlice S2048x4x1 ![0, 0, 0] · slices_S2048x4x2_S2048x4x1_0_0_0) main_v862
  let main_v868 : FVec F S2048x4 .f32 := shapeCast S2048x4 main_v867 shapeCasts_S2048x4x1_S2048x4
  let main_v869 : FVec F S2048x4x1 .f32 := (extractStridedSlice S2048x4x1 ![0, 0, 1] · slices_S2048x4x2_S2048x4x1_0_0_1) main_v862
  let main_v870 : FVec F S2048x4 .f32 := shapeCast S2048x4 main_v869 shapeCasts_S2048x4x1_S2048x4
  let main_v871 : FVec F S2048x4 .f32 := broadcastInDim S2048x4 ![0, 1] bcast_S2048x1_S2048x4_0_1 main_v864
  let main_v872 : FVec F S2048x4 .f32 := mulf main_v868 main_v871
  let main_v873 : FVec F S2048x4 .f32 := broadcastInDim S2048x4 ![0, 1] bcast_S2048x1_S2048x4_0_1 main_v866
  let main_v874 : FVec F S2048x4 .f32 := mulf main_v870 main_v873
  let main_v875 : FVec F S2048x4 .f32 := subf main_v872 main_v874
  let main_v876 : FVec F S2048x1 .f32 := (extractStridedSlice S2048x1 ![0, 0] · slices_S2048x2_S2048x1_0_0) main_v19
  let main_v877 : FVec F S2048x4 .f32 := broadcastInDim S2048x4 ![0, 1] bcast_S2048x1_S2048x4_0_1 main_v876
  let main_v878 : FVec F S2048x4 .f32 := addf main_v875 main_v877
  let main_v879 : FVec F S2048x4 .f32 := broadcastInDim S2048x4 ![0, 1] bcast_S2048x1_S2048x4_0_1 main_v866
  fn_part39 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v726 main_v731 main_v833 main_v864 main_v868 main_v870 main_v878 main_v879

def fn_part37 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v726 : FVec F S2048 .f32) (main_v731 : FVec F S2048x2 .f32) (main_v833 : IVec S2048 1) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v834 : FVec F S2048x1 .f32 := (extractStridedSlice S2048x1 ![0, 0] · slices_S2048x2_S2048x1_0_0) main_arg3
  let main_v835 : FVec F S2048 .f32 := shapeCast S2048 main_v834 shapeCasts_S2048x1_S2048
  let main_cst_52 : FVec F S_ .f32 := constant S_ .f32 0x40000000#32
  let main_v836 : FVec F S2048 .f32 := broadcastInDim S2048 ![] bcast_S_S2048 main_cst_52
  let main_v837 : FVec F S2048 .f32 := Host.divf main_v835 main_v836
  let main_v838 : FVec F S2048x1 .f32 := (extractStridedSlice S2048x1 ![0, 1] · slices_S2048x2_S2048x1_0_1) main_arg3
  let main_v839 : FVec F S2048 .f32 := shapeCast S2048 main_v838 shapeCasts_S2048x1_S2048
  let main_cst_53 : FVec F S_ .f32 := constant S_ .f32 0x40000000#32
  let main_v840 : FVec F S2048 .f32 := broadcastInDim S2048 ![] bcast_S_S2048 main_cst_53
  let main_v841 : FVec F S2048 .f32 := Host.divf main_v839 main_v840
  let main_v842 : FVec F S2048x1 .f32 := broadcastInDim S2048x1 ![0] bcast_S2048_S2048x1_0 main_v837
  let main_v843 : FVec F S2048x1 .f32 := broadcastInDim S2048x1 ![0] bcast_S2048_S2048x1_0 main_v841
  let main_v844 : FVec F S2048x2 .f32 := (fun a b => concatenate S2048x2 1 [⟨S2048x1, a⟩, ⟨S2048x1, b⟩] concatenates_S2048x1_S2048x1_S2048x2_d1) main_v842 main_v843
  let main_v845 : FVec F S2048 .f32 := Host.negf main_v841
  let main_v846 : FVec F S2048x1 .f32 := broadcastInDim S2048x1 ![0] bcast_S2048_S2048x1_0 main_v837
  let main_v847 : FVec F S2048x1 .f32 := broadcastInDim S2048x1 ![0] bcast_S2048_S2048x1_0 main_v845
  let main_v848 : FVec F S2048x2 .f32 := (fun a b => concatenate S2048x2 1 [⟨S2048x1, a⟩, ⟨S2048x1, b⟩] concatenates_S2048x1_S2048x1_S2048x2_d1) main_v846 main_v847
  let main_v849 : FVec F S2048 .f32 := Host.negf main_v837
  let main_v850 : FVec F S2048 .f32 := Host.negf main_v841
  let main_v851 : FVec F S2048x1 .f32 := broadcastInDim S2048x1 ![0] bcast_S2048_S2048x1_0 main_v849
  let main_v852 : FVec F S2048x1 .f32 := broadcastInDim S2048x1 ![0] bcast_S2048_S2048x1_0 main_v850
  let main_v853 : FVec F S2048x2 .f32 := (fun a b => concatenate S2048x2 1 [⟨S2048x1, a⟩, ⟨S2048x1, b⟩] concatenates_S2048x1_S2048x1_S2048x2_d1) main_v851 main_v852
  let main_v854 : FVec F S2048 .f32 := Host.negf main_v837
  let main_v855 : FVec F S2048x1 .f32 := broadcastInDim S2048x1 ![0] bcast_S2048_S2048x1_0 main_v854
  fn_part38 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v726 main_v731 main_v833 main_v841 main_v844 main_v848 main_v853 main_v855

def fn_part36 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v726 : FVec F S2048 .f32) (main_v731 : FVec F S2048x2 .f32) (main_v791 : FVec F S2048x1x4x2 .f32) (main_v809 : FVec F S2048x8192 .f32) (main_v811 : FVec F S2048x8192 .f32) (main_v813 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v814 : FVec F S2048x8192 .f32 := addf main_v811 main_v813
  let main_v815 : FVec F S2048x1 .f32 := (extractStridedSlice S2048x1 ![0, 1] · slices_S2048x2_S2048x1_0_1) main_v731
  let main_v816 : FVec F S2048x8192 .f32 := broadcastInDim S2048x8192 ![0, 1] bcast_S2048x1_S2048x8192_0_1 main_v815
  let main_v817 : FVec F S2048x8192 .f32 := addf main_v814 main_v816
  let main_v818 : FVec F S2048x8192x1 .f32 := broadcastInDim S2048x8192x1 ![0, 1] bcast_S2048x8192_S2048x8192x1_0_1 main_v809
  let main_v819 : FVec F S2048x8192x1 .f32 := broadcastInDim S2048x8192x1 ![0, 1] bcast_S2048x8192_S2048x8192x1_0_1 main_v817
  let main_v820 : FVec F S2048x8192x2 .f32 := (fun a b => concatenate S2048x8192x2 2 [⟨S2048x8192x1, a⟩, ⟨S2048x8192x1, b⟩] concatenates_S2048x8192x1_S2048x8192x1_S2048x8192x2_d2) main_v818 main_v819
  let main_v821 : FVec F S2048x2048x4x2 .f32 := shapeCast S2048x2048x4x2 main_v820 shapeCasts_S2048x8192x2_S2048x2048x4x2
  let main_v822 : FVec F S2048x2048x4x2 .f32 := broadcastInDim S2048x2048x4x2 ![0, 1, 2, 3] bcast_S2048x1x4x2_S2048x2048x4x2_0_1_2_3 main_v791
  let main_v823 : FVec F S2048x2048x4x2 .f32 := subf main_v821 main_v822
  let main_v824 : FVec F S2048x2048x4 .f32 := fn_norm (F := F) main_v823
  let main_cst_48 : FVec F S_ .f32 := constant S_ .f32 0x00000000#32
  let main_v825 : FVec F S2048x2048 .f32 := (fun x v => Host.reduceAdd x v reducesTo_S2048x2048x4_S2048x2048_d2 h_S_) main_v824 main_cst_48
  let main_cst_49 : FVec F S_ .f32 := constant S_ .f32 0x7F800000#32
  let main_v826 : FVec F S2048 .f32 := (fun x v => Host.reduce FloatOps.minimumf x v reducesTo_S2048x2048_S2048_d1 h_S_) main_v825 main_cst_49
  let main_v827 : FVec F S2048x1 .f32 := broadcastInDim S2048x1 ![0] bcast_S2048_S2048x1_0 main_v826
  let main_v828 : FVec F S2048x2048 .f32 := broadcastInDim S2048x2048 ![0, 1] bcast_S2048x1_S2048x2048_0_1 main_v827
  let main_v829 : IVec S2048x2048 1 := cmpf .oeq main_v825 main_v828
  let main_v830 : IVec S2048x2048 32 := (extui 32 · natLt_1_32) main_v829
  let main_c_50 : IVec S_ 32 := constantI S_ 32 0#32
  let main_v831 : IVec S2048 32 := (fun x v => Host.reduce IntOp.addi x v reducesTo_S2048x2048_S2048_d1 h_S_) main_v830 main_c_50
  let main_c_51 : IVec S_ 32 := constantI S_ 32 1#32
  let main_v832 : IVec S2048 32 := broadcastInDim S2048 ![] bcast_S_S2048 main_c_51
  let main_v833 : IVec S2048 1 := cmpi .eq main_v831 main_v832
  fn_part37 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v726 main_v731 main_v833

def fn_part35 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v726 : FVec F S2048 .f32) (main_v731 : FVec F S2048x2 .f32) (main_v788 : FVec F S2048x4x1 .f32) (main_v789 : FVec F S2048x4x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v790 : FVec F S2048x4x2 .f32 := (fun a b => concatenate S2048x4x2 2 [⟨S2048x4x1, a⟩, ⟨S2048x4x1, b⟩] concatenates_S2048x4x1_S2048x4x1_S2048x4x2_d2) main_v788 main_v789
  let main_v791 : FVec F S2048x1x4x2 .f32 := broadcastInDim S2048x1x4x2 ![0, 2, 3] bcast_S2048x4x2_S2048x1x4x2_0_2_3 main_v790
  let main_v792 : FVec F S1x8192x2 .f32 := shapeCast S1x8192x2 main_arg4 shapeCasts_S2048x4x2_S1x8192x2
  let main_v793 : FVec F S2048x8192x2 .f32 := broadcastInDim S2048x8192x2 ![0, 1, 2] bcast_S1x8192x2_S2048x8192x2_0_1_2 main_v792
  let main_v794 : FVec F S2048 .f32 := Host.cos main_v726
  let main_v795 : FVec F S2048x1 .f32 := broadcastInDim S2048x1 ![0] bcast_S2048_S2048x1_0 main_v794
  let main_v796 : FVec F S2048 .f32 := Host.sin main_v726
  let main_v797 : FVec F S2048x1 .f32 := broadcastInDim S2048x1 ![0] bcast_S2048_S2048x1_0 main_v796
  let main_v798 : FVec F S2048x8192x1 .f32 := (extractStridedSlice S2048x8192x1 ![0, 0, 0] · slices_S2048x8192x2_S2048x8192x1_0_0_0) main_v793
  let main_v799 : FVec F S2048x8192 .f32 := shapeCast S2048x8192 main_v798 shapeCasts_S2048x8192x1_S2048x8192
  let main_v800 : FVec F S2048x8192x1 .f32 := (extractStridedSlice S2048x8192x1 ![0, 0, 1] · slices_S2048x8192x2_S2048x8192x1_0_0_1) main_v793
  let main_v801 : FVec F S2048x8192 .f32 := shapeCast S2048x8192 main_v800 shapeCasts_S2048x8192x1_S2048x8192
  let main_v802 : FVec F S2048x8192 .f32 := broadcastInDim S2048x8192 ![0, 1] bcast_S2048x1_S2048x8192_0_1 main_v795
  let main_v803 : FVec F S2048x8192 .f32 := mulf main_v799 main_v802
  let main_v804 : FVec F S2048x8192 .f32 := broadcastInDim S2048x8192 ![0, 1] bcast_S2048x1_S2048x8192_0_1 main_v797
  let main_v805 : FVec F S2048x8192 .f32 := mulf main_v801 main_v804
  let main_v806 : FVec F S2048x8192 .f32 := subf main_v803 main_v805
  let main_v807 : FVec F S2048x1 .f32 := (extractStridedSlice S2048x1 ![0, 0] · slices_S2048x2_S2048x1_0_0) main_v731
  let main_v808 : FVec F S2048x8192 .f32 := broadcastInDim S2048x8192 ![0, 1] bcast_S2048x1_S2048x8192_0_1 main_v807
  let main_v809 : FVec F S2048x8192 .f32 := addf main_v806 main_v808
  let main_v810 : FVec F S2048x8192 .f32 := broadcastInDim S2048x8192 ![0, 1] bcast_S2048x1_S2048x8192_0_1 main_v797
  let main_v811 : FVec F S2048x8192 .f32 := mulf main_v799 main_v810
  let main_v812 : FVec F S2048x8192 .f32 := broadcastInDim S2048x8192 ![0, 1] bcast_S2048x1_S2048x8192_0_1 main_v795
  let main_v813 : FVec F S2048x8192 .f32 := mulf main_v801 main_v812
  fn_part36 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v726 main_v731 main_v791 main_v809 main_v811 main_v813

def fn_part34 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v726 : FVec F S2048 .f32) (main_v731 : FVec F S2048x2 .f32) (main_v763 : FVec F S2048x4x2 .f32) (main_v765 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v766 : FVec F S2048 .f32 := Host.sin main_v41
  let main_v767 : FVec F S2048x1 .f32 := broadcastInDim S2048x1 ![0] bcast_S2048_S2048x1_0 main_v766
  let main_v768 : FVec F S2048x4x1 .f32 := (extractStridedSlice S2048x4x1 ![0, 0, 0] · slices_S2048x4x2_S2048x4x1_0_0_0) main_v763
  let main_v769 : FVec F S2048x4 .f32 := shapeCast S2048x4 main_v768 shapeCasts_S2048x4x1_S2048x4
  let main_v770 : FVec F S2048x4x1 .f32 := (extractStridedSlice S2048x4x1 ![0, 0, 1] · slices_S2048x4x2_S2048x4x1_0_0_1) main_v763
  let main_v771 : FVec F S2048x4 .f32 := shapeCast S2048x4 main_v770 shapeCasts_S2048x4x1_S2048x4
  let main_v772 : FVec F S2048x4 .f32 := broadcastInDim S2048x4 ![0, 1] bcast_S2048x1_S2048x4_0_1 main_v765
  let main_v773 : FVec F S2048x4 .f32 := mulf main_v769 main_v772
  let main_v774 : FVec F S2048x4 .f32 := broadcastInDim S2048x4 ![0, 1] bcast_S2048x1_S2048x4_0_1 main_v767
  let main_v775 : FVec F S2048x4 .f32 := mulf main_v771 main_v774
  let main_v776 : FVec F S2048x4 .f32 := subf main_v773 main_v775
  let main_v777 : FVec F S2048x1 .f32 := (extractStridedSlice S2048x1 ![0, 0] · slices_S2048x2_S2048x1_0_0) main_v19
  let main_v778 : FVec F S2048x4 .f32 := broadcastInDim S2048x4 ![0, 1] bcast_S2048x1_S2048x4_0_1 main_v777
  let main_v779 : FVec F S2048x4 .f32 := addf main_v776 main_v778
  let main_v780 : FVec F S2048x4 .f32 := broadcastInDim S2048x4 ![0, 1] bcast_S2048x1_S2048x4_0_1 main_v767
  let main_v781 : FVec F S2048x4 .f32 := mulf main_v769 main_v780
  let main_v782 : FVec F S2048x4 .f32 := broadcastInDim S2048x4 ![0, 1] bcast_S2048x1_S2048x4_0_1 main_v765
  let main_v783 : FVec F S2048x4 .f32 := mulf main_v771 main_v782
  let main_v784 : FVec F S2048x4 .f32 := addf main_v781 main_v783
  let main_v785 : FVec F S2048x1 .f32 := (extractStridedSlice S2048x1 ![0, 1] · slices_S2048x2_S2048x1_0_1) main_v19
  let main_v786 : FVec F S2048x4 .f32 := broadcastInDim S2048x4 ![0, 1] bcast_S2048x1_S2048x4_0_1 main_v785
  let main_v787 : FVec F S2048x4 .f32 := addf main_v784 main_v786
  let main_v788 : FVec F S2048x4x1 .f32 := broadcastInDim S2048x4x1 ![0, 1] bcast_S2048x4_S2048x4x1_0_1 main_v779
  let main_v789 : FVec F S2048x4x1 .f32 := broadcastInDim S2048x4x1 ![0, 1] bcast_S2048x4_S2048x4x1_0_1 main_v787
  fn_part35 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v726 main_v731 main_v788 main_v789

def fn_part33 {F : FTy → Type} [FloatOps F] (main_arg0 : FVec F S2048x89x2 .f32) (main_arg1 : FVec F S2048x89 .f32) (main_arg3 : FVec F S2048x2 .f32) (main_arg4 : FVec F S2048x4x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v726 : FVec F S2048 .f32) (main_v731 : FVec F S2048x2 .f32) (main_v738 : FVec F S2048 .f32) (main_v740 : FVec F S2048 .f32) (main_v741 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v742 : FVec F S2048 .f32 := Host.divf main_v740 main_v741
  let main_v743 : FVec F S2048x1 .f32 := broadcastInDim S2048x1 ![0] bcast_S2048_S2048x1_0 main_v738
  let main_v744 : FVec F S2048x1 .f32 := broadcastInDim S2048x1 ![0] bcast_S2048_S2048x1_0 main_v742
  let main_v745 : FVec F S2048x2 .f32 := (fun a b => concatenate S2048x2 1 [⟨S2048x1, a⟩, ⟨S2048x1, b⟩] concatenates_S2048x1_S2048x1_S2048x2_d1) main_v743 main_v744
  let main_v746 : FVec F S2048 .f32 := Host.negf main_v742
  let main_v747 : FVec F S2048x1 .f32 := broadcastInDim S2048x1 ![0] bcast_S2048_S2048x1_0 main_v738
  let main_v748 : FVec F S2048x1 .f32 := broadcastInDim S2048x1 ![0] bcast_S2048_S2048x1_0 main_v746
  let main_v749 : FVec F S2048x2 .f32 := (fun a b => concatenate S2048x2 1 [⟨S2048x1, a⟩, ⟨S2048x1, b⟩] concatenates_S2048x1_S2048x1_S2048x2_d1) main_v747 main_v748
  let main_v750 : FVec F S2048 .f32 := Host.negf main_v738
  let main_v751 : FVec F S2048 .f32 := Host.negf main_v742
  let main_v752 : FVec F S2048x1 .f32 := broadcastInDim S2048x1 ![0] bcast_S2048_S2048x1_0 main_v750
  let main_v753 : FVec F S2048x1 .f32 := broadcastInDim S2048x1 ![0] bcast_S2048_S2048x1_0 main_v751
  let main_v754 : FVec F S2048x2 .f32 := (fun a b => concatenate S2048x2 1 [⟨S2048x1, a⟩, ⟨S2048x1, b⟩] concatenates_S2048x1_S2048x1_S2048x2_d1) main_v752 main_v753
  let main_v755 : FVec F S2048 .f32 := Host.negf main_v738
  let main_v756 : FVec F S2048x1 .f32 := broadcastInDim S2048x1 ![0] bcast_S2048_S2048x1_0 main_v755
  let main_v757 : FVec F S2048x1 .f32 := broadcastInDim S2048x1 ![0] bcast_S2048_S2048x1_0 main_v742
  let main_v758 : FVec F S2048x2 .f32 := (fun a b => concatenate S2048x2 1 [⟨S2048x1, a⟩, ⟨S2048x1, b⟩] concatenates_S2048x1_S2048x1_S2048x2_d1) main_v756 main_v757
  let main_v759 : FVec F S2048x1x2 .f32 := broadcastInDim S2048x1x2 ![0, 2] bcast_S2048x2_S2048x1x2_0_2 main_v745
  let main_v760 : FVec F S2048x1x2 .f32 := broadcastInDim S2048x1x2 ![0, 2] bcast_S2048x2_S2048x1x2_0_2 main_v749
  let main_v761 : FVec F S2048x1x2 .f32 := broadcastInDim S2048x1x2 ![0, 2] bcast_S2048x2_S2048x1x2_0_2 main_v754
  let main_v762 : FVec F S2048x1x2 .f32 := broadcastInDim S2048x1x2 ![0, 2] bcast_S2048x2_S2048x1x2_0_2 main_v758
  let main_v763 : FVec F S2048x4x2 .f32 := concatenate S2048x4x2 1 [⟨S2048x1x2, main_v759⟩, ⟨S2048x1x2, main_v760⟩, ⟨S2048x1x2, main_v761⟩, ⟨S2048x1x2, main_v762⟩] concatenates_S2048x1x2_S2048x1x2_S2048x1x2_S2048x1x2_S2048x4x2_d1
  let main_v764 : FVec F S2048 .f32 := Host.cos main_v41
  let main_v765 : FVec F S2048x1 .f32 := broadcastInDim S2048x1 ![0] bcast_S2048_S2048x1_0 main_v764
  fn_part34 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v726 main_v731 main_v763 main_v765

def fn_part32 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v715 : FVec F S2048x4x2 .f32) (main_v722 : FVec F S2048 .f32) (main_v723 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v724 : FVec F S2048 .f32 := shapeCast S2048 main_v723 shapeCasts_S2048x1_S2048
  let main_v725 : FVec F S2048 .f32 := Host.atan2 main_v722 main_v724
  let main_v726 : FVec F S2048 .f32 := fn_where_0 (F := F) main_v61 main_v725 main_v39
  let main_v727 : IVec S2048x1 1 := broadcastInDim S2048x1 ![0] bcast_S2048_S2048x1_0 main_v61
  let main_cst_42 : FVec F S_ .f32 := constant S_ .f32 0x00000000#32
  let main_v728 : FVec F S2048x2 .f32 := (fun x v => Host.reduceAdd x v reducesTo_S2048x4x2_S2048x2_d1 h_S_) main_v715 main_cst_42
  let main_cst_43 : FVec F S_ .f32 := constant S_ .f32 0x40800000#32
  let main_v729 : FVec F S2048x2 .f32 := broadcastInDim S2048x2 ![] bcast_S_S2048x2 main_cst_43
  let main_v730 : FVec F S2048x2 .f32 := Host.divf main_v728 main_v729
  let main_v731 : FVec F S2048x2 .f32 := fn_where_1 (F := F) main_v727 main_v730 main_v17
  let main_v732 : IVec S2048x1 1 := broadcastInDim S2048x1 ![0] bcast_S2048_S2048x1_0 main_v61
  let main_cst_44 : FVec F S_ .f32 := constant S_ .f32 0x00000000#32
  let main_v733 : FVec F S2048x2 .f32 := fn_where_2 (F := F) main_v732 main_v731 main_cst_44
  let main_cst_45 : FVec F S_ .f32 := constant S_ .f32 0x00000000#32
  let main_v734 : FVec F S2048 .f32 := fn_where_3 (F := F) main_v61 main_v726 main_cst_45
  let main_v735 : FVec F S2048x1 .f32 := (extractStridedSlice S2048x1 ![0, 0] · slices_S2048x2_S2048x1_0_0) main_arg3
  let main_v736 : FVec F S2048 .f32 := shapeCast S2048 main_v735 shapeCasts_S2048x1_S2048
  let main_cst_46 : FVec F S_ .f32 := constant S_ .f32 0x40000000#32
  let main_v737 : FVec F S2048 .f32 := broadcastInDim S2048 ![] bcast_S_S2048 main_cst_46
  let main_v738 : FVec F S2048 .f32 := Host.divf main_v736 main_v737
  let main_v739 : FVec F S2048x1 .f32 := (extractStridedSlice S2048x1 ![0, 1] · slices_S2048x2_S2048x1_0_1) main_arg3
  let main_v740 : FVec F S2048 .f32 := shapeCast S2048 main_v739 shapeCasts_S2048x1_S2048
  let main_cst_47 : FVec F S_ .f32 := constant S_ .f32 0x40000000#32
  let main_v741 : FVec F S2048 .f32 := broadcastInDim S2048 ![] bcast_S_S2048 main_cst_47
  fn_part33 (F := F) main_arg0 main_arg1 main_arg3 main_arg4 main_v19 main_v21 main_v23 main_v25 main_v27 main_v29 main_v31 main_v33 main_v41 main_v43 main_v45 main_v47 main_v49 main_v51 main_v53 main_v55 main_v63 main_v65 main_v67 main_v69 main_v71 main_v73 main_v75 main_v77 main_v176 main_v395 main_v614 main_v726 main_v731 main_v738 main_v740 main_v741

def fn_part31 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v614 : IVec S2048 1) (main_v701 : FVec F S2048x2048x4x2 .f32) (main_v703 : FVec F S2048x2048x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v704 : FVec F S2048x2048x4 .f32 := fn_norm (F := F) main_v703
  let main_cst_38 : FVec F S_ .f32 := constant S_ .f32 0x00000000#32
  let main_v705 : FVec F S2048x2048 .f32 := (fun x v => Host.reduceAdd x v reducesTo_S2048x2048x4_S2048x2048_d2 h_S_) main_v704 main_cst_38
  let main_v706 : IVec S2048x2048 32 := iotaInDim S2048x2048 32 1
  let main_cst_39 : FVec F S_ .f32 := constant S_ .f32 0x7F800000#32
  let main_v707 : FVec F S2048 .f32 := (fun x v => Host.reduce FloatOps.minimumf x v reducesTo_S2048x2048_S2048_d1 h_S_) main_v705 main_cst_39
  let main_v708 : FVec F S2048x1 .f32 := broadcastInDim S2048x1 ![0] bcast_S2048_S2048x1_0 main_v707
  let main_v709 : FVec F S2048x2048 .f32 := broadcastInDim S2048x2048 ![0, 1] bcast_S2048x1_S2048x2048_0_1 main_v708
  let main_v710 : IVec S2048x2048 1 := cmpf .oeq main_v705 main_v709
  let main_c_40 : IVec S_ 32 := constantI S_ 32 2048#32
  let main_v711 : IVec S2048x2048 32 := fn_where (F := F) main_v710 main_v706 main_c_40
  let main_c_41 : IVec S_ 32 := constantI S_ 32 2147483647#32
  let main_v712 : IVec S2048 32 := (fun x v => Host.reduce IntOp.minsi x v reducesTo_S2048x2048_S2048_d1 h_S_) main_v711 main_c_41
  let main_v713 : IVec S2048x1x1x1 32 := broadcastInDim S2048x1x1x1 ![0] bcast_S2048_S2048x1x1x1_0 main_v712
  let main_v714 : FVec F S2048x1x4x2 .f32 := fn_take_along_axis (F := F) main_v701 main_v713
  let main_v715 : FVec F S2048x4x2 .f32 := shapeCast S2048x4x2 main_v714 shapeCasts_S2048x1x4x2_S2048x4x2
  let main_v716 : FVec F S2048x1x2 .f32 := (extractStridedSlice S2048x1x2 ![0, 0, 0] · slices_S2048x4x2_S2048x1x2_0_0_0) main_v715
  let main_v717 : FVec F S2048x2 .f32 := shapeCast S2048x2 main_v716 shapeCasts_S2048x1x2_S2048x2
  let main_v718 : FVec F S2048x1x2 .f32 := (extractStridedSlice S2048x1x2 ![0, 3, 0] · slices_S2048x4x2_S2048x1x2_0_3_0) main_v715
  let main_v719 : FVec F S2048x2 .f32 := shapeCast S2048x2 main_v718 shapeCasts_S2048x1x2_S2048x2
  let main_v720 : FVec F S2048x2 .f32 := subf main_v717 main_v719
  let main_v721 : FVec F S2048x1 .f32 := (extractStridedSlice S2048x1 ![0, 1] · slices_S2048x2_S2048x1_0_1) main_v720
  let main_v722 : FVec F S2048 .f32 := shapeCast S2048 main_v721 shapeCasts_S2048x1_S2048
  let main_v723 : FVec F S2048x1 .f32 := (extractStridedSlice S2048x1 ![0, 0] · slices_S2048x2_S2048x1_0_0) main_v720
  fn_part32 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v614 main_v715 main_v722 main_v723

def fn_part30 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v512 : FVec F S2048x2 .f32) (main_v614 : IVec S2048 1) (main_v671 : FVec F S2048x1x4x2 .f32) (main_v673 : FVec F S2048x8192x2 .f32) (main_v675 : FVec F S2048x1 .f32) (main_v677 : FVec F S2048x1 .f32) (main_v679 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v680 : FVec F S2048x8192x1 .f32 := (extractStridedSlice S2048x8192x1 ![0, 0, 1] · slices_S2048x8192x2_S2048x8192x1_0_0_1) main_v673
  let main_v681 : FVec F S2048x8192 .f32 := shapeCast S2048x8192 main_v680 shapeCasts_S2048x8192x1_S2048x8192
  let main_v682 : FVec F S2048x8192 .f32 := broadcastInDim S2048x8192 ![0, 1] bcast_S2048x1_S2048x8192_0_1 main_v675
  let main_v683 : FVec F S2048x8192 .f32 := mulf main_v679 main_v682
  let main_v684 : FVec F S2048x8192 .f32 := broadcastInDim S2048x8192 ![0, 1] bcast_S2048x1_S2048x8192_0_1 main_v677
  let main_v685 : FVec F S2048x8192 .f32 := mulf main_v681 main_v684
  let main_v686 : FVec F S2048x8192 .f32 := subf main_v683 main_v685
  let main_v687 : FVec F S2048x1 .f32 := (extractStridedSlice S2048x1 ![0, 0] · slices_S2048x2_S2048x1_0_0) main_v512
  let main_v688 : FVec F S2048x8192 .f32 := broadcastInDim S2048x8192 ![0, 1] bcast_S2048x1_S2048x8192_0_1 main_v687
  let main_v689 : FVec F S2048x8192 .f32 := addf main_v686 main_v688
  let main_v690 : FVec F S2048x8192 .f32 := broadcastInDim S2048x8192 ![0, 1] bcast_S2048x1_S2048x8192_0_1 main_v677
  let main_v691 : FVec F S2048x8192 .f32 := mulf main_v679 main_v690
  let main_v692 : FVec F S2048x8192 .f32 := broadcastInDim S2048x8192 ![0, 1] bcast_S2048x1_S2048x8192_0_1 main_v675
  let main_v693 : FVec F S2048x8192 .f32 := mulf main_v681 main_v692
  let main_v694 : FVec F S2048x8192 .f32 := addf main_v691 main_v693
  let main_v695 : FVec F S2048x1 .f32 := (extractStridedSlice S2048x1 ![0, 1] · slices_S2048x2_S2048x1_0_1) main_v512
  let main_v696 : FVec F S2048x8192 .f32 := broadcastInDim S2048x8192 ![0, 1] bcast_S2048x1_S2048x8192_0_1 main_v695
  let main_v697 : FVec F S2048x8192 .f32 := addf main_v694 main_v696
  let main_v698 : FVec F S2048x8192x1 .f32 := broadcastInDim S2048x8192x1 ![0, 1] bcast_S2048x8192_S2048x8192x1_0_1 main_v689
  let main_v699 : FVec F S2048x8192x1 .f32 := broadcastInDim S2048x8192x1 ![0, 1] bcast_S2048x8192_S2048x8192x1_0_1 main_v697
  let main_v700 : FVec F S2048x8192x2 .f32 := (fun a b => concatenate S2048x8192x2 2 [⟨S2048x8192x1, a⟩, ⟨S2048x8192x1, b⟩] concatenates_S2048x8192x1_S2048x8192x1_S2048x8192x2_d2) main_v698 main_v699
  let main_v701 : FVec F S2048x2048x4x2 .f32 := shapeCast S2048x2048x4x2 main_v700 shapeCasts_S2048x8192x2_S2048x2048x4x2
  let main_v702 : FVec F S2048x2048x4x2 .f32 := broadcastInDim S2048x2048x4x2 ![0, 1, 2, 3] bcast_S2048x1x4x2_S2048x2048x4x2_0_1_2_3 main_v671
  let main_v703 : FVec F S2048x2048x4x2 .f32 := subf main_v701 main_v702
  fn_part31 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v614 main_v701 main_v703

def fn_part29 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v507 : FVec F S2048 .f32) (main_v512 : FVec F S2048x2 .f32) (main_v614 : IVec S2048 1) (main_v645 : FVec F S2048x1 .f32) (main_v647 : FVec F S2048x1 .f32) (main_v649 : FVec F S2048x4 .f32) (main_v651 : FVec F S2048x4 .f32) (main_v653 : FVec F S2048x4 .f32) (main_v655 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v656 : FVec F S2048x4 .f32 := subf main_v653 main_v655
  let main_v657 : FVec F S2048x1 .f32 := (extractStridedSlice S2048x1 ![0, 0] · slices_S2048x2_S2048x1_0_0) main_v17
  let main_v658 : FVec F S2048x4 .f32 := broadcastInDim S2048x4 ![0, 1] bcast_S2048x1_S2048x4_0_1 main_v657
  let main_v659 : FVec F S2048x4 .f32 := addf main_v656 main_v658
  let main_v660 : FVec F S2048x4 .f32 := broadcastInDim S2048x4 ![0, 1] bcast_S2048x1_S2048x4_0_1 main_v647
  let main_v661 : FVec F S2048x4 .f32 := mulf main_v649 main_v660
  let main_v662 : FVec F S2048x4 .f32 := broadcastInDim S2048x4 ![0, 1] bcast_S2048x1_S2048x4_0_1 main_v645
  let main_v663 : FVec F S2048x4 .f32 := mulf main_v651 main_v662
  let main_v664 : FVec F S2048x4 .f32 := addf main_v661 main_v663
  let main_v665 : FVec F S2048x1 .f32 := (extractStridedSlice S2048x1 ![0, 1] · slices_S2048x2_S2048x1_0_1) main_v17
  let main_v666 : FVec F S2048x4 .f32 := broadcastInDim S2048x4 ![0, 1] bcast_S2048x1_S2048x4_0_1 main_v665
  let main_v667 : FVec F S2048x4 .f32 := addf main_v664 main_v666
  let main_v668 : FVec F S2048x4x1 .f32 := broadcastInDim S2048x4x1 ![0, 1] bcast_S2048x4_S2048x4x1_0_1 main_v659
  let main_v669 : FVec F S2048x4x1 .f32 := broadcastInDim S2048x4x1 ![0, 1] bcast_S2048x4_S2048x4x1_0_1 main_v667
  let main_v670 : FVec F S2048x4x2 .f32 := (fun a b => concatenate S2048x4x2 2 [⟨S2048x4x1, a⟩, ⟨S2048x4x1, b⟩] concatenates_S2048x4x1_S2048x4x1_S2048x4x2_d2) main_v668 main_v669
  let main_v671 : FVec F S2048x1x4x2 .f32 := broadcastInDim S2048x1x4x2 ![0, 2, 3] bcast_S2048x4x2_S2048x1x4x2_0_2_3 main_v670
  let main_v672 : FVec F S1x8192x2 .f32 := shapeCast S1x8192x2 main_arg4 shapeCasts_S2048x4x2_S1x8192x2
  let main_v673 : FVec F S2048x8192x2 .f32 := broadcastInDim S2048x8192x2 ![0, 1, 2] bcast_S1x8192x2_S2048x8192x2_0_1_2 main_v672
  let main_v674 : FVec F S2048 .f32 := Host.cos main_v507
  let main_v675 : FVec F S2048x1 .f32 := broadcastInDim S2048x1 ![0] bcast_S2048_S2048x1_0 main_v674
  let main_v676 : FVec F S2048 .f32 := Host.sin main_v507
  let main_v677 : FVec F S2048x1 .f32 := broadcastInDim S2048x1 ![0] bcast_S2048_S2048x1_0 main_v676
  let main_v678 : FVec F S2048x8192x1 .f32 := (extractStridedSlice S2048x8192x1 ![0, 0, 0] · slices_S2048x8192x2_S2048x8192x1_0_0_0) main_v673
  let main_v679 : FVec F S2048x8192 .f32 := shapeCast S2048x8192 main_v678 shapeCasts_S2048x8192x1_S2048x8192
  fn_part30 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v512 main_v614 main_v671 main_v673 main_v675 main_v677 main_v679

def fn_part28 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v507 : FVec F S2048 .f32) (main_v512 : FVec F S2048x2 .f32) (main_v614 : IVec S2048 1) (main_v618 : FVec F S2048 .f32) (main_v622 : FVec F S2048 .f32) (main_v625 : FVec F S2048x2 .f32) (main_v629 : FVec F S2048x2 .f32) (main_v630 : FVec F S2048 .f32) (main_v631 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v632 : FVec F S2048x1 .f32 := broadcastInDim S2048x1 ![0] bcast_S2048_S2048x1_0 main_v630
  let main_v633 : FVec F S2048x1 .f32 := broadcastInDim S2048x1 ![0] bcast_S2048_S2048x1_0 main_v631
  let main_v634 : FVec F S2048x2 .f32 := (fun a b => concatenate S2048x2 1 [⟨S2048x1, a⟩, ⟨S2048x1, b⟩] concatenates_S2048x1_S2048x1_S2048x2_d1) main_v632 main_v633
  let main_v635 : FVec F S2048 .f32 := Host.negf main_v618
  let main_v636 : FVec F S2048x1 .f32 := broadcastInDim S2048x1 ![0] bcast_S2048_S2048x1_0 main_v635
  let main_v637 : FVec F S2048x1 .f32 := broadcastInDim S2048x1 ![0] bcast_S2048_S2048x1_0 main_v622
  let main_v638 : FVec F S2048x2 .f32 := (fun a b => concatenate S2048x2 1 [⟨S2048x1, a⟩, ⟨S2048x1, b⟩] concatenates_S2048x1_S2048x1_S2048x2_d1) main_v636 main_v637
  let main_v639 : FVec F S2048x1x2 .f32 := broadcastInDim S2048x1x2 ![0, 2] bcast_S2048x2_S2048x1x2_0_2 main_v625
  let main_v640 : FVec F S2048x1x2 .f32 := broadcastInDim S2048x1x2 ![0, 2] bcast_S2048x2_S2048x1x2_0_2 main_v629
  let main_v641 : FVec F S2048x1x2 .f32 := broadcastInDim S2048x1x2 ![0, 2] bcast_S2048x2_S2048x1x2_0_2 main_v634
  let main_v642 : FVec F S2048x1x2 .f32 := broadcastInDim S2048x1x2 ![0, 2] bcast_S2048x2_S2048x1x2_0_2 main_v638
  let main_v643 : FVec F S2048x4x2 .f32 := concatenate S2048x4x2 1 [⟨S2048x1x2, main_v639⟩, ⟨S2048x1x2, main_v640⟩, ⟨S2048x1x2, main_v641⟩, ⟨S2048x1x2, main_v642⟩] concatenates_S2048x1x2_S2048x1x2_S2048x1x2_S2048x1x2_S2048x4x2_d1
  let main_v644 : FVec F S2048 .f32 := Host.cos main_v39
  let main_v645 : FVec F S2048x1 .f32 := broadcastInDim S2048x1 ![0] bcast_S2048_S2048x1_0 main_v644
  let main_v646 : FVec F S2048 .f32 := Host.sin main_v39
  let main_v647 : FVec F S2048x1 .f32 := broadcastInDim S2048x1 ![0] bcast_S2048_S2048x1_0 main_v646
  let main_v648 : FVec F S2048x4x1 .f32 := (extractStridedSlice S2048x4x1 ![0, 0, 0] · slices_S2048x4x2_S2048x4x1_0_0_0) main_v643
  let main_v649 : FVec F S2048x4 .f32 := shapeCast S2048x4 main_v648 shapeCasts_S2048x4x1_S2048x4
  let main_v650 : FVec F S2048x4x1 .f32 := (extractStridedSlice S2048x4x1 ![0, 0, 1] · slices_S2048x4x2_S2048x4x1_0_0_1) main_v643
  let main_v651 : FVec F S2048x4 .f32 := shapeCast S2048x4 main_v650 shapeCasts_S2048x4x1_S2048x4
  let main_v652 : FVec F S2048x4 .f32 := broadcastInDim S2048x4 ![0, 1] bcast_S2048x1_S2048x4_0_1 main_v645
  let main_v653 : FVec F S2048x4 .f32 := mulf main_v649 main_v652
  let main_v654 : FVec F S2048x4 .f32 := broadcastInDim S2048x4 ![0, 1] bcast_S2048x1_S2048x4_0_1 main_v647
  let main_v655 : FVec F S2048x4 .f32 := mulf main_v651 main_v654
  fn_part29 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v507 main_v512 main_v614 main_v645 main_v647 main_v649 main_v651 main_v653 main_v655

def fn_part27 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v507 : FVec F S2048 .f32) (main_v512 : FVec F S2048x2 .f32) (main_v611 : IVec S2048x2048 32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_c_34 : IVec S_ 32 := constantI S_ 32 0#32
  let main_v612 : IVec S2048 32 := (fun x v => Host.reduce IntOp.addi x v reducesTo_S2048x2048_S2048_d1 h_S_) main_v611 main_c_34
  let main_c_35 : IVec S_ 32 := constantI S_ 32 1#32
  let main_v613 : IVec S2048 32 := broadcastInDim S2048 ![] bcast_S_S2048 main_c_35
  let main_v614 : IVec S2048 1 := cmpi .eq main_v612 main_v613
  let main_v615 : FVec F S2048x1 .f32 := (extractStridedSlice S2048x1 ![0, 0] · slices_S2048x2_S2048x1_0_0) main_arg3
  let main_v616 : FVec F S2048 .f32 := shapeCast S2048 main_v615 shapeCasts_S2048x1_S2048
  let main_cst_36 : FVec F S_ .f32 := constant S_ .f32 0x40000000#32
  let main_v617 : FVec F S2048 .f32 := broadcastInDim S2048 ![] bcast_S_S2048 main_cst_36
  let main_v618 : FVec F S2048 .f32 := Host.divf main_v616 main_v617
  let main_v619 : FVec F S2048x1 .f32 := (extractStridedSlice S2048x1 ![0, 1] · slices_S2048x2_S2048x1_0_1) main_arg3
  let main_v620 : FVec F S2048 .f32 := shapeCast S2048 main_v619 shapeCasts_S2048x1_S2048
  let main_cst_37 : FVec F S_ .f32 := constant S_ .f32 0x40000000#32
  let main_v621 : FVec F S2048 .f32 := broadcastInDim S2048 ![] bcast_S_S2048 main_cst_37
  let main_v622 : FVec F S2048 .f32 := Host.divf main_v620 main_v621
  let main_v623 : FVec F S2048x1 .f32 := broadcastInDim S2048x1 ![0] bcast_S2048_S2048x1_0 main_v618
  let main_v624 : FVec F S2048x1 .f32 := broadcastInDim S2048x1 ![0] bcast_S2048_S2048x1_0 main_v622
  let main_v625 : FVec F S2048x2 .f32 := (fun a b => concatenate S2048x2 1 [⟨S2048x1, a⟩, ⟨S2048x1, b⟩] concatenates_S2048x1_S2048x1_S2048x2_d1) main_v623 main_v624
  let main_v626 : FVec F S2048 .f32 := Host.negf main_v622
  let main_v627 : FVec F S2048x1 .f32 := broadcastInDim S2048x1 ![0] bcast_S2048_S2048x1_0 main_v618
  let main_v628 : FVec F S2048x1 .f32 := broadcastInDim S2048x1 ![0] bcast_S2048_S2048x1_0 main_v626
  let main_v629 : FVec F S2048x2 .f32 := (fun a b => concatenate S2048x2 1 [⟨S2048x1, a⟩, ⟨S2048x1, b⟩] concatenates_S2048x1_S2048x1_S2048x2_d1) main_v627 main_v628
  let main_v630 : FVec F S2048 .f32 := Host.negf main_v618
  let main_v631 : FVec F S2048 .f32 := Host.negf main_v622
  fn_part28 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v507 main_v512 main_v614 main_v618 main_v622 main_v625 main_v629 main_v630 main_v631

def fn_part26 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v507 : FVec F S2048 .f32) (main_v512 : FVec F S2048x2 .f32) (main_v572 : FVec F S2048x1x4x2 .f32) (main_v576 : FVec F S2048x1 .f32) (main_v578 : FVec F S2048x1 .f32) (main_v580 : FVec F S2048x8192 .f32) (main_v582 : FVec F S2048x8192 .f32) (main_v587 : FVec F S2048x8192 .f32) (main_v589 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v590 : FVec F S2048x8192 .f32 := addf main_v587 main_v589
  let main_v591 : FVec F S2048x8192 .f32 := broadcastInDim S2048x8192 ![0, 1] bcast_S2048x1_S2048x8192_0_1 main_v578
  let main_v592 : FVec F S2048x8192 .f32 := mulf main_v580 main_v591
  let main_v593 : FVec F S2048x8192 .f32 := broadcastInDim S2048x8192 ![0, 1] bcast_S2048x1_S2048x8192_0_1 main_v576
  let main_v594 : FVec F S2048x8192 .f32 := mulf main_v582 main_v593
  let main_v595 : FVec F S2048x8192 .f32 := addf main_v592 main_v594
  let main_v596 : FVec F S2048x1 .f32 := (extractStridedSlice S2048x1 ![0, 1] · slices_S2048x2_S2048x1_0_1) main_v512
  let main_v597 : FVec F S2048x8192 .f32 := broadcastInDim S2048x8192 ![0, 1] bcast_S2048x1_S2048x8192_0_1 main_v596
  let main_v598 : FVec F S2048x8192 .f32 := addf main_v595 main_v597
  let main_v599 : FVec F S2048x8192x1 .f32 := broadcastInDim S2048x8192x1 ![0, 1] bcast_S2048x8192_S2048x8192x1_0_1 main_v590
  let main_v600 : FVec F S2048x8192x1 .f32 := broadcastInDim S2048x8192x1 ![0, 1] bcast_S2048x8192_S2048x8192x1_0_1 main_v598
  let main_v601 : FVec F S2048x8192x2 .f32 := (fun a b => concatenate S2048x8192x2 2 [⟨S2048x8192x1, a⟩, ⟨S2048x8192x1, b⟩] concatenates_S2048x8192x1_S2048x8192x1_S2048x8192x2_d2) main_v599 main_v600
  let main_v602 : FVec F S2048x2048x4x2 .f32 := shapeCast S2048x2048x4x2 main_v601 shapeCasts_S2048x8192x2_S2048x2048x4x2
  let main_v603 : FVec F S2048x2048x4x2 .f32 := broadcastInDim S2048x2048x4x2 ![0, 1, 2, 3] bcast_S2048x1x4x2_S2048x2048x4x2_0_1_2_3 main_v572
  let main_v604 : FVec F S2048x2048x4x2 .f32 := subf main_v602 main_v603
  let main_v605 : FVec F S2048x2048x4 .f32 := fn_norm (F := F) main_v604
  let main_cst_32 : FVec F S_ .f32 := constant S_ .f32 0x00000000#32
  let main_v606 : FVec F S2048x2048 .f32 := (fun x v => Host.reduceAdd x v reducesTo_S2048x2048x4_S2048x2048_d2 h_S_) main_v605 main_cst_32
  let main_cst_33 : FVec F S_ .f32 := constant S_ .f32 0x7F800000#32
  let main_v607 : FVec F S2048 .f32 := (fun x v => Host.reduce FloatOps.minimumf x v reducesTo_S2048x2048_S2048_d1 h_S_) main_v606 main_cst_33
  let main_v608 : FVec F S2048x1 .f32 := broadcastInDim S2048x1 ![0] bcast_S2048_S2048x1_0 main_v607
  let main_v609 : FVec F S2048x2048 .f32 := broadcastInDim S2048x2048 ![0, 1] bcast_S2048x1_S2048x2048_0_1 main_v608
  let main_v610 : IVec S2048x2048 1 := cmpf .oeq main_v606 main_v609
  let main_v611 : IVec S2048x2048 32 := (extui 32 · natLt_1_32) main_v610
  fn_part27 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v507 main_v512 main_v611

def fn_part25 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v507 : FVec F S2048 .f32) (main_v512 : FVec F S2048x2 .f32) (main_v560 : FVec F S2048x4 .f32) (main_v565 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v566 : FVec F S2048x1 .f32 := (extractStridedSlice S2048x1 ![0, 1] · slices_S2048x2_S2048x1_0_1) main_v17
  let main_v567 : FVec F S2048x4 .f32 := broadcastInDim S2048x4 ![0, 1] bcast_S2048x1_S2048x4_0_1 main_v566
  let main_v568 : FVec F S2048x4 .f32 := addf main_v565 main_v567
  let main_v569 : FVec F S2048x4x1 .f32 := broadcastInDim S2048x4x1 ![0, 1] bcast_S2048x4_S2048x4x1_0_1 main_v560
  let main_v570 : FVec F S2048x4x1 .f32 := broadcastInDim S2048x4x1 ![0, 1] bcast_S2048x4_S2048x4x1_0_1 main_v568
  let main_v571 : FVec F S2048x4x2 .f32 := (fun a b => concatenate S2048x4x2 2 [⟨S2048x4x1, a⟩, ⟨S2048x4x1, b⟩] concatenates_S2048x4x1_S2048x4x1_S2048x4x2_d2) main_v569 main_v570
  let main_v572 : FVec F S2048x1x4x2 .f32 := broadcastInDim S2048x1x4x2 ![0, 2, 3] bcast_S2048x4x2_S2048x1x4x2_0_2_3 main_v571
  let main_v573 : FVec F S1x8192x2 .f32 := shapeCast S1x8192x2 main_arg4 shapeCasts_S2048x4x2_S1x8192x2
  let main_v574 : FVec F S2048x8192x2 .f32 := broadcastInDim S2048x8192x2 ![0, 1, 2] bcast_S1x8192x2_S2048x8192x2_0_1_2 main_v573
  let main_v575 : FVec F S2048 .f32 := Host.cos main_v507
  let main_v576 : FVec F S2048x1 .f32 := broadcastInDim S2048x1 ![0] bcast_S2048_S2048x1_0 main_v575
  let main_v577 : FVec F S2048 .f32 := Host.sin main_v507
  let main_v578 : FVec F S2048x1 .f32 := broadcastInDim S2048x1 ![0] bcast_S2048_S2048x1_0 main_v577
  let main_v579 : FVec F S2048x8192x1 .f32 := (extractStridedSlice S2048x8192x1 ![0, 0, 0] · slices_S2048x8192x2_S2048x8192x1_0_0_0) main_v574
  let main_v580 : FVec F S2048x8192 .f32 := shapeCast S2048x8192 main_v579 shapeCasts_S2048x8192x1_S2048x8192
  let main_v581 : FVec F S2048x8192x1 .f32 := (extractStridedSlice S2048x8192x1 ![0, 0, 1] · slices_S2048x8192x2_S2048x8192x1_0_0_1) main_v574
  let main_v582 : FVec F S2048x8192 .f32 := shapeCast S2048x8192 main_v581 shapeCasts_S2048x8192x1_S2048x8192
  let main_v583 : FVec F S2048x8192 .f32 := broadcastInDim S2048x8192 ![0, 1] bcast_S2048x1_S2048x8192_0_1 main_v576
  let main_v584 : FVec F S2048x8192 .f32 := mulf main_v580 main_v583
  let main_v585 : FVec F S2048x8192 .f32 := broadcastInDim S2048x8192 ![0, 1] bcast_S2048x1_S2048x8192_0_1 main_v578
  let main_v586 : FVec F S2048x8192 .f32 := mulf main_v582 main_v585
  let main_v587 : FVec F S2048x8192 .f32 := subf main_v584 main_v586
  let main_v588 : FVec F S2048x1 .f32 := (extractStridedSlice S2048x1 ![0, 0] · slices_S2048x2_S2048x1_0_0) main_v512
  let main_v589 : FVec F S2048x8192 .f32 := broadcastInDim S2048x8192 ![0, 1] bcast_S2048x1_S2048x8192_0_1 main_v588
  fn_part26 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v507 main_v512 main_v572 main_v576 main_v578 main_v580 main_v582 main_v587 main_v589

def fn_part24 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v507 : FVec F S2048 .f32) (main_v512 : FVec F S2048x2 .f32) (main_v535 : FVec F S2048x2 .f32) (main_v539 : FVec F S2048x2 .f32) (main_v540 : FVec F S2048x1x2 .f32) (main_v541 : FVec F S2048x1x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v542 : FVec F S2048x1x2 .f32 := broadcastInDim S2048x1x2 ![0, 2] bcast_S2048x2_S2048x1x2_0_2 main_v535
  let main_v543 : FVec F S2048x1x2 .f32 := broadcastInDim S2048x1x2 ![0, 2] bcast_S2048x2_S2048x1x2_0_2 main_v539
  let main_v544 : FVec F S2048x4x2 .f32 := concatenate S2048x4x2 1 [⟨S2048x1x2, main_v540⟩, ⟨S2048x1x2, main_v541⟩, ⟨S2048x1x2, main_v542⟩, ⟨S2048x1x2, main_v543⟩] concatenates_S2048x1x2_S2048x1x2_S2048x1x2_S2048x1x2_S2048x4x2_d1
  let main_v545 : FVec F S2048 .f32 := Host.cos main_v39
  let main_v546 : FVec F S2048x1 .f32 := broadcastInDim S2048x1 ![0] bcast_S2048_S2048x1_0 main_v545
  let main_v547 : FVec F S2048 .f32 := Host.sin main_v39
  let main_v548 : FVec F S2048x1 .f32 := broadcastInDim S2048x1 ![0] bcast_S2048_S2048x1_0 main_v547
  let main_v549 : FVec F S2048x4x1 .f32 := (extractStridedSlice S2048x4x1 ![0, 0, 0] · slices_S2048x4x2_S2048x4x1_0_0_0) main_v544
  let main_v550 : FVec F S2048x4 .f32 := shapeCast S2048x4 main_v549 shapeCasts_S2048x4x1_S2048x4
  let main_v551 : FVec F S2048x4x1 .f32 := (extractStridedSlice S2048x4x1 ![0, 0, 1] · slices_S2048x4x2_S2048x4x1_0_0_1) main_v544
  let main_v552 : FVec F S2048x4 .f32 := shapeCast S2048x4 main_v551 shapeCasts_S2048x4x1_S2048x4
  let main_v553 : FVec F S2048x4 .f32 := broadcastInDim S2048x4 ![0, 1] bcast_S2048x1_S2048x4_0_1 main_v546
  let main_v554 : FVec F S2048x4 .f32 := mulf main_v550 main_v553
  let main_v555 : FVec F S2048x4 .f32 := broadcastInDim S2048x4 ![0, 1] bcast_S2048x1_S2048x4_0_1 main_v548
  let main_v556 : FVec F S2048x4 .f32 := mulf main_v552 main_v555
  let main_v557 : FVec F S2048x4 .f32 := subf main_v554 main_v556
  let main_v558 : FVec F S2048x1 .f32 := (extractStridedSlice S2048x1 ![0, 0] · slices_S2048x2_S2048x1_0_0) main_v17
  let main_v559 : FVec F S2048x4 .f32 := broadcastInDim S2048x4 ![0, 1] bcast_S2048x1_S2048x4_0_1 main_v558
  let main_v560 : FVec F S2048x4 .f32 := addf main_v557 main_v559
  let main_v561 : FVec F S2048x4 .f32 := broadcastInDim S2048x4 ![0, 1] bcast_S2048x1_S2048x4_0_1 main_v548
  let main_v562 : FVec F S2048x4 .f32 := mulf main_v550 main_v561
  let main_v563 : FVec F S2048x4 .f32 := broadcastInDim S2048x4 ![0, 1] bcast_S2048x1_S2048x4_0_1 main_v546
  let main_v564 : FVec F S2048x4 .f32 := mulf main_v552 main_v563
  let main_v565 : FVec F S2048x4 .f32 := addf main_v562 main_v564
  fn_part25 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v507 main_v512 main_v560 main_v565

def fn_part23 {F : FTy → Type} [FloatOps F] (main_arg0 : FVec F S2048x89x2 .f32) (main_arg1 : FVec F S2048x89 .f32) (main_arg3 : FVec F S2048x2 .f32) (main_arg4 : FVec F S2048x4x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v507 : FVec F S2048 .f32) (main_v512 : FVec F S2048x2 .f32) (main_v517 : FVec F S2048 .f32) (main_v518 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v519 : FVec F S2048 .f32 := Host.divf main_v517 main_v518
  let main_v520 : FVec F S2048x1 .f32 := (extractStridedSlice S2048x1 ![0, 1] · slices_S2048x2_S2048x1_0_1) main_arg3
  let main_v521 : FVec F S2048 .f32 := shapeCast S2048 main_v520 shapeCasts_S2048x1_S2048
  let main_cst_31 : FVec F S_ .f32 := constant S_ .f32 0x40000000#32
  let main_v522 : FVec F S2048 .f32 := broadcastInDim S2048 ![] bcast_S_S2048 main_cst_31
  let main_v523 : FVec F S2048 .f32 := Host.divf main_v521 main_v522
  let main_v524 : FVec F S2048x1 .f32 := broadcastInDim S2048x1 ![0] bcast_S2048_S2048x1_0 main_v519
  let main_v525 : FVec F S2048x1 .f32 := broadcastInDim S2048x1 ![0] bcast_S2048_S2048x1_0 main_v523
  let main_v526 : FVec F S2048x2 .f32 := (fun a b => concatenate S2048x2 1 [⟨S2048x1, a⟩, ⟨S2048x1, b⟩] concatenates_S2048x1_S2048x1_S2048x2_d1) main_v524 main_v525
  let main_v527 : FVec F S2048 .f32 := Host.negf main_v523
  let main_v528 : FVec F S2048x1 .f32 := broadcastInDim S2048x1 ![0] bcast_S2048_S2048x1_0 main_v519
  let main_v529 : FVec F S2048x1 .f32 := broadcastInDim S2048x1 ![0] bcast_S2048_S2048x1_0 main_v527
  let main_v530 : FVec F S2048x2 .f32 := (fun a b => concatenate S2048x2 1 [⟨S2048x1, a⟩, ⟨S2048x1, b⟩] concatenates_S2048x1_S2048x1_S2048x2_d1) main_v528 main_v529
  let main_v531 : FVec F S2048 .f32 := Host.negf main_v519
  let main_v532 : FVec F S2048 .f32 := Host.negf main_v523
  let main_v533 : FVec F S2048x1 .f32 := broadcastInDim S2048x1 ![0] bcast_S2048_S2048x1_0 main_v531
  let main_v534 : FVec F S2048x1 .f32 := broadcastInDim S2048x1 ![0] bcast_S2048_S2048x1_0 main_v532
  let main_v535 : FVec F S2048x2 .f32 := (fun a b => concatenate S2048x2 1 [⟨S2048x1, a⟩, ⟨S2048x1, b⟩] concatenates_S2048x1_S2048x1_S2048x2_d1) main_v533 main_v534
  let main_v536 : FVec F S2048 .f32 := Host.negf main_v519
  let main_v537 : FVec F S2048x1 .f32 := broadcastInDim S2048x1 ![0] bcast_S2048_S2048x1_0 main_v536
  let main_v538 : FVec F S2048x1 .f32 := broadcastInDim S2048x1 ![0] bcast_S2048_S2048x1_0 main_v523
  let main_v539 : FVec F S2048x2 .f32 := (fun a b => concatenate S2048x2 1 [⟨S2048x1, a⟩, ⟨S2048x1, b⟩] concatenates_S2048x1_S2048x1_S2048x2_d1) main_v537 main_v538
  let main_v540 : FVec F S2048x1x2 .f32 := broadcastInDim S2048x1x2 ![0, 2] bcast_S2048x2_S2048x1x2_0_2 main_v526
  let main_v541 : FVec F S2048x1x2 .f32 := broadcastInDim S2048x1x2 ![0, 2] bcast_S2048x2_S2048x1x2_0_2 main_v530
  fn_part24 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v507 main_v512 main_v535 main_v539 main_v540 main_v541

def fn_part22 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v496 : FVec F S2048x4x2 .f32) (main_v498 : FVec F S2048x2 .f32) (main_v499 : FVec F S2048x1x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v500 : FVec F S2048x2 .f32 := shapeCast S2048x2 main_v499 shapeCasts_S2048x1x2_S2048x2
  let main_v501 : FVec F S2048x2 .f32 := subf main_v498 main_v500
  let main_v502 : FVec F S2048x1 .f32 := (extractStridedSlice S2048x1 ![0, 1] · slices_S2048x2_S2048x1_0_1) main_v501
  let main_v503 : FVec F S2048 .f32 := shapeCast S2048 main_v502 shapeCasts_S2048x1_S2048
  let main_v504 : FVec F S2048x1 .f32 := (extractStridedSlice S2048x1 ![0, 0] · slices_S2048x2_S2048x1_0_0) main_v501
  let main_v505 : FVec F S2048 .f32 := shapeCast S2048 main_v504 shapeCasts_S2048x1_S2048
  let main_v506 : FVec F S2048 .f32 := Host.atan2 main_v503 main_v505
  let main_v507 : FVec F S2048 .f32 := fn_where_0 (F := F) main_v59 main_v506 main_v37
  let main_v508 : IVec S2048x1 1 := broadcastInDim S2048x1 ![0] bcast_S2048_S2048x1_0 main_v59
  let main_cst_26 : FVec F S_ .f32 := constant S_ .f32 0x00000000#32
  let main_v509 : FVec F S2048x2 .f32 := (fun x v => Host.reduceAdd x v reducesTo_S2048x4x2_S2048x2_d1 h_S_) main_v496 main_cst_26
  let main_cst_27 : FVec F S_ .f32 := constant S_ .f32 0x40800000#32
  let main_v510 : FVec F S2048x2 .f32 := broadcastInDim S2048x2 ![] bcast_S_S2048x2 main_cst_27
  let main_v511 : FVec F S2048x2 .f32 := Host.divf main_v509 main_v510
  let main_v512 : FVec F S2048x2 .f32 := fn_where_1 (F := F) main_v508 main_v511 main_v15
  let main_v513 : IVec S2048x1 1 := broadcastInDim S2048x1 ![0] bcast_S2048_S2048x1_0 main_v59
  let main_cst_28 : FVec F S_ .f32 := constant S_ .f32 0x00000000#32
  let main_v514 : FVec F S2048x2 .f32 := fn_where_2 (F := F) main_v513 main_v512 main_cst_28
  let main_cst_29 : FVec F S_ .f32 := constant S_ .f32 0x00000000#32
  let main_v515 : FVec F S2048 .f32 := fn_where_3 (F := F) main_v59 main_v507 main_cst_29
  let main_v516 : FVec F S2048x1 .f32 := (extractStridedSlice S2048x1 ![0, 0] · slices_S2048x2_S2048x1_0_0) main_arg3
  let main_v517 : FVec F S2048 .f32 := shapeCast S2048 main_v516 shapeCasts_S2048x1_S2048
  let main_cst_30 : FVec F S_ .f32 := constant S_ .f32 0x40000000#32
  let main_v518 : FVec F S2048 .f32 := broadcastInDim S2048 ![] bcast_S_S2048 main_cst_30
  fn_part23 (F := F) main_arg0 main_arg1 main_arg3 main_arg4 main_v17 main_v19 main_v21 main_v23 main_v25 main_v27 main_v29 main_v31 main_v33 main_v39 main_v41 main_v43 main_v45 main_v47 main_v49 main_v51 main_v53 main_v55 main_v61 main_v63 main_v65 main_v67 main_v69 main_v71 main_v73 main_v75 main_v77 main_v176 main_v395 main_v507 main_v512 main_v517 main_v518

def fn_part21 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v395 : IVec S2048 1) (main_v452 : FVec F S2048x1x4x2 .f32) (main_v478 : FVec F S2048x8192 .f32) (main_v479 : FVec F S2048x8192x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v480 : FVec F S2048x8192x1 .f32 := broadcastInDim S2048x8192x1 ![0, 1] bcast_S2048x8192_S2048x8192x1_0_1 main_v478
  let main_v481 : FVec F S2048x8192x2 .f32 := (fun a b => concatenate S2048x8192x2 2 [⟨S2048x8192x1, a⟩, ⟨S2048x8192x1, b⟩] concatenates_S2048x8192x1_S2048x8192x1_S2048x8192x2_d2) main_v479 main_v480
  let main_v482 : FVec F S2048x2048x4x2 .f32 := shapeCast S2048x2048x4x2 main_v481 shapeCasts_S2048x8192x2_S2048x2048x4x2
  let main_v483 : FVec F S2048x2048x4x2 .f32 := broadcastInDim S2048x2048x4x2 ![0, 1, 2, 3] bcast_S2048x1x4x2_S2048x2048x4x2_0_1_2_3 main_v452
  let main_v484 : FVec F S2048x2048x4x2 .f32 := subf main_v482 main_v483
  let main_v485 : FVec F S2048x2048x4 .f32 := fn_norm (F := F) main_v484
  let main_cst_22 : FVec F S_ .f32 := constant S_ .f32 0x00000000#32
  let main_v486 : FVec F S2048x2048 .f32 := (fun x v => Host.reduceAdd x v reducesTo_S2048x2048x4_S2048x2048_d2 h_S_) main_v485 main_cst_22
  let main_v487 : IVec S2048x2048 32 := iotaInDim S2048x2048 32 1
  let main_cst_23 : FVec F S_ .f32 := constant S_ .f32 0x7F800000#32
  let main_v488 : FVec F S2048 .f32 := (fun x v => Host.reduce FloatOps.minimumf x v reducesTo_S2048x2048_S2048_d1 h_S_) main_v486 main_cst_23
  let main_v489 : FVec F S2048x1 .f32 := broadcastInDim S2048x1 ![0] bcast_S2048_S2048x1_0 main_v488
  let main_v490 : FVec F S2048x2048 .f32 := broadcastInDim S2048x2048 ![0, 1] bcast_S2048x1_S2048x2048_0_1 main_v489
  let main_v491 : IVec S2048x2048 1 := cmpf .oeq main_v486 main_v490
  let main_c_24 : IVec S_ 32 := constantI S_ 32 2048#32
  let main_v492 : IVec S2048x2048 32 := fn_where (F := F) main_v491 main_v487 main_c_24
  let main_c_25 : IVec S_ 32 := constantI S_ 32 2147483647#32
  let main_v493 : IVec S2048 32 := (fun x v => Host.reduce IntOp.minsi x v reducesTo_S2048x2048_S2048_d1 h_S_) main_v492 main_c_25
  let main_v494 : IVec S2048x1x1x1 32 := broadcastInDim S2048x1x1x1 ![0] bcast_S2048_S2048x1x1x1_0 main_v493
  let main_v495 : FVec F S2048x1x4x2 .f32 := fn_take_along_axis (F := F) main_v482 main_v494
  let main_v496 : FVec F S2048x4x2 .f32 := shapeCast S2048x4x2 main_v495 shapeCasts_S2048x1x4x2_S2048x4x2
  let main_v497 : FVec F S2048x1x2 .f32 := (extractStridedSlice S2048x1x2 ![0, 0, 0] · slices_S2048x4x2_S2048x1x2_0_0_0) main_v496
  let main_v498 : FVec F S2048x2 .f32 := shapeCast S2048x2 main_v497 shapeCasts_S2048x1x2_S2048x2
  let main_v499 : FVec F S2048x1x2 .f32 := (extractStridedSlice S2048x1x2 ![0, 3, 0] · slices_S2048x4x2_S2048x1x2_0_3_0) main_v496
  fn_part22 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v395 main_v496 main_v498 main_v499

def fn_part20 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_v395 : IVec S2048 1) (main_v452 : FVec F S2048x1x4x2 .f32) (main_v454 : FVec F S2048x8192x2 .f32) (main_v455 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v456 : FVec F S2048x1 .f32 := broadcastInDim S2048x1 ![0] bcast_S2048_S2048x1_0 main_v455
  let main_v457 : FVec F S2048 .f32 := Host.sin main_v288
  let main_v458 : FVec F S2048x1 .f32 := broadcastInDim S2048x1 ![0] bcast_S2048_S2048x1_0 main_v457
  let main_v459 : FVec F S2048x8192x1 .f32 := (extractStridedSlice S2048x8192x1 ![0, 0, 0] · slices_S2048x8192x2_S2048x8192x1_0_0_0) main_v454
  let main_v460 : FVec F S2048x8192 .f32 := shapeCast S2048x8192 main_v459 shapeCasts_S2048x8192x1_S2048x8192
  let main_v461 : FVec F S2048x8192x1 .f32 := (extractStridedSlice S2048x8192x1 ![0, 0, 1] · slices_S2048x8192x2_S2048x8192x1_0_0_1) main_v454
  let main_v462 : FVec F S2048x8192 .f32 := shapeCast S2048x8192 main_v461 shapeCasts_S2048x8192x1_S2048x8192
  let main_v463 : FVec F S2048x8192 .f32 := broadcastInDim S2048x8192 ![0, 1] bcast_S2048x1_S2048x8192_0_1 main_v456
  let main_v464 : FVec F S2048x8192 .f32 := mulf main_v460 main_v463
  let main_v465 : FVec F S2048x8192 .f32 := broadcastInDim S2048x8192 ![0, 1] bcast_S2048x1_S2048x8192_0_1 main_v458
  let main_v466 : FVec F S2048x8192 .f32 := mulf main_v462 main_v465
  let main_v467 : FVec F S2048x8192 .f32 := subf main_v464 main_v466
  let main_v468 : FVec F S2048x1 .f32 := (extractStridedSlice S2048x1 ![0, 0] · slices_S2048x2_S2048x1_0_0) main_v293
  let main_v469 : FVec F S2048x8192 .f32 := broadcastInDim S2048x8192 ![0, 1] bcast_S2048x1_S2048x8192_0_1 main_v468
  let main_v470 : FVec F S2048x8192 .f32 := addf main_v467 main_v469
  let main_v471 : FVec F S2048x8192 .f32 := broadcastInDim S2048x8192 ![0, 1] bcast_S2048x1_S2048x8192_0_1 main_v458
  let main_v472 : FVec F S2048x8192 .f32 := mulf main_v460 main_v471
  let main_v473 : FVec F S2048x8192 .f32 := broadcastInDim S2048x8192 ![0, 1] bcast_S2048x1_S2048x8192_0_1 main_v456
  let main_v474 : FVec F S2048x8192 .f32 := mulf main_v462 main_v473
  let main_v475 : FVec F S2048x8192 .f32 := addf main_v472 main_v474
  let main_v476 : FVec F S2048x1 .f32 := (extractStridedSlice S2048x1 ![0, 1] · slices_S2048x2_S2048x1_0_1) main_v293
  let main_v477 : FVec F S2048x8192 .f32 := broadcastInDim S2048x8192 ![0, 1] bcast_S2048x1_S2048x8192_0_1 main_v476
  let main_v478 : FVec F S2048x8192 .f32 := addf main_v475 main_v477
  let main_v479 : FVec F S2048x8192x1 .f32 := broadcastInDim S2048x8192x1 ![0, 1] bcast_S2048x8192_S2048x8192x1_0_1 main_v470
  fn_part21 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v395 main_v452 main_v478 main_v479

def fn_part19 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_v395 : IVec S2048 1) (main_v426 : FVec F S2048x1 .f32) (main_v428 : FVec F S2048x1 .f32) (main_v430 : FVec F S2048x4 .f32) (main_v431 : FVec F S2048x4x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v432 : FVec F S2048x4 .f32 := shapeCast S2048x4 main_v431 shapeCasts_S2048x4x1_S2048x4
  let main_v433 : FVec F S2048x4 .f32 := broadcastInDim S2048x4 ![0, 1] bcast_S2048x1_S2048x4_0_1 main_v426
  let main_v434 : FVec F S2048x4 .f32 := mulf main_v430 main_v433
  let main_v435 : FVec F S2048x4 .f32 := broadcastInDim S2048x4 ![0, 1] bcast_S2048x1_S2048x4_0_1 main_v428
  let main_v436 : FVec F S2048x4 .f32 := mulf main_v432 main_v435
  let main_v437 : FVec F S2048x4 .f32 := subf main_v434 main_v436
  let main_v438 : FVec F S2048x1 .f32 := (extractStridedSlice S2048x1 ![0, 0] · slices_S2048x2_S2048x1_0_0) main_v15
  let main_v439 : FVec F S2048x4 .f32 := broadcastInDim S2048x4 ![0, 1] bcast_S2048x1_S2048x4_0_1 main_v438
  let main_v440 : FVec F S2048x4 .f32 := addf main_v437 main_v439
  let main_v441 : FVec F S2048x4 .f32 := broadcastInDim S2048x4 ![0, 1] bcast_S2048x1_S2048x4_0_1 main_v428
  let main_v442 : FVec F S2048x4 .f32 := mulf main_v430 main_v441
  let main_v443 : FVec F S2048x4 .f32 := broadcastInDim S2048x4 ![0, 1] bcast_S2048x1_S2048x4_0_1 main_v426
  let main_v444 : FVec F S2048x4 .f32 := mulf main_v432 main_v443
  let main_v445 : FVec F S2048x4 .f32 := addf main_v442 main_v444
  let main_v446 : FVec F S2048x1 .f32 := (extractStridedSlice S2048x1 ![0, 1] · slices_S2048x2_S2048x1_0_1) main_v15
  let main_v447 : FVec F S2048x4 .f32 := broadcastInDim S2048x4 ![0, 1] bcast_S2048x1_S2048x4_0_1 main_v446
  let main_v448 : FVec F S2048x4 .f32 := addf main_v445 main_v447
  let main_v449 : FVec F S2048x4x1 .f32 := broadcastInDim S2048x4x1 ![0, 1] bcast_S2048x4_S2048x4x1_0_1 main_v440
  let main_v450 : FVec F S2048x4x1 .f32 := broadcastInDim S2048x4x1 ![0, 1] bcast_S2048x4_S2048x4x1_0_1 main_v448
  let main_v451 : FVec F S2048x4x2 .f32 := (fun a b => concatenate S2048x4x2 2 [⟨S2048x4x1, a⟩, ⟨S2048x4x1, b⟩] concatenates_S2048x4x1_S2048x4x1_S2048x4x2_d2) main_v449 main_v450
  let main_v452 : FVec F S2048x1x4x2 .f32 := broadcastInDim S2048x1x4x2 ![0, 2, 3] bcast_S2048x4x2_S2048x1x4x2_0_2_3 main_v451
  let main_v453 : FVec F S1x8192x2 .f32 := shapeCast S1x8192x2 main_arg4 shapeCasts_S2048x4x2_S1x8192x2
  let main_v454 : FVec F S2048x8192x2 .f32 := broadcastInDim S2048x8192x2 ![0, 1, 2] bcast_S1x8192x2_S2048x8192x2_0_1_2 main_v453
  let main_v455 : FVec F S2048 .f32 := Host.cos main_v288
  fn_part20 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v288 main_v293 main_v395 main_v452 main_v454 main_v455

def fn_part18 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_v395 : IVec S2048 1) (main_v399 : FVec F S2048 .f32) (main_v403 : FVec F S2048 .f32) (main_v406 : FVec F S2048x2 .f32) (main_v407 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v408 : FVec F S2048x1 .f32 := broadcastInDim S2048x1 ![0] bcast_S2048_S2048x1_0 main_v399
  let main_v409 : FVec F S2048x1 .f32 := broadcastInDim S2048x1 ![0] bcast_S2048_S2048x1_0 main_v407
  let main_v410 : FVec F S2048x2 .f32 := (fun a b => concatenate S2048x2 1 [⟨S2048x1, a⟩, ⟨S2048x1, b⟩] concatenates_S2048x1_S2048x1_S2048x2_d1) main_v408 main_v409
  let main_v411 : FVec F S2048 .f32 := Host.negf main_v399
  let main_v412 : FVec F S2048 .f32 := Host.negf main_v403
  let main_v413 : FVec F S2048x1 .f32 := broadcastInDim S2048x1 ![0] bcast_S2048_S2048x1_0 main_v411
  let main_v414 : FVec F S2048x1 .f32 := broadcastInDim S2048x1 ![0] bcast_S2048_S2048x1_0 main_v412
  let main_v415 : FVec F S2048x2 .f32 := (fun a b => concatenate S2048x2 1 [⟨S2048x1, a⟩, ⟨S2048x1, b⟩] concatenates_S2048x1_S2048x1_S2048x2_d1) main_v413 main_v414
  let main_v416 : FVec F S2048 .f32 := Host.negf main_v399
  let main_v417 : FVec F S2048x1 .f32 := broadcastInDim S2048x1 ![0] bcast_S2048_S2048x1_0 main_v416
  let main_v418 : FVec F S2048x1 .f32 := broadcastInDim S2048x1 ![0] bcast_S2048_S2048x1_0 main_v403
  let main_v419 : FVec F S2048x2 .f32 := (fun a b => concatenate S2048x2 1 [⟨S2048x1, a⟩, ⟨S2048x1, b⟩] concatenates_S2048x1_S2048x1_S2048x2_d1) main_v417 main_v418
  let main_v420 : FVec F S2048x1x2 .f32 := broadcastInDim S2048x1x2 ![0, 2] bcast_S2048x2_S2048x1x2_0_2 main_v406
  let main_v421 : FVec F S2048x1x2 .f32 := broadcastInDim S2048x1x2 ![0, 2] bcast_S2048x2_S2048x1x2_0_2 main_v410
  let main_v422 : FVec F S2048x1x2 .f32 := broadcastInDim S2048x1x2 ![0, 2] bcast_S2048x2_S2048x1x2_0_2 main_v415
  let main_v423 : FVec F S2048x1x2 .f32 := broadcastInDim S2048x1x2 ![0, 2] bcast_S2048x2_S2048x1x2_0_2 main_v419
  let main_v424 : FVec F S2048x4x2 .f32 := concatenate S2048x4x2 1 [⟨S2048x1x2, main_v420⟩, ⟨S2048x1x2, main_v421⟩, ⟨S2048x1x2, main_v422⟩, ⟨S2048x1x2, main_v423⟩] concatenates_S2048x1x2_S2048x1x2_S2048x1x2_S2048x1x2_S2048x4x2_d1
  let main_v425 : FVec F S2048 .f32 := Host.cos main_v37
  let main_v426 : FVec F S2048x1 .f32 := broadcastInDim S2048x1 ![0] bcast_S2048_S2048x1_0 main_v425
  let main_v427 : FVec F S2048 .f32 := Host.sin main_v37
  let main_v428 : FVec F S2048x1 .f32 := broadcastInDim S2048x1 ![0] bcast_S2048_S2048x1_0 main_v427
  let main_v429 : FVec F S2048x4x1 .f32 := (extractStridedSlice S2048x4x1 ![0, 0, 0] · slices_S2048x4x2_S2048x4x1_0_0_0) main_v424
  let main_v430 : FVec F S2048x4 .f32 := shapeCast S2048x4 main_v429 shapeCasts_S2048x4x1_S2048x4
  let main_v431 : FVec F S2048x4x1 .f32 := (extractStridedSlice S2048x4x1 ![0, 0, 1] · slices_S2048x4x2_S2048x4x1_0_0_1) main_v424
  fn_part19 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v288 main_v293 main_v395 main_v426 main_v428 main_v430 main_v431

def fn_part17 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_v387 : FVec F S2048x2048 .f32) (main_cst_17 : FVec F S_ .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v388 : FVec F S2048 .f32 := (fun x v => Host.reduce FloatOps.minimumf x v reducesTo_S2048x2048_S2048_d1 h_S_) main_v387 main_cst_17
  let main_v389 : FVec F S2048x1 .f32 := broadcastInDim S2048x1 ![0] bcast_S2048_S2048x1_0 main_v388
  let main_v390 : FVec F S2048x2048 .f32 := broadcastInDim S2048x2048 ![0, 1] bcast_S2048x1_S2048x2048_0_1 main_v389
  let main_v391 : IVec S2048x2048 1 := cmpf .oeq main_v387 main_v390
  let main_v392 : IVec S2048x2048 32 := (extui 32 · natLt_1_32) main_v391
  let main_c_18 : IVec S_ 32 := constantI S_ 32 0#32
  let main_v393 : IVec S2048 32 := (fun x v => Host.reduce IntOp.addi x v reducesTo_S2048x2048_S2048_d1 h_S_) main_v392 main_c_18
  let main_c_19 : IVec S_ 32 := constantI S_ 32 1#32
  let main_v394 : IVec S2048 32 := broadcastInDim S2048 ![] bcast_S_S2048 main_c_19
  let main_v395 : IVec S2048 1 := cmpi .eq main_v393 main_v394
  let main_v396 : FVec F S2048x1 .f32 := (extractStridedSlice S2048x1 ![0, 0] · slices_S2048x2_S2048x1_0_0) main_arg3
  let main_v397 : FVec F S2048 .f32 := shapeCast S2048 main_v396 shapeCasts_S2048x1_S2048
  let main_cst_20 : FVec F S_ .f32 := constant S_ .f32 0x40000000#32
  let main_v398 : FVec F S2048 .f32 := broadcastInDim S2048 ![] bcast_S_S2048 main_cst_20
  let main_v399 : FVec F S2048 .f32 := Host.divf main_v397 main_v398
  let main_v400 : FVec F S2048x1 .f32 := (extractStridedSlice S2048x1 ![0, 1] · slices_S2048x2_S2048x1_0_1) main_arg3
  let main_v401 : FVec F S2048 .f32 := shapeCast S2048 main_v400 shapeCasts_S2048x1_S2048
  let main_cst_21 : FVec F S_ .f32 := constant S_ .f32 0x40000000#32
  let main_v402 : FVec F S2048 .f32 := broadcastInDim S2048 ![] bcast_S_S2048 main_cst_21
  let main_v403 : FVec F S2048 .f32 := Host.divf main_v401 main_v402
  let main_v404 : FVec F S2048x1 .f32 := broadcastInDim S2048x1 ![0] bcast_S2048_S2048x1_0 main_v399
  let main_v405 : FVec F S2048x1 .f32 := broadcastInDim S2048x1 ![0] bcast_S2048_S2048x1_0 main_v403
  let main_v406 : FVec F S2048x2 .f32 := (fun a b => concatenate S2048x2 1 [⟨S2048x1, a⟩, ⟨S2048x1, b⟩] concatenates_S2048x1_S2048x1_S2048x2_d1) main_v404 main_v405
  let main_v407 : FVec F S2048 .f32 := Host.negf main_v403
  fn_part18 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v288 main_v293 main_v395 main_v399 main_v403 main_v406 main_v407

def fn_part16 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_v353 : FVec F S2048x1x4x2 .f32) (main_v357 : FVec F S2048x1 .f32) (main_v359 : FVec F S2048x1 .f32) (main_v361 : FVec F S2048x8192 .f32) (main_v363 : FVec F S2048x8192 .f32) (main_v365 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v366 : FVec F S2048x8192 .f32 := broadcastInDim S2048x8192 ![0, 1] bcast_S2048x1_S2048x8192_0_1 main_v359
  let main_v367 : FVec F S2048x8192 .f32 := mulf main_v363 main_v366
  let main_v368 : FVec F S2048x8192 .f32 := subf main_v365 main_v367
  let main_v369 : FVec F S2048x1 .f32 := (extractStridedSlice S2048x1 ![0, 0] · slices_S2048x2_S2048x1_0_0) main_v293
  let main_v370 : FVec F S2048x8192 .f32 := broadcastInDim S2048x8192 ![0, 1] bcast_S2048x1_S2048x8192_0_1 main_v369
  let main_v371 : FVec F S2048x8192 .f32 := addf main_v368 main_v370
  let main_v372 : FVec F S2048x8192 .f32 := broadcastInDim S2048x8192 ![0, 1] bcast_S2048x1_S2048x8192_0_1 main_v359
  let main_v373 : FVec F S2048x8192 .f32 := mulf main_v361 main_v372
  let main_v374 : FVec F S2048x8192 .f32 := broadcastInDim S2048x8192 ![0, 1] bcast_S2048x1_S2048x8192_0_1 main_v357
  let main_v375 : FVec F S2048x8192 .f32 := mulf main_v363 main_v374
  let main_v376 : FVec F S2048x8192 .f32 := addf main_v373 main_v375
  let main_v377 : FVec F S2048x1 .f32 := (extractStridedSlice S2048x1 ![0, 1] · slices_S2048x2_S2048x1_0_1) main_v293
  let main_v378 : FVec F S2048x8192 .f32 := broadcastInDim S2048x8192 ![0, 1] bcast_S2048x1_S2048x8192_0_1 main_v377
  let main_v379 : FVec F S2048x8192 .f32 := addf main_v376 main_v378
  let main_v380 : FVec F S2048x8192x1 .f32 := broadcastInDim S2048x8192x1 ![0, 1] bcast_S2048x8192_S2048x8192x1_0_1 main_v371
  let main_v381 : FVec F S2048x8192x1 .f32 := broadcastInDim S2048x8192x1 ![0, 1] bcast_S2048x8192_S2048x8192x1_0_1 main_v379
  let main_v382 : FVec F S2048x8192x2 .f32 := (fun a b => concatenate S2048x8192x2 2 [⟨S2048x8192x1, a⟩, ⟨S2048x8192x1, b⟩] concatenates_S2048x8192x1_S2048x8192x1_S2048x8192x2_d2) main_v380 main_v381
  let main_v383 : FVec F S2048x2048x4x2 .f32 := shapeCast S2048x2048x4x2 main_v382 shapeCasts_S2048x8192x2_S2048x2048x4x2
  let main_v384 : FVec F S2048x2048x4x2 .f32 := broadcastInDim S2048x2048x4x2 ![0, 1, 2, 3] bcast_S2048x1x4x2_S2048x2048x4x2_0_1_2_3 main_v353
  let main_v385 : FVec F S2048x2048x4x2 .f32 := subf main_v383 main_v384
  let main_v386 : FVec F S2048x2048x4 .f32 := fn_norm (F := F) main_v385
  let main_cst_16 : FVec F S_ .f32 := constant S_ .f32 0x00000000#32
  let main_v387 : FVec F S2048x2048 .f32 := (fun x v => Host.reduceAdd x v reducesTo_S2048x2048x4_S2048x2048_d2 h_S_) main_v386 main_cst_16
  let main_cst_17 : FVec F S_ .f32 := constant S_ .f32 0x7F800000#32
  fn_part17 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v288 main_v293 main_v387 main_cst_17

def fn_part15 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_v327 : FVec F S2048x1 .f32) (main_v329 : FVec F S2048x1 .f32) (main_v331 : FVec F S2048x4 .f32) (main_v333 : FVec F S2048x4 .f32) (main_v341 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v342 : FVec F S2048x4 .f32 := broadcastInDim S2048x4 ![0, 1] bcast_S2048x1_S2048x4_0_1 main_v329
  let main_v343 : FVec F S2048x4 .f32 := mulf main_v331 main_v342
  let main_v344 : FVec F S2048x4 .f32 := broadcastInDim S2048x4 ![0, 1] bcast_S2048x1_S2048x4_0_1 main_v327
  let main_v345 : FVec F S2048x4 .f32 := mulf main_v333 main_v344
  let main_v346 : FVec F S2048x4 .f32 := addf main_v343 main_v345
  let main_v347 : FVec F S2048x1 .f32 := (extractStridedSlice S2048x1 ![0, 1] · slices_S2048x2_S2048x1_0_1) main_v15
  let main_v348 : FVec F S2048x4 .f32 := broadcastInDim S2048x4 ![0, 1] bcast_S2048x1_S2048x4_0_1 main_v347
  let main_v349 : FVec F S2048x4 .f32 := addf main_v346 main_v348
  let main_v350 : FVec F S2048x4x1 .f32 := broadcastInDim S2048x4x1 ![0, 1] bcast_S2048x4_S2048x4x1_0_1 main_v341
  let main_v351 : FVec F S2048x4x1 .f32 := broadcastInDim S2048x4x1 ![0, 1] bcast_S2048x4_S2048x4x1_0_1 main_v349
  let main_v352 : FVec F S2048x4x2 .f32 := (fun a b => concatenate S2048x4x2 2 [⟨S2048x4x1, a⟩, ⟨S2048x4x1, b⟩] concatenates_S2048x4x1_S2048x4x1_S2048x4x2_d2) main_v350 main_v351
  let main_v353 : FVec F S2048x1x4x2 .f32 := broadcastInDim S2048x1x4x2 ![0, 2, 3] bcast_S2048x4x2_S2048x1x4x2_0_2_3 main_v352
  let main_v354 : FVec F S1x8192x2 .f32 := shapeCast S1x8192x2 main_arg4 shapeCasts_S2048x4x2_S1x8192x2
  let main_v355 : FVec F S2048x8192x2 .f32 := broadcastInDim S2048x8192x2 ![0, 1, 2] bcast_S1x8192x2_S2048x8192x2_0_1_2 main_v354
  let main_v356 : FVec F S2048 .f32 := Host.cos main_v288
  let main_v357 : FVec F S2048x1 .f32 := broadcastInDim S2048x1 ![0] bcast_S2048_S2048x1_0 main_v356
  let main_v358 : FVec F S2048 .f32 := Host.sin main_v288
  let main_v359 : FVec F S2048x1 .f32 := broadcastInDim S2048x1 ![0] bcast_S2048_S2048x1_0 main_v358
  let main_v360 : FVec F S2048x8192x1 .f32 := (extractStridedSlice S2048x8192x1 ![0, 0, 0] · slices_S2048x8192x2_S2048x8192x1_0_0_0) main_v355
  let main_v361 : FVec F S2048x8192 .f32 := shapeCast S2048x8192 main_v360 shapeCasts_S2048x8192x1_S2048x8192
  let main_v362 : FVec F S2048x8192x1 .f32 := (extractStridedSlice S2048x8192x1 ![0, 0, 1] · slices_S2048x8192x2_S2048x8192x1_0_0_1) main_v355
  let main_v363 : FVec F S2048x8192 .f32 := shapeCast S2048x8192 main_v362 shapeCasts_S2048x8192x1_S2048x8192
  let main_v364 : FVec F S2048x8192 .f32 := broadcastInDim S2048x8192 ![0, 1] bcast_S2048x1_S2048x8192_0_1 main_v357
  let main_v365 : FVec F S2048x8192 .f32 := mulf main_v361 main_v364
  fn_part16 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v288 main_v293 main_v353 main_v357 main_v359 main_v361 main_v363 main_v365

def fn_part14 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_v304 : FVec F S2048 .f32) (main_v307 : FVec F S2048x2 .f32) (main_v311 : FVec F S2048x2 .f32) (main_v316 : FVec F S2048x2 .f32) (main_v317 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v318 : FVec F S2048x1 .f32 := broadcastInDim S2048x1 ![0] bcast_S2048_S2048x1_0 main_v317
  let main_v319 : FVec F S2048x1 .f32 := broadcastInDim S2048x1 ![0] bcast_S2048_S2048x1_0 main_v304
  let main_v320 : FVec F S2048x2 .f32 := (fun a b => concatenate S2048x2 1 [⟨S2048x1, a⟩, ⟨S2048x1, b⟩] concatenates_S2048x1_S2048x1_S2048x2_d1) main_v318 main_v319
  let main_v321 : FVec F S2048x1x2 .f32 := broadcastInDim S2048x1x2 ![0, 2] bcast_S2048x2_S2048x1x2_0_2 main_v307
  let main_v322 : FVec F S2048x1x2 .f32 := broadcastInDim S2048x1x2 ![0, 2] bcast_S2048x2_S2048x1x2_0_2 main_v311
  let main_v323 : FVec F S2048x1x2 .f32 := broadcastInDim S2048x1x2 ![0, 2] bcast_S2048x2_S2048x1x2_0_2 main_v316
  let main_v324 : FVec F S2048x1x2 .f32 := broadcastInDim S2048x1x2 ![0, 2] bcast_S2048x2_S2048x1x2_0_2 main_v320
  let main_v325 : FVec F S2048x4x2 .f32 := concatenate S2048x4x2 1 [⟨S2048x1x2, main_v321⟩, ⟨S2048x1x2, main_v322⟩, ⟨S2048x1x2, main_v323⟩, ⟨S2048x1x2, main_v324⟩] concatenates_S2048x1x2_S2048x1x2_S2048x1x2_S2048x1x2_S2048x4x2_d1
  let main_v326 : FVec F S2048 .f32 := Host.cos main_v37
  let main_v327 : FVec F S2048x1 .f32 := broadcastInDim S2048x1 ![0] bcast_S2048_S2048x1_0 main_v326
  let main_v328 : FVec F S2048 .f32 := Host.sin main_v37
  let main_v329 : FVec F S2048x1 .f32 := broadcastInDim S2048x1 ![0] bcast_S2048_S2048x1_0 main_v328
  let main_v330 : FVec F S2048x4x1 .f32 := (extractStridedSlice S2048x4x1 ![0, 0, 0] · slices_S2048x4x2_S2048x4x1_0_0_0) main_v325
  let main_v331 : FVec F S2048x4 .f32 := shapeCast S2048x4 main_v330 shapeCasts_S2048x4x1_S2048x4
  let main_v332 : FVec F S2048x4x1 .f32 := (extractStridedSlice S2048x4x1 ![0, 0, 1] · slices_S2048x4x2_S2048x4x1_0_0_1) main_v325
  let main_v333 : FVec F S2048x4 .f32 := shapeCast S2048x4 main_v332 shapeCasts_S2048x4x1_S2048x4
  let main_v334 : FVec F S2048x4 .f32 := broadcastInDim S2048x4 ![0, 1] bcast_S2048x1_S2048x4_0_1 main_v327
  let main_v335 : FVec F S2048x4 .f32 := mulf main_v331 main_v334
  let main_v336 : FVec F S2048x4 .f32 := broadcastInDim S2048x4 ![0, 1] bcast_S2048x1_S2048x4_0_1 main_v329
  let main_v337 : FVec F S2048x4 .f32 := mulf main_v333 main_v336
  let main_v338 : FVec F S2048x4 .f32 := subf main_v335 main_v337
  let main_v339 : FVec F S2048x1 .f32 := (extractStridedSlice S2048x1 ![0, 0] · slices_S2048x2_S2048x1_0_0) main_v15
  let main_v340 : FVec F S2048x4 .f32 := broadcastInDim S2048x4 ![0, 1] bcast_S2048x1_S2048x4_0_1 main_v339
  let main_v341 : FVec F S2048x4 .f32 := addf main_v338 main_v340
  fn_part15 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v288 main_v293 main_v327 main_v329 main_v331 main_v333 main_v341

def fn_part13 {F : FTy → Type} [FloatOps F] (main_arg0 : FVec F S2048x89x2 .f32) (main_arg1 : FVec F S2048x89 .f32) (main_arg3 : FVec F S2048x2 .f32) (main_arg4 : FVec F S2048x4x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v288 : FVec F S2048 .f32) (main_v293 : FVec F S2048x2 .f32) (main_cst_13 : FVec F S_ .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v296 : FVec F S2048 .f32 := fn_where_3 (F := F) main_v57 main_v288 main_cst_13
  let main_v297 : FVec F S2048x1 .f32 := (extractStridedSlice S2048x1 ![0, 0] · slices_S2048x2_S2048x1_0_0) main_arg3
  let main_v298 : FVec F S2048 .f32 := shapeCast S2048 main_v297 shapeCasts_S2048x1_S2048
  let main_cst_14 : FVec F S_ .f32 := constant S_ .f32 0x40000000#32
  let main_v299 : FVec F S2048 .f32 := broadcastInDim S2048 ![] bcast_S_S2048 main_cst_14
  let main_v300 : FVec F S2048 .f32 := Host.divf main_v298 main_v299
  let main_v301 : FVec F S2048x1 .f32 := (extractStridedSlice S2048x1 ![0, 1] · slices_S2048x2_S2048x1_0_1) main_arg3
  let main_v302 : FVec F S2048 .f32 := shapeCast S2048 main_v301 shapeCasts_S2048x1_S2048
  let main_cst_15 : FVec F S_ .f32 := constant S_ .f32 0x40000000#32
  let main_v303 : FVec F S2048 .f32 := broadcastInDim S2048 ![] bcast_S_S2048 main_cst_15
  let main_v304 : FVec F S2048 .f32 := Host.divf main_v302 main_v303
  let main_v305 : FVec F S2048x1 .f32 := broadcastInDim S2048x1 ![0] bcast_S2048_S2048x1_0 main_v300
  let main_v306 : FVec F S2048x1 .f32 := broadcastInDim S2048x1 ![0] bcast_S2048_S2048x1_0 main_v304
  let main_v307 : FVec F S2048x2 .f32 := (fun a b => concatenate S2048x2 1 [⟨S2048x1, a⟩, ⟨S2048x1, b⟩] concatenates_S2048x1_S2048x1_S2048x2_d1) main_v305 main_v306
  let main_v308 : FVec F S2048 .f32 := Host.negf main_v304
  let main_v309 : FVec F S2048x1 .f32 := broadcastInDim S2048x1 ![0] bcast_S2048_S2048x1_0 main_v300
  let main_v310 : FVec F S2048x1 .f32 := broadcastInDim S2048x1 ![0] bcast_S2048_S2048x1_0 main_v308
  let main_v311 : FVec F S2048x2 .f32 := (fun a b => concatenate S2048x2 1 [⟨S2048x1, a⟩, ⟨S2048x1, b⟩] concatenates_S2048x1_S2048x1_S2048x2_d1) main_v309 main_v310
  let main_v312 : FVec F S2048 .f32 := Host.negf main_v300
  let main_v313 : FVec F S2048 .f32 := Host.negf main_v304
  let main_v314 : FVec F S2048x1 .f32 := broadcastInDim S2048x1 ![0] bcast_S2048_S2048x1_0 main_v312
  let main_v315 : FVec F S2048x1 .f32 := broadcastInDim S2048x1 ![0] bcast_S2048_S2048x1_0 main_v313
  let main_v316 : FVec F S2048x2 .f32 := (fun a b => concatenate S2048x2 1 [⟨S2048x1, a⟩, ⟨S2048x1, b⟩] concatenates_S2048x1_S2048x1_S2048x2_d1) main_v314 main_v315
  let main_v317 : FVec F S2048 .f32 := Host.negf main_v300
  fn_part14 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v59 main_v61 main_v63 main_v65 main_v67 main_v69 main_v71 main_v73 main_v75 main_v77 main_v176 main_v288 main_v293 main_v304 main_v307 main_v311 main_v316 main_v317

def fn_part12 {F : FTy → Type} [FloatOps F] (main_arg0 : FVec F S2048x89x2 .f32) (main_arg1 : FVec F S2048x89 .f32) (main_arg3 : FVec F S2048x2 .f32) (main_arg4 : FVec F S2048x4x2 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v263 : FVec F S2048x2048x4x2 .f32) (main_v275 : IVec S2048x1x1x1 32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v276 : FVec F S2048x1x4x2 .f32 := fn_take_along_axis (F := F) main_v263 main_v275
  let main_v277 : FVec F S2048x4x2 .f32 := shapeCast S2048x4x2 main_v276 shapeCasts_S2048x1x4x2_S2048x4x2
  let main_v278 : FVec F S2048x1x2 .f32 := (extractStridedSlice S2048x1x2 ![0, 0, 0] · slices_S2048x4x2_S2048x1x2_0_0_0) main_v277
  let main_v279 : FVec F S2048x2 .f32 := shapeCast S2048x2 main_v278 shapeCasts_S2048x1x2_S2048x2
  let main_v280 : FVec F S2048x1x2 .f32 := (extractStridedSlice S2048x1x2 ![0, 3, 0] · slices_S2048x4x2_S2048x1x2_0_3_0) main_v277
  let main_v281 : FVec F S2048x2 .f32 := shapeCast S2048x2 main_v280 shapeCasts_S2048x1x2_S2048x2
  let main_v282 : FVec F S2048x2 .f32 := subf main_v279 main_v281
  let main_v283 : FVec F S2048x1 .f32 := (extractStridedSlice S2048x1 ![0, 1] · slices_S2048x2_S2048x1_0_1) main_v282
  let main_v284 : FVec F S2048 .f32 := shapeCast S2048 main_v283 shapeCasts_S2048x1_S2048
  let main_v285 : FVec F S2048x1 .f32 := (extractStridedSlice S2048x1 ![0, 0] · slices_S2048x2_S2048x1_0_0) main_v282
  let main_v286 : FVec F S2048 .f32 := shapeCast S2048 main_v285 shapeCasts_S2048x1_S2048
  let main_v287 : FVec F S2048 .f32 := Host.atan2 main_v284 main_v286
  let main_v288 : FVec F S2048 .f32 := fn_where_0 (F := F) main_v57 main_v287 main_v35
  let main_v289 : IVec S2048x1 1 := broadcastInDim S2048x1 ![0] bcast_S2048_S2048x1_0 main_v57
  let main_cst_10 : FVec F S_ .f32 := constant S_ .f32 0x00000000#32
  let main_v290 : FVec F S2048x2 .f32 := (fun x v => Host.reduceAdd x v reducesTo_S2048x4x2_S2048x2_d1 h_S_) main_v277 main_cst_10
  let main_cst_11 : FVec F S_ .f32 := constant S_ .f32 0x40800000#32
  let main_v291 : FVec F S2048x2 .f32 := broadcastInDim S2048x2 ![] bcast_S_S2048x2 main_cst_11
  let main_v292 : FVec F S2048x2 .f32 := Host.divf main_v290 main_v291
  let main_v293 : FVec F S2048x2 .f32 := fn_where_1 (F := F) main_v289 main_v292 main_v13
  let main_v294 : IVec S2048x1 1 := broadcastInDim S2048x1 ![0] bcast_S2048_S2048x1_0 main_v57
  let main_cst_12 : FVec F S_ .f32 := constant S_ .f32 0x00000000#32
  let main_v295 : FVec F S2048x2 .f32 := fn_where_2 (F := F) main_v294 main_v293 main_cst_12
  let main_cst_13 : FVec F S_ .f32 := constant S_ .f32 0x00000000#32
  fn_part13 (F := F) main_arg0 main_arg1 main_arg3 main_arg4 main_v15 main_v17 main_v19 main_v21 main_v23 main_v25 main_v27 main_v29 main_v31 main_v33 main_v37 main_v39 main_v41 main_v43 main_v45 main_v47 main_v49 main_v51 main_v53 main_v55 main_v57 main_v59 main_v61 main_v63 main_v65 main_v67 main_v69 main_v71 main_v73 main_v75 main_v77 main_v176 main_v288 main_v293 main_cst_13

def fn_part11 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v233 : FVec F S2048x1x4x2 .f32) (main_v251 : FVec F S2048x8192 .f32) (main_v253 : FVec F S2048x8192 .f32) (main_v255 : FVec F S2048x8192 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v256 : FVec F S2048x8192 .f32 := addf main_v253 main_v255
  let main_v257 : FVec F S2048x1 .f32 := (extractStridedSlice S2048x1 ![0, 1] · slices_S2048x2_S2048x1_0_1) main_v1
  let main_v258 : FVec F S2048x8192 .f32 := broadcastInDim S2048x8192 ![0, 1] bcast_S2048x1_S2048x8192_0_1 main_v257
  let main_v259 : FVec F S2048x8192 .f32 := addf main_v256 main_v258
  let main_v260 : FVec F S2048x8192x1 .f32 := broadcastInDim S2048x8192x1 ![0, 1] bcast_S2048x8192_S2048x8192x1_0_1 main_v251
  let main_v261 : FVec F S2048x8192x1 .f32 := broadcastInDim S2048x8192x1 ![0, 1] bcast_S2048x8192_S2048x8192x1_0_1 main_v259
  let main_v262 : FVec F S2048x8192x2 .f32 := (fun a b => concatenate S2048x8192x2 2 [⟨S2048x8192x1, a⟩, ⟨S2048x8192x1, b⟩] concatenates_S2048x8192x1_S2048x8192x1_S2048x8192x2_d2) main_v260 main_v261
  let main_v263 : FVec F S2048x2048x4x2 .f32 := shapeCast S2048x2048x4x2 main_v262 shapeCasts_S2048x8192x2_S2048x2048x4x2
  let main_v264 : FVec F S2048x2048x4x2 .f32 := broadcastInDim S2048x2048x4x2 ![0, 1, 2, 3] bcast_S2048x1x4x2_S2048x2048x4x2_0_1_2_3 main_v233
  let main_v265 : FVec F S2048x2048x4x2 .f32 := subf main_v263 main_v264
  let main_v266 : FVec F S2048x2048x4 .f32 := fn_norm (F := F) main_v265
  let main_cst_6 : FVec F S_ .f32 := constant S_ .f32 0x00000000#32
  let main_v267 : FVec F S2048x2048 .f32 := (fun x v => Host.reduceAdd x v reducesTo_S2048x2048x4_S2048x2048_d2 h_S_) main_v266 main_cst_6
  let main_v268 : IVec S2048x2048 32 := iotaInDim S2048x2048 32 1
  let main_cst_7 : FVec F S_ .f32 := constant S_ .f32 0x7F800000#32
  let main_v269 : FVec F S2048 .f32 := (fun x v => Host.reduce FloatOps.minimumf x v reducesTo_S2048x2048_S2048_d1 h_S_) main_v267 main_cst_7
  let main_v270 : FVec F S2048x1 .f32 := broadcastInDim S2048x1 ![0] bcast_S2048_S2048x1_0 main_v269
  let main_v271 : FVec F S2048x2048 .f32 := broadcastInDim S2048x2048 ![0, 1] bcast_S2048x1_S2048x2048_0_1 main_v270
  let main_v272 : IVec S2048x2048 1 := cmpf .oeq main_v267 main_v271
  let main_c_8 : IVec S_ 32 := constantI S_ 32 2048#32
  let main_v273 : IVec S2048x2048 32 := fn_where (F := F) main_v272 main_v268 main_c_8
  let main_c_9 : IVec S_ 32 := constantI S_ 32 2147483647#32
  let main_v274 : IVec S2048 32 := (fun x v => Host.reduce IntOp.minsi x v reducesTo_S2048x2048_S2048_d1 h_S_) main_v273 main_c_9
  let main_v275 : IVec S2048x1x1x1 32 := broadcastInDim S2048x1x1x1 ![0] bcast_S2048_S2048x1x1x1_0 main_v274
  fn_part12 (F := F) main_arg0 main_arg1 main_arg3 main_arg4 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v176 main_v263 main_v275

def fn_part10 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v230 : FVec F S2048x4x1 .f32) (main_v231 : FVec F S2048x4x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v232 : FVec F S2048x4x2 .f32 := (fun a b => concatenate S2048x4x2 2 [⟨S2048x4x1, a⟩, ⟨S2048x4x1, b⟩] concatenates_S2048x4x1_S2048x4x1_S2048x4x2_d2) main_v230 main_v231
  let main_v233 : FVec F S2048x1x4x2 .f32 := broadcastInDim S2048x1x4x2 ![0, 2, 3] bcast_S2048x4x2_S2048x1x4x2_0_2_3 main_v232
  let main_v234 : FVec F S1x8192x2 .f32 := shapeCast S1x8192x2 main_arg4 shapeCasts_S2048x4x2_S1x8192x2
  let main_v235 : FVec F S2048x8192x2 .f32 := broadcastInDim S2048x8192x2 ![0, 1, 2] bcast_S1x8192x2_S2048x8192x2_0_1_2 main_v234
  let main_v236 : FVec F S2048 .f32 := Host.cos main_v3
  let main_v237 : FVec F S2048x1 .f32 := broadcastInDim S2048x1 ![0] bcast_S2048_S2048x1_0 main_v236
  let main_v238 : FVec F S2048 .f32 := Host.sin main_v3
  let main_v239 : FVec F S2048x1 .f32 := broadcastInDim S2048x1 ![0] bcast_S2048_S2048x1_0 main_v238
  let main_v240 : FVec F S2048x8192x1 .f32 := (extractStridedSlice S2048x8192x1 ![0, 0, 0] · slices_S2048x8192x2_S2048x8192x1_0_0_0) main_v235
  let main_v241 : FVec F S2048x8192 .f32 := shapeCast S2048x8192 main_v240 shapeCasts_S2048x8192x1_S2048x8192
  let main_v242 : FVec F S2048x8192x1 .f32 := (extractStridedSlice S2048x8192x1 ![0, 0, 1] · slices_S2048x8192x2_S2048x8192x1_0_0_1) main_v235
  let main_v243 : FVec F S2048x8192 .f32 := shapeCast S2048x8192 main_v242 shapeCasts_S2048x8192x1_S2048x8192
  let main_v244 : FVec F S2048x8192 .f32 := broadcastInDim S2048x8192 ![0, 1] bcast_S2048x1_S2048x8192_0_1 main_v237
  let main_v245 : FVec F S2048x8192 .f32 := mulf main_v241 main_v244
  let main_v246 : FVec F S2048x8192 .f32 := broadcastInDim S2048x8192 ![0, 1] bcast_S2048x1_S2048x8192_0_1 main_v239
  let main_v247 : FVec F S2048x8192 .f32 := mulf main_v243 main_v246
  let main_v248 : FVec F S2048x8192 .f32 := subf main_v245 main_v247
  let main_v249 : FVec F S2048x1 .f32 := (extractStridedSlice S2048x1 ![0, 0] · slices_S2048x2_S2048x1_0_0) main_v1
  let main_v250 : FVec F S2048x8192 .f32 := broadcastInDim S2048x8192 ![0, 1] bcast_S2048x1_S2048x8192_0_1 main_v249
  let main_v251 : FVec F S2048x8192 .f32 := addf main_v248 main_v250
  let main_v252 : FVec F S2048x8192 .f32 := broadcastInDim S2048x8192 ![0, 1] bcast_S2048x1_S2048x8192_0_1 main_v239
  let main_v253 : FVec F S2048x8192 .f32 := mulf main_v241 main_v252
  let main_v254 : FVec F S2048x8192 .f32 := broadcastInDim S2048x8192 ![0, 1] bcast_S2048x1_S2048x8192_0_1 main_v237
  let main_v255 : FVec F S2048x8192 .f32 := mulf main_v243 main_v254
  fn_part11 (F := F) main_arg0 main_arg1 main_arg3 main_arg4 main_v1 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v176 main_v233 main_v251 main_v253 main_v255

def fn_part9 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v205 : FVec F S2048x4x2 .f32) (main_v207 : FVec F S2048x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v208 : FVec F S2048 .f32 := Host.sin main_v35
  let main_v209 : FVec F S2048x1 .f32 := broadcastInDim S2048x1 ![0] bcast_S2048_S2048x1_0 main_v208
  let main_v210 : FVec F S2048x4x1 .f32 := (extractStridedSlice S2048x4x1 ![0, 0, 0] · slices_S2048x4x2_S2048x4x1_0_0_0) main_v205
  let main_v211 : FVec F S2048x4 .f32 := shapeCast S2048x4 main_v210 shapeCasts_S2048x4x1_S2048x4
  let main_v212 : FVec F S2048x4x1 .f32 := (extractStridedSlice S2048x4x1 ![0, 0, 1] · slices_S2048x4x2_S2048x4x1_0_0_1) main_v205
  let main_v213 : FVec F S2048x4 .f32 := shapeCast S2048x4 main_v212 shapeCasts_S2048x4x1_S2048x4
  let main_v214 : FVec F S2048x4 .f32 := broadcastInDim S2048x4 ![0, 1] bcast_S2048x1_S2048x4_0_1 main_v207
  let main_v215 : FVec F S2048x4 .f32 := mulf main_v211 main_v214
  let main_v216 : FVec F S2048x4 .f32 := broadcastInDim S2048x4 ![0, 1] bcast_S2048x1_S2048x4_0_1 main_v209
  let main_v217 : FVec F S2048x4 .f32 := mulf main_v213 main_v216
  let main_v218 : FVec F S2048x4 .f32 := subf main_v215 main_v217
  let main_v219 : FVec F S2048x1 .f32 := (extractStridedSlice S2048x1 ![0, 0] · slices_S2048x2_S2048x1_0_0) main_v13
  let main_v220 : FVec F S2048x4 .f32 := broadcastInDim S2048x4 ![0, 1] bcast_S2048x1_S2048x4_0_1 main_v219
  let main_v221 : FVec F S2048x4 .f32 := addf main_v218 main_v220
  let main_v222 : FVec F S2048x4 .f32 := broadcastInDim S2048x4 ![0, 1] bcast_S2048x1_S2048x4_0_1 main_v209
  let main_v223 : FVec F S2048x4 .f32 := mulf main_v211 main_v222
  let main_v224 : FVec F S2048x4 .f32 := broadcastInDim S2048x4 ![0, 1] bcast_S2048x1_S2048x4_0_1 main_v207
  let main_v225 : FVec F S2048x4 .f32 := mulf main_v213 main_v224
  let main_v226 : FVec F S2048x4 .f32 := addf main_v223 main_v225
  let main_v227 : FVec F S2048x1 .f32 := (extractStridedSlice S2048x1 ![0, 1] · slices_S2048x2_S2048x1_0_1) main_v13
  let main_v228 : FVec F S2048x4 .f32 := broadcastInDim S2048x4 ![0, 1] bcast_S2048x1_S2048x4_0_1 main_v227
  let main_v229 : FVec F S2048x4 .f32 := addf main_v226 main_v228
  let main_v230 : FVec F S2048x4x1 .f32 := broadcastInDim S2048x4x1 ![0, 1] bcast_S2048x4_S2048x4x1_0_1 main_v221
  let main_v231 : FVec F S2048x4x1 .f32 := broadcastInDim S2048x4x1 ![0, 1] bcast_S2048x4_S2048x4x1_0_1 main_v229
  fn_part10 (F := F) main_arg0 main_arg1 main_arg3 main_arg4 main_v1 main_v3 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v176 main_v230 main_v231

def fn_part8 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v176 : IVec S2048 1) (main_v180 : FVec F S2048 .f32) (main_v182 : FVec F S2048 .f32) (main_v183 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v184 : FVec F S2048 .f32 := Host.divf main_v182 main_v183
  let main_v185 : FVec F S2048x1 .f32 := broadcastInDim S2048x1 ![0] bcast_S2048_S2048x1_0 main_v180
  let main_v186 : FVec F S2048x1 .f32 := broadcastInDim S2048x1 ![0] bcast_S2048_S2048x1_0 main_v184
  let main_v187 : FVec F S2048x2 .f32 := (fun a b => concatenate S2048x2 1 [⟨S2048x1, a⟩, ⟨S2048x1, b⟩] concatenates_S2048x1_S2048x1_S2048x2_d1) main_v185 main_v186
  let main_v188 : FVec F S2048 .f32 := Host.negf main_v184
  let main_v189 : FVec F S2048x1 .f32 := broadcastInDim S2048x1 ![0] bcast_S2048_S2048x1_0 main_v180
  let main_v190 : FVec F S2048x1 .f32 := broadcastInDim S2048x1 ![0] bcast_S2048_S2048x1_0 main_v188
  let main_v191 : FVec F S2048x2 .f32 := (fun a b => concatenate S2048x2 1 [⟨S2048x1, a⟩, ⟨S2048x1, b⟩] concatenates_S2048x1_S2048x1_S2048x2_d1) main_v189 main_v190
  let main_v192 : FVec F S2048 .f32 := Host.negf main_v180
  let main_v193 : FVec F S2048 .f32 := Host.negf main_v184
  let main_v194 : FVec F S2048x1 .f32 := broadcastInDim S2048x1 ![0] bcast_S2048_S2048x1_0 main_v192
  let main_v195 : FVec F S2048x1 .f32 := broadcastInDim S2048x1 ![0] bcast_S2048_S2048x1_0 main_v193
  let main_v196 : FVec F S2048x2 .f32 := (fun a b => concatenate S2048x2 1 [⟨S2048x1, a⟩, ⟨S2048x1, b⟩] concatenates_S2048x1_S2048x1_S2048x2_d1) main_v194 main_v195
  let main_v197 : FVec F S2048 .f32 := Host.negf main_v180
  let main_v198 : FVec F S2048x1 .f32 := broadcastInDim S2048x1 ![0] bcast_S2048_S2048x1_0 main_v197
  let main_v199 : FVec F S2048x1 .f32 := broadcastInDim S2048x1 ![0] bcast_S2048_S2048x1_0 main_v184
  let main_v200 : FVec F S2048x2 .f32 := (fun a b => concatenate S2048x2 1 [⟨S2048x1, a⟩, ⟨S2048x1, b⟩] concatenates_S2048x1_S2048x1_S2048x2_d1) main_v198 main_v199
  let main_v201 : FVec F S2048x1x2 .f32 := broadcastInDim S2048x1x2 ![0, 2] bcast_S2048x2_S2048x1x2_0_2 main_v187
  let main_v202 : FVec F S2048x1x2 .f32 := broadcastInDim S2048x1x2 ![0, 2] bcast_S2048x2_S2048x1x2_0_2 main_v191
  let main_v203 : FVec F S2048x1x2 .f32 := broadcastInDim S2048x1x2 ![0, 2] bcast_S2048x2_S2048x1x2_0_2 main_v196
  let main_v204 : FVec F S2048x1x2 .f32 := broadcastInDim S2048x1x2 ![0, 2] bcast_S2048x2_S2048x1x2_0_2 main_v200
  let main_v205 : FVec F S2048x4x2 .f32 := concatenate S2048x4x2 1 [⟨S2048x1x2, main_v201⟩, ⟨S2048x1x2, main_v202⟩, ⟨S2048x1x2, main_v203⟩, ⟨S2048x1x2, main_v204⟩] concatenates_S2048x1x2_S2048x1x2_S2048x1x2_S2048x1x2_S2048x4x2_d1
  let main_v206 : FVec F S2048 .f32 := Host.cos main_v35
  let main_v207 : FVec F S2048x1 .f32 := broadcastInDim S2048x1 ![0] bcast_S2048_S2048x1_0 main_v206
  fn_part9 (F := F) main_arg0 main_arg1 main_arg3 main_arg4 main_v1 main_v3 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v176 main_v205 main_v207

def fn_part7 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v164 : FVec F S2048x2048x4x2 .f32) (main_v165 : FVec F S2048x2048x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v166 : FVec F S2048x2048x4x2 .f32 := subf main_v164 main_v165
  let main_v167 : FVec F S2048x2048x4 .f32 := fn_norm (F := F) main_v166
  let main_cst_1 : FVec F S_ .f32 := constant S_ .f32 0x00000000#32
  let main_v168 : FVec F S2048x2048 .f32 := (fun x v => Host.reduceAdd x v reducesTo_S2048x2048x4_S2048x2048_d2 h_S_) main_v167 main_cst_1
  let main_cst_2 : FVec F S_ .f32 := constant S_ .f32 0x7F800000#32
  let main_v169 : FVec F S2048 .f32 := (fun x v => Host.reduce FloatOps.minimumf x v reducesTo_S2048x2048_S2048_d1 h_S_) main_v168 main_cst_2
  let main_v170 : FVec F S2048x1 .f32 := broadcastInDim S2048x1 ![0] bcast_S2048_S2048x1_0 main_v169
  let main_v171 : FVec F S2048x2048 .f32 := broadcastInDim S2048x2048 ![0, 1] bcast_S2048x1_S2048x2048_0_1 main_v170
  let main_v172 : IVec S2048x2048 1 := cmpf .oeq main_v168 main_v171
  let main_v173 : IVec S2048x2048 32 := (extui 32 · natLt_1_32) main_v172
  let main_c : IVec S_ 32 := constantI S_ 32 0#32
  let main_v174 : IVec S2048 32 := (fun x v => Host.reduce IntOp.addi x v reducesTo_S2048x2048_S2048_d1 h_S_) main_v173 main_c
  let main_c_3 : IVec S_ 32 := constantI S_ 32 1#32
  let main_v175 : IVec S2048 32 := broadcastInDim S2048 ![] bcast_S_S2048 main_c_3
  let main_v176 : IVec S2048 1 := cmpi .eq main_v174 main_v175
  let main_v177 : FVec F S2048x1 .f32 := (extractStridedSlice S2048x1 ![0, 0] · slices_S2048x2_S2048x1_0_0) main_arg3
  let main_v178 : FVec F S2048 .f32 := shapeCast S2048 main_v177 shapeCasts_S2048x1_S2048
  let main_cst_4 : FVec F S_ .f32 := constant S_ .f32 0x40000000#32
  let main_v179 : FVec F S2048 .f32 := broadcastInDim S2048 ![] bcast_S_S2048 main_cst_4
  let main_v180 : FVec F S2048 .f32 := Host.divf main_v178 main_v179
  let main_v181 : FVec F S2048x1 .f32 := (extractStridedSlice S2048x1 ![0, 1] · slices_S2048x2_S2048x1_0_1) main_arg3
  let main_v182 : FVec F S2048 .f32 := shapeCast S2048 main_v181 shapeCasts_S2048x1_S2048
  let main_cst_5 : FVec F S_ .f32 := constant S_ .f32 0x40000000#32
  let main_v183 : FVec F S2048 .f32 := broadcastInDim S2048 ![] bcast_S_S2048 main_cst_5
  fn_part8 (F := F) main_arg0 main_arg1 main_arg3 main_arg4 main_v1 main_v3 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v176 main_v180 main_v182 main_v183

def fn_part6 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v134 : FVec F S2048x1x4x2 .f32) (main_v136 : FVec F S2048x8192x2 .f32) (main_v138 : FVec F S2048x1 .f32) (main_v140 : FVec F S2048x1 .f32) (main_v141 : FVec F S2048x8192x1 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v142 : FVec F S2048x8192 .f32 := shapeCast S2048x8192 main_v141 shapeCasts_S2048x8192x1_S2048x8192
  let main_v143 : FVec F S2048x8192x1 .f32 := (extractStridedSlice S2048x8192x1 ![0, 0, 1] · slices_S2048x8192x2_S2048x8192x1_0_0_1) main_v136
  let main_v144 : FVec F S2048x8192 .f32 := shapeCast S2048x8192 main_v143 shapeCasts_S2048x8192x1_S2048x8192
  let main_v145 : FVec F S2048x8192 .f32 := broadcastInDim S2048x8192 ![0, 1] bcast_S2048x1_S2048x8192_0_1 main_v138
  let main_v146 : FVec F S2048x8192 .f32 := mulf main_v142 main_v145
  let main_v147 : FVec F S2048x8192 .f32 := broadcastInDim S2048x8192 ![0, 1] bcast_S2048x1_S2048x8192_0_1 main_v140
  let main_v148 : FVec F S2048x8192 .f32 := mulf main_v144 main_v147
  let main_v149 : FVec F S2048x8192 .f32 := subf main_v146 main_v148
  let main_v150 : FVec F S2048x1 .f32 := (extractStridedSlice S2048x1 ![0, 0] · slices_S2048x2_S2048x1_0_0) main_v1
  let main_v151 : FVec F S2048x8192 .f32 := broadcastInDim S2048x8192 ![0, 1] bcast_S2048x1_S2048x8192_0_1 main_v150
  let main_v152 : FVec F S2048x8192 .f32 := addf main_v149 main_v151
  let main_v153 : FVec F S2048x8192 .f32 := broadcastInDim S2048x8192 ![0, 1] bcast_S2048x1_S2048x8192_0_1 main_v140
  let main_v154 : FVec F S2048x8192 .f32 := mulf main_v142 main_v153
  let main_v155 : FVec F S2048x8192 .f32 := broadcastInDim S2048x8192 ![0, 1] bcast_S2048x1_S2048x8192_0_1 main_v138
  let main_v156 : FVec F S2048x8192 .f32 := mulf main_v144 main_v155
  let main_v157 : FVec F S2048x8192 .f32 := addf main_v154 main_v156
  let main_v158 : FVec F S2048x1 .f32 := (extractStridedSlice S2048x1 ![0, 1] · slices_S2048x2_S2048x1_0_1) main_v1
  let main_v159 : FVec F S2048x8192 .f32 := broadcastInDim S2048x8192 ![0, 1] bcast_S2048x1_S2048x8192_0_1 main_v158
  let main_v160 : FVec F S2048x8192 .f32 := addf main_v157 main_v159
  let main_v161 : FVec F S2048x8192x1 .f32 := broadcastInDim S2048x8192x1 ![0, 1] bcast_S2048x8192_S2048x8192x1_0_1 main_v152
  let main_v162 : FVec F S2048x8192x1 .f32 := broadcastInDim S2048x8192x1 ![0, 1] bcast_S2048x8192_S2048x8192x1_0_1 main_v160
  let main_v163 : FVec F S2048x8192x2 .f32 := (fun a b => concatenate S2048x8192x2 2 [⟨S2048x8192x1, a⟩, ⟨S2048x8192x1, b⟩] concatenates_S2048x8192x1_S2048x8192x1_S2048x8192x2_d2) main_v161 main_v162
  let main_v164 : FVec F S2048x2048x4x2 .f32 := shapeCast S2048x2048x4x2 main_v163 shapeCasts_S2048x8192x2_S2048x2048x4x2
  let main_v165 : FVec F S2048x2048x4x2 .f32 := broadcastInDim S2048x2048x4x2 ![0, 1, 2, 3] bcast_S2048x1x4x2_S2048x2048x4x2_0_1_2_3 main_v134
  fn_part7 (F := F) main_arg0 main_arg1 main_arg3 main_arg4 main_v1 main_v3 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v164 main_v165

def fn_part5 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v108 : FVec F S2048x1 .f32) (main_v110 : FVec F S2048x1 .f32) (main_v112 : FVec F S2048x4 .f32) (main_v114 : FVec F S2048x4 .f32) (main_v116 : FVec F S2048x4 .f32) (main_v117 : FVec F S2048x4 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v118 : FVec F S2048x4 .f32 := mulf main_v114 main_v117
  let main_v119 : FVec F S2048x4 .f32 := subf main_v116 main_v118
  let main_v120 : FVec F S2048x1 .f32 := (extractStridedSlice S2048x1 ![0, 0] · slices_S2048x2_S2048x1_0_0) main_v13
  let main_v121 : FVec F S2048x4 .f32 := broadcastInDim S2048x4 ![0, 1] bcast_S2048x1_S2048x4_0_1 main_v120
  let main_v122 : FVec F S2048x4 .f32 := addf main_v119 main_v121
  let main_v123 : FVec F S2048x4 .f32 := broadcastInDim S2048x4 ![0, 1] bcast_S2048x1_S2048x4_0_1 main_v110
  let main_v124 : FVec F S2048x4 .f32 := mulf main_v112 main_v123
  let main_v125 : FVec F S2048x4 .f32 := broadcastInDim S2048x4 ![0, 1] bcast_S2048x1_S2048x4_0_1 main_v108
  let main_v126 : FVec F S2048x4 .f32 := mulf main_v114 main_v125
  let main_v127 : FVec F S2048x4 .f32 := addf main_v124 main_v126
  let main_v128 : FVec F S2048x1 .f32 := (extractStridedSlice S2048x1 ![0, 1] · slices_S2048x2_S2048x1_0_1) main_v13
  let main_v129 : FVec F S2048x4 .f32 := broadcastInDim S2048x4 ![0, 1] bcast_S2048x1_S2048x4_0_1 main_v128
  let main_v130 : FVec F S2048x4 .f32 := addf main_v127 main_v129
  let main_v131 : FVec F S2048x4x1 .f32 := broadcastInDim S2048x4x1 ![0, 1] bcast_S2048x4_S2048x4x1_0_1 main_v122
  let main_v132 : FVec F S2048x4x1 .f32 := broadcastInDim S2048x4x1 ![0, 1] bcast_S2048x4_S2048x4x1_0_1 main_v130
  let main_v133 : FVec F S2048x4x2 .f32 := (fun a b => concatenate S2048x4x2 2 [⟨S2048x4x1, a⟩, ⟨S2048x4x1, b⟩] concatenates_S2048x4x1_S2048x4x1_S2048x4x2_d2) main_v131 main_v132
  let main_v134 : FVec F S2048x1x4x2 .f32 := broadcastInDim S2048x1x4x2 ![0, 2, 3] bcast_S2048x4x2_S2048x1x4x2_0_2_3 main_v133
  let main_v135 : FVec F S1x8192x2 .f32 := shapeCast S1x8192x2 main_arg4 shapeCasts_S2048x4x2_S1x8192x2
  let main_v136 : FVec F S2048x8192x2 .f32 := broadcastInDim S2048x8192x2 ![0, 1, 2] bcast_S1x8192x2_S2048x8192x2_0_1_2 main_v135
  let main_v137 : FVec F S2048 .f32 := Host.cos main_v3
  let main_v138 : FVec F S2048x1 .f32 := broadcastInDim S2048x1 ![0] bcast_S2048_S2048x1_0 main_v137
  let main_v139 : FVec F S2048 .f32 := Host.sin main_v3
  let main_v140 : FVec F S2048x1 .f32 := broadcastInDim S2048x1 ![0] bcast_S2048_S2048x1_0 main_v139
  let main_v141 : FVec F S2048x8192x1 .f32 := (extractStridedSlice S2048x8192x1 ![0, 0, 0] · slices_S2048x8192x2_S2048x8192x1_0_0_0) main_v136
  fn_part6 (F := F) main_arg0 main_arg1 main_arg3 main_arg4 main_v1 main_v3 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v134 main_v136 main_v138 main_v140 main_v141

def fn_part4 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) (main_v73 : IVec S2048 1) (main_v75 : IVec S2048 1) (main_v77 : IVec S2048 1) (main_v81 : FVec F S2048 .f32) (main_v85 : FVec F S2048 .f32) (main_v88 : FVec F S2048x2 .f32) (main_v92 : FVec F S2048x2 .f32) (main_v93 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v94 : FVec F S2048 .f32 := Host.negf main_v85
  let main_v95 : FVec F S2048x1 .f32 := broadcastInDim S2048x1 ![0] bcast_S2048_S2048x1_0 main_v93
  let main_v96 : FVec F S2048x1 .f32 := broadcastInDim S2048x1 ![0] bcast_S2048_S2048x1_0 main_v94
  let main_v97 : FVec F S2048x2 .f32 := (fun a b => concatenate S2048x2 1 [⟨S2048x1, a⟩, ⟨S2048x1, b⟩] concatenates_S2048x1_S2048x1_S2048x2_d1) main_v95 main_v96
  let main_v98 : FVec F S2048 .f32 := Host.negf main_v81
  let main_v99 : FVec F S2048x1 .f32 := broadcastInDim S2048x1 ![0] bcast_S2048_S2048x1_0 main_v98
  let main_v100 : FVec F S2048x1 .f32 := broadcastInDim S2048x1 ![0] bcast_S2048_S2048x1_0 main_v85
  let main_v101 : FVec F S2048x2 .f32 := (fun a b => concatenate S2048x2 1 [⟨S2048x1, a⟩, ⟨S2048x1, b⟩] concatenates_S2048x1_S2048x1_S2048x2_d1) main_v99 main_v100
  let main_v102 : FVec F S2048x1x2 .f32 := broadcastInDim S2048x1x2 ![0, 2] bcast_S2048x2_S2048x1x2_0_2 main_v88
  let main_v103 : FVec F S2048x1x2 .f32 := broadcastInDim S2048x1x2 ![0, 2] bcast_S2048x2_S2048x1x2_0_2 main_v92
  let main_v104 : FVec F S2048x1x2 .f32 := broadcastInDim S2048x1x2 ![0, 2] bcast_S2048x2_S2048x1x2_0_2 main_v97
  let main_v105 : FVec F S2048x1x2 .f32 := broadcastInDim S2048x1x2 ![0, 2] bcast_S2048x2_S2048x1x2_0_2 main_v101
  let main_v106 : FVec F S2048x4x2 .f32 := concatenate S2048x4x2 1 [⟨S2048x1x2, main_v102⟩, ⟨S2048x1x2, main_v103⟩, ⟨S2048x1x2, main_v104⟩, ⟨S2048x1x2, main_v105⟩] concatenates_S2048x1x2_S2048x1x2_S2048x1x2_S2048x1x2_S2048x4x2_d1
  let main_v107 : FVec F S2048 .f32 := Host.cos main_v35
  let main_v108 : FVec F S2048x1 .f32 := broadcastInDim S2048x1 ![0] bcast_S2048_S2048x1_0 main_v107
  let main_v109 : FVec F S2048 .f32 := Host.sin main_v35
  let main_v110 : FVec F S2048x1 .f32 := broadcastInDim S2048x1 ![0] bcast_S2048_S2048x1_0 main_v109
  let main_v111 : FVec F S2048x4x1 .f32 := (extractStridedSlice S2048x4x1 ![0, 0, 0] · slices_S2048x4x2_S2048x4x1_0_0_0) main_v106
  let main_v112 : FVec F S2048x4 .f32 := shapeCast S2048x4 main_v111 shapeCasts_S2048x4x1_S2048x4
  let main_v113 : FVec F S2048x4x1 .f32 := (extractStridedSlice S2048x4x1 ![0, 0, 1] · slices_S2048x4x2_S2048x4x1_0_0_1) main_v106
  let main_v114 : FVec F S2048x4 .f32 := shapeCast S2048x4 main_v113 shapeCasts_S2048x4x1_S2048x4
  let main_v115 : FVec F S2048x4 .f32 := broadcastInDim S2048x4 ![0, 1] bcast_S2048x1_S2048x4_0_1 main_v108
  let main_v116 : FVec F S2048x4 .f32 := mulf main_v112 main_v115
  let main_v117 : FVec F S2048x4 .f32 := broadcastInDim S2048x4 ![0, 1] bcast_S2048x1_S2048x4_0_1 main_v110
  fn_part5 (F := F) main_arg0 main_arg1 main_arg3 main_arg4 main_v1 main_v3 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v108 main_v110 main_v112 main_v114 main_v116 main_v117

def fn_part3 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v11 : IVec S11x2048 1) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) (main_v49 : FVec F S2048 .f32) (main_v51 : FVec F S2048 .f32) (main_v53 : FVec F S2048 .f32) (main_v55 : FVec F S2048 .f32) (main_v57 : IVec S2048 1) (main_v59 : IVec S2048 1) (main_v61 : IVec S2048 1) (main_v63 : IVec S2048 1) (main_v65 : IVec S2048 1) (main_v67 : IVec S2048 1) (main_v69 : IVec S2048 1) (main_v71 : IVec S2048 1) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v72 : IVec S1x2048 1 := (extractStridedSlice S1x2048 ![8, 0] · slices_S11x2048_S1x2048_8_0) main_v11
  let main_v73 : IVec S2048 1 := shapeCast S2048 main_v72 shapeCasts_S1x2048_S2048
  let main_v74 : IVec S1x2048 1 := (extractStridedSlice S1x2048 ![9, 0] · slices_S11x2048_S1x2048_9_0) main_v11
  let main_v75 : IVec S2048 1 := shapeCast S2048 main_v74 shapeCasts_S1x2048_S2048
  let main_v76 : IVec S1x2048 1 := (extractStridedSlice S1x2048 ![10, 0] · slices_S11x2048_S1x2048_10_0) main_v11
  let main_v77 : IVec S2048 1 := shapeCast S2048 main_v76 shapeCasts_S1x2048_S2048
  let main_v78 : FVec F S2048x1 .f32 := (extractStridedSlice S2048x1 ![0, 0] · slices_S2048x2_S2048x1_0_0) main_arg3
  let main_v79 : FVec F S2048 .f32 := shapeCast S2048 main_v78 shapeCasts_S2048x1_S2048
  let main_cst : FVec F S_ .f32 := constant S_ .f32 0x40000000#32
  let main_v80 : FVec F S2048 .f32 := broadcastInDim S2048 ![] bcast_S_S2048 main_cst
  let main_v81 : FVec F S2048 .f32 := Host.divf main_v79 main_v80
  let main_v82 : FVec F S2048x1 .f32 := (extractStridedSlice S2048x1 ![0, 1] · slices_S2048x2_S2048x1_0_1) main_arg3
  let main_v83 : FVec F S2048 .f32 := shapeCast S2048 main_v82 shapeCasts_S2048x1_S2048
  let main_cst_0 : FVec F S_ .f32 := constant S_ .f32 0x40000000#32
  let main_v84 : FVec F S2048 .f32 := broadcastInDim S2048 ![] bcast_S_S2048 main_cst_0
  let main_v85 : FVec F S2048 .f32 := Host.divf main_v83 main_v84
  let main_v86 : FVec F S2048x1 .f32 := broadcastInDim S2048x1 ![0] bcast_S2048_S2048x1_0 main_v81
  let main_v87 : FVec F S2048x1 .f32 := broadcastInDim S2048x1 ![0] bcast_S2048_S2048x1_0 main_v85
  let main_v88 : FVec F S2048x2 .f32 := (fun a b => concatenate S2048x2 1 [⟨S2048x1, a⟩, ⟨S2048x1, b⟩] concatenates_S2048x1_S2048x1_S2048x2_d1) main_v86 main_v87
  let main_v89 : FVec F S2048 .f32 := Host.negf main_v85
  let main_v90 : FVec F S2048x1 .f32 := broadcastInDim S2048x1 ![0] bcast_S2048_S2048x1_0 main_v81
  let main_v91 : FVec F S2048x1 .f32 := broadcastInDim S2048x1 ![0] bcast_S2048_S2048x1_0 main_v89
  let main_v92 : FVec F S2048x2 .f32 := (fun a b => concatenate S2048x2 1 [⟨S2048x1, a⟩, ⟨S2048x1, b⟩] concatenates_S2048x1_S2048x1_S2048x2_d1) main_v90 main_v91
  let main_v93 : FVec F S2048 .f32 := Host.negf main_v81
  fn_part4 (F := F) main_arg0 main_arg1 main_arg3 main_arg4 main_v1 main_v3 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71 main_v73 main_v75 main_v77 main_v81 main_v85 main_v88 main_v92 main_v93

def fn_part2 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v7 : FVec F S11x2048 .f32) (main_v11 : IVec S11x2048 1) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) (main_v25 : FVec F S2048x2 .f32) (main_v27 : FVec F S2048x2 .f32) (main_v29 : FVec F S2048x2 .f32) (main_v31 : FVec F S2048x2 .f32) (main_v33 : FVec F S2048x2 .f32) (main_v35 : FVec F S2048 .f32) (main_v37 : FVec F S2048 .f32) (main_v39 : FVec F S2048 .f32) (main_v41 : FVec F S2048 .f32) (main_v43 : FVec F S2048 .f32) (main_v45 : FVec F S2048 .f32) (main_v47 : FVec F S2048 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v48 : FVec F S1x2048 .f32 := (extractStridedSlice S1x2048 ![7, 0] · slices_S11x2048_S1x2048_7_0) main_v7
  let main_v49 : FVec F S2048 .f32 := shapeCast S2048 main_v48 shapeCasts_S1x2048_S2048
  let main_v50 : FVec F S1x2048 .f32 := (extractStridedSlice S1x2048 ![8, 0] · slices_S11x2048_S1x2048_8_0) main_v7
  let main_v51 : FVec F S2048 .f32 := shapeCast S2048 main_v50 shapeCasts_S1x2048_S2048
  let main_v52 : FVec F S1x2048 .f32 := (extractStridedSlice S1x2048 ![9, 0] · slices_S11x2048_S1x2048_9_0) main_v7
  let main_v53 : FVec F S2048 .f32 := shapeCast S2048 main_v52 shapeCasts_S1x2048_S2048
  let main_v54 : FVec F S1x2048 .f32 := (extractStridedSlice S1x2048 ![10, 0] · slices_S11x2048_S1x2048_10_0) main_v7
  let main_v55 : FVec F S2048 .f32 := shapeCast S2048 main_v54 shapeCasts_S1x2048_S2048
  let main_v56 : IVec S1x2048 1 := (extractStridedSlice S1x2048 ![0, 0] · slices_S11x2048_S1x2048_0_0) main_v11
  let main_v57 : IVec S2048 1 := shapeCast S2048 main_v56 shapeCasts_S1x2048_S2048
  let main_v58 : IVec S1x2048 1 := (extractStridedSlice S1x2048 ![1, 0] · slices_S11x2048_S1x2048_1_0) main_v11
  let main_v59 : IVec S2048 1 := shapeCast S2048 main_v58 shapeCasts_S1x2048_S2048
  let main_v60 : IVec S1x2048 1 := (extractStridedSlice S1x2048 ![2, 0] · slices_S11x2048_S1x2048_2_0) main_v11
  let main_v61 : IVec S2048 1 := shapeCast S2048 main_v60 shapeCasts_S1x2048_S2048
  let main_v62 : IVec S1x2048 1 := (extractStridedSlice S1x2048 ![3, 0] · slices_S11x2048_S1x2048_3_0) main_v11
  let main_v63 : IVec S2048 1 := shapeCast S2048 main_v62 shapeCasts_S1x2048_S2048
  let main_v64 : IVec S1x2048 1 := (extractStridedSlice S1x2048 ![4, 0] · slices_S11x2048_S1x2048_4_0) main_v11
  let main_v65 : IVec S2048 1 := shapeCast S2048 main_v64 shapeCasts_S1x2048_S2048
  let main_v66 : IVec S1x2048 1 := (extractStridedSlice S1x2048 ![5, 0] · slices_S11x2048_S1x2048_5_0) main_v11
  let main_v67 : IVec S2048 1 := shapeCast S2048 main_v66 shapeCasts_S1x2048_S2048
  let main_v68 : IVec S1x2048 1 := (extractStridedSlice S1x2048 ![6, 0] · slices_S11x2048_S1x2048_6_0) main_v11
  let main_v69 : IVec S2048 1 := shapeCast S2048 main_v68 shapeCasts_S1x2048_S2048
  let main_v70 : IVec S1x2048 1 := (extractStridedSlice S1x2048 ![7, 0] · slices_S11x2048_S1x2048_7_0) main_v11
  let main_v71 : IVec S2048 1 := shapeCast S2048 main_v70 shapeCasts_S1x2048_S2048
  fn_part3 (F := F) main_arg0 main_arg1 main_arg3 main_arg4 main_v1 main_v3 main_v11 main_v13 main_v15 main_v17 main_v19 main_v21 main_v23 main_v25 main_v27 main_v29 main_v31 main_v33 main_v35 main_v37 main_v39 main_v41 main_v43 main_v45 main_v47 main_v49 main_v51 main_v53 main_v55 main_v57 main_v59 main_v61 main_v63 main_v65 main_v67 main_v69 main_v71

def fn_part1 {F : FTy → Type} [FloatOps F] (main_arg0 : FVec F S2048x89x2 .f32) (main_arg1 : FVec F S2048x89 .f32) (main_arg3 : FVec F S2048x2 .f32) (main_arg4 : FVec F S2048x4x2 .f32) (main_v1 : FVec F S2048x2 .f32) (main_v3 : FVec F S2048 .f32) (main_v5 : FVec F S11x2048x2 .f32) (main_v7 : FVec F S11x2048 .f32) (main_v11 : IVec S11x2048 1) (main_v13 : FVec F S2048x2 .f32) (main_v15 : FVec F S2048x2 .f32) (main_v17 : FVec F S2048x2 .f32) (main_v19 : FVec F S2048x2 .f32) (main_v21 : FVec F S2048x2 .f32) (main_v23 : FVec F S2048x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v24 : FVec F S1x2048x2 .f32 := (extractStridedSlice S1x2048x2 ![6, 0, 0] · slices_S11x2048x2_S1x2048x2_6_0_0) main_v5
  let main_v25 : FVec F S2048x2 .f32 := shapeCast S2048x2 main_v24 shapeCasts_S1x2048x2_S2048x2
  let main_v26 : FVec F S1x2048x2 .f32 := (extractStridedSlice S1x2048x2 ![7, 0, 0] · slices_S11x2048x2_S1x2048x2_7_0_0) main_v5
  let main_v27 : FVec F S2048x2 .f32 := shapeCast S2048x2 main_v26 shapeCasts_S1x2048x2_S2048x2
  let main_v28 : FVec F S1x2048x2 .f32 := (extractStridedSlice S1x2048x2 ![8, 0, 0] · slices_S11x2048x2_S1x2048x2_8_0_0) main_v5
  let main_v29 : FVec F S2048x2 .f32 := shapeCast S2048x2 main_v28 shapeCasts_S1x2048x2_S2048x2
  let main_v30 : FVec F S1x2048x2 .f32 := (extractStridedSlice S1x2048x2 ![9, 0, 0] · slices_S11x2048x2_S1x2048x2_9_0_0) main_v5
  let main_v31 : FVec F S2048x2 .f32 := shapeCast S2048x2 main_v30 shapeCasts_S1x2048x2_S2048x2
  let main_v32 : FVec F S1x2048x2 .f32 := (extractStridedSlice S1x2048x2 ![10, 0, 0] · slices_S11x2048x2_S1x2048x2_10_0_0) main_v5
  let main_v33 : FVec F S2048x2 .f32 := shapeCast S2048x2 main_v32 shapeCasts_S1x2048x2_S2048x2
  let main_v34 : FVec F S1x2048 .f32 := (extractStridedSlice S1x2048 ![0, 0] · slices_S11x2048_S1x2048_0_0) main_v7
  let main_v35 : FVec F S2048 .f32 := shapeCast S2048 main_v34 shapeCasts_S1x2048_S2048
  let main_v36 : FVec F S1x2048 .f32 := (extractStridedSlice S1x2048 ![1, 0] · slices_S11x2048_S1x2048_1_0) main_v7
  let main_v37 : FVec F S2048 .f32 := shapeCast S2048 main_v36 shapeCasts_S1x2048_S2048
  let main_v38 : FVec F S1x2048 .f32 := (extractStridedSlice S1x2048 ![2, 0] · slices_S11x2048_S1x2048_2_0) main_v7
  let main_v39 : FVec F S2048 .f32 := shapeCast S2048 main_v38 shapeCasts_S1x2048_S2048
  let main_v40 : FVec F S1x2048 .f32 := (extractStridedSlice S1x2048 ![3, 0] · slices_S11x2048_S1x2048_3_0) main_v7
  let main_v41 : FVec F S2048 .f32 := shapeCast S2048 main_v40 shapeCasts_S1x2048_S2048
  let main_v42 : FVec F S1x2048 .f32 := (extractStridedSlice S1x2048 ![4, 0] · slices_S11x2048_S1x2048_4_0) main_v7
  let main_v43 : FVec F S2048 .f32 := shapeCast S2048 main_v42 shapeCasts_S1x2048_S2048
  let main_v44 : FVec F S1x2048 .f32 := (extractStridedSlice S1x2048 ![5, 0] · slices_S11x2048_S1x2048_5_0) main_v7
  let main_v45 : FVec F S2048 .f32 := shapeCast S2048 main_v44 shapeCasts_S1x2048_S2048
  let main_v46 : FVec F S1x2048 .f32 := (extractStridedSlice S1x2048 ![6, 0] · slices_S11x2048_S1x2048_6_0) main_v7
  let main_v47 : FVec F S2048 .f32 := shapeCast S2048 main_v46 shapeCasts_S1x2048_S2048
  fn_part2 (F := F) main_arg0 main_arg1 main_arg3 main_arg4 main_v1 main_v3 main_v7 main_v11 main_v13 main_v15 main_v17 main_v19 main_v21 main_v23 main_v25 main_v27 main_v29 main_v31 main_v33 main_v35 main_v37 main_v39 main_v41 main_v43 main_v45 main_v47

def fn {F : FTy → Type} [FloatOps F] (main_arg0 : FVec F S2048x89x2 .f32) (main_arg1 : FVec F S2048x89 .f32) (main_arg2 : IVec S2048x89 1) (main_arg3 : FVec F S2048x2 .f32) (main_arg4 : FVec F S2048x4x2 .f32) : IVec S2048x12x2 1 × IVec S2048x12 1 × IVec S2048x2 1 × IVec S2048x4x2 1 × IVec S2048 1 × IVec S2048 1 × IVec S2048 1 × IVec S2048 1 × IVec S2048 1 × IVec S2048 1 × IVec S2048 1 × IVec S2048 1 × IVec S2048 1 × IVec S2048 1 × IVec S2048 1 :=
  let main_v0 : FVec F S2048x1x2 .f32 := (extractStridedSlice S2048x1x2 ![0, 0, 0] · slices_S2048x89x2_S2048x1x2_0_0_0) main_arg0
  let main_v1 : FVec F S2048x2 .f32 := shapeCast S2048x2 main_v0 shapeCasts_S2048x1x2_S2048x2
  let main_v2 : FVec F S2048x1 .f32 := (extractStridedSlice S2048x1 ![0, 0] · slices_S2048x89_S2048x1_0_0) main_arg1
  let main_v3 : FVec F S2048 .f32 := shapeCast S2048 main_v2 shapeCasts_S2048x1_S2048
  let main_v4 : FVec F S2048x11x2 .f32 := (Host.slice S2048x11x2 ![0, 8, 0] ![1, 8, 1] · slicesBy_S2048x89x2_S2048x11x2_0s1_8s8_0s1) main_arg0
  let main_v5 : FVec F S11x2048x2 .f32 := (transpose S11x2048x2 [1, 0, 2] · transposes_S2048x11x2_S11x2048x2_1_0_2) main_v4
  let main_v6 : FVec F S2048x11 .f32 := (Host.slice S2048x11 ![0, 8] ![1, 8] · slicesBy_S2048x89_S2048x11_0s1_8s8) main_arg1
  let main_v7 : FVec F S11x2048 .f32 := (transpose S11x2048 [1, 0] · transposes_S2048x11_S11x2048_1_0) main_v6
  let main_v8 : IVec S2048x11 1 := (Host.slice S2048x11 ![0, 0] ![1, 8] · slicesBy_S2048x89_S2048x11_0s1_0s8) main_arg2
  let main_v9 : IVec S2048x11 1 := (Host.slice S2048x11 ![0, 8] ![1, 8] · slicesBy_S2048x89_S2048x11_0s1_8s8) main_arg2
  let main_v10 : IVec S2048x11 1 := andi main_v8 main_v9
  let main_v11 : IVec S11x2048 1 := (transpose S11x2048 [1, 0] · transposes_S2048x11_S11x2048_1_0) main_v10
  let main_v12 : FVec F S1x2048x2 .f32 := (extractStridedSlice S1x2048x2 ![0, 0, 0] · slices_S11x2048x2_S1x2048x2_0_0_0) main_v5
  let main_v13 : FVec F S2048x2 .f32 := shapeCast S2048x2 main_v12 shapeCasts_S1x2048x2_S2048x2
  let main_v14 : FVec F S1x2048x2 .f32 := (extractStridedSlice S1x2048x2 ![1, 0, 0] · slices_S11x2048x2_S1x2048x2_1_0_0) main_v5
  let main_v15 : FVec F S2048x2 .f32 := shapeCast S2048x2 main_v14 shapeCasts_S1x2048x2_S2048x2
  let main_v16 : FVec F S1x2048x2 .f32 := (extractStridedSlice S1x2048x2 ![2, 0, 0] · slices_S11x2048x2_S1x2048x2_2_0_0) main_v5
  let main_v17 : FVec F S2048x2 .f32 := shapeCast S2048x2 main_v16 shapeCasts_S1x2048x2_S2048x2
  let main_v18 : FVec F S1x2048x2 .f32 := (extractStridedSlice S1x2048x2 ![3, 0, 0] · slices_S11x2048x2_S1x2048x2_3_0_0) main_v5
  let main_v19 : FVec F S2048x2 .f32 := shapeCast S2048x2 main_v18 shapeCasts_S1x2048x2_S2048x2
  let main_v20 : FVec F S1x2048x2 .f32 := (extractStridedSlice S1x2048x2 ![4, 0, 0] · slices_S11x2048x2_S1x2048x2_4_0_0) main_v5
  let main_v21 : FVec F S2048x2 .f32 := shapeCast S2048x2 main_v20 shapeCasts_S1x2048x2_S2048x2
  let main_v22 : FVec F S1x2048x2 .f32 := (extractStridedSlice S1x2048x2 ![5, 0, 0] · slices_S11x2048x2_S1x2048x2_5_0_0) main_v5
  let main_v23 : FVec F S2048x2 .f32 := shapeCast S2048x2 main_v22 shapeCasts_S1x2048x2_S2048x2
  fn_part1 (F := F) main_arg0 main_arg1 main_arg3 main_arg4 main_v1 main_v3 main_v5 main_v7 main_v11 main_v13 main_v15 main_v17 main_v19 main_v21 main_v23
-- ==== Kernel.lean ====
abbrev S2048x89x2 : Shape := ⟨3, ![2048, 89, 2]⟩
abbrev S2048x89 : Shape := ⟨2, ![2048, 89]⟩
abbrev S2048x2 : Shape := ⟨2, ![2048, 2]⟩
abbrev S2048x4x2 : Shape := ⟨3, ![2048, 4, 2]⟩
abbrev S2048x12x1 : Shape := ⟨3, ![2048, 12, 1]⟩
abbrev S2048x12 : Shape := ⟨2, ![2048, 12]⟩
abbrev S2048x4x1 : Shape := ⟨3, ![2048, 4, 1]⟩
abbrev S2048x4 : Shape := ⟨2, ![2048, 4]⟩
abbrev S4x2048 : Shape := ⟨2, ![4, 2048]⟩
abbrev S1x2048 : Shape := ⟨2, ![1, 2048]⟩
abbrev S_ : Shape := ⟨0, ![]⟩
abbrev S12x2048 : Shape := ⟨2, ![12, 2048]⟩
abbrev S2048x11 : Shape := ⟨2, ![2048, 11]⟩
abbrev S8x128 : Shape := ⟨2, ![8, 128]⟩
abbrev S2048x2048 : Shape := ⟨2, ![2048, 2048]⟩
abbrev S2048x1 : Shape := ⟨2, ![2048, 1]⟩
abbrev S2048 : Shape := ⟨1, ![2048]⟩
abbrev S11x2048 : Shape := ⟨2, ![11, 2048]⟩
abbrev S11x2048x1 : Shape := ⟨3, ![11, 2048, 1]⟩
abbrev S11x2048x2 : Shape := ⟨3, ![11, 2048, 2]⟩

abbrev nBuf : Space → Nat
  | .hbm => 61
  | .vmem => 12
  | .smem => 0
  | _ => 0

abbrev bufTy : (tb : Table) → Fin (tcTables nBuf tb) → BufTy
  | .hbm, ⟨0, _⟩ => ⟨S2048x89x2, .f32⟩
  | .hbm, ⟨1, _⟩ => ⟨S2048x89, .f32⟩
  | .hbm, ⟨2, _⟩ => ⟨S2048x89, .i1⟩
  | .hbm, ⟨3, _⟩ => ⟨S2048x2, .f32⟩
  | .hbm, ⟨4, _⟩ => ⟨S2048x4x2, .f32⟩
  | .hbm, ⟨5, _⟩ => ⟨S2048x12x1, .f32⟩
  | .hbm, ⟨6, _⟩ => ⟨S2048x12, .f32⟩
  | .hbm, ⟨7, _⟩ => ⟨S2048x12x1, .f32⟩
  | .hbm, ⟨8, _⟩ => ⟨S2048x12, .f32⟩
  | .hbm, ⟨9, _⟩ => ⟨S2048x12, .f32⟩
  | .hbm, ⟨10, _⟩ => ⟨S2048x12, .i1⟩
  | .hbm, ⟨11, _⟩ => ⟨S2048x12, .f32⟩
  | .hbm, ⟨12, _⟩ => ⟨S2048x4x1, .f32⟩
  | .hbm, ⟨13, _⟩ => ⟨S2048x4, .f32⟩
  | .hbm, ⟨14, _⟩ => ⟨S4x2048, .f32⟩
  | .hbm, ⟨15, _⟩ => ⟨S2048x4x1, .f32⟩
  | .hbm, ⟨16, _⟩ => ⟨S2048x4, .f32⟩
  | .hbm, ⟨17, _⟩ => ⟨S4x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S12x2048, .f32⟩
  | .hbm, ⟨45, _⟩ => ⟨S2048x11, .f32⟩
  | .hbm, ⟨46, _⟩ => ⟨S2048x11, .i32⟩
  | .hbm, ⟨47, _⟩ => ⟨S2048x11, .f32⟩
  | .hbm, ⟨48, _⟩ => ⟨S2048x11, .f32⟩
  | .hbm, ⟨49, _⟩ => ⟨S2048x11, .f32⟩
  | .hbm, ⟨50, _⟩ => ⟨S11x2048, .f32⟩
  | .hbm, ⟨51, _⟩ => ⟨S_, .f32⟩
  | .hbm, ⟨52, _⟩ => ⟨S11x2048, .f32⟩
  | .hbm, ⟨53, _⟩ => ⟨S11x2048, .i1⟩
  | .hbm, ⟨54, _⟩ => ⟨S11x2048, .i32⟩
  | .hbm, ⟨55, _⟩ => ⟨S11x2048, .f32⟩
  | .hbm, ⟨56, _⟩ => ⟨S11x2048, .f32⟩
  | .hbm, ⟨57, _⟩ => ⟨S11x2048x1, .f32⟩
  | .hbm, ⟨58, _⟩ => ⟨S11x2048x1, .f32⟩
  | .hbm, ⟨59, _⟩ => ⟨S11x2048x2, .f32⟩
  | .hbm, ⟨60, _⟩ => ⟨S11x2048, .f32⟩
  | .local _ .vmem, ⟨0, _⟩ => ⟨S2048x12, .f32⟩
  | .local _ .vmem, ⟨1, _⟩ => ⟨S2048x12, .f32⟩
  | .local _ .vmem, ⟨2, _⟩ => ⟨S2048x12, .f32⟩
  | .local _ .vmem, ⟨3, _⟩ => ⟨S2048x12, .f32⟩
  | .local _ .vmem, ⟨4, _⟩ => ⟨S2048x2, .f32⟩
  | .local _ .vmem, ⟨5, _⟩ => ⟨S12x2048, .f32⟩
  | .local _ .vmem, ⟨6, _⟩ => ⟨S2048x11, .f32⟩
  | .local _ .vmem, ⟨7, _⟩ => ⟨S2048x11, .i32⟩
  | .local _ .vmem, ⟨8, _⟩ => ⟨S2048x11, .f32⟩
  | .local _ .vmem, ⟨9, _⟩ => ⟨S2048x11, .f32⟩
  | .local _ .vmem, ⟨10, _⟩ => ⟨S2048x11, .f32⟩
  | .local _ .vmem, ⟨11, _⟩ => ⟨S8x128, .f32⟩
  | _, _ => ⟨S2048x89x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev main_v38_3 : Ref sig .tc := ⟨.hbm, 48, rfl⟩
abbrev main_v38_4 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x11 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x11 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x11 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2048x11 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2048x11 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== ReferenceIdeal.lean ====
abbrev S2048x89x2 : Shape := ⟨3, ![2048, 89, 2]⟩
abbrev S2048x89 : Shape := ⟨2, ![2048, 89]⟩
abbrev S2048x2 : Shape := ⟨2, ![2048, 2]⟩
abbrev S2048x4x2 : Shape := ⟨3, ![2048, 4, 2]⟩
abbrev S2048x1x2 : Shape := ⟨3, ![2048, 1, 2]⟩
abbrev S2048x1 : Shape := ⟨2, ![2048, 1]⟩
abbrev S2048 : Shape := ⟨1, ![2048]⟩
abbrev S2048x11x2 : Shape := ⟨3, ![2048, 11, 2]⟩
abbrev S11x2048x2 : Shape := ⟨3, ![11, 2048, 2]⟩
abbrev S2048x11 : Shape := ⟨2, ![2048, 11]⟩
abbrev S11x2048 : Shape := ⟨2, ![11, 2048]⟩
abbrev S_ : Shape := ⟨0, ![]⟩
abbrev S1x2048x2 : Shape := ⟨3, ![1, 2048, 2]⟩
abbrev S1x2048 : Shape := ⟨2, ![1, 2048]⟩
abbrev S2048x4x1 : Shape := ⟨3, ![2048, 4, 1]⟩
abbrev S2048x4 : Shape := ⟨2, ![2048, 4]⟩
abbrev S2048x1x4x2 : Shape := ⟨4, ![2048, 1, 4, 2]⟩
abbrev S1x8192x2 : Shape := ⟨3, ![1, 8192, 2]⟩
abbrev S2048x8192x2 : Shape := ⟨3, ![2048, 8192, 2]⟩
abbrev S2048x8192x1 : Shape := ⟨3, ![2048, 8192, 1]⟩
abbrev S2048x8192 : Shape := ⟨2, ![2048, 8192]⟩
abbrev S2048x2048x4x2 : Shape := ⟨4, ![2048, 2048, 4, 2]⟩
abbrev S2048x2048x4 : Shape := ⟨3, ![2048, 2048, 4]⟩
abbrev S2048x2048 : Shape := ⟨2, ![2048, 2048]⟩
abbrev S2048x1x1x1 : Shape := ⟨4, ![2048, 1, 1, 1]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 226
  | .vmem => 0
  | .smem => 0
  | _ => 0

abbrev hbmTy0_0 (i : Nat) : BufTy := match i % 128 with
  | 0 => ⟨S2048x89x2, .f32⟩
  | 1 => ⟨S2048x89, .f32⟩
  | 2 => ⟨S2048x89, .i1⟩
  | 3 => ⟨S2048x2, .f32⟩
  | 4 => ⟨S2048x4x2, .f32⟩
  | 5 => ⟨S2048x1x2, .f32⟩
  | 6 => ⟨S2048x2, .f32⟩
  | 7 => ⟨S2048x1, .f32⟩
  | 8 => ⟨S2048, .f32⟩
  | 9 => ⟨S2048x11x2, .f32⟩
  | 10 => ⟨S11x2048x2, .f32⟩
  | 11 => ⟨S2048x11, .f32⟩
  | 12 => ⟨S11x2048, .f32⟩
  | 13 => ⟨S2048x11, .i1⟩
  | 14 => ⟨S2048x11, .i1⟩
  | 15 => ⟨S2048x11, .i1⟩
  | 16 => ⟨S11x2048, .i1⟩
  | 17 => ⟨S_, .i32⟩
  | 18 => ⟨S11x2048, .i32⟩
  | 19 => ⟨S_, .f32⟩
  | 20 => ⟨S11x2048x2, .f32⟩
  | 21 => ⟨S_, .f32⟩
  | 22 => ⟨S11x2048, .f32⟩
  | 23 => ⟨S_, .i32⟩
  | 24 => ⟨S11x2048x2, .f32⟩
  | 25 => ⟨S11x2048, .f32⟩
  | 26 => ⟨S11x2048, .i1⟩
  | 27 => ⟨S2048x2, .f32⟩
  | 28 => ⟨S2048x4x2, .f32⟩
  | 29 => ⟨S_, .i32⟩
  | 30 => ⟨S2048x2, .f32⟩
  | 31 => ⟨S2048, .f32⟩
  | 32 => ⟨S11x2048, .i32⟩
  | 33 => ⟨S11x2048x2, .f32⟩
  | 34 => ⟨S11x2048, .f32⟩
  | 35 => ⟨S_, .i32⟩
  | 36 => ⟨S_, .i1⟩
  | 37 => ⟨S_, .i32⟩
  | 38 => ⟨S_, .i32⟩
  | 39 => ⟨S1x2048x2, .f32⟩
  | 40 => ⟨S2048x2, .f32⟩
  | 41 => ⟨S_, .i32⟩
  | 42 => ⟨S1x2048, .f32⟩
  | 43 => ⟨S2048, .f32⟩
  | 44 => ⟨S_, .i32⟩
  | 45 => ⟨S1x2048, .i1⟩
  | 46 => ⟨S2048, .i1⟩
  | 47 => ⟨S2048x1, .f32⟩
  | 48 => ⟨S2048, .f32⟩
  | 49 => ⟨S_, .f32⟩
  | 50 => ⟨S2048, .f32⟩
  | 51 => ⟨S2048, .f32⟩
  | 52 => ⟨S2048x1, .f32⟩
  | 53 => ⟨S2048, .f32⟩
  | 54 => ⟨S_, .f32⟩
  | 55 => ⟨S2048, .f32⟩
  | 56 => ⟨S2048, .f32⟩
  | 57 => ⟨S2048x1, .f32⟩
  | 58 => ⟨S2048x1, .f32⟩
  | 59 => ⟨S2048x2, .f32⟩
  | 60 => ⟨S2048, .f32⟩
  | 61 => ⟨S2048x1, .f32⟩
  | 62 => ⟨S2048x1, .f32⟩
  | 63 => ⟨S2048x2, .f32⟩
  | 64 => ⟨S2048, .f32⟩
  | 65 => ⟨S2048, .f32⟩
  | 66 => ⟨S2048x1, .f32⟩
  | 67 => ⟨S2048x1, .f32⟩
  | 68 => ⟨S2048x2, .f32⟩
  | 69 => ⟨S2048, .f32⟩
  | 70 => ⟨S2048x1, .f32⟩
  | 71 => ⟨S2048x1, .f32⟩
  | 72 => ⟨S2048x2, .f32⟩
  | 73 => ⟨S2048x1x2, .f32⟩
  | 74 => ⟨S2048x1x2, .f32⟩
  | 75 => ⟨S2048x1x2, .f32⟩
  | 76 => ⟨S2048x1x2, .f32⟩
  | 77 => ⟨S2048x4x2, .f32⟩
  | 78 => ⟨S2048, .f32⟩
  | 79 => ⟨S2048x1, .f32⟩
  | 80 => ⟨S2048, .f32⟩
  | 81 => ⟨S2048x1, .f32⟩
  | 82 => ⟨S2048x4x1, .f32⟩
  | 83 => ⟨S2048x4, .f32⟩
  | 84 => ⟨S2048x4x1, .f32⟩
  | 85 => ⟨S2048x4, .f32⟩
  | 86 => ⟨S2048x4, .f32⟩
  | 87 => ⟨S2048x4, .f32⟩
  | 88 => ⟨S2048x4, .f32⟩
  | 89 => ⟨S2048x4, .f32⟩
  | 90 => ⟨S2048x4, .f32⟩
  | 91 => ⟨S2048x1, .f32⟩
  | 92 => ⟨S2048x4, .f32⟩
  | 93 => ⟨S2048x4, .f32⟩
  | 94 => ⟨S2048x4, .f32⟩
  | 95 => ⟨S2048x4, .f32⟩
  | 96 => ⟨S2048x4, .f32⟩
  | 97 => ⟨S2048x4, .f32⟩
  | 98 => ⟨S2048x4, .f32⟩
  | 99 => ⟨S2048x1, .f32⟩
  | 100 => ⟨S2048x4, .f32⟩
  | 101 => ⟨S2048x4, .f32⟩
  | 102 => ⟨S2048x4x1, .f32⟩
  | 103 => ⟨S2048x4x1, .f32⟩
  | 104 => ⟨S2048x4x2, .f32⟩
  | 105 => ⟨S2048x1x4x2, .f32⟩
  | 106 => ⟨S1x8192x2, .f32⟩
  | 107 => ⟨S2048x8192x2, .f32⟩
  | 108 => ⟨S2048, .f32⟩
  | 109 => ⟨S2048x1, .f32⟩
  | 110 => ⟨S2048, .f32⟩
  | 111 => ⟨S2048x1, .f32⟩
  | 112 => ⟨S2048x8192x1, .f32⟩
  | 113 => ⟨S2048x8192, .f32⟩
  | 114 => ⟨S2048x8192x1, .f32⟩
  | 115 => ⟨S2048x8192, .f32⟩
  | 116 => ⟨S2048x8192, .f32⟩
  | 117 => ⟨S2048x8192, .f32⟩
  | 118 => ⟨S2048x8192, .f32⟩
  | 119 => ⟨S2048x8192, .f32⟩
  | 120 => ⟨S2048x8192, .f32⟩
  | 121 => ⟨S2048x1, .f32⟩
  | 122 => ⟨S2048x8192, .f32⟩
  | 123 => ⟨S2048x8192, .f32⟩
  | 124 => ⟨S2048x8192, .f32⟩
  | 125 => ⟨S2048x8192, .f32⟩
  | 126 => ⟨S2048x8192, .f32⟩
  | 127 => ⟨S2048x8192, .f32⟩
  | _ => ⟨S2048x89x2, .f32⟩

abbrev hbmTy0_1 (i : Nat) : BufTy := match i % 128 with
  | 0 => ⟨S2048x8192, .f32⟩
  | 1 => ⟨S2048x1, .f32⟩
  | 2 => ⟨S2048x8192, .f32⟩
  | 3 => ⟨S2048x8192, .f32⟩
  | 4 => ⟨S2048x8192x1, .f32⟩
  | 5 => ⟨S2048x8192x1, .f32⟩
  | 6 => ⟨S2048x8192x2, .f32⟩
  | 7 => ⟨S2048x2048x4x2, .f32⟩
  | 8 => ⟨S2048x2048x4x2, .f32⟩
  | 9 => ⟨S2048x2048x4x2, .f32⟩
  | 10 => ⟨S2048x2048x4x2, .f32⟩
  | 11 => ⟨S_, .f32⟩
  | 12 => ⟨S2048x2048x4, .f32⟩
  | 13 => ⟨S2048x2048x4, .f32⟩
  | 14 => ⟨S_, .f32⟩
  | 15 => ⟨S2048x2048, .f32⟩
  | 16 => ⟨S2048x2048, .i32⟩
  | 17 => ⟨S_, .f32⟩
  | 18 => ⟨S2048, .f32⟩
  | 19 => ⟨S2048x1, .f32⟩
  | 20 => ⟨S2048x2048, .f32⟩
  | 21 => ⟨S2048x2048, .i1⟩
  | 22 => ⟨S_, .i32⟩
  | 23 => ⟨S_, .i32⟩
  | 24 => ⟨S2048x2048, .i32⟩
  | 25 => ⟨S2048x2048, .i32⟩
  | 26 => ⟨S_, .i32⟩
  | 27 => ⟨S2048, .i32⟩
  | 28 => ⟨S2048x1x1x1, .i32⟩
  | 29 => ⟨S_, .i32⟩
  | 30 => ⟨S2048x1x1x1, .i32⟩
  | 31 => ⟨S2048x1x1x1, .i1⟩
  | 32 => ⟨S_, .i32⟩
  | 33 => ⟨S2048x1x1x1, .i32⟩
  | 34 => ⟨S2048x1x1x1, .i32⟩
  | 35 => ⟨S2048x1x1x1, .i32⟩
  | 36 => ⟨S2048x1x1, .i32⟩
  | 37 => ⟨S1, .i32⟩
  | 38 => ⟨S_, .i32⟩
  | 39 => ⟨S2048x1x1, .i32⟩
  | 40 => ⟨S2048x1x1, .i1⟩
  | 41 => ⟨S1x1x1, .i32⟩
  | 42 => ⟨S2048x1x1, .i32⟩
  | 43 => ⟨S2048x1x1, .i1⟩
  | 44 => ⟨S2048x1x1, .i1⟩
  | 45 => ⟨S_, .i1⟩
  | 46 => ⟨S2048x1, .i1⟩
  | 47 => ⟨S2048x1x4x2, .f32⟩
  | 48 => ⟨S2048x1x4x2, .i1⟩
  | 49 => ⟨S_, .f32⟩
  | 50 => ⟨S2048x1x4x2, .f32⟩
  | 51 => ⟨S2048x1x4x2, .f32⟩
  | 52 => ⟨S2048x4x2, .f32⟩
  | 53 => ⟨S2048x1x2, .f32⟩
  | 54 => ⟨S2048x2, .f32⟩
  | 55 => ⟨S2048x1x2, .f32⟩
  | 56 => ⟨S2048x2, .f32⟩
  | 57 => ⟨S2048x2, .f32⟩
  | 58 => ⟨S2048x1, .f32⟩
  | 59 => ⟨S2048, .f32⟩
  | 60 => ⟨S2048x1, .f32⟩
  | 61 => ⟨S2048, .f32⟩
  | 62 => ⟨S2048, .f32⟩
  | 63 => ⟨S2048, .f32⟩
  | 64 => ⟨S2048x1, .i1⟩
  | 65 => ⟨S_, .f32⟩
  | 66 => ⟨S2048x2, .f32⟩
  | 67 => ⟨S_, .f32⟩
  | 68 => ⟨S2048x2, .f32⟩
  | 69 => ⟨S2048x2, .f32⟩
  | 70 => ⟨S2048x2, .i1⟩
  | 71 => ⟨S2048x2, .f32⟩
  | 72 => ⟨S2048x1, .i1⟩
  | 73 => ⟨S_, .f32⟩
  | 74 => ⟨S_, .f32⟩
  | 75 => ⟨S2048x2, .i1⟩
  | 76 => ⟨S2048x2, .f32⟩
  | 77 => ⟨S2048x2, .f32⟩
  | 78 => ⟨S_, .f32⟩
  | 79 => ⟨S_, .f32⟩
  | 80 => ⟨S2048, .f32⟩
  | 81 => ⟨S2048, .f32⟩
  | 82 => ⟨S1x2048, .i32⟩
  | 83 => ⟨S_, .i32⟩
  | 84 => ⟨S11x2048, .i32⟩
  | 85 => ⟨S1x2048x2, .f32⟩
  | 86 => ⟨S_, .i32⟩
  | 87 => ⟨S_, .i32⟩
  | 88 => ⟨S11x2048x2, .f32⟩
  | 89 => ⟨S1x2048, .f32⟩
  | 90 => ⟨S_, .i32⟩
  | 91 => ⟨S11x2048, .f32⟩
  | 92 => ⟨S_, .i32⟩
  | 93 => ⟨S_, .i32⟩
  | 94 => ⟨S2048x11, .i1⟩
  | 95 => ⟨S2048x11, .i1⟩
  | 96 => ⟨S2048x11, .i1⟩
  | 97 => ⟨S11x2048, .i1⟩
  | _ => ⟨S2048x89x2, .f32⟩

abbrev hbmTy (i : Nat) : BufTy := match i / 128 with
  | 0 => hbmTy0_0 i
  | 1 => hbmTy0_1 i
  | _ => ⟨S2048x89x2, .f32⟩

abbrev bufTy : (tb : Table) → Fin (tcTables nBuf tb) → BufTy
  | .hbm, ⟨i, _⟩ => hbmTy i
  | _, _ => ⟨S2048x89x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_c_1 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev main_v15_7 : Ref sig .tc := ⟨.hbm, 31, rfl⟩
abbrev main_v15_8 : Ref sig .tc := ⟨.hbm, 32, rfl⟩
abbrev main_v15_9 : Ref sig .tc := ⟨.hbm, 33, rfl⟩
abbrev main_v15_10 : Ref sig .tc := ⟨.hbm, 34, rfl⟩
abbrev main_while0c_c_12 : Ref sig .tc := ⟨.hbm, 35, rfl⟩
abbrev main_while0c_v20 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_v0 : Ref sig .tc := ⟨.hbm, 39, rfl⟩
abbrev main_while0b_v20 : Ref sig .tc := ⟨.hbm, 40, rfl⟩
abbrev main_while0b_call1_c : Ref sig .tc := ⟨.hbm, 41, rfl⟩
abbrev main_while0b_call1_v0 : Ref sig .tc := ⟨.hbm, 42, rfl⟩
abbrev main_while0b_v21 : Ref sig .tc := ⟨.hbm, 43, rfl⟩
abbrev main_while0b_call2_c : Ref sig .tc := ⟨.hbm, 44, rfl⟩
abbrev main_while0b_call2_v0 : Ref sig .tc := ⟨.hbm, 45, rfl⟩
abbrev main_while0b_v22 : Ref sig .tc := ⟨.hbm, 46, rfl⟩
abbrev main_while0b_v23 : Ref sig .tc := ⟨.hbm, 47, rfl⟩
abbrev main_while0b_v24 : Ref sig .tc := ⟨.hbm, 48, rfl⟩
abbrev main_while0b_cst_12 : Ref sig .tc := ⟨.hbm, 49, rfl⟩
abbrev main_while0b_v25 : Ref sig .tc := ⟨.hbm, 50, rfl⟩
abbrev main_while0b_v26 : Ref sig .tc := ⟨.hbm, 51, rfl⟩
abbrev main_while0b_v27 : Ref sig .tc := ⟨.hbm, 52, rfl⟩
abbrev main_while0b_v28 : Ref sig .tc := ⟨.hbm, 53, rfl⟩
abbrev main_while0b_cst_13 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_v35 : Ref sig .tc := ⟨.hbm, 61, rfl⟩
abbrev main_while0b_v36 : Ref sig .tc := ⟨.hbm, 62, rfl⟩
abbrev main_while0b_v37 : Ref sig .tc := ⟨.hbm, 63, rfl⟩
abbrev main_while0b_v38 : Ref sig .tc := ⟨.hbm, 64, rfl⟩
abbrev main_while0b_v39 : Ref sig .tc := ⟨.hbm, 65, rfl⟩
abbrev main_while0b_v40 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_v48 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_v56 : Ref sig .tc := ⟨.hbm, 82, rfl⟩
abbrev main_while0b_v57 : Ref sig .tc := ⟨.hbm, 83, rfl⟩
abbrev main_while0b_v58 : Ref sig .tc := ⟨.hbm, 84, rfl⟩
abbrev main_while0b_v59 : Ref sig .tc := ⟨.hbm, 85, rfl⟩
abbrev main_while0b_v60 : Ref sig .tc := ⟨.hbm, 86, rfl⟩
abbrev main_while0b_v61 : Ref sig .tc := ⟨.hbm, 87, rfl⟩
abbrev main_while0b_v62 : Ref sig .tc := ⟨.hbm, 88, rfl⟩
abbrev main_while0b_v63 : Ref sig .tc := ⟨.hbm, 89, rfl⟩
abbrev main_while0b_v64 : Ref sig .tc := ⟨.hbm, 90, rfl⟩
abbrev main_while0b_v65 : Ref sig .tc := ⟨.hbm, 91, rfl⟩
abbrev main_while0b_v66 : Ref sig .tc := ⟨.hbm, 92, rfl⟩
abbrev main_while0b_v67 : Ref sig .tc := ⟨.hbm, 93, rfl⟩
abbrev main_while0b_v68 : Ref sig .tc := ⟨.hbm, 94, rfl⟩
abbrev main_while0b_v69 : Ref sig .tc := ⟨.hbm, 95, rfl⟩
abbrev main_while0b_v70 : Ref sig .tc := ⟨.hbm, 96, rfl⟩
abbrev main_while0b_v71 : Ref sig .tc := ⟨.hbm, 97, rfl⟩
abbrev main_while0b_v72 : Ref sig .tc := ⟨.hbm, 98, rfl⟩
abbrev main_while0b_v73 : Ref sig .tc := ⟨.hbm, 99, rfl⟩
abbrev main_while0b_v74 : Ref sig .tc := ⟨.hbm, 100, rfl⟩
abbrev main_while0b_v75 : Ref sig .tc := ⟨.hbm, 101, rfl⟩
abbrev main_while0b_v76 : Ref sig .tc := ⟨.hbm, 102, rfl⟩
abbrev main_while0b_v77 : Ref sig .tc := ⟨.hbm, 103, rfl⟩
abbrev main_while0b_v78 : Ref sig .tc := ⟨.hbm, 104, rfl⟩
abbrev main_while0b_v79 : Ref sig .tc := ⟨.hbm, 105, rfl⟩
abbrev main_while0b_v80 : Ref sig .tc := ⟨.hbm, 106, rfl⟩
abbrev main_while0b_v81 : Ref sig .tc := ⟨.hbm, 107, rfl⟩
abbrev main_while0b_v82 : Ref sig .tc := ⟨.hbm, 108, rfl⟩
abbrev main_while0b_v83 : Ref sig .tc := ⟨.hbm, 109, rfl⟩
abbrev main_while0b_v84 : Ref sig .tc := ⟨.hbm, 110, rfl⟩
abbrev main_while0b_v85 : Ref sig .tc := ⟨.hbm, 111, rfl⟩
abbrev main_while0b_v86 : Ref sig .tc := ⟨.hbm, 112, rfl⟩
abbrev main_while0b_v87 : Ref sig .tc := ⟨.hbm, 113, rfl⟩
abbrev main_while0b_v88 : Ref sig .tc := ⟨.hbm, 114, rfl⟩
abbrev main_while0b_v89 : Ref sig .tc := ⟨.hbm, 115, rfl⟩
abbrev main_while0b_v90 : Ref sig .tc := ⟨.hbm, 116, rfl⟩
abbrev main_while0b_v91 : Ref sig .tc := ⟨.hbm, 117, rfl⟩
abbrev main_while0b_v92 : Ref sig .tc := ⟨.hbm, 118, rfl⟩
abbrev main_while0b_v93 : Ref sig .tc := ⟨.hbm, 119, rfl⟩
abbrev main_while0b_v94 : Ref sig .tc := ⟨.hbm, 120, rfl⟩
abbrev main_while0b_v95 : Ref sig .tc := ⟨.hbm, 121, rfl⟩
abbrev main_while0b_v96 : Ref sig .tc := ⟨.hbm, 122, rfl⟩
abbrev main_while0b_v97 : Ref sig .tc := ⟨.hbm, 123, rfl⟩
abbrev main_while0b_v98 : Ref sig .tc := ⟨.hbm, 124, rfl⟩
abbrev main_while0b_v99 : Ref sig .tc := ⟨.hbm, 125, rfl⟩
abbrev main_while0b_v100 : Ref sig .tc := ⟨.hbm, 126, rfl⟩
abbrev main_while0b_v101 : Ref sig .tc := ⟨.hbm, 127, rfl⟩
abbrev main_while0b_v102 : Ref sig .tc := ⟨.hbm, 128, rfl⟩
abbrev main_while0b_v103 : Ref sig .tc := ⟨.hbm, 129, rfl⟩
abbrev main_while0b_v104 : Ref sig .tc := ⟨.hbm, 130, rfl⟩
abbrev main_while0b_v105 : Ref sig .tc := ⟨.hbm, 131, rfl⟩
abbrev main_while0b_v106 : Ref sig .tc := ⟨.hbm, 132, rfl⟩
abbrev main_while0b_v107 : Ref sig .tc := ⟨.hbm, 133, rfl⟩
abbrev main_while0b_v108 : Ref sig .tc := ⟨.hbm, 134, rfl⟩
abbrev main_while0b_v109 : Ref sig .tc := ⟨.hbm, 135, rfl⟩
abbrev main_while0b_v110 : Ref sig .tc := ⟨.hbm, 136, rfl⟩
abbrev main_while0b_v111 : Ref sig .tc := ⟨.hbm, 137, rfl⟩
abbrev main_while0b_call3_v0 : Ref sig .tc := ⟨.hbm, 138, rfl⟩
abbrev main_while0b_call3_cst : Ref sig .tc := ⟨.hbm, 139, rfl⟩
abbrev main_while0b_call3_v1 : Ref sig .tc := ⟨.hbm, 140, rfl⟩
abbrev main_while0b_v112 : Ref sig .tc := ⟨.hbm, 141, rfl⟩
abbrev main_while0b_cst_14 : Ref sig .tc := ⟨.hbm, 142, rfl⟩
abbrev main_while0b_v113 : Ref sig .tc := ⟨.hbm, 143, rfl⟩
abbrev main_while0b_v114 : Ref sig .tc := ⟨.hbm, 144, rfl⟩
abbrev main_while0b_cst_15 : Ref sig .tc := ⟨.hbm, 145, rfl⟩
abbrev main_while0b_v115 : Ref sig .tc := ⟨.hbm, 146, rfl⟩
abbrev main_while0b_v116 : Ref sig .tc := ⟨.hbm, 147, rfl⟩
abbrev main_while0b_v117 : Ref sig .tc := ⟨.hbm, 148, rfl⟩
abbrev main_while0b_v118 : Ref sig .tc := ⟨.hbm, 149, rfl⟩
abbrev main_while0b_c_16 : Ref sig .tc := ⟨.hbm, 150, rfl⟩
abbrev main_while0b_call4_v0 : Ref sig .tc := ⟨.hbm, 151, rfl⟩
abbrev main_while0b_call4_v1 : Ref sig .tc := ⟨.hbm, 152, rfl⟩
abbrev main_while0b_v119 : Ref sig .tc := ⟨.hbm, 153, rfl⟩
abbrev main_while0b_c_17 : Ref sig .tc := ⟨.hbm, 154, rfl⟩
abbrev main_while0b_v120 : Ref sig .tc := ⟨.hbm, 155, rfl⟩
abbrev main_while0b_v121 : Ref sig .tc := ⟨.hbm, 156, rfl⟩
abbrev main_while0b_call5_c : Ref sig .tc := ⟨.hbm, 157, rfl⟩
abbrev main_while0b_call5_v0 : Ref sig .tc := ⟨.hbm, 158, rfl⟩
abbrev main_while0b_call5_v1 : Ref sig .tc := ⟨.hbm, 159, rfl⟩
abbrev main_while0b_call5_c_0 : Ref sig .tc := ⟨.hbm, 160, rfl⟩
abbrev main_while0b_call5_v2 : Ref sig .tc := ⟨.hbm, 161, rfl⟩
abbrev main_while0b_call5_v3 : Ref sig .tc := ⟨.hbm, 162, rfl⟩
abbrev main_while0b_call5_v4 : Ref sig .tc := ⟨.hbm, 163, rfl⟩
abbrev main_while0b_call5_v5 : Ref sig .tc := ⟨.hbm, 164, rfl⟩
abbrev main_while0b_call5_c_1 : Ref sig .tc := ⟨.hbm, 165, rfl⟩
abbrev main_while0b_call5_c_2 : Ref sig .tc := ⟨.hbm, 166, rfl⟩
abbrev main_while0b_call5_v6 : Ref sig .tc := ⟨.hbm, 167, rfl⟩
abbrev main_while0b_call5_v7 : Ref sig .tc := ⟨.hbm, 168, rfl⟩
abbrev main_while0b_call5_v8 : Ref sig .tc := ⟨.hbm, 169, rfl⟩
abbrev main_while0b_call5_v9 : Ref sig .tc := ⟨.hbm, 170, rfl⟩
abbrev main_while0b_call5_v10 : Ref sig .tc := ⟨.hbm, 171, rfl⟩
abbrev main_while0b_call5_v11 : Ref sig .tc := ⟨.hbm, 172, rfl⟩
abbrev main_while0b_call5_c_3 : Ref sig .tc := ⟨.hbm, 173, rfl⟩
abbrev main_while0b_call5_v12 : Ref sig .tc := ⟨.hbm, 174, rfl⟩
abbrev main_while0b_call5_v13 : Ref sig .tc := ⟨.hbm, 175, rfl⟩
abbrev main_while0b_call5_v14 : Ref sig .tc := ⟨.hbm, 176, rfl⟩
abbrev main_while0b_call5_cst : Ref sig .tc := ⟨.hbm, 177, rfl⟩
abbrev main_while0b_call5_v15 : Ref sig .tc := ⟨.hbm, 178, rfl⟩
abbrev main_while0b_v122 : Ref sig .tc := ⟨.hbm, 179, rfl⟩
abbrev main_while0b_v123 : Ref sig .tc := ⟨.hbm, 180, rfl⟩
abbrev main_while0b_v124 : Ref sig .tc := ⟨.hbm, 181, rfl⟩
abbrev main_while0b_v125 : Ref sig .tc := ⟨.hbm, 182, rfl⟩
abbrev main_while0b_v126 : Ref sig .tc := ⟨.hbm, 183, rfl⟩
abbrev main_while0b_v127 : Ref sig .tc := ⟨.hbm, 184, rfl⟩
abbrev main_while0b_v128 : Ref sig .tc := ⟨.hbm, 185, rfl⟩
abbrev main_while0b_v129 : Ref sig .tc := ⟨.hbm, 186, rfl⟩
abbrev main_while0b_v130 : Ref sig .tc := ⟨.hbm, 187, rfl⟩
abbrev main_while0b_v131 : Ref sig .tc := ⟨.hbm, 188, rfl⟩
abbrev main_while0b_v132 : Ref sig .tc := ⟨.hbm, 189, rfl⟩
abbrev main_while0b_v133 : Ref sig .tc := ⟨.hbm, 190, rfl⟩
abbrev main_while0b_v134 : Ref sig .tc := ⟨.hbm, 191, rfl⟩
abbrev main_while0b_v135 : Ref sig .tc := ⟨.hbm, 192, rfl⟩
abbrev main_while0b_cst_18 : Ref sig .tc := ⟨.hbm, 193, rfl⟩
abbrev main_while0b_v136 : Ref sig .tc := ⟨.hbm, 194, rfl⟩
abbrev main_while0b_cst_19 : Ref sig .tc := ⟨.hbm, 195, rfl⟩
abbrev main_while0b_v137 : Ref sig .tc := ⟨.hbm, 196, rfl⟩
abbrev main_while0b_v138 : Ref sig .tc := ⟨.hbm, 197, rfl⟩
abbrev main_while0b_call7_v0 : Ref sig .tc := ⟨.hbm, 198, rfl⟩
abbrev main_while0b_v139 : Ref sig .tc := ⟨.hbm, 199, rfl⟩
abbrev main_while0b_v140 : Ref sig .tc := ⟨.hbm, 200, rfl⟩
abbrev main_while0b_cst_20 : Ref sig .tc := ⟨.hbm, 201, rfl⟩
abbrev main_while0b_call8_v0 : Ref sig .tc := ⟨.hbm, 202, rfl⟩
abbrev main_while0b_call8_v1 : Ref sig .tc := ⟨.hbm, 203, rfl⟩
abbrev main_while0b_call8_v2 : Ref sig .tc := ⟨.hbm, 204, rfl⟩
abbrev main_while0b_v141 : Ref sig .tc := ⟨.hbm, 205, rfl⟩
abbrev main_while0b_cst_21 : Ref sig .tc := ⟨.hbm, 206, rfl⟩
abbrev main_while0b_call9_v0 : Ref sig .tc := ⟨.hbm, 207, rfl⟩
abbrev main_while0b_call9_v1 : Ref sig .tc := ⟨.hbm, 208, rfl⟩
abbrev main_while0b_v142 : Ref sig .tc := ⟨.hbm, 209, rfl⟩
abbrev main_while0b_call10_v0 : Ref sig .tc := ⟨.hbm, 210, rfl⟩
abbrev main_while0b_call10_c : Ref sig .tc := ⟨.hbm, 211, rfl⟩
abbrev main_while0b_v143 : Ref sig .tc := ⟨.hbm, 212, rfl⟩
abbrev main_while0b_call11_v0 : Ref sig .tc := ⟨.hbm, 213, rfl⟩
abbrev main_while0b_call11_c : Ref sig .tc := ⟨.hbm, 214, rfl⟩
abbrev main_while0b_call11_c_0 : Ref sig .tc := ⟨.hbm, 215, rfl⟩
abbrev main_while0b_v144 : Ref sig .tc := ⟨.hbm, 216, rfl⟩
abbrev main_while0b_call12_v0 : Ref sig .tc := ⟨.hbm, 217, rfl⟩
abbrev main_while0b_call12_c : Ref sig .tc := ⟨.hbm, 218, rfl⟩
abbrev main_while0b_v145 : Ref sig .tc := ⟨.hbm, 219, rfl⟩
abbrev main_while0b_c_22 : Ref sig .tc := ⟨.hbm, 220, rfl⟩
abbrev main_while0b_v146 : Ref sig .tc := ⟨.hbm, 221, rfl⟩
abbrev main_v16 : Ref sig .tc := ⟨.hbm, 222, rfl⟩
abbrev main_v17 : Ref sig .tc := ⟨.hbm, 223, rfl⟩
abbrev main_v18 : Ref sig .tc := ⟨.hbm, 224, rfl⟩
abbrev main_v19 : Ref sig .tc := ⟨.hbm, 225, rfl⟩

abbrev nD : Nat := 1
abbrev τ : Topo := Topo.v7x

variable {F : FTy → Type} [FloatOps F]

abbrev main_while0_count : Scf.Loop 32 := ⟨0#32, 11#32, 1#32⟩
-- ==== Proof.KernelStep.lean ====
module

public import proofs.«01_k».proof.Proof.Gen.KernelIdeal.Frame

/-!
# One matching step of the kernel, as a function of columns

The kernel's body repeats one computation eleven times, each time on the next column of its agent arrays, carrying a
position and a heading per agent.  This module writes that computation once, on whole columns (one entry per agent),
with the operations and in the order of the body, and states that what the body's stores leave in each output is the
eleven columns of this recursion.
-/

@[expose] public section
noncomputable section
namespace Cert.KernelSide
open Cert.KernelIdeal Cert.KernelIdeal.Gen
open Idealize.ShloMosaic Idealize.ShloMosaic.TcCoe Idealize.ShloMosaic.Tactic

variable {F : FTy → Type} [FloatOps F]

/-- One value per agent. -/
abbrev Col (F : FTy → Type) := FVec F S2048x1 .f32
/-- One value per agent and token. -/
abbrev Grid (F : FTy → Type) := FVec F S2048x2048 .f32
/-- One value per token. -/
abbrev Row (F : FTy → Type) := Vec F S1x2048 .f32

/-- What the body reads: column `n` of the four agent arrays, the two shape columns, and the rows of the token array. -/
structure Reads (F : FTy → Type) where
  px : ℕ → Vec F S2048x1 .f32
  py : ℕ → Vec F S2048x1 .f32
  hd : ℕ → Vec F S2048x1 .f32
  vf : ℕ → Vec F S2048x1 .f32
  len : Vec F S2048x1 .f32
  wid : Vec F S2048x1 .f32
  tok : ℕ → Vec F S1x2048 .f32

/-- What is carried from step to step: position and heading of every agent. -/
structure Carried (F : FTy → Type) where
  x : FVec F S2048x1 .f32
  y : FVec F S2048x1 .f32
  h : FVec F S2048x1 .f32

def same (v : Vec F S2048x1 .f32) : Col F := shapeCast S2048x1 v shapeCasts_S2048x1_S2048x1
def sameRow (v : Row F) : FVec F S1x2048 .f32 := shapeCast S1x2048 v shapeCasts_S1x2048_S1x2048
def zeroCol : Col F := broadcast S2048x1 (Scalar.ofBits .f32 0x00000000#32)
/-- Half of an agent's length or width. -/
def half (v : Vec F S2048x1 .f32) : Col F := divf v (broadcast S2048x1 (Scalar.ofBits .f32 0x40000000#32))
def minus (v : Col F) : Col F := subf zeroCol v

/-- A box corner `(x, y)` turned by the angle with cosine `c` and sine `s` and moved to `p`: first coordinate. -/
def worldX (x y c s p : Col F) : Col F := addf (subf (mulf x c) (mulf y s)) p
/-- The second coordinate. -/
def worldY (x y c s p : Col F) : Col F := addf (addf (mulf x s) (mulf y c)) p
/-- A point relative to the carried position, turned back by the carried heading: first coordinate. -/
def localX (rx ry c s : Col F) : Col F := addf (mulf rx c) (mulf ry s)
/-- The second coordinate. -/
def localY (rx ry c s : Col F) : Col F := subf (mulf ry c) (mulf rx s)

/-- The corner of the box at column `n` with half sides `x`, `y`, in the frame of the carried state. -/
def boxX (I : Reads F) (S : Carried F) (n : ℕ) (x y : Col F) : Col F :=
  localX (subf (worldX x y (cos (same (I.hd n))) (sin (same (I.hd n))) (same (I.px n))) S.x)
    (subf (worldY x y (cos (same (I.hd n))) (sin (same (I.hd n))) (same (I.py n))) S.y) (cos S.h) (sin S.h)
def boxY (I : Reads F) (S : Carried F) (n : ℕ) (x y : Col F) : Col F :=
  localY (subf (worldX x y (cos (same (I.hd n))) (sin (same (I.hd n))) (same (I.px n))) S.x)
    (subf (worldY x y (cos (same (I.hd n))) (sin (same (I.hd n))) (same (I.py n))) S.y) (cos S.h) (sin S.h)

def apart (t : Row F) (l : Col F) : Grid F :=
  subf (broadcastTo S2048x2048 (sameRow t) broadcasts_S1x2048_S2048x2048) (broadcastTo S2048x2048 l broadcasts_S2048x1_S2048x2048)
/-- Distance from each agent's corner to each token's. -/
def cornerDist (tx ty : Row F) (lx ly : Col F) : Grid F :=
  sqrt (addf (mulf (apart tx lx) (apart tx lx)) (mulf (apart ty ly) (apart ty ly)))

/-- Summed corner distance of every agent and token. -/
def dist (I : Reads F) (S : Carried F) (n : ℕ) : Grid F :=
  addf (addf (addf
    (cornerDist (I.tok 0) (I.tok 4) (boxX I S n (half I.len) (half I.wid)) (boxY I S n (half I.len) (half I.wid)))
    (cornerDist (I.tok 1) (I.tok 5) (boxX I S n (half I.len) (minus (half I.wid))) (boxY I S n (half I.len) (minus (half I.wid)))))
    (cornerDist (I.tok 2) (I.tok 6) (boxX I S n (minus (half I.len)) (minus (half I.wid))) (boxY I S n (minus (half I.len)) (minus (half I.wid)))))
    (cornerDist (I.tok 3) (I.tok 7) (boxX I S n (minus (half I.len)) (half I.wid)) (boxY I S n (minus (half I.len)) (half I.wid)))

/-- The nearest token of every agent. -/
def nearest (I : Reads F) (S : Carried F) (n : ℕ) : IVec S2048x1 32 :=
  shapeCast S2048x1 (reduceIndex .argMin 1 S2048 (dist I S n) reduces_S2048x2048_S2048) shapeCasts_S2048_S2048x1

/-- The entry of token row `r` at each agent's nearest token, as a sum over the tokens. -/
def picked (near : IVec S2048x1 32) (r : Row F) : Col F :=
  shapeCast S2048x1 (multiReduction .add [1] S2048
    (select (cmpi .eq (iota .tc S2048x2048 32 [1] iota_S2048x2048_d1_w32) (broadcastTo S2048x2048 near broadcasts_S2048x1_S2048x2048))
      (broadcastTo S2048x2048 (sameRow (sameRow r)) broadcasts_S1x2048_S2048x2048)
      (broadcast S2048x2048 (Scalar.ofBits .f32 0x00000000#32)))
    0x00000000#32 reduces_S2048x2048_S2048 (.inl rfl) rfl) shapeCasts_S2048_S2048x1

/-- Both the current and the next column valid: as a number, and as a bit. -/
def both (I : Reads F) (n : ℕ) : Col F := mulf (same (I.vf n)) (same (I.vf (n + 1)))
def bothBit (I : Reads F) (n : ℕ) : IVec S2048x1 1 := cmpf .ogt (both I n) zeroCol

def newHead (I : Reads F) (S : Carried F) (n : ℕ) : Col F :=
  atan2
    (addf (mulf (picked (nearest I S (n + 1)) (I.tok 10)) (sin S.h)) (mulf (picked (nearest I S (n + 1)) (I.tok 11)) (cos S.h)))
    (subf (mulf (picked (nearest I S (n + 1)) (I.tok 10)) (cos S.h)) (mulf (picked (nearest I S (n + 1)) (I.tok 11)) (sin S.h)))
def newX (I : Reads F) (S : Carried F) (n : ℕ) : Col F :=
  addf (subf (mulf (picked (nearest I S (n + 1)) (I.tok 8)) (cos S.h)) (mulf (picked (nearest I S (n + 1)) (I.tok 9)) (sin S.h))) S.x
def newY (I : Reads F) (S : Carried F) (n : ℕ) : Col F :=
  addf (addf (mulf (picked (nearest I S (n + 1)) (I.tok 8)) (sin S.h)) (mulf (picked (nearest I S (n + 1)) (I.tok 9)) (cos S.h))) S.y

/-- The state after step `n`: the matched token's where both columns are valid, else the next column's own. -/
def next (I : Reads F) (n : ℕ) (S : Carried F) : Carried F where
  x := select (bothBit I n) (newX I S n) (same (I.px (n + 1)))
  y := select (bothBit I n) (newY I S n) (same (I.py (n + 1)))
  h := select (bothBit I n) (newHead I S n) (same (I.hd (n + 1)))

/-- The state before step `n`. -/
def carried (I : Reads F) (n : ℕ) : Carried F :=
  Nat.rec ⟨same (I.px 0), same (I.py 0), same (I.hd 0)⟩ (fun k S => next I k S) n

/-- What step `n` stores. -/
def outBoth (I : Reads F) (n : ℕ) : Vec F S2048x1 .f32 := both I n
def outIndex (I : Reads F) (n : ℕ) : Vec F S2048x1 .i32 := nearest I (carried I n) (n + 1)
def outX (I : Reads F) (n : ℕ) : Vec F S2048x1 .f32 := select (bothBit I n) (next I n (carried I n)).x zeroCol
def outY (I : Reads F) (n : ℕ) : Vec F S2048x1 .f32 := select (bothBit I n) (next I n (carried I n)).y zeroCol
def outHead (I : Reads F) (n : ℕ) : Vec F S2048x1 .f32 := select (bothBit I n) (next I n (carried I n)).h zeroCol

/-- Column `n` of a 12-column array held in a staging buffer. -/
def column {m : Memref sig .tc .vmem S2048x12 .f32} (h : m.IsWhole) (x : Vec F S2048x12 .f32) (n : ℕ) : Vec F S2048x1 .f32 :=
  View.readAt (Elt F) m.view (Rect.unit (s := S2048x12) ![0, n % 12] S2048x1.size (by
    intro a; have := Nat.mod_lt n (show 0 < 12 by decide)
    fin_cases a
    · show 0 + 2048 ≤ 2048; omega
    · show n % 12 + 1 ≤ 12; omega)).toLoadRect (h.unread x)

/-- Row `n` of the 12-row token array held in a staging buffer. -/
def row {m : Memref sig .tc .vmem S12x2048 .f32} (h : m.IsWhole) (x : Vec F S12x2048 .f32) (n : ℕ) : Vec F S1x2048 .f32 :=
  View.readAt (Elt F) m.view (Rect.unit (s := S12x2048) ![n % 12, 0] S1x2048.size (by
    intro a; have := Nat.mod_lt n (show 0 < 12 by decide)
    fin_cases a
    · show n % 12 + 1 ≤ 12; omega
    · show 0 + 2048 ≤ 2048; omega)).toLoadRect (h.unread x)

/-- What the body reads of staging buffers holding the six input blocks. -/
def readsOf {m1 m2 m3 m4 : Memref sig .tc .vmem S2048x12 .f32} {m5 : Memref sig .tc .vmem S2048x2 .f32}
    {m6 : Memref sig .tc .vmem S12x2048 .f32} (h1 : m1.IsWhole) (h2 : m2.IsWhole) (h3 : m3.IsWhole) (h4 : m4.IsWhole)
    (h5 : m5.IsWhole) (h6 : m6.IsWhole)
    (x0 x1 x2 x3 : Vec F S2048x12 .f32) (x4 : Vec F S2048x2 .f32) (x5 : Vec F S12x2048 .f32) : Reads F where
  px := column h1 x0
  py := column h2 x1
  hd := column h3 x2
  vf := column h4 x3
  len := View.readAt (Elt F) m5.view (Rect.unit (s := S2048x2) ![0, 0] S2048x1.size inb_S2048x2_S2048x1_0_0).toLoadRect (h5.unread x4)
  wid := View.readAt (Elt F) m5.view (Rect.unit (s := S2048x2) ![0, 1] S2048x1.size inb_S2048x2_S2048x1_0_1).toLoadRect (h5.unread x4)
  tok := row h6 x5

/-- Eleven column stores, the last first. -/
def columns {e : EltTy} (o : ℕ → Vec F S2048x1 e) (n : ℕ) : View.Piece (Elt F) S2048x11 e :=
  ⟨Rect.unit (s := S2048x11) ![0, n % 11] S2048x1.size (by
    intro a; have := Nat.mod_lt n (show 0 < 11 by decide)
    fin_cases a
    · show 0 + 2048 ≤ 2048; omega
    · show n % 11 + 1 ≤ 11; omega), o n⟩

def pieces {e : EltTy} (o : ℕ → Vec F S2048x1 e) : List (View.Piece (Elt F) S2048x11 e) :=
  [columns o 10, columns o 9, columns o 8, columns o 7, columns o 6, columns o 5, columns o 4, columns o 3, columns o 2, columns o 1, columns o 0]

section
variable (c : Dev nD) (i : grid0.Coords) {arg1 : Memref sig .tc .vmem S2048x12 .f32} (harg1 : arg1.IsWhole) {arg2 : Memref sig .tc .vmem S2048x12 .f32} (harg2 : arg2.IsWhole) {arg3 : Memref sig .tc .vmem S2048x12 .f32} (harg3 : arg3.IsWhole) {arg4 : Memref sig .tc .vmem S2048x12 .f32} (harg4 : arg4.IsWhole) {arg5 : Memref sig .tc .vmem S2048x2 .f32} (harg5 : arg5.IsWhole) {arg6 : Memref sig .tc .vmem S12x2048 .f32} (harg6 : arg6.IsWhole) {arg7 : Memref sig .tc .vmem S2048x11 .f32} (harg7 : arg7.IsWhole) {arg8 : Memref sig .tc .vmem S2048x11 .i32} (harg8 : arg8.IsWhole) {arg9 : Memref sig .tc .vmem S2048x11 .f32} (harg9 : arg9.IsWhole) {arg10 : Memref sig .tc .vmem S2048x11 .f32} (harg10 : arg10.IsWhole) {arg11 : Memref sig .tc .vmem S2048x11 .f32} (harg11 : arg11.IsWhole) {arg12 : Memref sig .tc .vmem S8x128 .f32} (harg12 : arg12.IsWhole)
  (x0 : Vec F S2048x12 .f32) (x1 : Vec F S2048x12 .f32) (x2 : Vec F S2048x12 .f32) (x3 : Vec F S2048x12 .f32) (x4 : Vec F S2048x2 .f32) (x5 : Vec F S12x2048 .f32)

theorem pieces_both :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).1
      = pieces (outBoth (readsOf harg1 harg2 harg3 harg4 harg5 harg6 x0 x1 x2 x3 x4 x5)) := by
  sl_kernel_rfl
theorem pieces_index :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.1
      = pieces (outIndex (readsOf harg1 harg2 harg3 harg4 harg5 harg6 x0 x1 x2 x3 x4 x5)) := by
  sl_kernel_rfl
theorem pieces_x :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.1
      = pieces (outX (readsOf harg1 harg2 harg3 harg4 harg5 harg6 x0 x1 x2 x3 x4 x5)) := by
  sl_kernel_rfl
theorem pieces_y :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.1
      = pieces (outY (readsOf harg1 harg2 harg3 harg4 harg5 harg6 x0 x1 x2 x3 x4 x5)) := by
  sl_kernel_rfl
theorem pieces_head :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5).2.2.2.2.1
      = pieces (outHead (readsOf harg1 harg2 harg3 harg4 harg5 harg6 x0 x1 x2 x3 x4 x5)) := by
  sl_kernel_rfl
end
end Cert.KernelSide
end
-- ==== Proof.KernelOut.lean ====
module

public import proofs.«01_k».proof.Proof.KernelStep
public import Idealize.ShloMosaic.Lib.Pointwise
public import Idealize.ShloMosaic.Lib.WholeRead
public import Idealize.ShloMosaic.Lib.Writes
public import Idealize.ShloMosaic.Lib.Pipeline.ValueKit.Geometry

/-!
# The kernel's outputs, entry by entry

What the body reads are entries of its input blocks, and what it leaves in an output block is, at agent `a` and column
`j`, the recursion's column `j` at `a`.  The grid has one point, so the blocks are the arrays.
-/

@[expose] public section
noncomputable section
namespace Cert.KernelSide
open Cert.KernelIdeal Cert.KernelIdeal.Gen
open Idealize.ShloMosaic Idealize.ShloMosaic.TcCoe Idealize.ShloMosaic.Tactic
set_option maxRecDepth 16384

variable {F : FTy → Type} [FloatOps F]

theorem column_at {m : Memref sig .tc .vmem S2048x12 .f32} (h : m.IsWhole) (x : Vec F S2048x12 .f32) (n : ℕ) (a : Fin 2048) :
    column h x n (ix2 a 0) = x (ix2 a ⟨n % 12, Nat.mod_lt _ (by decide)⟩) := by
  refine (Memref.IsWhole.readAt_unread h x _ _).trans (congrArg x ?_)
  funext b
  apply Fin.ext
  fin_cases b
  · show 0 + 1 * a.val = a.val
    omega
  · show n % 12 + 1 * 0 = n % 12
    omega

theorem row_at {m : Memref sig .tc .vmem S12x2048 .f32} (h : m.IsWhole) (x : Vec F S12x2048 .f32) (n : ℕ) (t : Fin 2048) :
    row h x n (ix2 0 t) = x (ix2 ⟨n % 12, Nat.mod_lt _ (by decide)⟩ t) := by
  refine (Memref.IsWhole.readAt_unread h x _ _).trans (congrArg x ?_)
  funext b
  apply Fin.ext
  fin_cases b
  · show n % 12 + 1 * 0 = n % 12
    omega
  · show 0 + 1 * t.val = t.val
    omega

theorem first_at {m : Memref sig .tc .vmem S2048x2 .f32} (h : m.IsWhole) (x : Vec F S2048x2 .f32) (a : Fin 2048) :
    View.readAt (Elt F) m.view (Rect.unit (s := S2048x2) ![0, 0] S2048x1.size inb_S2048x2_S2048x1_0_0).toLoadRect (h.unread x) (ix2 a 0) = x (ix2 a 0) := by
  refine (Memref.IsWhole.readAt_unread h x _ _).trans (congrArg x ?_)
  funext b
  apply Fin.ext
  fin_cases b
  · show 0 + 1 * a.val = a.val
    omega
  · rfl
theorem second_at {m : Memref sig .tc .vmem S2048x2 .f32} (h : m.IsWhole) (x : Vec F S2048x2 .f32) (a : Fin 2048) :
    View.readAt (Elt F) m.view (Rect.unit (s := S2048x2) ![0, 1] S2048x1.size inb_S2048x2_S2048x1_0_1).toLoadRect (h.unread x) (ix2 a 0) = x (ix2 a 1) := by
  refine (Memref.IsWhole.readAt_unread h x _ _).trans (congrArg x ?_)
  funext b
  apply Fin.ext
  fin_cases b
  · show 0 + 1 * a.val = a.val
    omega
  · rfl

/-- Where a column store puts its entries. -/
theorem columns_apply {e : EltTy} (o : ℕ → Vec F S2048x1 e) (n : ℕ) (hn : n < 11) (x : S2048x1.Idx) :
    (columns o n).2 x = o ((columns o n).1.emb x 1).val (ix2 ((columns o n).1.emb x 0) 0) := by
  obtain ⟨p, q, rfl⟩ : ∃ (p : Fin 2048) (q : Fin 1), x = ix2 p q := ⟨x 0, x 1, eq_ix2 x⟩
  obtain rfl : q = 0 := Subsingleton.elim _ _
  have h1 : ((columns o n).1.emb (ix2 p 0) 1).val = n := by
    show n % 11 + 1 * 0 = n
    omega
  have h0 : (columns o n).1.emb (ix2 p 0) 0 = p := by
    apply Fin.ext
    show 0 + 1 * p.val = p.val
    omega
  rw [h1]
  show o n (ix2 p 0) = o n (ix2 ((columns o n).1.emb (ix2 p 0) 0) 0)
  rw [h0]

/-- The eleven column stores read back: column `j` of the block is the `j`-th stored column. -/
theorem read_pieces {e : EltTy} (v : View sig .tc .vmem S2048x11 e) (f) (o : ℕ → Vec F S2048x1 e) (L)
    (hL : L = pieces o) (hc : ∀ y : S2048x11.Idx, ∃ p ∈ L, y ∈ p.1.set) (a : Fin 2048) (j : Fin 11) :
    v.read (Elt F) (v.writes (Elt F) f L) (ix2 a j) = o j (ix2 a 0) := by
  subst hL
  refine View.read_writes_apply_of_pieces v f (fun y : S2048x11.Idx => o (y 1).val (ix2 (y 0) 0)) (pieces o) ?_ _ (hc _)
  intro p hp
  have hp' : p ∈ [10, 9, 8, 7, 6, 5, 4, 3, 2, 1, 0].map (columns o) := hp
  obtain ⟨n, hn, rfl⟩ := List.mem_map.mp hp'
  exact columns_apply o n (by simp only [List.mem_cons, List.not_mem_nil, or_false] at hn; omega)

section
variable (c : Dev nD) (i : grid0.Coords) (arg1 : Memref sig .tc .vmem S2048x12 .f32) (harg1 : arg1.IsWhole) (arg2 : Memref sig .tc .vmem S2048x12 .f32) (harg2 : arg2.IsWhole) (arg3 : Memref sig .tc .vmem S2048x12 .f32) (harg3 : arg3.IsWhole) (arg4 : Memref sig .tc .vmem S2048x12 .f32) (harg4 : arg4.IsWhole) (arg5 : Memref sig .tc .vmem S2048x2 .f32) (harg5 : arg5.IsWhole) (arg6 : Memref sig .tc .vmem S12x2048 .f32) (harg6 : arg6.IsWhole) (arg7 : Memref sig .tc .vmem S2048x11 .f32) (harg7 : arg7.IsWhole) (arg8 : Memref sig .tc .vmem S2048x11 .i32) (harg8 : arg8.IsWhole) (arg9 : Memref sig .tc .vmem S2048x11 .f32) (harg9 : arg9.IsWhole) (arg10 : Memref sig .tc .vmem S2048x11 .f32) (harg10 : arg10.IsWhole) (arg11 : Memref sig .tc .vmem S2048x11 .f32) (harg11 : arg11.IsWhole) (arg12 : Memref sig .tc .vmem S8x128 .f32) (harg12 : arg12.IsWhole)
  (x0 : Vec F S2048x12 .f32) (x1 : Vec F S2048x12 .f32) (x2 : Vec F S2048x12 .f32) (x3 : Vec F S2048x12 .f32) (x4 : Vec F S2048x2 .f32) (x5 : Vec F S12x2048 .f32)

theorem out_both (a : Fin 2048) (j : Fin 11) :
    out0_A_6 c i arg1 harg1 arg2 harg2 arg3 harg3 arg4 harg4 arg5 harg5 arg6 harg6 arg7 harg7 arg8 harg8 arg9 harg9 arg10 harg10 arg11 harg11 arg12 harg12 x0 x1 x2 x3 x4 x5 (ix2 a j)
      = outBoth (readsOf harg1 harg2 harg3 harg4 harg5 harg6 x0 x1 x2 x3 x4 x5) j (ix2 a 0) :=
  read_pieces _ _ _ _ (pieces_both c i harg1 harg2 harg3 harg4 harg5 harg6 harg7 harg8 harg9 harg10 harg11 harg12 x0 x1 x2 x3 x4 x5)
    (cover0_A_6 c i arg1 harg1 arg2 harg2 arg3 harg3 arg4 harg4 arg5 harg5 arg6 harg6 arg7 harg7 arg8 harg8 arg9 harg9 arg10 harg10 arg11 harg11 arg12 harg12 x0 x1 x2 x3 x4 x5) a j
theorem out_index (a : Fin 2048) (j : Fin 11) :
    out0_A_7 c i arg1 harg1 arg2 harg2 arg3 harg3 arg4 harg4 arg5 harg5 arg6 harg6 arg7 harg7 arg8 harg8 arg9 harg9 arg10 harg10 arg11 harg11 arg12 harg12 x0 x1 x2 x3 x4 x5 (ix2 a j)
      = outIndex (readsOf harg1 harg2 harg3 harg4 harg5 harg6 x0 x1 x2 x3 x4 x5) j (ix2 a 0) :=
  read_pieces _ _ _ _ (pieces_index c i harg1 harg2 harg3 harg4 harg5 harg6 harg7 harg8 harg9 harg10 harg11 harg12 x0 x1 x2 x3 x4 x5)
    (cover0_A_7 c i arg1 harg1 arg2 harg2 arg3 harg3 arg4 harg4 arg5 harg5 arg6 harg6 arg7 harg7 arg8 harg8 arg9 harg9 arg10 harg10 arg11 harg11 arg12 harg12 x0 x1 x2 x3 x4 x5) a j
theorem out_x (a : Fin 2048) (j : Fin 11) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 (ix2 a j)
      = outX (readsOf harg1 harg2 harg3 harg4 harg5 harg6 x0 x1 x2 x3 x4 x5) j (ix2 a 0) :=
  read_pieces _ _ _ _ (pieces_x c i harg1 harg2 harg3 harg4 harg5 harg6 harg7 harg8 harg9 harg10 harg11 harg12 x0 x1 x2 x3 x4 x5)
    (cover0_A_8 c i arg1 harg1 arg2 harg2 arg3 harg3 arg4 harg4 arg5 harg5 arg6 harg6 arg7 harg7 arg8 harg8 arg9 harg9 arg10 harg10 arg11 harg11 arg12 harg12 x0 x1 x2 x3 x4 x5) a j
theorem out_y (a : Fin 2048) (j : Fin 11) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 (ix2 a j)
      = outY (readsOf harg1 harg2 harg3 harg4 harg5 harg6 x0 x1 x2 x3 x4 x5) j (ix2 a 0) :=
  read_pieces _ _ _ _ (pieces_y c i harg1 harg2 harg3 harg4 harg5 harg6 harg7 harg8 harg9 harg10 harg11 harg12 x0 x1 x2 x3 x4 x5)
    (cover0_A_9 c i arg1 harg1 arg2 harg2 arg3 harg3 arg4 harg4 arg5 harg5 arg6 harg6 arg7 harg7 arg8 harg8 arg9 harg9 arg10 harg10 arg11 harg11 arg12 harg12 x0 x1 x2 x3 x4 x5) a j
theorem out_head (a : Fin 2048) (j : Fin 11) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 (ix2 a j)
      = outHead (readsOf harg1 harg2 harg3 harg4 harg5 harg6 x0 x1 x2 x3 x4 x5) j (ix2 a 0) :=
  read_pieces _ _ _ _ (pieces_head c i harg1 harg2 harg3 harg4 harg5 harg6 harg7 harg8 harg9 harg10 harg11 harg12 x0 x1 x2 x3 x4 x5)
    (cover0_A_10 c i arg1 harg1 arg2 harg2 arg3 harg3 arg4 harg4 arg5 harg5 arg6 harg6 arg7 harg7 arg8 harg8 arg9 harg9 arg10 harg10 arg11 harg11 arg12 harg12 x0 x1 x2 x3 x4 x5) a j
end

variable (m : (ℓ : Loc nD τ sig) → Buf (Elt F) ℓ) (c : Dev nD)

theorem iblk0 : iblk m c 0 t0_0 = V m c main_v1 := by
  funext y
  unfold iblk
  blk_simp
  refine congrArg (V m c _) (funext fun b => Fin.ext ?_)
  exact Pipeline.Window.rect_emb_val_of_index_zero win0_0 t0_0 b ((by decide +kernel : ∀ b, win0_0.index t0_0 b = 0) b) y
theorem iblk1 : iblk m c 1 t0_0 = V m c main_v3 := by
  funext y
  unfold iblk
  blk_simp
  refine congrArg (V m c _) (funext fun b => Fin.ext ?_)
  exact Pipeline.Window.rect_emb_val_of_index_zero win0_1 t0_0 b ((by decide +kernel : ∀ b, win0_1.index t0_0 b = 0) b) y
theorem iblk2 : iblk m c 2 t0_0 = V m c main_v4 := by
  funext y
  unfold iblk
  blk_simp
  refine congrArg (V m c _) (funext fun b => Fin.ext ?_)
  exact Pipeline.Window.rect_emb_val_of_index_zero win0_2 t0_0 b ((by decide +kernel : ∀ b, win0_2.index t0_0 b = 0) b) y
theorem iblk3 : iblk m c 3 t0_0 = V m c main_v6 := by
  funext y
  unfold iblk
  blk_simp
  refine congrArg (V m c _) (funext fun b => Fin.ext ?_)
  exact Pipeline.Window.rect_emb_val_of_index_zero win0_3 t0_0 b ((by decide +kernel : ∀ b, win0_3.index t0_0 b = 0) b) y
theorem iblk4 : iblk m c 4 t0_0 = V m c main_arg3 := by
  funext y
  unfold iblk
  blk_simp
  refine congrArg (V m c _) (funext fun b => Fin.ext ?_)
  exact Pipeline.Window.rect_emb_val_of_index_zero win0_4 t0_0 b ((by decide +kernel : ∀ b, win0_4.index t0_0 b = 0) b) y
theorem iblk5 : iblk m c 5 t0_0 = V m c main_v37 := by
  funext y
  unfold iblk
  blk_simp
  refine congrArg (V m c _) (funext fun b => Fin.ext ?_)
  exact Pipeline.Window.rect_emb_val_of_index_zero win0_5 t0_0 b ((by decide +kernel : ∀ b, win0_5.index t0_0 b = 0) b) y

/-- What the body reads at the one grid point. -/
def reads : Reads F :=
  readsOf (hs0_0 t0_0) (hs0_1 t0_0) (hs0_2 t0_0) (hs0_3 t0_0) (hs0_4 t0_0) (hs0_5 t0_0)
    (iblk m c 0 t0_0) (iblk m c 1 t0_0) (iblk m c 2 t0_0) (iblk m c 3 t0_0) (iblk m c 4 t0_0) (iblk m c 5 t0_0)

theorem reads_px (n : ℕ) (a : Fin 2048) : (reads m c).px n (ix2 a 0) = V m c main_v1 (ix2 a ⟨n % 12, Nat.mod_lt _ (by decide)⟩) :=
  (column_at (hs0_0 t0_0) _ n a).trans (congrFun (iblk0 m c) _)
theorem reads_py (n : ℕ) (a : Fin 2048) : (reads m c).py n (ix2 a 0) = V m c main_v3 (ix2 a ⟨n % 12, Nat.mod_lt _ (by decide)⟩) :=
  (column_at (hs0_1 t0_0) _ n a).trans (congrFun (iblk1 m c) _)
theorem reads_hd (n : ℕ) (a : Fin 2048) : (reads m c).hd n (ix2 a 0) = V m c main_v4 (ix2 a ⟨n % 12, Nat.mod_lt _ (by decide)⟩) :=
  (column_at (hs0_2 t0_0) _ n a).trans (congrFun (iblk2 m c) _)
theorem reads_vf (n : ℕ) (a : Fin 2048) : (reads m c).vf n (ix2 a 0) = V m c main_v6 (ix2 a ⟨n % 12, Nat.mod_lt _ (by decide)⟩) :=
  (column_at (hs0_3 t0_0) _ n a).trans (congrFun (iblk3 m c) _)
theorem reads_tok (n : ℕ) (t : Fin 2048) : (reads m c).tok n (ix2 0 t) = V m c main_v37 (ix2 ⟨n % 12, Nat.mod_lt _ (by decide)⟩ t) :=
  (row_at (hs0_5 t0_0) _ n t).trans (congrFun (iblk5 m c) _)
theorem reads_len (a : Fin 2048) : (reads m c).len (ix2 a 0) = V m c main_arg3 (ix2 a 0) :=
  (first_at (hs0_4 t0_0) _ a).trans (congrFun (iblk4 m c) _)
theorem reads_wid (a : Fin 2048) : (reads m c).wid (ix2 a 0) = V m c main_arg3 (ix2 a 1) :=
  (second_at (hs0_4 t0_0) _ a).trans (congrFun (iblk4 m c) _)

set_option maxHeartbeats 1000000

theorem after_both (a : Fin 2048) (j : Fin 11) : (dats m 0 c).after 6 t0_0 (ix2 a j) = outBoth (reads m c) j (ix2 a 0) := by
  have h := out_both c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) scM0_0 (Memref.isWhole_whole _)
    (iblk m c 0 t0_0) (iblk m c 1 t0_0) (iblk m c 2 t0_0) (iblk m c 3 t0_0) (iblk m c 4 t0_0) (iblk m c 5 t0_0) a j
  have e : (outsAt0 m c t0_0).1 (ix2 a j) = outBoth (reads m c) j (ix2 a 0) := by
    unfold outsAt0 reads
    dsimp only
    exact h
  exact (congrFun (after0_6 m c t0_0) (ix2 a j)).trans e
theorem after_index (a : Fin 2048) (j : Fin 11) : (dats m 0 c).after 7 t0_0 (ix2 a j) = outIndex (reads m c) j (ix2 a 0) := by
  have h := out_index c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) scM0_0 (Memref.isWhole_whole _)
    (iblk m c 0 t0_0) (iblk m c 1 t0_0) (iblk m c 2 t0_0) (iblk m c 3 t0_0) (iblk m c 4 t0_0) (iblk m c 5 t0_0) a j
  have e : (outsAt0 m c t0_0).2.1 (ix2 a j) = outIndex (reads m c) j (ix2 a 0) := by
    unfold outsAt0 reads
    dsimp only
    exact h
  exact (congrFun (after0_7 m c t0_0) (ix2 a j)).trans e
theorem after_x (a : Fin 2048) (j : Fin 11) : (dats m 0 c).after 8 t0_0 (ix2 a j) = outX (reads m c) j (ix2 a 0) := by
  have h := out_x c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) scM0_0 (Memref.isWhole_whole _)
    (iblk m c 0 t0_0) (iblk m c 1 t0_0) (iblk m c 2 t0_0) (iblk m c 3 t0_0) (iblk m c 4 t0_0) (iblk m c 5 t0_0) a j
  have e : (outsAt0 m c t0_0).2.2.1 (ix2 a j) = outX (reads m c) j (ix2 a 0) := by
    unfold outsAt0 reads
    dsimp only
    exact h
  exact (congrFun (after0_8 m c t0_0) (ix2 a j)).trans e
theorem after_y (a : Fin 2048) (j : Fin 11) : (dats m 0 c).after 9 t0_0 (ix2 a j) = outY (reads m c) j (ix2 a 0) := by
  have h := out_y c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) scM0_0 (Memref.isWhole_whole _)
    (iblk m c 0 t0_0) (iblk m c 1 t0_0) (iblk m c 2 t0_0) (iblk m c 3 t0_0) (iblk m c 4 t0_0) (iblk m c 5 t0_0) a j
  have e : (outsAt0 m c t0_0).2.2.2.1 (ix2 a j) = outY (reads m c) j (ix2 a 0) := by
    unfold outsAt0 reads
    dsimp only
    exact h
  exact (congrFun (after0_9 m c t0_0) (ix2 a j)).trans e
theorem after_head (a : Fin 2048) (j : Fin 11) : (dats m 0 c).after 10 t0_0 (ix2 a j) = outHead (reads m c) j (ix2 a 0) := by
  have h := out_head c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) scM0_0 (Memref.isWhole_whole _)
    (iblk m c 0 t0_0) (iblk m c 1 t0_0) (iblk m c 2 t0_0) (iblk m c 3 t0_0) (iblk m c 4 t0_0) (iblk m c 5 t0_0) a j
  have e : (outsAt0 m c t0_0).2.2.2.2 (ix2 a j) = outHead (reads m c) j (ix2 a 0) := by
    unfold outsAt0 reads
    dsimp only
    exact h
  exact (congrFun (after0_10 m c t0_0) (ix2 a j)).trans e
end Cert.KernelSide
end
-- ==== Proof.KernelArr.lean ====
module

public import proofs.«01_k».proof.Proof.KernelOut

/-!
# The arrays after the call

The grid has one point and each output window's block is its whole array.
-/

@[expose] public section
noncomputable section
namespace Cert.KernelSide
open Cert.KernelIdeal Cert.KernelIdeal.Gen
open Idealize.ShloMosaic Idealize.ShloMosaic.TcCoe Idealize.ShloMosaic.Tactic
set_option maxRecDepth 16384
variable {F : FTy → Type} [FloatOps F]
variable (m : (ℓ : Loc nD τ sig) → Buf (Elt F) ℓ) (c : Dev nD)

/-- Column `n` of an output, over all agents. -/
def table {e : EltTy} (o : ℕ → Vec F S2048x1 e) : Vec F S2048x11 e := fun i => o (i 1).val (ix2 (i 0) 0)

theorem table_at {e : EltTy} (o : ℕ → Vec F S2048x1 e) (g : S2048x11.Idx → Elt F e) (z i : S2048x11.Idx)
    (h : ∀ a j, g (ix2 a j) = o j.val (ix2 a 0)) (hz : z = i) : g i = table o z := by
  subst hz
  obtain ⟨a, j, rfl⟩ : ∃ (a : Fin 2048) (j : Fin 11), z = ix2 a j := ⟨z 0, z 1, eq_ix2 z⟩
  exact h a j

theorem arr_both : (dats m 0 c).arrAt 6 cfg0.N = table (outBoth (reads m c)) := by
  refine (dats m 0 c).arrAt_eq_of_covers 6 _ (by decide +kernel) fun t hf y => ?_
  rw [fin_N0 t]
  blk_simp
  refine table_at _ _ _ _ (after_both m c) (funext fun b => Fin.ext ?_)
  exact Pipeline.Window.rect_emb_val_of_index_zero win0_6 t0_0 b ((by decide +kernel : ∀ b, win0_6.index t0_0 b = 0) b) y
theorem arr_index : (dats m 0 c).arrAt 7 cfg0.N = table (outIndex (reads m c)) := by
  refine (dats m 0 c).arrAt_eq_of_covers 7 _ (by decide +kernel) fun t hf y => ?_
  rw [fin_N0 t]
  blk_simp
  refine table_at _ _ _ _ (after_index m c) (funext fun b => Fin.ext ?_)
  exact Pipeline.Window.rect_emb_val_of_index_zero win0_7 t0_0 b ((by decide +kernel : ∀ b, win0_7.index t0_0 b = 0) b) y
theorem arr_x : (dats m 0 c).arrAt 8 cfg0.N = table (outX (reads m c)) := by
  refine (dats m 0 c).arrAt_eq_of_covers 8 _ (by decide +kernel) fun t hf y => ?_
  rw [fin_N0 t]
  blk_simp
  refine table_at _ _ _ _ (after_x m c) (funext fun b => Fin.ext ?_)
  exact Pipeline.Window.rect_emb_val_of_index_zero win0_8 t0_0 b ((by decide +kernel : ∀ b, win0_8.index t0_0 b = 0) b) y
theorem arr_y : (dats m 0 c).arrAt 9 cfg0.N = table (outY (reads m c)) := by
  refine (dats m 0 c).arrAt_eq_of_covers 9 _ (by decide +kernel) fun t hf y => ?_
  rw [fin_N0 t]
  blk_simp
  refine table_at _ _ _ _ (after_y m c) (funext fun b => Fin.ext ?_)
  exact Pipeline.Window.rect_emb_val_of_index_zero win0_9 t0_0 b ((by decide +kernel : ∀ b, win0_9.index t0_0 b = 0) b) y
theorem arr_head : (dats m 0 c).arrAt 10 cfg0.N = table (outHead (reads m c)) := by
  refine (dats m 0 c).arrAt_eq_of_covers 10 _ (by decide +kernel) fun t hf y => ?_
  rw [fin_N0 t]
  blk_simp
  refine table_at _ _ _ _ (after_head m c) (funext fun b => Fin.ext ?_)
  exact Pipeline.Window.rect_emb_val_of_index_zero win0_10 t0_0 b ((by decide +kernel : ∀ b, win0_10.index t0_0 b = 0) b) y
end Cert.KernelSide
end
-- ==== Proof.Model.lean ====
module

public import Idealize.ShloMosaic.Lib.Pointwise

/-!
# The matching of one agent over the reals

One agent is followed through its sampled columns.  At each step the box of the agent at the next column is compared
with every token placed at the carried state; the nearest token is taken (the first one, should several be nearest),
and, where the agent is valid at both columns, the carried state becomes that token's mean corner and heading.
-/

@[expose] public section
noncomputable section
namespace Cert.Matching
open Idealize.ShloMosaic

/-- One agent: its position, heading and validity at each sampled column, and the sides of its box. -/
structure Agent where
  x : ℕ → ℝ
  y : ℕ → ℝ
  h : ℕ → ℝ
  valid : ℕ → Bool
  len : ℝ
  wid : ℝ

/-- The tokens: the two coordinates of each of the four corners. -/
structure Tokens where
  x : Fin 4 → Fin 2048 → ℝ
  y : Fin 4 → Fin 2048 → ℝ

/-- A carried state. -/
structure State where
  x : ℝ
  y : ℝ
  h : ℝ

/-- The corners of the agent's box before it is turned and moved. -/
def sideX (A : Agent) : Fin 4 → ℝ := ![A.len / 2, A.len / 2, -(A.len / 2), -(A.len / 2)]
def sideY (A : Agent) : Fin 4 → ℝ := ![A.wid / 2, -(A.wid / 2), -(A.wid / 2), A.wid / 2]

/-- The corners of the agent's box at column `n`. -/
def boxX (A : Agent) (n : ℕ) (k : Fin 4) : ℝ := sideX A k * Real.cos (A.h n) - sideY A k * Real.sin (A.h n) + A.x n
def boxY (A : Agent) (n : ℕ) (k : Fin 4) : ℝ := sideX A k * Real.sin (A.h n) + sideY A k * Real.cos (A.h n) + A.y n

/-- The corners of token `t` placed at the state `S`. -/
def tokenX (T : Tokens) (S : State) (t : Fin 2048) (k : Fin 4) : ℝ :=
  T.x k t * Real.cos S.h - T.y k t * Real.sin S.h + S.x
def tokenY (T : Tokens) (S : State) (t : Fin 2048) (k : Fin 4) : ℝ :=
  T.x k t * Real.sin S.h + T.y k t * Real.cos S.h + S.y

/-- The distance between corner `k` of a token and of the box. -/
def cornerDist (A : Agent) (T : Tokens) (S : State) (n : ℕ) (t : Fin 2048) (k : Fin 4) : ℝ :=
  √((tokenX T S t k - boxX A n k) * (tokenX T S t k - boxX A n k) + (tokenY T S t k - boxY A n k) * (tokenY T S t k - boxY A n k))

/-- The distance of a token: the sum over the corners. -/
def dist (A : Agent) (T : Tokens) (S : State) (n : ℕ) (t : Fin 2048) : ℝ :=
  cornerDist A T S n t 0 + cornerDist A T S n t 1 + cornerDist A T S n t 2 + cornerDist A T S n t 3

theorem least_nonempty (f : Fin 2048 → ℝ) : (Finset.univ.filter fun i => ∀ t, f i ≤ f t).Nonempty := by
  obtain ⟨i, hi⟩ := Finite.exists_min f
  exact ⟨i, by simpa using hi⟩

/-- The first index at which `f` is least. -/
def first (f : Fin 2048 → ℝ) : Fin 2048 := (Finset.univ.filter fun i => ∀ t, f i ≤ f t).min' (least_nonempty f)

theorem first_least (f : Fin 2048 → ℝ) (t : Fin 2048) : f (first f) ≤ f t := by
  have := Finset.min'_mem _ (least_nonempty f)
  exact (Finset.mem_filter.mp this).2 t

theorem first_le (f : Fin 2048 → ℝ) (i : Fin 2048) (h : ∀ t, f i ≤ f t) : first f ≤ i :=
  Finset.min'_le _ _ (by simpa using h)

/-- The nearest token at column `n`. -/
def nearest (A : Agent) (T : Tokens) (S : State) (n : ℕ) : Fin 2048 := first (dist A T S n)

/-- The angle of the point `(x, y)`. -/
def angle (y x : ℝ) : ℝ :=
  if 0 < x then Real.arctan (y / x)
  else if x < 0 then (if 0 ≤ y then Real.arctan (y / x) + Real.pi else Real.arctan (y / x) - Real.pi)
  else if 0 < y then Real.pi / 2 else if y < 0 then -(Real.pi / 2) else 0

theorem atan2_coe (y x : ℝ) : Ideal.atan2 (y : EReal) (x : EReal) = (angle y x : EReal) := rfl

def meanX (T : Tokens) (S : State) (t : Fin 2048) : ℝ :=
  (tokenX T S t 0 + tokenX T S t 1 + tokenX T S t 2 + tokenX T S t 3) / 4
def meanY (T : Tokens) (S : State) (t : Fin 2048) : ℝ :=
  (tokenY T S t 0 + tokenY T S t 1 + tokenY T S t 2 + tokenY T S t 3) / 4
def heading (T : Tokens) (S : State) (t : Fin 2048) : ℝ :=
  angle (tokenY T S t 0 - tokenY T S t 3) (tokenX T S t 0 - tokenX T S t 3)

/-- Valid at both ends of step `n`. -/
def both (A : Agent) (n : ℕ) : Bool := A.valid n && A.valid (n + 1)

/-- The state after step `n`. -/
def next (A : Agent) (T : Tokens) (n : ℕ) (S : State) : State where
  x := if both A n then meanX T S (nearest A T S (n + 1)) else A.x (n + 1)
  y := if both A n then meanY T S (nearest A T S (n + 1)) else A.y (n + 1)
  h := if both A n then heading T S (nearest A T S (n + 1)) else A.h (n + 1)

/-- The state before step `n`. -/
def carried (A : Agent) (T : Tokens) : ℕ → State
  | 0 => ⟨A.x 0, A.y 0, A.h 0⟩
  | n + 1 => next A T n (carried A T n)

/-! ## The same in the frame of the state -/

/-- A corner's distance, taken in the frame of the carried state: turning and moving both points changes nothing. -/
theorem cornerDist_local (A : Agent) (T : Tokens) (S : State) (n : ℕ) (t : Fin 2048) (k : Fin 4) :
    √((T.x k t - ((boxX A n k - S.x) * Real.cos S.h + (boxY A n k - S.y) * Real.sin S.h)) *
          (T.x k t - ((boxX A n k - S.x) * Real.cos S.h + (boxY A n k - S.y) * Real.sin S.h)) +
        (T.y k t - ((boxY A n k - S.y) * Real.cos S.h - (boxX A n k - S.x) * Real.sin S.h)) *
          (T.y k t - ((boxY A n k - S.y) * Real.cos S.h - (boxX A n k - S.x) * Real.sin S.h)))
      = cornerDist A T S n t k := by
  unfold cornerDist tokenX tokenY
  congr 1
  generalize boxX A n k = gx
  generalize boxY A n k = gy
  have h := Real.cos_sq_add_sin_sq S.h
  linear_combination ((gx - S.x) ^ 2 + (gy - S.y) ^ 2 - T.x k t ^ 2 - T.y k t ^ 2) * h

/-- The mean corner is the placed mean of the corners. -/
theorem meanX_local (T : Tokens) (S : State) (t : Fin 2048) :
    (T.x 0 t + T.x 1 t + T.x 2 t + T.x 3 t) / 4 * Real.cos S.h - (T.y 0 t + T.y 1 t + T.y 2 t + T.y 3 t) / 4 * Real.sin S.h + S.x
      = meanX T S t := by
  unfold meanX tokenX; ring
theorem meanY_local (T : Tokens) (S : State) (t : Fin 2048) :
    (T.x 0 t + T.x 1 t + T.x 2 t + T.x 3 t) / 4 * Real.sin S.h + (T.y 0 t + T.y 1 t + T.y 2 t + T.y 3 t) / 4 * Real.cos S.h + S.y
      = meanY T S t := by
  unfold meanY tokenY; ring

/-- The heading is the angle of the turned difference of two corners. -/
theorem heading_local (T : Tokens) (S : State) (t : Fin 2048) :
    angle ((T.x 0 t - T.x 3 t) * Real.sin S.h + (T.y 0 t - T.y 3 t) * Real.cos S.h)
        ((T.x 0 t - T.x 3 t) * Real.cos S.h - (T.y 0 t - T.y 3 t) * Real.sin S.h)
      = heading T S t := by
  unfold heading tokenX tokenY
  congr 1 <;> ring

end Cert.Matching
end
-- ==== Proof.KernelValue.lean ====
module

public import proofs.«01_k».proof.Proof.KernelStep
public import proofs.«01_k».proof.Proof.Model
public import Idealize.ShloMosaic.Lib.Pointwise

/-!
# One step of the kernel at one agent

At an agent whose reads are real numbers, the columns of the recursion are the real model's values.
-/

@[expose] public section
noncomputable section
namespace Cert.KernelSide
open Cert.KernelIdeal Cert.KernelIdeal.Gen
open Idealize.ShloMosaic Idealize.ShloMosaic.TcCoe Idealize.ShloMosaic.Tactic
set_option maxRecDepth 16384

open Cert.Matching (Agent Tokens State)

theorem two_bits : Ideal.ofBits FTy.f32 1073741824#32 = ((2 : ℝ) : EReal) := by
  simp [Ideal.ofBits, Ideal.ieee, -EReal.coe_mul]; norm_num

/-- The reads at agent `a` are the agent's data and the tokens'. -/
structure ReadsAre (I : Reads Ideal) (a : Fin 2048) (A : Agent) (T : Tokens) : Prop where
  px : ∀ n, I.px n (ix2 a 0) = ((A.x n : ℝ) : EReal)
  py : ∀ n, I.py n (ix2 a 0) = ((A.y n : ℝ) : EReal)
  hd : ∀ n, I.hd n (ix2 a 0) = ((A.h n : ℝ) : EReal)
  vf : ∀ n, I.vf n (ix2 a 0) = (((if A.valid n then 1 else 0 : ℝ)) : EReal)
  len : I.len (ix2 a 0) = ((A.len : ℝ) : EReal)
  wid : I.wid (ix2 a 0) = ((A.wid : ℝ) : EReal)
  tokX : ∀ (k : Fin 4) t, I.tok k (ix2 0 t) = ((T.x k t : ℝ) : EReal)
  tokY : ∀ (k : Fin 4) t, I.tok (4 + k) (ix2 0 t) = ((T.y k t : ℝ) : EReal)
  meanX : ∀ t, I.tok 8 (ix2 0 t) = (((T.x 0 t + T.x 1 t + T.x 2 t + T.x 3 t) / 4 : ℝ) : EReal)
  meanY : ∀ t, I.tok 9 (ix2 0 t) = (((T.y 0 t + T.y 1 t + T.y 2 t + T.y 3 t) / 4 : ℝ) : EReal)
  diffX : ∀ t, I.tok 10 (ix2 0 t) = ((T.x 0 t - T.x 3 t : ℝ) : EReal)
  diffY : ∀ t, I.tok 11 (ix2 0 t) = ((T.y 0 t - T.y 3 t : ℝ) : EReal)

/-- The carried columns at agent `a` are the state. -/
structure CarriedAre (S : Carried Ideal) (a : Fin 2048) (s : State) : Prop where
  x : S.x (ix2 a 0) = ((s.x : ℝ) : EReal)
  y : S.y (ix2 a 0) = ((s.y : ℝ) : EReal)
  h : S.h (ix2 a 0) = ((s.h : ℝ) : EReal)

theorem half_at (v : Vec Ideal S2048x1 .f32) (a : Fin 2048) (r : ℝ) (h : v (ix2 a 0) = (r : EReal)) :
    half v (ix2 a 0) = ((r / 2 : ℝ) : EReal) := by
  pointwise [half]
  rw [h, two_bits, Ideal.div_coe two_ne_zero, ← EReal.coe_mul, mul_one_div]

theorem minus_at (v : Col Ideal) (a : Fin 2048) (r : ℝ) (h : v (ix2 a 0) = (r : EReal)) :
    minus v (ix2 a 0) = ((-r : ℝ) : EReal) := by
  pointwise [minus, zeroCol]
  rw [h]; simp

theorem cornerDist_at (tx ty : Row Ideal) (lx ly : Col Ideal) (a t : Fin 2048) (x y p q : ℝ)
    (hx : tx (ix2 0 t) = (x : EReal)) (hy : ty (ix2 0 t) = (y : EReal)) (hp : lx (ix2 a 0) = (p : EReal)) (hq : ly (ix2 a 0) = (q : EReal)) :
    cornerDist tx ty lx ly (ix2 a t) = ((√((x - p) * (x - p) + (y - q) * (y - q)) : ℝ) : EReal) := by
  pointwise [cornerDist, apart, sameRow]
  simp only [hx, hy, hp, hq, ← EReal.coe_sub, ← EReal.coe_mul, ← EReal.coe_add, Ideal.sqrt_coe]
  exact if_neg (not_lt.mpr (add_nonneg (mul_self_nonneg _) (mul_self_nonneg _)))

section
variable {I : Reads Ideal} {S : Carried Ideal} {a : Fin 2048} {A : Agent} {T : Tokens} {s : State}
  (hI : ReadsAre I a A T) (hS : CarriedAre S a s)
include hI hS

theorem boxX_at (n : ℕ) (x y : Col Ideal) (u v : ℝ) (hx : x (ix2 a 0) = (u : EReal)) (hy : y (ix2 a 0) = (v : EReal)) :
    boxX I S n x y (ix2 a 0) = (((u * Real.cos (A.h n) - v * Real.sin (A.h n) + A.x n - s.x) * Real.cos s.h
      + (u * Real.sin (A.h n) + v * Real.cos (A.h n) + A.y n - s.y) * Real.sin s.h : ℝ) : EReal) := by
  pointwise [boxX, localX, worldX, worldY, same]
  simp only [hx, hy, hI.px, hI.py, hI.hd, hS.x, hS.y, hS.h, Ideal.cos_coe, Ideal.sin_coe, ← EReal.coe_sub, ← EReal.coe_mul, ← EReal.coe_add]

theorem boxY_at (n : ℕ) (x y : Col Ideal) (u v : ℝ) (hx : x (ix2 a 0) = (u : EReal)) (hy : y (ix2 a 0) = (v : EReal)) :
    boxY I S n x y (ix2 a 0) = (((u * Real.sin (A.h n) + v * Real.cos (A.h n) + A.y n - s.y) * Real.cos s.h
      - (u * Real.cos (A.h n) - v * Real.sin (A.h n) + A.x n - s.x) * Real.sin s.h : ℝ) : EReal) := by
  pointwise [boxY, localY, worldX, worldY, same]
  simp only [hx, hy, hI.px, hI.py, hI.hd, hS.x, hS.y, hS.h, Ideal.cos_coe, Ideal.sin_coe, ← EReal.coe_sub, ← EReal.coe_mul, ← EReal.coe_add]

/-- One corner's distance is the model's. -/
theorem corner_at (n : ℕ) (t : Fin 2048) (k : Fin 4) (x y : Col Ideal)
    (hx : x (ix2 a 0) = ((Matching.sideX A k : ℝ) : EReal)) (hy : y (ix2 a 0) = ((Matching.sideY A k : ℝ) : EReal)) :
    cornerDist (I.tok k) (I.tok (4 + k)) (boxX I S n x y) (boxY I S n x y) (ix2 a t) = ((Matching.cornerDist A T s n t k : ℝ) : EReal) := by
  rw [cornerDist_at _ _ _ _ a t _ _ _ _ (hI.tokX k t) (hI.tokY k t) (boxX_at hI hS n x y _ _ hx hy) (boxY_at hI hS n x y _ _ hx hy),
    ← Matching.cornerDist_local]
  rfl

theorem dist_at (n : ℕ) (t : Fin 2048) : dist I S n (ix2 a t) = ((Matching.dist A T s n t : ℝ) : EReal) := by
  have hl := half_at _ a _ hI.len
  have hw := half_at _ a _ hI.wid
  have hl' := minus_at _ a _ hl
  have hw' := minus_at _ a _ hw
  have h0 := corner_at hI hS n t 0 _ _ hl hw
  have h1 := corner_at hI hS n t 1 _ _ hl hw'
  have h2 := corner_at hI hS n t 2 _ _ hl' hw'
  have h3 := corner_at hI hS n t 3 _ _ hl' hw
  pointwise [dist]
  unfold Matching.dist
  rw [EReal.coe_add, EReal.coe_add, EReal.coe_add, ← h0, ← h1, ← h2, ← h3]
  rfl
end

/-- The index of the least entry along a row whose entries are real. -/
theorem argMin_at (v : Grid Ideal) (a : Fin 2048) (f : Fin 2048 → ℝ) (hv : ∀ t, v (ix2 a t) = ((f t : ℝ) : EReal)) :
    reduceIndex .argMin 1 S2048 v reduces_S2048x2048_S2048 (ix1 a) = BitVec.ofNat 32 (Matching.first f).val := by
  have hd : ∀ i : S2048x2048.Idx, Shape.Reduces.drop (axes := [1]) reduces_S2048x2048_S2048 i = ix1 a ↔ i 0 = a := by
    intro i
    constructor
    · intro h
      have := congrFun h 0
      exact this
    · intro h
      funext b
      fin_cases b
      exact h
  have key : ∀ E : Finset ℕ, (∀ k : ℕ, k ∈ E ↔ ∃ t : Fin 2048, (∀ u, f t ≤ f u) ∧ t.val = k) → E.min.getD 0 = (Matching.first f).val := by
    intro E hm
    have hmin : E.min = ((Matching.first f).val : WithTop ℕ) := by
      refine le_antisymm (Finset.min_le ((hm _).mpr ⟨_, Matching.first_least f, rfl⟩)) (Finset.le_min fun k hk => ?_)
      obtain ⟨t, ht, rfl⟩ := (hm k).mp hk
      exact WithTop.coe_le_coe.mpr (Matching.first_le f t ht)
    rw [hmin]
    rfl
  refine congrArg (BitVec.ofNat 32) (key _ fun k => ?_)
  simp only [Finset.mem_image, Finset.mem_filter, Finset.mem_univ, true_and]
  constructor
  · rintro ⟨i, ⟨hi, hmin⟩, rfl⟩
    obtain ⟨p, q, rfl⟩ : ∃ p q : Fin 2048, i = ix2 p q := ⟨i 0, i 1, eq_ix2 i⟩
    obtain rfl : p = a := (hd _).mp hi
    refine ⟨q, fun u => ?_, rfl⟩
    have := hmin (ix2 p u) ((hd _).mpr rfl)
    rw [if_neg (by decide), hv, hv, EReal.coe_lt_coe_iff, not_lt] at this
    exact this
  · rintro ⟨t, ht, rfl⟩
    refine ⟨ix2 a t, ⟨(hd _).mpr rfl, fun i hi => ?_⟩, rfl⟩
    obtain ⟨p, q, rfl⟩ : ∃ p q : Fin 2048, i = ix2 p q := ⟨i 0, i 1, eq_ix2 i⟩
    obtain rfl : p = a := (hd _).mp hi
    rw [if_neg (by decide), hv, hv, EReal.coe_lt_coe_iff, not_lt]
    exact ht _

section
variable {I : Reads Ideal} {S : Carried Ideal} {a : Fin 2048} {A : Agent} {T : Tokens} {s : State}
  (hI : ReadsAre I a A T) (hS : CarriedAre S a s)
include hI hS

theorem nearest_at (n : ℕ) : nearest I S n (ix2 a 0) = BitVec.ofNat 32 (Matching.nearest A T s n).val := by
  pointwise [nearest]
  exact argMin_at _ _ _ (dist_at hI hS n)

omit hS in
theorem bothBit_at (n : ℕ) : (0 < I.vf n (ix2 a 0) * I.vf (n + 1) (ix2 a 0)) = (Matching.both A n = true) := by
  rw [hI.vf, hI.vf, ← EReal.coe_mul, ← EReal.coe_zero, EReal.coe_lt_coe_iff]
  unfold Matching.both
  cases A.valid n <;> cases A.valid (n + 1) <;> simp
end

/-- The sum over the tokens of a row kept only at one index is the row's entry there. -/
theorem picked_at (near : IVec S2048x1 32) (r : Row Ideal) (a t : Fin 2048) (h : near (ix2 a 0) = BitVec.ofNat 32 t.val) :
    picked near r (ix2 a 0) = r (ix2 0 t) := by
  pointwise [picked, sameRow]
  rw [h, Finset.sum_eq_single t]
  · simp [IntOp.cmpi, Scalar.select]
  · intro x _ hx
    have : BitVec.ofNat 32 x.val ≠ BitVec.ofNat 32 t.val := by
      intro h
      have := congrArg BitVec.toNat h
      simp only [BitVec.toNat_ofNat] at this
      exact hx (Fin.ext (by omega))
    simp [IntOp.cmpi, Scalar.select, beq_eq_false_iff_ne.mpr this]
  · simp

section
variable {I : Reads Ideal} {S : Carried Ideal} {a : Fin 2048} {A : Agent} {T : Tokens} {s : State}
  (hI : ReadsAre I a A T) (hS : CarriedAre S a s)
include hI hS

theorem next_at (n : ℕ) : CarriedAre (next I n S) a (Matching.next A T n s) := by
  have hn := nearest_at hI hS (n + 1)
  have hp := fun r => picked_at (nearest I S (n + 1)) r a _ hn
  refine ⟨?_, ?_, ?_⟩
  · pointwise [next, newX, bothBit, both, same, zeroCol]
    simp only [bothBit_at hI, hp, hI.meanX, hI.meanY, hS.x, hS.h, hI.px, Ideal.cos_coe, Ideal.sin_coe, ← EReal.coe_sub, ← EReal.coe_mul, ← EReal.coe_add,
      Matching.meanX_local]
    unfold Matching.next
    split_ifs <;> rfl
  · pointwise [next, newY, bothBit, both, same, zeroCol]
    simp only [bothBit_at hI, hp, hI.meanX, hI.meanY, hS.y, hS.h, hI.py, Ideal.cos_coe, Ideal.sin_coe, ← EReal.coe_sub, ← EReal.coe_mul, ← EReal.coe_add,
      Matching.meanY_local]
    unfold Matching.next
    split_ifs <;> rfl
  · pointwise [next, newHead, bothBit, both, same, zeroCol]
    simp only [bothBit_at hI, hp, hI.diffX, hI.diffY, hS.h, hI.hd, Ideal.cos_coe, Ideal.sin_coe, ← EReal.coe_sub, ← EReal.coe_mul, ← EReal.coe_add,
      Matching.atan2_coe, Matching.heading_local]
    unfold Matching.next
    split_ifs <;> rfl
omit hS

theorem carried_at (n : ℕ) : CarriedAre (carried I n) a (Matching.carried A T n) := by
  induction n with
  | zero =>
    refine ⟨?_, ?_, ?_⟩
    · pointwise [carried, same]; exact hI.px 0
    · pointwise [carried, same]; exact hI.py 0
    · pointwise [carried, same]; exact hI.hd 0
  | succ n ih => exact next_at hI ih n

theorem outBoth_at (n : ℕ) : (0 < outBoth I n (ix2 a 0)) = (Matching.both A n = true) := by
  rw [← bothBit_at hI n]
  unfold outBoth both
  pointwise [same]

theorem outIndex_at (n : ℕ) : outIndex I n (ix2 a 0) = BitVec.ofNat 32 (Matching.nearest A T (Matching.carried A T n) (n + 1)).val :=
  nearest_at hI (carried_at hI n) (n + 1)

theorem outX_at (n : ℕ) : outX I n (ix2 a 0) = (((if Matching.both A n then (Matching.carried A T (n + 1)).x else 0 : ℝ)) : EReal) := by
  have h := (carried_at hI (n + 1)).x
  unfold outX
  pointwise [bothBit, both, same, zeroCol]
  simp only [bothBit_at hI, show (next I n (carried I n)).x = (carried I (n + 1)).x from rfl, h]
  split_ifs <;> rfl
theorem outY_at (n : ℕ) : outY I n (ix2 a 0) = (((if Matching.both A n then (Matching.carried A T (n + 1)).y else 0 : ℝ)) : EReal) := by
  have h := (carried_at hI (n + 1)).y
  unfold outY
  pointwise [bothBit, both, same, zeroCol]
  simp only [bothBit_at hI, show (next I n (carried I n)).y = (carried I (n + 1)).y from rfl, h]
  split_ifs <;> rfl
theorem outHead_at (n : ℕ) : outHead I n (ix2 a 0) = (((if Matching.both A n then (Matching.carried A T (n + 1)).h else 0 : ℝ)) : EReal) := by
  have h := (carried_at hI (n + 1)).h
  unfold outHead
  pointwise [bothBit, both, same, zeroCol]
  simp only [bothBit_at hI, show (next I n (carried I n)).h = (carried I (n + 1)).h from rfl, h]
  split_ifs <;> rfl
end
end Cert.KernelSide
end
-- ==== Proof.Spec.lean ====
module

public import proofs.«01_k».proof.Proof.Model

/-!
# The data of the model and the four results

The model's agents and tokens read off the argument arrays, whose float entries are real numbers where a step reads
them, and the four result arrays the model gives.
-/

@[expose] public section
noncomputable section
namespace Cert.Matching
open Idealize.ShloMosaic

/-- The sampled columns: every eighth. -/
def sampled (n : ℕ) : Fin 89 := ⟨8 * (n % 12), by have := Nat.mod_lt n (show 0 < 12 by decide); omega⟩

/-- The argument arrays. -/
structure Args where
  pos : (⟨3, ![2048, 89, 2]⟩ : Shape).Idx → EReal
  heading : (⟨2, ![2048, 89]⟩ : Shape).Idx → EReal
  valid : (⟨2, ![2048, 89]⟩ : Shape).Idx → BitVec 1
  shape : (⟨2, ![2048, 2]⟩ : Shape).Idx → EReal
  token : (⟨3, ![2048, 4, 2]⟩ : Shape).Idx → EReal

/-- The float entries that a step reads are real numbers. -/
structure Args.Real (X : Args) : Prop where
  pos : ∀ a n k, ((X.pos (ix3 a (sampled n) k)).toReal : EReal) = X.pos (ix3 a (sampled n) k)
  heading : ∀ a n, ((X.heading (ix2 a (sampled n))).toReal : EReal) = X.heading (ix2 a (sampled n))
  shape : ∀ i, ((X.shape i).toReal : EReal) = X.shape i
  token : ∀ i, ((X.token i).toReal : EReal) = X.token i

/-- Agent `a`. -/
def Args.agent (X : Args) (a : Fin 2048) : Agent where
  x n := (X.pos (ix3 a (sampled n) 0)).toReal
  y n := (X.pos (ix3 a (sampled n) 1)).toReal
  h n := (X.heading (ix2 a (sampled n))).toReal
  valid n := X.valid (ix2 a (sampled n)) == 1#1
  len := (X.shape (ix2 a 0)).toReal
  wid := (X.shape (ix2 a 1)).toReal

/-- The tokens. -/
def Args.tokens (X : Args) : Tokens where
  x k t := (X.token (ix3 t k 0)).toReal
  y k t := (X.token (ix3 t k 1)).toReal

/-- Agent `a`'s state before step `n`. -/
def Args.state (X : Args) (a : Fin 2048) (n : ℕ) : State := carried (X.agent a) X.tokens n

/-- Whether agent `a` is valid at both ends of step `n`. -/
def Args.both (X : Args) (n : ℕ) (a : Fin 2048) : Bool := Matching.both (X.agent a) n
/-- The token matched at step `n`. -/
def Args.index (X : Args) (n : ℕ) (a : Fin 2048) : BitVec 32 :=
  BitVec.ofNat 32 (nearest (X.agent a) X.tokens (X.state a n) (n + 1)).val
/-- The state after step `n` where the step is valid, else zero. -/
def Args.outX (X : Args) (n : ℕ) (a : Fin 2048) : ℝ := if X.both n a then (X.state a (n + 1)).x else 0
def Args.outY (X : Args) (n : ℕ) (a : Fin 2048) : ℝ := if X.both n a then (X.state a (n + 1)).y else 0
def Args.outHead (X : Args) (n : ℕ) (a : Fin 2048) : ℝ := if X.both n a then (X.state a (n + 1)).h else 0

/-- The four results. -/
def Args.result0 (X : Args) : (⟨2, ![11, 2048]⟩ : Shape).Idx → BitVec 1 := fun i => BitVec.ofBool (X.both (i 0).val (i 1))
def Args.result1 (X : Args) : (⟨2, ![11, 2048]⟩ : Shape).Idx → BitVec 32 := fun i => X.index (i 0).val (i 1)
def Args.result2 (X : Args) : (⟨3, ![11, 2048, 2]⟩ : Shape).Idx → EReal := fun i =>
  ((if (i 2).val = 0 then X.outX (i 0).val (i 1) else X.outY (i 0).val (i 1) : ℝ) : EReal)
def Args.result3 (X : Args) : (⟨2, ![11, 2048]⟩ : Shape).Idx → EReal := fun i => ((X.outHead (i 0).val (i 1) : ℝ) : EReal)

end Cert.Matching
end
-- ==== Proof.KernelRun.lean ====
module

public import proofs.«01_k».proof.Proof.KernelOut
public import proofs.«01_k».proof.Proof.KernelValue
public import proofs.«01_k».proof.Proof.Spec
public import Idealize.ShloMosaic.Lib.StableHlo.RunRead

/-!
# What the call reads

The host operations before the call slice, transpose and combine the arguments; here are the entries they leave in the
call's inputs, at real arguments.
-/

@[expose] public section
noncomputable section
namespace Cert.KernelSide
open Cert.KernelIdeal Cert.KernelIdeal.Gen
open Idealize.ShloMosaic Idealize.ShloMosaic.TcCoe Idealize.ShloMosaic.Tactic
set_option maxRecDepth 16384

variable (m : (ℓ : Loc nD τ sig) → Buf (Elt Ideal) ℓ) (c : Dev nD)

/-- The argument arrays in the launch memory. -/
def argsOf : Matching.Args where
  pos := m ((c.tc : Thread nD τ).loc main_arg0)
  heading := m ((c.tc : Thread nD τ).loc main_arg1)
  valid := m ((c.tc : Thread nD τ).loc main_arg2)
  shape := m ((c.tc : Thread nD τ).loc main_arg3)
  token := m ((c.tc : Thread nD τ).loc main_arg4)

theorem V_px (a : Fin 2048) (n : Fin 12) : V m c main_v1 (ix2 a n) = (argsOf m c).pos (ix3 a ⟨8 * n.val, by omega⟩ 0) := by
  have h : V m c main_v1 = shapeCast S2048x12 (Host.slice S2048x12x1 ![0, 0, 0] ![1, 8, 1] (argsOf m c).pos slicesBy_S2048x89x2_S2048x12x1_0s1_0s8_0s1) shapeCasts_S2048x12x1_S2048x12 := by
    simp only [V, V0, List.flatten_cons, List.flatten_nil, List.append_nil]
    after_reads_simp
    rfl
  rw [h]
  pointwise
theorem V_py (a : Fin 2048) (n : Fin 12) : V m c main_v3 (ix2 a n) = (argsOf m c).pos (ix3 a ⟨8 * n.val, by omega⟩ 1) := by
  have h : V m c main_v3 = shapeCast S2048x12 (Host.slice S2048x12x1 ![0, 0, 1] ![1, 8, 1] (argsOf m c).pos slicesBy_S2048x89x2_S2048x12x1_0s1_0s8_1s1) shapeCasts_S2048x12x1_S2048x12 := by
    simp only [V, V0, List.flatten_cons, List.flatten_nil, List.append_nil]
    after_reads_simp
    rfl
  rw [h]
  pointwise
theorem V_hd (a : Fin 2048) (n : Fin 12) : V m c main_v4 (ix2 a n) = (argsOf m c).heading (ix2 a ⟨8 * n.val, by omega⟩) := by
  have h : V m c main_v4 = Host.slice S2048x12 ![0, 0] ![1, 8] (argsOf m c).heading slicesBy_S2048x89_S2048x12_0s1_0s8 := by
    simp only [V, V0, List.flatten_cons, List.flatten_nil, List.append_nil]
    after_reads_simp
    rfl
  rw [h]
  pointwise
theorem V_vf (a : Fin 2048) (n : Fin 12) : V m c main_v6 (ix2 a n)
    = (((if (argsOf m c).valid (ix2 a ⟨8 * n.val, by omega⟩) == 1#1 then 1 else 0 : ℝ)) : EReal) := by
  have h : V m c main_v6 = uitofp (F := Ideal) .f32 (Host.slice S2048x12 ![0, 0] ![1, 8] (argsOf m c).valid slicesBy_S2048x89_S2048x12_0s1_0s8) := by
    simp only [V, V0, List.flatten_cons, List.flatten_nil, List.append_nil]
    after_reads_simp
    rfl
  rw [h]
  pointwise
  generalize (argsOf m c).valid _ = b
  show (((b.toNat : ℝ)) : EReal) = _
  rcases BitVec.eq_zero_or_eq_one b with rfl | rfl <;> simp
theorem V_shape : V m c main_arg3 = (argsOf m c).shape := V_main_arg3 m c

/-- The tokens' first coordinates, one row per corner. -/
def cornersX (x : Vec Ideal S2048x4x2 .f32) : Vec Ideal S4x2048 .f32 :=
  transpose S4x2048 [1, 0] (shapeCast S2048x4 (extractStridedSlice S2048x4x1 ![0, 0, 0] x slices_S2048x4x2_S2048x4x1_0_0_0) shapeCasts_S2048x4x1_S2048x4) transposes_S2048x4_S4x2048_1_0
/-- The second coordinates. -/
def cornersY (x : Vec Ideal S2048x4x2 .f32) : Vec Ideal S4x2048 .f32 :=
  transpose S4x2048 [1, 0] (shapeCast S2048x4 (extractStridedSlice S2048x4x1 ![0, 0, 1] x slices_S2048x4x2_S2048x4x1_0_0_1) shapeCasts_S2048x4x1_S2048x4) transposes_S2048x4_S4x2048_1_0
def meanRow (x : Vec Ideal S4x2048 .f32) : FVec Ideal S1x2048 .f32 :=
  Host.divf (addf (addf (addf (extractStridedSlice S1x2048 ![0, 0] x slices_S4x2048_S1x2048_0_0) (extractStridedSlice S1x2048 ![1, 0] x slices_S4x2048_S1x2048_1_0))
    (extractStridedSlice S1x2048 ![2, 0] x slices_S4x2048_S1x2048_2_0)) (extractStridedSlice S1x2048 ![3, 0] x slices_S4x2048_S1x2048_3_0))
    (broadcastInDim S1x2048 ![] bcast_S_S1x2048 (constant S_ .f32 0x40800000#32))
def diffRow (x : Vec Ideal S4x2048 .f32) : FVec Ideal S1x2048 .f32 :=
  subf (extractStridedSlice S1x2048 ![0, 0] x slices_S4x2048_S1x2048_0_0) (extractStridedSlice S1x2048 ![3, 0] x slices_S4x2048_S1x2048_3_0)
def tokenRows (x : Vec Ideal S2048x4x2 .f32) : Vec Ideal S12x2048 .f32 :=
  concatenate S12x2048 0 [⟨S4x2048, cornersX x⟩, ⟨S4x2048, cornersY x⟩, ⟨S1x2048, meanRow (cornersX x)⟩, ⟨S1x2048, meanRow (cornersY x)⟩,
    ⟨S1x2048, diffRow (cornersX x)⟩, ⟨S1x2048, diffRow (cornersY x)⟩] concatenates_S4x2048_S4x2048_S1x2048_S1x2048_S1x2048_S1x2048_S12x2048_d0

theorem V_tok : V m c main_v37 = tokenRows (argsOf m c).token := by
  simp only [V, V0, List.flatten_cons, List.flatten_nil, List.append_nil]
  after_reads_simp
  rfl

theorem cornersX_at (x : Vec Ideal S2048x4x2 .f32) (k : Fin 4) (t : Fin 2048) : cornersX x (ix2 k t) = x (ix3 t k 0) := by
  pointwise [cornersX]
theorem cornersY_at (x : Vec Ideal S2048x4x2 .f32) (k : Fin 4) (t : Fin 2048) : cornersY x (ix2 k t) = x (ix3 t k 1) := by
  pointwise [cornersY]
theorem four_bits : Ideal.ofBits FTy.f32 1082130432#32 = ((4 : ℝ) : EReal) := by
  simp [Ideal.ofBits, Ideal.ieee, -EReal.coe_mul]; norm_num
theorem meanRow_at (x : Vec Ideal S4x2048 .f32) (t : Fin 2048) (f : Fin 4 → ℝ) (h : ∀ k, x (ix2 k t) = ((f k : ℝ) : EReal)) :
    meanRow x (ix2 0 t) = (((f 0 + f 1 + f 2 + f 3) / 4 : ℝ) : EReal) := by
  pointwise [meanRow]
  simp only [h, four_bits, ← EReal.coe_add]
  rw [Ideal.div_coe four_ne_zero, ← EReal.coe_mul, mul_one_div]
theorem diffRow_at (x : Vec Ideal S4x2048 .f32) (t : Fin 2048) (f : Fin 4 → ℝ) (h : ∀ k, x (ix2 k t) = ((f k : ℝ) : EReal)) :
    diffRow x (ix2 0 t) = ((f 0 - f 3 : ℝ) : EReal) := by
  pointwise [diffRow]
  simp only [h, ← EReal.coe_sub]

theorem tokenRows_x (x : Vec Ideal S2048x4x2 .f32) (k : Fin 12) (hk : k.val < 4) (t : Fin 2048) : tokenRows x (ix2 k t) = cornersX x (ix2 ⟨k.val, hk⟩ t) := by
  pointwise [tokenRows]
  rw [dif_pos hk]
theorem tokenRows_y (x : Vec Ideal S2048x4x2 .f32) (k : Fin 12) (hk : 4 ≤ k.val) (hk' : k.val < 8) (t : Fin 2048) :
    tokenRows x (ix2 k t) = cornersY x (ix2 ⟨k.val - 4, by omega⟩ t) := by
  pointwise [tokenRows]
  rw [dif_neg (by omega), dif_pos (by omega)]
theorem tokenRows_8 (x : Vec Ideal S2048x4x2 .f32) (t : Fin 2048) : tokenRows x (ix2 8 t) = meanRow (cornersX x) (ix2 0 t) := by
  pointwise [tokenRows]
theorem tokenRows_9 (x : Vec Ideal S2048x4x2 .f32) (t : Fin 2048) : tokenRows x (ix2 9 t) = meanRow (cornersY x) (ix2 0 t) := by
  pointwise [tokenRows]
theorem tokenRows_10 (x : Vec Ideal S2048x4x2 .f32) (t : Fin 2048) : tokenRows x (ix2 10 t) = diffRow (cornersX x) (ix2 0 t) := by
  pointwise [tokenRows]
theorem tokenRows_11 (x : Vec Ideal S2048x4x2 .f32) (t : Fin 2048) : tokenRows x (ix2 11 t) = diffRow (cornersY x) (ix2 0 t) := by
  pointwise [tokenRows]

/-- What the body reads at agent `a` is the model's data. -/
theorem reads_are (h : (argsOf m c).Real) (a : Fin 2048) : ReadsAre (reads m c) a ((argsOf m c).agent a) (argsOf m c).tokens := by
  have hx : ∀ t k, cornersX (argsOf m c).token (ix2 k t) = (((argsOf m c).tokens.x k t : ℝ) : EReal) := fun t k =>
    (cornersX_at _ k t).trans (h.token _).symm
  have hy : ∀ t k, cornersY (argsOf m c).token (ix2 k t) = (((argsOf m c).tokens.y k t : ℝ) : EReal) := fun t k =>
    (cornersY_at _ k t).trans (h.token _).symm
  constructor
  · intro n; exact (reads_px m c n a).trans ((V_px m c a _).trans (h.pos _ _ _).symm)
  · intro n; exact (reads_py m c n a).trans ((V_py m c a _).trans (h.pos _ _ _).symm)
  · intro n; exact (reads_hd m c n a).trans ((V_hd m c a _).trans (h.heading _ _).symm)
  · intro n; exact (reads_vf m c n a).trans (V_vf m c a _)
  · exact (reads_len m c a).trans ((congrFun (V_shape m c) _).trans (h.shape _).symm)
  · exact (reads_wid m c a).trans ((congrFun (V_shape m c) _).trans (h.shape _).symm)
  · intro k t
    refine (reads_tok m c _ t).trans ?_
    rw [V_tok, tokenRows_x _ _ (by show k.val % 12 < 4; omega)]
    rw [← hx]
    congr 2
    exact Fin.ext (show k.val % 12 = k.val by omega)
  · intro k t
    refine (reads_tok m c _ t).trans ?_
    rw [V_tok, tokenRows_y _ _ (by show 4 ≤ (4 + k.val) % 12; omega) (by show (4 + k.val) % 12 < 8; omega)]
    rw [← hy]
    congr 2
    exact Fin.ext (show (4 + k.val) % 12 - 4 = k.val by omega)
  · intro t
    exact (reads_tok m c 8 t).trans ((congrFun (V_tok m c) _).trans ((tokenRows_8 _ t).trans (meanRow_at _ t _ (hx t))))
  · intro t
    exact (reads_tok m c 9 t).trans ((congrFun (V_tok m c) _).trans ((tokenRows_9 _ t).trans (meanRow_at _ t _ (hy t))))
  · intro t
    exact (reads_tok m c 10 t).trans ((congrFun (V_tok m c) _).trans ((tokenRows_10 _ t).trans (diffRow_at _ t _ (hx t))))
  · intro t
    exact (reads_tok m c 11 t).trans ((congrFun (V_tok m c) _).trans ((tokenRows_11 _ t).trans (diffRow_at _ t _ (hy t))))

end Cert.KernelSide
end
-- ==== Proof.KernelEnd.lean ====
module

public import proofs.«01_k».proof.Proof.KernelArr
public import proofs.«01_k».proof.Proof.KernelRun

/-!
# The kernel's run

Every run of the kernel's program ends with the model's four results, and the argument arrays unchanged.
-/

@[expose] public section
noncomputable section
namespace Cert.KernelSide
open Cert.KernelIdeal Cert.KernelIdeal.Gen
open Idealize.ShloMosaic Idealize.ShloMosaic.TcCoe Idealize.ShloMosaic.Tactic
open Idealize.SL Idealize.SL.RA Idealize.SL.BI Idealize.SL.Sem
set_option maxRecDepth 16384

variable (m : (ℓ : Loc nD τ sig) → Buf (Elt Ideal) ℓ) (c : Dev nD)

theorem arrInj : Function.Injective (Pipeline.arrRef spec0) := by decide

/-- The contents of the core's buffers when the call returns. -/
abbrev exitV : Valuation τ sig (Elt Ideal) := Pipeline.withArrays spec0 c (V0 m c) fun w => (dats m 0 c).arrAt w cfg0.N

theorem exit_both : exitV m c (Proc.devRef .tc main_v38_0) = table (outBoth (reads m c)) :=
  (Pipeline.withArrays_arr spec0 arrInj c (V0 m c) (fun w => (dats m 0 c).arrAt w cfg0.N) 6).trans (arr_both m c)
theorem exit_index : exitV m c (Proc.devRef .tc main_v38_1) = table (outIndex (reads m c)) :=
  (Pipeline.withArrays_arr spec0 arrInj c (V0 m c) (fun w => (dats m 0 c).arrAt w cfg0.N) 7).trans (arr_index m c)
theorem exit_x : exitV m c (Proc.devRef .tc main_v38_2) = table (outX (reads m c)) :=
  (Pipeline.withArrays_arr spec0 arrInj c (V0 m c) (fun w => (dats m 0 c).arrAt w cfg0.N) 8).trans (arr_x m c)
theorem exit_y : exitV m c (Proc.devRef .tc main_v38_3) = table (outY (reads m c)) :=
  (Pipeline.withArrays_arr spec0 arrInj c (V0 m c) (fun w => (dats m 0 c).arrAt w cfg0.N) 9).trans (arr_y m c)
theorem exit_head : exitV m c (Proc.devRef .tc main_v38_4) = table (outHead (reads m c)) :=
  (Pipeline.withArrays_arr spec0 arrInj c (V0 m c) (fun w => (dats m 0 c).arrAt w cfg0.N) 10).trans (arr_head m c)

/-- The host operations after the call, as functions of what the call leaves. -/
def tailBoth (x : Vec Ideal S2048x11 .f32) : IVec S11x2048 1 :=
  cmpf .ogt (transpose S11x2048 [1, 0] x transposes_S2048x11_S11x2048_1_0 : FVec Ideal S11x2048 .f32)
    (broadcastInDim S11x2048 ![] bcast_S_S11x2048 (constant S_ .f32 0x00000000#32))
def tailPos (x y : Vec Ideal S2048x11 .f32) : Vec Ideal S11x2048x2 .f32 :=
  concatenate S11x2048x2 2 [⟨S11x2048x1, broadcastInDim S11x2048x1 ![0, 1] bcast_S11x2048_S11x2048x1_0_1 (transpose S11x2048 [1, 0] x transposes_S2048x11_S11x2048_1_0)⟩,
    ⟨S11x2048x1, broadcastInDim S11x2048x1 ![0, 1] bcast_S11x2048_S11x2048x1_0_1 (transpose S11x2048 [1, 0] y transposes_S2048x11_S11x2048_1_0)⟩]
    concatenates_S11x2048x1_S11x2048x1_S11x2048x2_d2

theorem tail_both (W : Valuation τ sig (Elt Ideal)) : StableHlo.after [hostOps1].flatten W (Proc.devRef .tc main_v41) = tailBoth (W (Proc.devRef .tc main_v38_0)) := by
  simp only [List.flatten_cons, List.flatten_nil, List.append_nil]
  after_reads_simp
  rfl
theorem tail_index (W : Valuation τ sig (Elt Ideal)) : StableHlo.after [hostOps1].flatten W (Proc.devRef .tc main_v42)
    = transpose S11x2048 [1, 0] (W (Proc.devRef .tc main_v38_1)) transposes_S2048x11_S11x2048_1_0 := by
  simp only [List.flatten_cons, List.flatten_nil, List.append_nil]
  after_reads_simp
theorem tail_pos (W : Valuation τ sig (Elt Ideal)) : StableHlo.after [hostOps1].flatten W (Proc.devRef .tc main_v47)
    = tailPos (W (Proc.devRef .tc main_v38_2)) (W (Proc.devRef .tc main_v38_3)) := by
  simp only [List.flatten_cons, List.flatten_nil, List.append_nil]
  after_reads_simp
  rfl
theorem tail_head (W : Valuation τ sig (Elt Ideal)) : StableHlo.after [hostOps1].flatten W (Proc.devRef .tc main_v48)
    = transpose S11x2048 [1, 0] (W (Proc.devRef .tc main_v38_4)) transposes_S2048x11_S11x2048_1_0 := by
  simp only [List.flatten_cons, List.flatten_nil, List.append_nil]
  after_reads_simp

variable (h : (argsOf m c).Real)
include h

theorem result0 : tailBoth (table (outBoth (reads m c))) = (argsOf m c).result0 := by
  funext i
  obtain ⟨j, a, rfl⟩ : ∃ (j : Fin 11) (a : Fin 2048), i = ix2 j a := ⟨i 0, i 1, eq_ix2 i⟩
  pointwise [tailBoth]
  refine congrArg BitVec.ofBool ?_
  have := outBoth_at (reads_are m c h a) j.val
  rw [Bool.decide_congr (show 0 < table (outBoth (reads m c)) (ix2 a j) ↔ Matching.both ((argsOf m c).agent a) j.val = true from Iff.of_eq this),
    Bool.decide_eq_true]
  rfl
theorem result1 : transpose S11x2048 [1, 0] (table (outIndex (reads m c))) transposes_S2048x11_S11x2048_1_0 = (argsOf m c).result1 := by
  funext i
  obtain ⟨j, a, rfl⟩ : ∃ (j : Fin 11) (a : Fin 2048), i = ix2 j a := ⟨i 0, i 1, eq_ix2 i⟩
  pointwise
  exact outIndex_at (reads_are m c h a) j.val
theorem result2 : tailPos (table (outX (reads m c))) (table (outY (reads m c))) = (argsOf m c).result2 := by
  funext i
  obtain ⟨j, a, k, rfl⟩ : ∃ (j : Fin 11) (a : Fin 2048) (k : Fin 2), i = ix3 j a k := ⟨i 0, i 1, i 2, eq_ix3 i⟩
  have hx := outX_at (reads_are m c h a) j.val
  have hy := outY_at (reads_are m c h a) j.val
  fin_cases k
  · pointwise [tailPos]
    exact hx
  · pointwise [tailPos]
    exact hy
theorem result3 : transpose S11x2048 [1, 0] (table (outHead (reads m c))) transposes_S2048x11_S11x2048_1_0 = (argsOf m c).result3 := by
  funext i
  obtain ⟨j, a, rfl⟩ : ∃ (j : Fin 11) (a : Fin 2048), i = ix2 j a := ⟨i 0, i 1, eq_ix2 i⟩
  pointwise
  exact outHead_at (reads_are m c h a) j.val
omit h

theorem run (ρ : Dev nD → PrngReg) (hr : ∀ c, (argsOf m c).Real) :
    θ_run defs (onTc (τ := τ) (main (F := Ideal))) ⟨m, fun _ => 0, ρ⟩ (fun r => ∀ c : Dev nD,
      r.2.mem ((c.tc : Thread nD τ).loc main_v41) = (argsOf m c).result0
      ∧ r.2.mem ((c.tc : Thread nD τ).loc main_v42) = (argsOf m c).result1
      ∧ r.2.mem ((c.tc : Thread nD τ).loc main_v47) = (argsOf m c).result2
      ∧ r.2.mem ((c.tc : Thread nD τ).loc main_v48) = (argsOf m c).result3) := by
  refine (θ_run defs _ _).mono (fun r hp c => ?_) (run_main m ρ)
  obtain ⟨-, hrest⟩ := hp c
  refine ⟨?_, ?_, ?_, ?_⟩
  · refine (hrest main_v41 (by decide)).trans ((tail_both (exitV m c)).trans ?_)
    rw [exit_both]; exact result0 m c (hr c)
  · refine (hrest main_v42 (by decide)).trans ((tail_index (exitV m c)).trans ?_)
    rw [exit_index]; exact result1 m c (hr c)
  · refine (hrest main_v47 (by decide)).trans ((tail_pos (exitV m c)).trans ?_)
    rw [exit_x, exit_y]; exact result2 m c (hr c)
  · refine (hrest main_v48 (by decide)).trans ((tail_head (exitV m c)).trans ?_)
    rw [exit_head]; exact result3 m c (hr c)
end Cert.KernelSide
end
-- ==== Proof.RefStep.lean ====
module

public import proofs.«01_k».proof.Proof.Gen.ReferenceIdeal.Run
public import proofs.«01_k».proof.Proof.Spec
public import Idealize.ShloMosaic.Lib.Pointwise
public import Idealize.ShloMosaic.Lib.Tactic.CleanTypes

/-!
# One step of the reference at one agent

At an agent whose data are real numbers, the values one trip of the reference's loop computes are the model's.
-/

@[expose] public section
noncomputable section
namespace Cert.ReferenceSide
open Cert.ReferenceIdeal Cert.ReferenceIdeal.Gen Cert.ReferenceIdeal.Value
open Idealize.ShloMosaic Idealize.ShloMosaic.TcCoe Idealize.ShloMosaic.Tactic
open Cert.Matching (Agent Tokens State)
set_option maxRecDepth 16384

/-- What the loop reads at agent `a`, the same on every trip. -/
structure DataAre (V : Valuation τ sig (Elt Ideal)) (a : Fin 2048) (A : Agent) (T : Tokens) : Prop where
  x : ∀ j : Fin 11, V (Proc.devRef .tc main_v15_0) (ix3 j a 0) = ((A.x (j.val + 1) : ℝ) : EReal)
  y : ∀ j : Fin 11, V (Proc.devRef .tc main_v15_0) (ix3 j a 1) = ((A.y (j.val + 1) : ℝ) : EReal)
  h : ∀ j : Fin 11, V (Proc.devRef .tc main_v15_1) (ix2 j a) = ((A.h (j.val + 1) : ℝ) : EReal)
  both : ∀ j : Fin 11, V (Proc.devRef .tc main_v15_2) (ix2 j a) = BitVec.ofBool (Matching.both A j.val)
  len : V (Proc.devRef .tc main_v15_3) (ix2 a 0) = ((A.len : ℝ) : EReal)
  wid : V (Proc.devRef .tc main_v15_3) (ix2 a 1) = ((A.wid : ℝ) : EReal)
  tokX : ∀ t k, V (Proc.devRef .tc main_v15_4) (ix3 t k 0) = ((T.x k t : ℝ) : EReal)
  tokY : ∀ t k, V (Proc.devRef .tc main_v15_4) (ix3 t k 1) = ((T.y k t : ℝ) : EReal)

/-- The carried position and heading at agent `a` are the state. -/
structure StateIs (V : Valuation τ sig (Elt Ideal)) (a : Fin 2048) (s : State) : Prop where
  x : V (Proc.devRef .tc main_v15_6) (ix2 a 0) = ((s.x : ℝ) : EReal)
  y : V (Proc.devRef .tc main_v15_6) (ix2 a 1) = ((s.y : ℝ) : EReal)
  h : V (Proc.devRef .tc main_v15_7) (ix1 a) = ((s.h : ℝ) : EReal)

/-- The loop's counter. -/
def CounterIs (V : Valuation τ sig (Elt Ideal)) (n : ℕ) : Prop :=
  V (Proc.devRef .tc main_v15_5) = fun _ => BitVec.ofNat 32 n

variable {V : Valuation τ sig (Elt Ideal)} {a : Fin 2048} {A : Agent} {T : Tokens} {s : State} {n : Fin 11}
  (hn : CounterIs V n.val) (hV : DataAre V a A T) (hS : StateIs V a s)

section
include hn hV
theorem nowX : res_main_while0b_v20 V (ix2 a 0) = ((A.x (n.val + 1) : ℝ) : EReal) := by
  rw [← hV.x n]
  unfold res_main_while0b_v20
  rw [hn]
  pointwise
  refine congrArg (V _) (congr (congr (congrArg ix3 (Fin.ext ?_)) (Fin.ext (Nat.zero_add _))) (Fin.ext ?_))
  · clear hn; fin_cases n <;> rfl
  · rfl
theorem nowY : res_main_while0b_v20 V (ix2 a 1) = ((A.y (n.val + 1) : ℝ) : EReal) := by
  rw [← hV.y n]
  unfold res_main_while0b_v20
  rw [hn]
  pointwise
  refine congrArg (V _) (congr (congr (congrArg ix3 (Fin.ext ?_)) (Fin.ext (Nat.zero_add _))) (Fin.ext ?_))
  · clear hn; fin_cases n <;> rfl
  · rfl
theorem nowH : res_main_while0b_v21 V (ix1 a) = ((A.h (n.val + 1) : ℝ) : EReal) := by
  rw [← hV.h n]
  unfold res_main_while0b_v21
  rw [hn]
  pointwise
  refine congrArg (V _) (congr (congrArg ix2 (Fin.ext ?_)) (Fin.ext (Nat.zero_add _)))
  clear hn; fin_cases n <;> rfl
theorem nowBoth : res_main_while0b_v22 V (ix1 a) = BitVec.ofBool (Matching.both A n.val) := by
  rw [← hV.both n]
  unfold res_main_while0b_v22
  rw [hn]
  pointwise
  refine congrArg (V _) (congr (congrArg ix2 (Fin.ext ?_)) (Fin.ext (Nat.zero_add _)))
  clear hn; fin_cases n <;> rfl
end

theorem two_bits : Ideal.ofBits FTy.f32 1073741824#32 = ((2 : ℝ) : EReal) := by
  simp [Ideal.ofBits, Ideal.ieee, -EReal.coe_mul]; norm_num

section
include hV
theorem halfLen : res_main_while0b_v26 V (ix1 a) = ((A.len / 2 : ℝ) : EReal) := by
  pointwise [res_main_while0b_v26]
  rw [hV.len, two_bits, Ideal.div_coe two_ne_zero, ← EReal.coe_mul, mul_one_div]
theorem halfWid : res_main_while0b_v30 V (ix1 a) = ((A.wid / 2 : ℝ) : EReal) := by
  pointwise [res_main_while0b_v30]
  rw [hV.wid, two_bits, Ideal.div_coe two_ne_zero, ← EReal.coe_mul, mul_one_div]
theorem sideX_at (k : Fin 4) : res_main_while0b_v57 V (ix2 a k) = ((Matching.sideX A k : ℝ) : EReal) := by
  have h := halfLen hV
  fin_cases k
  · pointwise [res_main_while0b_v57, res_main_while0b_v51]; exact h
  · pointwise [res_main_while0b_v57, res_main_while0b_v51]; exact h
  · pointwise [res_main_while0b_v57, res_main_while0b_v51]; rw [h]; simp [Matching.sideX]
  · pointwise [res_main_while0b_v57, res_main_while0b_v51]; rw [h]; simp [Matching.sideX]
theorem sideY_at (k : Fin 4) : res_main_while0b_v59 V (ix2 a k) = ((Matching.sideY A k : ℝ) : EReal) := by
  have h := halfWid hV
  fin_cases k
  · pointwise [res_main_while0b_v59, res_main_while0b_v51]; exact h
  · pointwise [res_main_while0b_v59, res_main_while0b_v51]; rw [h]; simp [Matching.sideY]
  · pointwise [res_main_while0b_v59, res_main_while0b_v51]; rw [h]; simp [Matching.sideY]
  · pointwise [res_main_while0b_v59, res_main_while0b_v51]; exact h
end

section
include hV hS
/-- The tokens' corners in the world frame. -/
theorem tokenX_at (t : Fin 2048) (k : Fin 4) : res_main_while0b_v109 V (ix4 a t k 0) = ((Matching.tokenX T s t k : ℝ) : EReal) := by
  pointwise [res_main_while0b_v109, res_main_while0b_v87, res_main_while0b_v89, res_main_while0b_v81, res_main_while0b_v83, res_main_while0b_v85]
  simp only [hV.tokX, hV.tokY, hS.x, hS.h, Ideal.cos_coe, Ideal.sin_coe, ← EReal.coe_sub, ← EReal.coe_mul, ← EReal.coe_add]
  rfl
theorem tokenY_at (t : Fin 2048) (k : Fin 4) : res_main_while0b_v109 V (ix4 a t k 1) = ((Matching.tokenY T s t k : ℝ) : EReal) := by
  pointwise [res_main_while0b_v109, res_main_while0b_v87, res_main_while0b_v89, res_main_while0b_v81, res_main_while0b_v83, res_main_while0b_v85]
  simp only [hV.tokX, hV.tokY, hS.y, hS.h, Ideal.cos_coe, Ideal.sin_coe, ← EReal.coe_sub, ← EReal.coe_mul, ← EReal.coe_add]
  rfl
end

/-- A signed minimum over a row is at most each entry, and is its starting value or one of the entries. -/
theorem fold_minsi_le {ι : Type} [DecidableEq ι] (S : Finset ι) (b : BitVec 32) (f : ι → BitVec 32) :
    (∀ x ∈ S, (S.fold IntOp.minsi b f).toInt ≤ (f x).toInt) ∧ (S.fold IntOp.minsi b f = b ∨ ∃ x ∈ S, S.fold IntOp.minsi b f = f x) := by
  induction S using Finset.cons_induction with
  | empty => exact ⟨fun x hx => absurd hx (Finset.notMem_empty x), Or.inl rfl⟩
  | cons y S hy ih =>
    obtain ⟨hle, hmem⟩ := ih
    rw [Finset.fold_cons]
    generalize S.fold IntOp.minsi b f = r at hle hmem ⊢
    by_cases hs : (f y).toInt < r.toInt
    · have e : IntOp.minsi (f y) r = f y := by unfold IntOp.minsi; rw [if_pos (by simpa [BitVec.slt] using hs)]
      rw [e]
      refine ⟨fun x hx => ?_, Or.inr ⟨y, Finset.mem_cons_self _ _, rfl⟩⟩
      rcases Finset.mem_cons.mp hx with rfl | hx
      · exact le_rfl
      · exact hs.le.trans (hle x hx)
    · have e : IntOp.minsi (f y) r = r := by unfold IntOp.minsi; rw [if_neg (by simpa [BitVec.slt] using hs)]
      rw [e]
      refine ⟨fun x hx => ?_, hmem.imp id fun ⟨x, hx, h⟩ => ⟨x, Finset.mem_cons_of_mem hx, h⟩⟩
      rcases Finset.mem_cons.mp hx with rfl | hx
      · exact not_lt.mp hs
      · exact hle x hx

theorem inf_bits : Ideal.ofBits FTy.f32 2139095040#32 = (⊤ : EReal) := by
  simp [Ideal.ofBits, Ideal.ieee]

theorem small_toInt (t : ℕ) (h : t ≤ 2048) : (BitVec.ofNat 32 t).toInt = t := by
  rw [BitVec.toInt_eq_toNat_of_lt (by rw [BitVec.toNat_ofNat]; omega), BitVec.toNat_ofNat]; omega

/-- The least of a row's real entries. -/
theorem fold_min_at (f : Fin 2048 → ℝ) : Finset.fold min (⊤ : EReal) (fun t => ((f t : ℝ) : EReal)) Finset.univ = ((f (Matching.first f) : ℝ) : EReal) := by
  refine le_antisymm (Finset.fold_min_le _ |>.mpr (Or.inr ⟨_, Finset.mem_univ _, le_rfl⟩)) (Finset.le_fold_min _ |>.mpr ⟨le_top, fun t _ => ?_⟩)
  exact EReal.coe_le_coe_iff.mpr (Matching.first_least f t)

/-- The least index among those of a row's least entry. -/
theorem first_at (f : Fin 2048 → ℝ) :
    Finset.fold IntOp.minsi 2147483647#32
      (fun t : Fin 2048 => if ((f t : ℝ) : EReal) = ((f (Matching.first f) : ℝ) : EReal) then BitVec.ofNat 32 t.val else 2048#32) Finset.univ
      = BitVec.ofNat 32 (Matching.first f).val := by
  obtain ⟨hle, hmem⟩ := fold_minsi_le Finset.univ 2147483647#32
    (fun t : Fin 2048 => if ((f t : ℝ) : EReal) = ((f (Matching.first f) : ℝ) : EReal) then BitVec.ofNat 32 t.val else 2048#32)
  have h := hle (Matching.first f) (Finset.mem_univ _)
  simp only [if_true] at h
  rw [small_toInt _ (by omega)] at h
  have hlt := (Matching.first f).isLt
  rcases hmem with hm | ⟨t, -, hm⟩
  · rw [hm, show (2147483647#32 : BitVec 32).toInt = 2147483647 from rfl] at h
    omega
  · rw [hm] at h ⊢
    by_cases ht : ((f t : ℝ) : EReal) = ((f (Matching.first f) : ℝ) : EReal)
    · simp only [if_pos ht] at h ⊢
      rw [small_toInt _ (by omega)] at h
      have h2 := Matching.first_le f t fun u => (EReal.coe_eq_coe_iff.mp ht).le.trans (Matching.first_least f u)
      rw [le_antisymm (show t ≤ Matching.first f from Fin.le_def.mpr (by omega)) h2]
    · simp only [if_neg ht] at h
      rw [show (2048#32 : BitVec 32).toInt = 2048 from rfl] at h
      omega

/-- What the gather reads: agent `a`'s token `t`, when `t` is its index. -/
theorem gather_at (v : S2048x2048x4x2.Idx → EReal) (idx : IVec S2048x1x1 32) (a t : Fin 2048) (k : Fin 4) (d : Fin 2)
    (h : idx (ix3 a 0 0) = BitVec.ofNat 32 t.val) :
    Host.gather gather_S2048x2048x4x2_S2048x1x1_S2048x1x4x2_23_1_0_0_1_2_1142 v idx (ix4 a 0 k d) = v (ix4 a t k d) := by
  refine congrArg v (funext fun b => Fin.ext ?_)
  fin_cases b
  · show 0 + a.val + 0 = a.val
    omega
  · have hs : gather_S2048x2048x4x2_S2048x1x1_S2048x1x4x2_23_1_0_0_1_2_1142.start (ix4 a 0 k d) idx 1 = min (idx (ix3 a 0 0)).toInt.toNat (2048 - 1) := by
      show min (idx _).toInt.toNat _ = _
      congr 4
      funext b; fin_cases b <;> rfl
    show gather_S2048x2048x4x2_S2048x1x1_S2048x1x4x2_23_1_0_0_1_2_1142.start (ix4 a 0 k d) idx 1 + 0 + 0 = t.val
    rw [hs, h, small_toInt _ (by omega)]
    omega
  · show 0 + 0 + k.val = k.val
    omega
  · show 0 + 0 + d.val = d.val
    omega

section
include hn hV hS
/-- A token corner less the box's corner. -/
theorem diffX_at (t : Fin 2048) (k : Fin 4) :
    res_main_while0b_v111 V (ix4 a t k 0) = ((Matching.tokenX T s t k - Matching.boxX A (n.val + 1) k : ℝ) : EReal) := by
  have h0 := tokenX_at hV hS t k
  have h1 := sideX_at hV k
  have h2 := sideY_at hV k
  have h3 := nowX hn hV
  have h4 := nowH hn hV
  pointwise [res_main_while0b_v111, res_main_while0b_v53, res_main_while0b_v55]
  simp only [h0, h1, h2, h3, h4, Ideal.cos_coe, Ideal.sin_coe, ← EReal.coe_sub, ← EReal.coe_mul, ← EReal.coe_add]
  rfl
theorem diffY_at (t : Fin 2048) (k : Fin 4) :
    res_main_while0b_v111 V (ix4 a t k 1) = ((Matching.tokenY T s t k - Matching.boxY A (n.val + 1) k : ℝ) : EReal) := by
  have h0 := tokenY_at hV hS t k
  have h1 := sideX_at hV k
  have h2 := sideY_at hV k
  have h3 := nowY hn hV
  have h4 := nowH hn hV
  pointwise [res_main_while0b_v111, res_main_while0b_v53, res_main_while0b_v55]
  simp only [h0, h1, h2, h3, h4, Ideal.cos_coe, Ideal.sin_coe, ← EReal.coe_sub, ← EReal.coe_mul, ← EReal.coe_add]
  rfl

theorem dist_at (t : Fin 2048) :
    res_main_while0b_v113 V (ix2 a t) = ((Matching.dist A T s (n.val + 1) t : ℝ) : EReal) := by
  pointwise [res_main_while0b_v113]
  have hk : ∀ k : Fin 4, Ideal.sqrt (∑ d : Fin 2, (show EReal from res_main_while0b_v111 V (ix4 a t k d)) * (show EReal from res_main_while0b_v111 V (ix4 a t k d)))
      = ((Matching.cornerDist A T s (n.val + 1) t k : ℝ) : EReal) := by
    intro k
    rw [Fin.sum_univ_two, diffX_at hn hV hS, diffY_at hn hV hS, ← EReal.coe_mul, ← EReal.coe_mul, ← EReal.coe_add, Ideal.sqrt_coe]
    exact if_neg (not_lt.mpr (add_nonneg (mul_self_nonneg _) (mul_self_nonneg _)))
  refine (Finset.sum_congr rfl fun k _ => hk k).trans ?_
  rw [Fin.sum_univ_four, ← EReal.coe_add, ← EReal.coe_add, ← EReal.coe_add]
  rfl
theorem index_at :
    res_main_while0b_v120 V (ix1 a) = BitVec.ofNat 32 (Matching.nearest A T s (n.val + 1)).val := by
  unfold res_main_while0b_v120
  clean_types
  pointwise
  simp only [dist_at hn hV hS]
  rw [inf_bits, fold_min_at]
  exact first_at _
/-- The corners of the nearest token. -/
theorem pick_at (k : Fin 4) (d : Fin 2) :
    res_main_while0b_v123 V (ix3 a k d) = res_main_while0b_v109 V (ix4 a (Matching.nearest A T s (n.val + 1)) k d) := by
  have hi := index_at hn hV hS
  have h5 : res_main_while0b_call5_v5 V (ix3 a 0 0) = BitVec.ofNat 32 (Matching.nearest A T s (n.val + 1)).val := by
    pointwise [res_main_while0b_call5_v5, res_main_while0b_v121]
    rw [hi]
    generalize Matching.nearest A T s (n.val + 1) = t
    have : IntOp.cmpi .slt (BitVec.ofNat 32 t.val) 0#32 = 0#1 := by
      simp only [IntOp.cmpi, BitVec.slt, small_toInt _ t.isLt.le]
      rw [decide_eq_false (by simp)]
      rfl
    rw [this]
    rfl
  unfold res_main_while0b_v123
  clean_types
  pointwise
  rw [gather_at _ _ _ _ _ _ h5, Finset.univ_unique, Finset.fold_singleton]
  show Scalar.select (IntOp.andi (IntOp.andi (IntOp.cmpi .sge (res_main_while0b_call5_v5 V (ix3 a 0 0)) 0#32)
            (IntOp.cmpi .sle (res_main_while0b_call5_v5 V (ix3 a 0 0)) 2047#32)) 1#1) _ _ = _
  rw [h5]
  generalize Matching.nearest A T s (n.val + 1) = t
  have h6 : IntOp.cmpi .sge (BitVec.ofNat 32 t.val) 0#32 = 1#1 := by
    simp only [IntOp.cmpi, BitVec.sle, small_toInt _ t.isLt.le]
    simp
  have h7 : IntOp.cmpi .sle (BitVec.ofNat 32 t.val) 2047#32 = 1#1 := by
    simp only [IntOp.cmpi, BitVec.sle, small_toInt _ t.isLt.le]
    rw [decide_eq_true (by have := t.isLt; rw [show (2047#32 : BitVec 32).toInt = 2047 from rfl]; omega)]
    rfl
  rw [h6, h7]
  rfl
end

theorem four_bits : Ideal.ofBits FTy.f32 1082130432#32 = ((4 : ℝ) : EReal) := by
  simp [Ideal.ofBits, Ideal.ieee, -EReal.coe_mul]; norm_num

/-- A choice by a bit. -/
theorem select_ofBool (b : Bool) (x y : ℝ) :
    Scalar.select (BitVec.ofBool b) ((x : ℝ) : EReal) ((y : ℝ) : EReal) = ((if b then x else y : ℝ) : EReal) := by
  cases b <;> rfl

section
include hn hV hS
/-- The state after the step. -/
theorem nextX : res_main_while0b_v139 V (ix2 a 0) = (((Matching.next A T n.val s).x : ℝ) : EReal) := by
  unfold res_main_while0b_v139
  clean_types
  pointwise
  simp only [pick_at hn hV hS, tokenX_at hV hS, nowBoth hn hV, nowX hn hV]
  rw [Fin.sum_univ_four, four_bits, Ideal.div_coe four_ne_zero, ← EReal.coe_add, ← EReal.coe_add, ← EReal.coe_add, ← EReal.coe_mul, mul_one_div,
    select_ofBool]
  rfl
theorem nextY : res_main_while0b_v139 V (ix2 a 1) = (((Matching.next A T n.val s).y : ℝ) : EReal) := by
  unfold res_main_while0b_v139
  clean_types
  pointwise
  simp only [pick_at hn hV hS, tokenY_at hV hS, nowBoth hn hV, nowY hn hV]
  rw [Fin.sum_univ_four, four_bits, Ideal.div_coe four_ne_zero, ← EReal.coe_add, ← EReal.coe_add, ← EReal.coe_add, ← EReal.coe_mul, mul_one_div,
    select_ofBool]
  rfl
theorem nextH : res_main_while0b_v134 V (ix1 a) = (((Matching.next A T n.val s).h : ℝ) : EReal) := by
  unfold res_main_while0b_v134 res_main_while0b_v128
  clean_types
  pointwise
  simp only [pick_at hn hV hS, tokenX_at hV hS, tokenY_at hV hS, nowBoth hn hV, nowH hn hV]
  rw [← EReal.coe_sub, ← EReal.coe_sub, Matching.atan2_coe, select_ofBool]
  rfl
end

/-- Storing a row at the counter. -/
theorem store2 {α : Type} (x : S11x2048.Idx → α) (u : S1x2048.Idx → α) (n j : Fin 11) (a : Fin 2048) :
    Host.dynamicUpdateSlice x u (fun k => ((![fun _ => BitVec.ofNat 32 n.val, constantI S_ 32 0#32] : Fin 2 → IVec S_ 32) k (Shape.Idx.first h_S_)).toInt)
        updateFits_S11x2048_S1x2048 (ix2 j a) = if j = n then u (ix2 0 a) else x (ix2 j a) := by
  have e0 : Host.clampedStart S11x2048 S1x2048 updateFits_S11x2048_S1x2048.1 (fun k => ((![fun _ => BitVec.ofNat 32 n.val, constantI S_ 32 0#32] : Fin 2 → IVec S_ 32) k (Shape.Idx.first h_S_)).toInt) 0 = n.val := by
    fin_cases n <;> rfl
  have e1 : Host.clampedStart S11x2048 S1x2048 updateFits_S11x2048_S1x2048.1 (fun k => ((![fun _ => BitVec.ofNat 32 n.val, constantI S_ 32 0#32] : Fin 2 → IVec S_ 32) k (Shape.Idx.first h_S_)).toInt) 1 = 0 := rfl
  pointwise
  simp only [e0, e1]
  by_cases h : j = n
  · subst h
    rw [dif_pos ⟨⟨le_rfl, Nat.lt_succ_self _⟩, Nat.zero_le _⟩, if_pos rfl]
    exact congrArg u (congr (congrArg ix2 (Fin.ext (Nat.sub_self _))) (Fin.ext (Nat.sub_zero _)))
  · rw [dif_neg (fun h' => h (Fin.ext (by omega))), if_neg h]
theorem store3 {α : Type} (x : S11x2048x2.Idx → α) (u : S1x2048x2.Idx → α) (n j : Fin 11) (a : Fin 2048) (d : Fin 2) :
    Host.dynamicUpdateSlice x u (fun k => ((![fun _ => BitVec.ofNat 32 n.val, constantI S_ 32 0#32, constantI S_ 32 0#32] : Fin 3 → IVec S_ 32) k (Shape.Idx.first h_S_)).toInt)
        updateFits_S11x2048x2_S1x2048x2 (ix3 j a d) = if j = n then u (ix3 0 a d) else x (ix3 j a d) := by
  have e0 : Host.clampedStart S11x2048x2 S1x2048x2 updateFits_S11x2048x2_S1x2048x2.1 (fun k => ((![fun _ => BitVec.ofNat 32 n.val, constantI S_ 32 0#32, constantI S_ 32 0#32] : Fin 3 → IVec S_ 32) k (Shape.Idx.first h_S_)).toInt) 0 = n.val := by
    fin_cases n <;> rfl
  have e1 : Host.clampedStart S11x2048x2 S1x2048x2 updateFits_S11x2048x2_S1x2048x2.1 (fun k => ((![fun _ => BitVec.ofNat 32 n.val, constantI S_ 32 0#32, constantI S_ 32 0#32] : Fin 3 → IVec S_ 32) k (Shape.Idx.first h_S_)).toInt) 1 = 0 := rfl
  have e2 : Host.clampedStart S11x2048x2 S1x2048x2 updateFits_S11x2048x2_S1x2048x2.1 (fun k => ((![fun _ => BitVec.ofNat 32 n.val, constantI S_ 32 0#32, constantI S_ 32 0#32] : Fin 3 → IVec S_ 32) k (Shape.Idx.first h_S_)).toInt) 2 = 0 := rfl
  pointwise
  simp only [e0, e1, e2]
  by_cases h : j = n
  · subst h
    rw [dif_pos ⟨⟨le_rfl, Nat.lt_succ_self _⟩, Nat.zero_le _, Nat.zero_le _⟩, if_pos rfl]
    exact congrArg u (congr (congr (congrArg ix3 (Fin.ext (Nat.sub_self _))) (Fin.ext (Nat.sub_zero _))) (Fin.ext (Nat.sub_zero _)))
  · rw [dif_neg (fun h' => h (Fin.ext (by omega))), if_neg h]

theorem zero_at : id (constant (F := Ideal) S_ .f32 0#32) ix0 = ((0 : ℝ) : EReal) := by
  show Ideal.ofBits .f32 0#32 = _
  simp [Ideal.ofBits, Ideal.ieee]

section
include hn hV hS
/-- What the step stores. -/
theorem stored8 (j : Fin 11) : step_main_v15_8 V (ix2 j a) = if j = n then BitVec.ofNat 32 (Matching.nearest A T s (n.val + 1)).val else V (Proc.devRef .tc main_v15_8) (ix2 j a) := by
  unfold step_main_v15_8
  rw [hn]
  refine (store2 _ _ n j a).trans ?_
  pointwise
  simp only [index_at hn hV hS]
theorem stored9x (j : Fin 11) : step_main_v15_9 V (ix3 j a 0) = if j = n then (((if Matching.both A n.val then (Matching.next A T n.val s).x else 0 : ℝ)) : EReal) else V (Proc.devRef .tc main_v15_9) (ix3 j a 0) := by
  unfold step_main_v15_9
  rw [hn]
  refine (store3 _ _ n j a 0).trans ?_
  pointwise
  simp only [nextX hn hV hS, nowBoth hn hV]
  rw [zero_at, select_ofBool]
theorem stored9y (j : Fin 11) : step_main_v15_9 V (ix3 j a 1) = if j = n then (((if Matching.both A n.val then (Matching.next A T n.val s).y else 0 : ℝ)) : EReal) else V (Proc.devRef .tc main_v15_9) (ix3 j a 1) := by
  unfold step_main_v15_9
  rw [hn]
  refine (store3 _ _ n j a 1).trans ?_
  pointwise
  simp only [nextY hn hV hS, nowBoth hn hV]
  rw [zero_at, select_ofBool]
theorem stored10 (j : Fin 11) : step_main_v15_10 V (ix2 j a) = if j = n then (((if Matching.both A n.val then (Matching.next A T n.val s).h else 0 : ℝ)) : EReal) else V (Proc.devRef .tc main_v15_10) (ix2 j a) := by
  unfold step_main_v15_10
  rw [hn]
  refine (store2 _ _ n j a).trans ?_
  pointwise
  simp only [nextH hn hV hS, nowBoth hn hV]
  rw [zero_at, select_ofBool]
end
end Cert.ReferenceSide
end
-- ==== Proof.RefRun.lean ====
module

public import proofs.«01_k».proof.Proof.RefStep
public import Idealize.ShloMosaic.Lib.StableHlo.RunRead

/-!
# The reference's run

Every run of the reference ends with the model's four results.
-/

@[expose] public section
noncomputable section
namespace Cert.ReferenceSide
open Cert.ReferenceIdeal Cert.ReferenceIdeal.Gen Cert.ReferenceIdeal.Value
open Idealize.ShloMosaic Idealize.ShloMosaic.TcCoe Idealize.ShloMosaic.Tactic Idealize.ShloMosaic.StableHlo
open Idealize.SL.Sem
set_option maxRecDepth 16384

variable (m : (ℓ : Loc nD τ sig) → Buf (Elt Ideal) ℓ) (c : Dev nD)

/-- The argument arrays in the launch memory. -/
def argsOf : Matching.Args where
  pos := m ((c.tc : Thread nD τ).loc main_arg0)
  heading := m ((c.tc : Thread nD τ).loc main_arg1)
  valid := m ((c.tc : Thread nD τ).loc main_arg2)
  shape := m ((c.tc : Thread nD τ).loc main_arg3)
  token := m ((c.tc : Thread nD τ).loc main_arg4)

/-- The contents after `k` trips. -/
abbrev trips (k : ℕ) : Valuation τ sig (Elt Ideal) := STEP^[k] (entryContents preI m c)

theorem sampled_succ (j : Fin 11) : Matching.sampled (j.val + 1) = ⟨8 + 8 * j.val, by omega⟩ := by
  refine Fin.ext ?_
  show 8 * ((j.val + 1) % 12) = 8 + 8 * j.val
  omega
theorem sampled_at (j : Fin 11) : Matching.sampled j.val = ⟨8 * j.val, by omega⟩ := by
  refine Fin.ext ?_
  show 8 * (j.val % 12) = 8 * j.val
  omega

/-- Both bits of a step, read off the validity array. -/
theorem both_bits (a : Fin 2048) (j : Fin 11) :
    (argsOf m c).valid (ix2 a ⟨8 * j.val, by omega⟩) &&& (argsOf m c).valid (ix2 a ⟨8 + 8 * j.val, by omega⟩)
      = BitVec.ofBool (Matching.both ((argsOf m c).agent a) j.val) := by
  unfold Matching.both Matching.Args.agent
  simp only [sampled_at, sampled_succ]
  generalize (argsOf m c).valid (ix2 a ⟨8 * j.val, by omega⟩) = p
  generalize (argsOf m c).valid (ix2 a ⟨8 + 8 * j.val, by omega⟩) = q
  revert p q
  decide

theorem entry0 (a : Fin 2048) (j : Fin 11) (d : Fin 2) : trips m c 0 (Proc.devRef .tc main_v15_0) (ix3 j a d) = (argsOf m c).pos (ix3 a (Matching.sampled (j.val + 1)) d) := by
  rw [sampled_succ]
  simp only [trips, Function.iterate_zero, id_eq, preI, entryContents, afterL_cons, afterL_nil]
  after_reads_simp
  rw [id_eq]
  pointwise
  rfl
theorem entry1 (a : Fin 2048) (j : Fin 11) : trips m c 0 (Proc.devRef .tc main_v15_1) (ix2 j a) = (argsOf m c).heading (ix2 a (Matching.sampled (j.val + 1))) := by
  rw [sampled_succ]
  simp only [trips, Function.iterate_zero, id_eq, preI, entryContents, afterL_cons, afterL_nil]
  after_reads_simp
  rw [id_eq]
  pointwise
  rfl
theorem entry2 (a : Fin 2048) (j : Fin 11) : trips m c 0 (Proc.devRef .tc main_v15_2) (ix2 j a) = BitVec.ofBool (Matching.both ((argsOf m c).agent a) j.val) := by
  rw [← both_bits]
  simp only [trips, Function.iterate_zero, id_eq, preI, entryContents, afterL_cons, afterL_nil]
  after_reads_simp
  rw [id_eq]
  pointwise
  rfl
theorem entry3 : trips m c 0 (Proc.devRef .tc main_v15_3) = (argsOf m c).shape := by
  simp only [trips, Function.iterate_zero, id_eq, preI, entryContents, afterL_cons, afterL_nil]
  after_reads_simp
  rfl
theorem entry4 : trips m c 0 (Proc.devRef .tc main_v15_4) = (argsOf m c).token := by
  simp only [trips, Function.iterate_zero, id_eq, preI, entryContents, afterL_cons, afterL_nil]
  after_reads_simp
  rfl
theorem entry5 : trips m c 0 (Proc.devRef .tc main_v15_5) = fun _ => 0#32 := by
  simp only [trips, Function.iterate_zero, id_eq, preI, entryContents, afterL_cons, afterL_nil]
  after_reads_simp
  rfl
theorem entry6 (a : Fin 2048) (d : Fin 2) : trips m c 0 (Proc.devRef .tc main_v15_6) (ix2 a d) = (argsOf m c).pos (ix3 a (Matching.sampled 0) d) := by
  simp only [trips, Function.iterate_zero, id_eq, preI, entryContents, afterL_cons, afterL_nil]
  after_reads_simp
  rw [id_eq]
  pointwise
  rfl
theorem entry7 (a : Fin 2048) : trips m c 0 (Proc.devRef .tc main_v15_7) (ix1 a) = (argsOf m c).heading (ix2 a (Matching.sampled 0)) := by
  simp only [trips, Function.iterate_zero, id_eq, preI, entryContents, afterL_cons, afterL_nil]
  after_reads_simp
  rw [id_eq]
  pointwise
  rfl

/-- What holds of agent `a` after `k` trips. -/
structure After (k : ℕ) (a : Fin 2048) : Prop where
  counter : CounterIs (trips m c k) k
  data : DataAre (trips m c k) a ((argsOf m c).agent a) (argsOf m c).tokens
  state : StateIs (trips m c k) a ((argsOf m c).state a k)
  index : ∀ j : Fin 11, j.val < k → trips m c k (Proc.devRef .tc main_v15_8) (ix2 j a) = (argsOf m c).index j.val a
  x : ∀ j : Fin 11, j.val < k → trips m c k (Proc.devRef .tc main_v15_9) (ix3 j a 0) = (((argsOf m c).outX j.val a : ℝ) : EReal)
  y : ∀ j : Fin 11, j.val < k → trips m c k (Proc.devRef .tc main_v15_9) (ix3 j a 1) = (((argsOf m c).outY j.val a : ℝ) : EReal)
  h : ∀ j : Fin 11, j.val < k → trips m c k (Proc.devRef .tc main_v15_10) (ix2 j a) = (((argsOf m c).outHead j.val a : ℝ) : EReal)

theorem after_zero (hr : (argsOf m c).Real) (a : Fin 2048) : After m c 0 a where
  counter := entry5 m c
  data := {
    x := fun j => (entry0 m c a j 0).trans (hr.pos _ _ _).symm
    y := fun j => (entry0 m c a j 1).trans (hr.pos _ _ _).symm
    h := fun j => (entry1 m c a j).trans (hr.heading _ _).symm
    both := fun j => entry2 m c a j
    len := (congrFun (entry3 m c) _).trans (hr.shape _).symm
    wid := (congrFun (entry3 m c) _).trans (hr.shape _).symm
    tokX := fun t k => (congrFun (entry4 m c) _).trans (hr.token _).symm
    tokY := fun t k => (congrFun (entry4 m c) _).trans (hr.token _).symm }
  state := {
    x := (entry6 m c a 0).trans (hr.pos _ _ _).symm
    y := (entry6 m c a 1).trans (hr.pos _ _ _).symm
    h := (entry7 m c a).trans (hr.heading _ _).symm }
  index := fun _ h => absurd h (Nat.not_lt_zero _)
  x := fun _ h => absurd h (Nat.not_lt_zero _)
  y := fun _ h => absurd h (Nat.not_lt_zero _)
  h := fun _ h => absurd h (Nat.not_lt_zero _)

theorem trips_succ (k : ℕ) : trips m c (k + 1) = STEP (trips m c k) := Function.iterate_succ_apply' _ _ _

theorem after_succ (n : Fin 11) (a : Fin 2048) (H : After m c n.val a) : After m c (n.val + 1) a where
  counter := by
    unfold CounterIs
    rw [trips_succ, STEP_main_v15_5]
    unfold step_main_v15_5
    rw [H.counter]
    funext i
    show BitVec.ofNat 32 n.val + 1#32 = _
    rw [BitVec.ofNat_add]
  data := by
    rw [trips_succ]
    exact {
      x := fun j => (congrFun (STEP_main_v15_0 _) _).trans (H.data.x j)
      y := fun j => (congrFun (STEP_main_v15_0 _) _).trans (H.data.y j)
      h := fun j => (congrFun (STEP_main_v15_1 _) _).trans (H.data.h j)
      both := fun j => (congrFun (STEP_main_v15_2 _) _).trans (H.data.both j)
      len := (congrFun (STEP_main_v15_3 _) _).trans H.data.len
      wid := (congrFun (STEP_main_v15_3 _) _).trans H.data.wid
      tokX := fun t k => (congrFun (STEP_main_v15_4 _) _).trans (H.data.tokX t k)
      tokY := fun t k => (congrFun (STEP_main_v15_4 _) _).trans (H.data.tokY t k) }
  state := by
    rw [trips_succ]
    exact {
      x := (congrFun (STEP_main_v15_6 _) _).trans (nextX H.counter H.data H.state)
      y := (congrFun (STEP_main_v15_6 _) _).trans (nextY H.counter H.data H.state)
      h := (congrFun (STEP_main_v15_7 _) _).trans (nextH H.counter H.data H.state) }
  index := fun j hj => by
    rw [trips_succ, STEP_main_v15_8, stored8 H.counter H.data H.state]
    split_ifs with h
    · subst h; rfl
    · exact H.index j (by have := fun e => h (Fin.ext e); omega)
  x := fun j hj => by
    rw [trips_succ, STEP_main_v15_9, stored9x H.counter H.data H.state]
    by_cases h : j = n
    · subst h; rw [if_pos rfl]; rfl
    · rw [if_neg h]; exact H.x j (by have := fun e => h (Fin.ext e); omega)
  y := fun j hj => by
    rw [trips_succ, STEP_main_v15_9, stored9y H.counter H.data H.state]
    by_cases h : j = n
    · subst h; rw [if_pos rfl]; rfl
    · rw [if_neg h]; exact H.y j (by have := fun e => h (Fin.ext e); omega)
  h := fun j hj => by
    rw [trips_succ, STEP_main_v15_10, stored10 H.counter H.data H.state]
    by_cases h : j = n
    · subst h; rw [if_pos rfl]; rfl
    · rw [if_neg h]; exact H.h j (by have := fun e => h (Fin.ext e); omega)

theorem after_all (hr : (argsOf m c).Real) (a : Fin 2048) : ∀ k ≤ 11, After m c k a
  | 0, _ => after_zero m c hr a
  | k + 1, h => after_succ m c ⟨k, h⟩ a (after_all hr a k (by omega))

theorem result0 : out_main_v19 (trips m c 11) = (argsOf m c).result0 := by
  funext i
  obtain ⟨j, a, rfl⟩ : ∃ (j : Fin 11) (a : Fin 2048), i = ix2 j a := ⟨i 0, i 1, eq_ix2 i⟩
  refine Eq.trans ?_ (both_bits m c a j)
  unfold out_main_v19
  rw [show trips m c 11 (Proc.devRef .tc main_arg2) = (argsOf m c).valid from iter_main_arg2 m c 11]
  pointwise
  rfl

variable (hr : (argsOf m c).Real)
include hr
theorem result1 : trips m c 11 (Proc.devRef .tc main_v15_8) = (argsOf m c).result1 := by
  funext i
  obtain ⟨j, a, rfl⟩ : ∃ (j : Fin 11) (a : Fin 2048), i = ix2 j a := ⟨i 0, i 1, eq_ix2 i⟩
  exact (after_all m c hr a 11 le_rfl).index j j.isLt
theorem result2 : trips m c 11 (Proc.devRef .tc main_v15_9) = (argsOf m c).result2 := by
  funext i
  obtain ⟨j, a, k, rfl⟩ : ∃ (j : Fin 11) (a : Fin 2048) (k : Fin 2), i = ix3 j a k := ⟨i 0, i 1, i 2, eq_ix3 i⟩
  fin_cases k
  · exact (after_all m c hr a 11 le_rfl).x j j.isLt
  · exact (after_all m c hr a 11 le_rfl).y j j.isLt
theorem result3 : trips m c 11 (Proc.devRef .tc main_v15_10) = (argsOf m c).result3 := by
  funext i
  obtain ⟨j, a, rfl⟩ : ∃ (j : Fin 11) (a : Fin 2048), i = ix2 j a := ⟨i 0, i 1, eq_ix2 i⟩
  exact (after_all m c hr a 11 le_rfl).h j j.isLt
omit hr
end Cert.ReferenceSide
end
-- ==== Proof.Finite.lean ====
module

public import proofs.«01_k».proof.Defs
public import proofs.«01_k».proof.Proof.Gen.Pre_finite_and_untied
public import proofs.«01_k».proof.Proof.KernelRun
public import Idealize.ShloMosaic.Lib.Pointwise

/-!
# The precondition's finiteness

The precondition's first four results say that each entry of the float arguments that a step reads is below infinity in
absolute value: over the extended reals the entry is then a real number.
-/

@[expose] public section
noncomputable section
namespace Cert.Finiteness
open Cert.Pre_finite_and_untied Cert.Pre_finite_and_untied.Gen
open Idealize.ShloMosaic Idealize.ShloMosaic.Tactic
set_option maxRecDepth 16384

section
variable {F : FTy → Type} [FloatOps F] (a0 : FVec F S2048x89x2 .f32) (a1 : FVec F S2048x89 .f32) (a2 : IVec S2048x89 1) (a3 : FVec F S2048x2 .f32) (a4 : FVec F S2048x4x2 .f32)

theorem first_result : (fn a0 a1 a2 a3 a4).1 = cmpf .olt (Host.absf (Host.slice S2048x12x2 ![0, 0, 0] ![1, 8, 1] a0 slicesBy_S2048x89x2_S2048x12x2_0s1_0s8_0s1)) (broadcastInDim S2048x12x2 ![] bcast_S_S2048x12x2 (constant S_ .f32 0x7F800000#32)) := by
  sl_kernel_rfl
theorem second_result : (fn a0 a1 a2 a3 a4).2.1 = cmpf .olt (Host.absf (Host.slice S2048x12 ![0, 0] ![1, 8] a1 slicesBy_S2048x89_S2048x12_0s1_0s8)) (broadcastInDim S2048x12 ![] bcast_S_S2048x12 (constant S_ .f32 0x7F800000#32)) := by
  sl_kernel_rfl
theorem third_result : (fn a0 a1 a2 a3 a4).2.2.1 = cmpf .olt (Host.absf a3) (broadcastInDim S2048x2 ![] bcast_S_S2048x2 (constant S_ .f32 0x7F800000#32)) := by
  sl_kernel_rfl
theorem fourth_result : (fn a0 a1 a2 a3 a4).2.2.2.1 = cmpf .olt (Host.absf a4) (broadcastInDim S2048x4x2 ![] bcast_S_S2048x4x2 (constant S_ .f32 0x7F800000#32)) := by
  sl_kernel_rfl
end

/-- An entry below infinity in absolute value is real. -/
theorem real_at {s : Shape} (x : FVec Ideal s .f32) (h0 : (⟨0, ![]⟩ : Shape).BroadcastsInDim s ![])
    (h : cmpf .olt (Host.absf x) (broadcastInDim s ![] h0 (constant ⟨0, ![]⟩ .f32 0x7F800000#32)) = fun _ => 1#1) (i : s.Idx) :
    (((show EReal from x i).toReal : ℝ) : EReal) = x i := by
  have hi : BitVec.ofBool (decide (max (show EReal from x i) (-(show EReal from x i)) < Ideal.ofBits .f32 0x7F800000#32)) = 1#1 := congrFun h i
  have ht : Ideal.ofBits .f32 0x7F800000#32 = (⊤ : EReal) := by simp [Ideal.ofBits, Ideal.ieee]
  rw [ht] at hi
  have hlt : max (show EReal from x i) (-(show EReal from x i)) < ⊤ := by
    by_contra hc
    rw [decide_eq_false hc] at hi
    exact absurd hi (by decide)
  obtain ⟨h1, h2⟩ := max_lt_iff.mp hlt
  refine EReal.coe_toReal h1.ne fun hb => ?_
  rw [hb, EReal.neg_bot] at h2
  exact lt_irrefl _ h2

/-- Every eighth column, read at one of them. -/
theorem slice_pos (x : FVec Ideal S2048x89x2 .f32) (a : Fin 2048) (n : ℕ) (k : Fin 2) :
    Host.slice S2048x12x2 ![0, 0, 0] ![1, 8, 1] x slicesBy_S2048x89x2_S2048x12x2_0s1_0s8_0s1 (ix3 a ⟨n % 12, Nat.mod_lt n (by decide)⟩ k)
      = x (ix3 a (Matching.sampled n) k) := by
  pointwise
  rfl
theorem slice_heading (x : FVec Ideal S2048x89 .f32) (a : Fin 2048) (n : ℕ) :
    Host.slice S2048x12 ![0, 0] ![1, 8] x slicesBy_S2048x89_S2048x12_0s1_0s8 (ix2 a ⟨n % 12, Nat.mod_lt n (by decide)⟩)
      = x (ix2 a (Matching.sampled n)) := by
  pointwise
  rfl

/-- Under the precondition the kernel's float arguments are real where a step reads them. -/
theorem args_real (m : (ℓ : Loc KernelIdeal.nD KernelIdeal.τ KernelIdeal.sig) → Buf (Elt Ideal) ℓ) (h : Pre_KernelIdeal m) (c : Dev KernelIdeal.nD) :
    (KernelSide.argsOf m c).Real := by
  obtain ⟨h0, h1, h2, h3, -⟩ := h c
  exact {
    pos := fun a n k => by
      have hs := real_at _ bcast_S_S2048x12x2 ((first_result _ _ _ _ _).symm.trans h0) (ix3 a ⟨n % 12, Nat.mod_lt n (by decide)⟩ k)
      rw [slice_pos] at hs
      exact hs
    heading := fun a n => by
      have hs := real_at _ bcast_S_S2048x12 ((second_result _ _ _ _ _).symm.trans h1) (ix2 a ⟨n % 12, Nat.mod_lt n (by decide)⟩)
      rw [slice_heading] at hs
      exact hs
    shape := real_at _ bcast_S_S2048x2 ((third_result _ _ _ _ _).symm.trans h2)
    token := real_at _ bcast_S_S2048x4x2 ((fourth_result _ _ _ _ _).symm.trans h3) }
end Cert.Finiteness
end
-- ==== Proof.Claim.lean ====
module

public import proofs.«01_k».proof.Proof.KernelEnd
public import proofs.«01_k».proof.Proof.RefRun
public import proofs.«01_k».proof.Proof.Finite

/-!
# The kernel computes the reference

Both programs, from the same argument arrays, end with the model's four results.
-/

@[expose] public section
namespace Cert.Value
open Idealize Idealize.ShloMosaic

/-- The kernel's results over the extended reals are the reference's. -/
theorem same_results : algebraic_KernelIdeal_ReferenceIdeal := by
  intro m g m' g' hpre hargs
  have hr := Finiteness.args_real m hpre
  have he : ∀ c, ReferenceSide.argsOf m' c = KernelSide.argsOf m c := by
    intro c
    obtain ⟨h0, h1, h2, h3, h4⟩ := hargs c
    unfold ReferenceSide.argsOf KernelSide.argsOf
    rw [h0, h1, h2, h3, h4]
  refine ⟨fun c => (KernelSide.argsOf m c).result0, fun c => (KernelSide.argsOf m c).result1, fun c => (KernelSide.argsOf m c).result2,
    fun c => (KernelSide.argsOf m c).result3, ?_, ?_⟩
  · refine (θ_run _ _ _).mono (fun r h c => ?_) (θ_run_and (KernelSide.run m g hr) (KernelIdeal.Gen.unchanged m g))
    obtain ⟨h0, h1, h2, h3⟩ := h.1 c
    exact ⟨h0, h1, h2, h3, h.2 c⟩
  · refine (θ_run _ _ _).mono (fun r h c => ?_) (ReferenceIdeal.Value.run m' g')
    obtain ⟨h0, h1, h2, h3, hkept⟩ := h c
    have hr' : (ReferenceSide.argsOf m' c).Real := he c ▸ hr c
    refine ⟨h0.trans ?_, h1.trans ?_, h2.trans ?_, h3.trans ?_, hkept⟩
    · exact (ReferenceSide.result0 m' c).trans (congrArg Matching.Args.result0 (he c))
    · exact (ReferenceSide.result1 m' c hr').trans (congrArg Matching.Args.result1 (he c))
    · exact (ReferenceSide.result2 m' c hr').trans (congrArg Matching.Args.result2 (he c))
    · exact (ReferenceSide.result3 m' c hr').trans (congrArg Matching.Args.result3 (he c))
end Cert.Value
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_and_untied
public import proofs.«01_k».proof.Proof.Claim

@[expose] public section

open Idealize Idealize.ShloMosaic

/-- Every run of the reference over the extended reals terminates with its arguments unchanged. -/
theorem Cert.Proof.reference_frame [hReferenceIdeal : Cert.ReferenceIdeal.Facts] : Cert.quiescent_ReferenceIdeal := fun m ρ _ =>
  (θ_run _ _ _).mono (fun r h => ⟨fun c => (h c).2.2.2.2, sem_eq_zero_of_no_sems (by decide) r.2⟩) (Cert.ReferenceIdeal.Value.run m ρ)

/-- Every run of the kernel, of the idealized kernel and of the reference terminates with its arguments unchanged, and the
    idealized kernel's four results are the reference's. -/
theorem Cert.Proof.claim : Cert.Claim :=
  ⟨Cert.Kernel.Gen.facts, Cert.KernelIdeal.Gen.facts, Cert.ReferenceIdeal.Gen.facts, Cert.Pre_finite_and_untied.Gen.facts,
    fun m ρ _ => Cert.Kernel.Gen.frame m ρ, fun m ρ _ => Cert.Kernel.Gen.frame m ρ, fun m ρ _ => Cert.KernelIdeal.Gen.frame m ρ,
    Cert.Proof.reference_frame, fun m ρ _ => Cert.Proof.reference_frame m ρ trivial, trivial, Cert.Value.same_results⟩
end
